-- ==== Defs.lean ====
def Pre_Kernel [hPre_routed_home_Kernel : Cert.Pre_routed_home_Kernel.Facts] (m : (ℓ : Loc Cert.Kernel.nD Cert.Kernel.τ Cert.Kernel.sig) → Buf (Elt Bits) ℓ) : Prop :=
  ∀ c : Dev Cert.Kernel.nD,
    (Cert.Pre_routed_home_Kernel.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_routed_home_Kernel : Cert.Pre_routed_home_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_routed_home_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_home_ReferenceIdeal [hPre_routed_home_ReferenceIdeal : Cert.Pre_routed_home_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_home_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_ReferenceIdeal_experts_exist_ReferenceIdeal [hPre_experts_exist_ReferenceIdeal : Cert.Pre_experts_exist_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_experts_exist_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Gathered [hPre_experts_exist_Gathered : Cert.Pre_experts_exist_Gathered.Facts] (m : (ℓ : Loc Cert.Gathered.nD Cert.Gathered.τ Cert.Gathered.sig) → Buf (Elt Bits) ℓ) : Prop :=
  ∀ c : Dev Cert.Gathered.nD,
    (Cert.Pre_experts_exist_Gathered.fn (F := Bits) (m ((c.tc : Thread Cert.Gathered.nD Cert.Gathered.τ).loc Cert.Gathered.main_arg0)) (m ((c.tc : Thread Cert.Gathered.nD Cert.Gathered.τ).loc Cert.Gathered.main_arg1)) (m ((c.tc : Thread Cert.Gathered.nD Cert.Gathered.τ).loc Cert.Gathered.main_arg2))) = (fun _ => 1#1)

def Pre_GatheredIdeal [hPre_experts_exist_Gathered : Cert.Pre_experts_exist_Gathered.Facts] (m : (ℓ : Loc Cert.GatheredIdeal.nD Cert.GatheredIdeal.τ Cert.GatheredIdeal.sig) → Buf (Elt Ideal) ℓ) : Prop :=
  ∀ c : Dev Cert.GatheredIdeal.nD,
    (Cert.Pre_experts_exist_Gathered.fn (F := Ideal) (m ((c.tc : Thread Cert.GatheredIdeal.nD Cert.GatheredIdeal.τ).loc Cert.GatheredIdeal.main_arg0)) (m ((c.tc : Thread Cert.GatheredIdeal.nD Cert.GatheredIdeal.τ).loc Cert.GatheredIdeal.main_arg1)) (m ((c.tc : Thread Cert.GatheredIdeal.nD Cert.GatheredIdeal.τ).loc Cert.GatheredIdeal.main_arg2))) = (fun _ => 1#1)

def quiescent_Kernel [hKernel : Cert.Kernel.Facts] [hPre_routed_home_Kernel : Cert.Pre_routed_home_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_routed_home_Kernel : Cert.Pre_routed_home_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_routed_home_ReferenceIdeal [hReferenceIdeal : Cert.ReferenceIdeal.Facts] [hPre_routed_home_ReferenceIdeal : Cert.Pre_routed_home_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_home_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_experts_exist_ReferenceIdeal [hReferenceIdeal : Cert.ReferenceIdeal.Facts] [hPre_experts_exist_ReferenceIdeal : Cert.Pre_experts_exist_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_experts_exist_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Gathered [hGathered : Cert.Gathered.Facts] [hPre_experts_exist_Gathered : Cert.Pre_experts_exist_Gathered.Facts] : Prop :=
  ∀ (m : (ℓ : Loc Cert.Gathered.nD Cert.Gathered.τ Cert.Gathered.sig) → Buf (Elt Bits) ℓ) (g : Dev Cert.Gathered.nD → PrngReg), Pre_Gathered m →
    θ_run (Cert.Gathered.defs (F := Bits)) (onTc (τ := Cert.Gathered.τ) (Cert.Gathered.main (F := Bits))) ⟨m, fun _ => 0, g⟩ (fun r => (∀ c : Dev Cert.Gathered.nD,
      r.2.mem ((c.tc : Thread Cert.Gathered.nD Cert.Gathered.τ).loc Cert.Gathered.main_arg0) = m ((c.tc : Thread Cert.Gathered.nD Cert.Gathered.τ).loc Cert.Gathered.main_arg0)
      ∧ r.2.mem ((c.tc : Thread Cert.Gathered.nD Cert.Gathered.τ).loc Cert.Gathered.main_arg1) = m ((c.tc : Thread Cert.Gathered.nD Cert.Gathered.τ).loc Cert.Gathered.main_arg1)
      ∧ r.2.mem ((c.tc : Thread Cert.Gathered.nD Cert.Gathered.τ).loc Cert.Gathered.main_arg2) = m ((c.tc : Thread Cert.Gathered.nD Cert.Gathered.τ).loc Cert.Gathered.main_arg2))
      ∧ r.2.sem = fun _ => 0)

def quiescent_GatheredIdeal [hGatheredIdeal : Cert.GatheredIdeal.Facts] [hPre_experts_exist_Gathered : Cert.Pre_experts_exist_Gathered.Facts] : Prop :=
  ∀ (m : (ℓ : Loc Cert.GatheredIdeal.nD Cert.GatheredIdeal.τ Cert.GatheredIdeal.sig) → Buf (Elt Ideal) ℓ) (g : Dev Cert.GatheredIdeal.nD → PrngReg), Pre_GatheredIdeal m →
    θ_run (Cert.GatheredIdeal.defs (F := Ideal)) (onTc (τ := Cert.GatheredIdeal.τ) (Cert.GatheredIdeal.main (F := Ideal))) ⟨m, fun _ => 0, g⟩ (fun r => (∀ c : Dev Cert.GatheredIdeal.nD,
      r.2.mem ((c.tc : Thread Cert.GatheredIdeal.nD Cert.GatheredIdeal.τ).loc Cert.GatheredIdeal.main_arg0) = m ((c.tc : Thread Cert.GatheredIdeal.nD Cert.GatheredIdeal.τ).loc Cert.GatheredIdeal.main_arg0)
      ∧ r.2.mem ((c.tc : Thread Cert.GatheredIdeal.nD Cert.GatheredIdeal.τ).loc Cert.GatheredIdeal.main_arg1) = m ((c.tc : Thread Cert.GatheredIdeal.nD Cert.GatheredIdeal.τ).loc Cert.GatheredIdeal.main_arg1)
      ∧ r.2.mem ((c.tc : Thread Cert.GatheredIdeal.nD Cert.GatheredIdeal.τ).loc Cert.GatheredIdeal.main_arg2) = m ((c.tc : Thread Cert.GatheredIdeal.nD Cert.GatheredIdeal.τ).loc Cert.GatheredIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_routed_home_Kernel : Cert.Pre_routed_home_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨3, ![4, 512, 1024]⟩ ⟨3, ![128, 512, 1024]⟩ 0 32 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![32, 1024]⟩ ⟨2, ![1024, 1024]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v26) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def preserves_Gathered_GatheredIdeal : Prop :=
  True

def algebraic_GatheredIdeal_ReferenceIdeal [hGatheredIdeal : Cert.GatheredIdeal.Facts] [hReferenceIdeal : Cert.ReferenceIdeal.Facts] [hPre_experts_exist_Gathered : Cert.Pre_experts_exist_Gathered.Facts] : Prop :=
  ∀ (m : (ℓ : Loc Cert.GatheredIdeal.nD Cert.GatheredIdeal.τ Cert.GatheredIdeal.sig) → Buf (Elt Ideal) ℓ) (g : Dev Cert.GatheredIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_GatheredIdeal m →
    (∀ c : Dev Cert.GatheredIdeal.nD,
      m ((c.tc : Thread Cert.GatheredIdeal.nD Cert.GatheredIdeal.τ).loc Cert.GatheredIdeal.main_arg0) = m' (((0 : Dev Cert.ReferenceIdeal.nD).tc : Thread Cert.ReferenceIdeal.nD Cert.ReferenceIdeal.τ).loc Cert.ReferenceIdeal.main_arg0)
      ∧ m ((c.tc : Thread Cert.GatheredIdeal.nD Cert.GatheredIdeal.τ).loc Cert.GatheredIdeal.main_arg1) = Layout.block ⟨2, ![32, 1]⟩ ⟨2, ![1024, 1]⟩ 0 32 c (m' (((0 : Dev Cert.ReferenceIdeal.nD).tc : Thread Cert.ReferenceIdeal.nD Cert.ReferenceIdeal.τ).loc Cert.ReferenceIdeal.main_arg1))
      ∧ m ((c.tc : Thread Cert.GatheredIdeal.nD Cert.GatheredIdeal.τ).loc Cert.GatheredIdeal.main_arg2) = Layout.block ⟨3, ![4, 512, 1024]⟩ ⟨3, ![128, 512, 1024]⟩ 0 32 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v26)),
      θ_run (Cert.GatheredIdeal.defs (F := Ideal)) (onTc (τ := Cert.GatheredIdeal.τ) (Cert.GatheredIdeal.main (F := Ideal))) ⟨m, fun _ => 0, g⟩ (fun r => ∀ c : Dev Cert.GatheredIdeal.nD,
          r.2.mem ((c.tc : Thread Cert.GatheredIdeal.nD Cert.GatheredIdeal.τ).loc Cert.GatheredIdeal.main_v2) = Layout.block ⟨2, ![32, 1024]⟩ ⟨2, ![1024, 1024]⟩ 0 32 c v0
          ∧ r.2.mem ((c.tc : Thread Cert.GatheredIdeal.nD Cert.GatheredIdeal.τ).loc Cert.GatheredIdeal.main_arg0) = m ((c.tc : Thread Cert.GatheredIdeal.nD Cert.GatheredIdeal.τ).loc Cert.GatheredIdeal.main_arg0)
          ∧ r.2.mem ((c.tc : Thread Cert.GatheredIdeal.nD Cert.GatheredIdeal.τ).loc Cert.GatheredIdeal.main_arg1) = m ((c.tc : Thread Cert.GatheredIdeal.nD Cert.GatheredIdeal.τ).loc Cert.GatheredIdeal.main_arg1)
          ∧ r.2.mem ((c.tc : Thread Cert.GatheredIdeal.nD Cert.GatheredIdeal.τ).loc Cert.GatheredIdeal.main_arg2) = m ((c.tc : Thread Cert.GatheredIdeal.nD Cert.GatheredIdeal.τ).loc Cert.GatheredIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v26) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hGathered : Cert.Gathered.Facts) (hGatheredIdeal : Cert.GatheredIdeal.Facts) (hPre_routed_home_Kernel : Cert.Pre_routed_home_Kernel.Facts) (hPre_routed_home_ReferenceIdeal : Cert.Pre_routed_home_ReferenceIdeal.Facts) (hPre_experts_exist_ReferenceIdeal : Cert.Pre_experts_exist_ReferenceIdeal.Facts) (hPre_experts_exist_Gathered : Cert.Pre_experts_exist_Gathered.Facts),
    quiescent_Kernel (hKernel := hKernel) (hPre_routed_home_Kernel := hPre_routed_home_Kernel)
    ∧ quiescent_KernelIdeal (hKernelIdeal := hKernelIdeal) (hPre_routed_home_Kernel := hPre_routed_home_Kernel)
    ∧ quiescent_ReferenceIdeal (hReferenceIdeal := hReferenceIdeal)
    ∧ quiescent_ReferenceIdeal_pre_routed_home_ReferenceIdeal (hReferenceIdeal := hReferenceIdeal) (hPre_routed_home_ReferenceIdeal := hPre_routed_home_ReferenceIdeal)
    ∧ quiescent_ReferenceIdeal_pre_experts_exist_ReferenceIdeal (hReferenceIdeal := hReferenceIdeal) (hPre_experts_exist_ReferenceIdeal := hPre_experts_exist_ReferenceIdeal)
    ∧ quiescent_Gathered (hGathered := hGathered) (hPre_experts_exist_Gathered := hPre_experts_exist_Gathered)
    ∧ quiescent_GatheredIdeal (hGatheredIdeal := hGatheredIdeal) (hPre_experts_exist_Gathered := hPre_experts_exist_Gathered)
    ∧ preserves_Kernel_KernelIdeal
    ∧ algebraic_KernelIdeal_ReferenceIdeal (hKernelIdeal := hKernelIdeal) (hReferenceIdeal := hReferenceIdeal) (hPre_routed_home_Kernel := hPre_routed_home_Kernel)
    ∧ preserves_Gathered_GatheredIdeal
    ∧ algebraic_GatheredIdeal_ReferenceIdeal (hGatheredIdeal := hGatheredIdeal) (hReferenceIdeal := hReferenceIdeal) (hPre_experts_exist_Gathered := hPre_experts_exist_Gathered)
-- ==== Pre_experts_exist_Gathered.lean ====
abbrev S1024x512 : Shape := ⟨2, ![1024, 512]⟩
abbrev S32x1 : Shape := ⟨2, ![32, 1]⟩
abbrev S4x512x1024 : Shape := ⟨3, ![4, 512, 1024]⟩
abbrev S_ : Shape := ⟨0, ![]⟩

class Facts : Prop where
  bcast_S_S32x1 : S_.BroadcastsInDim S32x1 (![] : Fin 0 → Fin S32x1.rank)

variable [Facts]

def fn {F : FTy → Type} [FloatOps F] (main_arg0 : FVec F S1024x512 .f32) (main_arg1 : IVec S32x1 32) (main_arg2 : FVec F S4x512x1024 .f32) : IVec S32x1 1 :=
  let main_c : IVec S_ 32 := constantI S_ 32 0#32
  let main_v0 : IVec S32x1 32 := broadcastInDim S32x1 ![] bcast_S_S32x1 main_c
  let main_v1 : IVec S32x1 1 := cmpi .sge main_arg1 main_v0
  let main_c_0 : IVec S_ 32 := constantI S_ 32 128#32
  let main_v2 : IVec S32x1 32 := broadcastInDim S32x1 ![] bcast_S_S32x1 main_c_0
  let main_v3 : IVec S32x1 1 := cmpi .slt main_arg1 main_v2
  let main_v4 : IVec S32x1 1 := andi main_v1 main_v3
  main_v4
-- ==== Pre_experts_exist_ReferenceIdeal.lean ====
abbrev S1024x512 : Shape := ⟨2, ![1024, 512]⟩
abbrev S1024x1 : Shape := ⟨2, ![1024, 1]⟩
abbrev S128x512x1024 : Shape := ⟨3, ![128, 512, 1024]⟩
abbrev S_ : Shape := ⟨0, ![]⟩

class Facts : Prop where
  bcast_S_S1024x1 : S_.BroadcastsInDim S1024x1 (![] : Fin 0 → Fin S1024x1.rank)

variable [Facts]

def fn {F : FTy → Type} [FloatOps F] (main_arg0 : FVec F S1024x512 .f32) (main_arg1 : IVec S1024x1 32) (main_arg2 : FVec F S128x512x1024 .f32) : IVec S1024x1 1 :=
  let main_c : IVec S_ 32 := constantI S_ 32 0#32
  let main_v0 : IVec S1024x1 32 := broadcastInDim S1024x1 ![] bcast_S_S1024x1 main_c
  let main_v1 : IVec S1024x1 1 := cmpi .sge main_arg1 main_v0
  let main_c_0 : IVec S_ 32 := constantI S_ 32 128#32
  let main_v2 : IVec S1024x1 32 := broadcastInDim S1024x1 ![] bcast_S_S1024x1 main_c_0
  let main_v3 : IVec S1024x1 1 := cmpi .slt main_arg1 main_v2
  let main_v4 : IVec S1024x1 1 := andi main_v1 main_v3
  main_v4
-- ==== Pre_routed_home_Kernel.lean ====
abbrev S1024x512 : Shape := ⟨2, ![1024, 512]⟩
abbrev S1024x1 : Shape := ⟨2, ![1024, 1]⟩
abbrev S4x512x1024 : Shape := ⟨3, ![4, 512, 1024]⟩
abbrev S_ : Shape := ⟨0, ![]⟩

class Facts : Prop where
  bcast_S_S1024x1 : S_.BroadcastsInDim S1024x1 (![] : Fin 0 → Fin S1024x1.rank)

variable [Facts]

def fn {F : FTy → Type} [FloatOps F] (main_arg0 : FVec F S1024x512 .f32) (main_arg1 : IVec S1024x1 32) (main_arg2 : FVec F S4x512x1024 .f32) : IVec S1024x1 1 :=
  let main_v0 : IVec S1024x1 32 := iotaInDim S1024x1 32 0
  let main_c : IVec S_ 32 := constantI S_ 32 0#32
  let main_v1 : IVec S1024x1 32 := broadcastInDim S1024x1 ![] bcast_S_S1024x1 main_c
  let main_v2 : IVec S1024x1 1 := cmpi .sge main_arg1 main_v1
  let main_c_0 : IVec S_ 32 := constantI S_ 32 128#32
  let main_v3 : IVec S1024x1 32 := broadcastInDim S1024x1 ![] bcast_S_S1024x1 main_c_0
  let main_v4 : IVec S1024x1 1 := cmpi .slt main_arg1 main_v3
  let main_v5 : IVec S1024x1 1 := andi main_v2 main_v4
  let main_c_1 : IVec S_ 32 := constantI S_ 32 2#32
  let main_v6 : IVec S1024x1 32 := broadcastInDim S1024x1 ![] bcast_S_S1024x1 main_c_1
  let main_v7 : IVec S1024x1 32 := Host.shrsi main_arg1 main_v6
  let main_c_2 : IVec S_ 32 := constantI S_ 32 31#32
  let main_v8 : IVec S1024x1 32 := broadcastInDim S1024x1 ![] bcast_S_S1024x1 main_c_2
  let main_v9 : IVec S1024x1 32 := andi main_v0 main_v8
  let main_v10 : IVec S1024x1 1 := cmpi .eq main_v7 main_v9
  let main_v11 : IVec S1024x1 1 := andi main_v5 main_v10
  main_v11
-- ==== Pre_routed_home_ReferenceIdeal.lean ====
abbrev S1024x512 : Shape := ⟨2, ![1024, 512]⟩
abbrev S1024x1 : Shape := ⟨2, ![1024, 1]⟩
abbrev S128x512x1024 : Shape := ⟨3, ![128, 512, 1024]⟩
abbrev S_ : Shape := ⟨0, ![]⟩

class Facts : Prop where
  bcast_S_S1024x1 : S_.BroadcastsInDim S1024x1 (![] : Fin 0 → Fin S1024x1.rank)

variable [Facts]

def fn {F : FTy → Type} [FloatOps F] (main_arg0 : FVec F S1024x512 .f32) (main_arg1 : IVec S1024x1 32) (main_arg2 : FVec F S128x512x1024 .f32) : IVec S1024x1 1 :=
  let main_v0 : IVec S1024x1 32 := iotaInDim S1024x1 32 0
  let main_c : IVec S_ 32 := constantI S_ 32 0#32
  let main_v1 : IVec S1024x1 32 := broadcastInDim S1024x1 ![] bcast_S_S1024x1 main_c
  let main_v2 : IVec S1024x1 1 := cmpi .sge main_arg1 main_v1
  let main_c_0 : IVec S_ 32 := constantI S_ 32 128#32
  let main_v3 : IVec S1024x1 32 := broadcastInDim S1024x1 ![] bcast_S_S1024x1 main_c_0
  let main_v4 : IVec S1024x1 1 := cmpi .slt main_arg1 main_v3
  let main_v5 : IVec S1024x1 1 := andi main_v2 main_v4
  let main_c_1 : IVec S_ 32 := constantI S_ 32 2#32
  let main_v6 : IVec S1024x1 32 := broadcastInDim S1024x1 ![] bcast_S_S1024x1 main_c_1
  let main_v7 : IVec S1024x1 32 := Host.shrsi main_arg1 main_v6
  let main_c_2 : IVec S_ 32 := constantI S_ 32 31#32
  let main_v8 : IVec S1024x1 32 := broadcastInDim S1024x1 ![] bcast_S_S1024x1 main_c_2
  let main_v9 : IVec S1024x1 32 := andi main_v0 main_v8
  let main_v10 : IVec S1024x1 1 := cmpi .eq main_v7 main_v9
  let main_v11 : IVec S1024x1 1 := andi main_v5 main_v10
  main_v11
-- ==== Kernel.lean ====
abbrev S1024x512 : Shape := ⟨2, ![1024, 512]⟩
abbrev S1024x1 : Shape := ⟨2, ![1024, 1]⟩
abbrev S4x512x1024 : Shape := ⟨3, ![4, 512, 1024]⟩
abbrev S32x1024 : Shape := ⟨2, ![32, 1024]⟩
abbrev S32x512 : Shape := ⟨2, ![32, 512]⟩
abbrev S128 : Shape := ⟨1, ![128]⟩
abbrev S1024 : Shape := ⟨1, ![1024]⟩
abbrev S2 : Shape := ⟨1, ![2]⟩
abbrev S_ : Shape := ⟨0, ![]⟩
abbrev S1 : Shape := ⟨1, ![1]⟩
abbrev S1x1 : Shape := ⟨2, ![1, 1]⟩
abbrev S1x512 : Shape := ⟨2, ![1, 512]⟩
abbrev S8x512 : Shape := ⟨2, ![8, 512]⟩
abbrev S1x512x1024 : Shape := ⟨3, ![1, 512, 1024]⟩
abbrev S512x1024 : Shape := ⟨2, ![512, 1024]⟩
abbrev S8x1024 : Shape := ⟨2, ![8, 1024]⟩
abbrev S1x1024 : Shape := ⟨2, ![1, 1024]⟩

abbrev nBuf : Space → Nat
  | .hbm => 4
  | .vmem => 5
  | .smem => 5
  | _ => 0

abbrev bufTy : (tb : Table) → Fin (tcTables nBuf tb) → BufTy
  | .hbm, ⟨0, _⟩ => ⟨S1024x512, .f32⟩
  | .hbm, ⟨1, _⟩ => ⟨S1024x1, .i32⟩
  | .hbm, ⟨2, _⟩ => ⟨S4x512x1024, .f32⟩
  | .hbm, ⟨3, _⟩ => ⟨S32x1024, .f32⟩
  | .local _ .vmem, ⟨0, _⟩ => ⟨S1024x512, .f32⟩
  | .local _ .vmem, ⟨1, _⟩ => ⟨S4x512x1024, .f32⟩
  | .local _ .vmem, ⟨2, _⟩ => ⟨S32x1024, .f32⟩
  | .local _ .vmem, ⟨3, _⟩ => ⟨S32x512, .f32⟩
  | .local _ .vmem, ⟨4, _⟩ => ⟨S32x1024, .f32⟩
  | .local _ .smem, ⟨0, _⟩ => ⟨S1024x1, .i32⟩
  | .local _ .smem, ⟨1, _⟩ => ⟨S128, .i32⟩
  | .local _ .smem, ⟨2, _⟩ => ⟨S1024, .i32⟩
  | .local _ .smem, ⟨3, _⟩ => ⟨S1024, .i32⟩
  | .local _ .smem, ⟨4, _⟩ => ⟨S2, .i32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 1 → Bool
  | ⟨0, _⟩ => false
  | _ => false

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  (ofTc nBuf bufTy 1 6 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_scratch0 : Ref sig .tc := ⟨.vmem, 3, rfl⟩
abbrev cc0_scratch1 : Ref sig .tc := ⟨.vmem, 4, rfl⟩
abbrev cc0_stg0_0 : Ref sig .tc := ⟨.smem, 0, rfl⟩
abbrev cc0_scratch2 : Ref sig .tc := ⟨.smem, 1, rfl⟩
abbrev cc0_scratch3 : Ref sig .tc := ⟨.smem, 2, rfl⟩
abbrev cc0_scratch4 : Ref sig .tc := ⟨.smem, 3, rfl⟩
abbrev cc0_scratch5 : Ref sig .tc := ⟨.smem, 4, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

@[reducible] def k0_t1_loop : Scf.Loop 32 :=
  let c0_i32 : BitVec 32 := 0#32
  let c32_i32_0 : BitVec 32 := 32#32
  let v4 : BitVec 32 := Scalar.addi c0_i32 c32_i32_0
  let c1_i32_1 : BitVec 32 := 1#32
  ⟨c0_i32, v4, c1_i32_1⟩
def k0_cond1 (d0 : Dev nD) (k0_t1 : Fin k0_t1_loop.trips) : BitVec 1 :=
  let c0_i32 : BitVec 32 := 0#32
  let c1_i32_1 : BitVec 32 := 1#32
  let arg12 : BitVec 32 := Scf.iv c0_i32 c1_i32_1 k0_t1
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v65 : BitVec 1 := Scalar.cmpi .ne arg12 v2
  let v66 : BitVec 32 := Scalar.extui v65
  let c0_i32_63 : BitVec 32 := 0#32
  let v67 : BitVec 1 := Scalar.cmpi .ne v66 c0_i32_63
  v67

def k0_dev1 (k0_t1 : Fin k0_t1_loop.trips) : Nat :=
  let c0_i32_66 : BitVec 32 := 0#32
  let c0_i32 : BitVec 32 := 0#32
  let c1_i32_1 : BitVec 32 := 1#32
  let arg12 : BitVec 32 := Scf.iv c0_i32 c1_i32_1 k0_t1
  let c1_i32_65 : BitVec 32 := 1#32
  let v68 : BitVec 32 := Scalar.muli arg12 c1_i32_65
  let v69 : BitVec 32 := Scalar.addi c0_i32_66 v68
  v69.toNat
@[reducible] def k0_t2_loop : Scf.Loop 32 :=
  let c0_i32_3 : BitVec 32 := 0#32
  let c128_i32 : BitVec 32 := 128#32
  let v5 : BitVec 32 := Scalar.addi c0_i32_3 c128_i32
  let c1_i32_4 : BitVec 32 := 1#32
  ⟨c0_i32_3, v5, c1_i32_4⟩
def k0_off1 (k0_t2 : Fin k0_t2_loop.trips) : Fin 1 → Nat :=
  let c0_i32_3 : BitVec 32 := 0#32
  let c1_i32_4 : BitVec 32 := 1#32
  let arg12 : BitVec 32 := Scf.iv c0_i32_3 c1_i32_4 k0_t2
  let v65 : Index := Scalar.indexCast arg12
  ![v65.toNat]
@[reducible] def k0_t3_loop : Scf.Loop 32 :=
  let c0_i32_8 : BitVec 32 := 0#32
  let c1024_i32 : BitVec 32 := 1024#32
  let v8 : BitVec 32 := Scalar.addi c0_i32_8 c1024_i32
  let c1_i32_9 : BitVec 32 := 1#32
  ⟨c0_i32_8, v8, c1_i32_9⟩
def k0_off2 (k0_t3 : Fin k0_t3_loop.trips) : Fin 2 → Nat :=
  let c0_i32_8 : BitVec 32 := 0#32
  let c1_i32_9 : BitVec 32 := 1#32
  let arg12 : BitVec 32 := Scf.iv c0_i32_8 c1_i32_9 k0_t3
  let v65 : Index := Scalar.indexCast arg12
  let c0_63 : Index := 0#32
  ![v65.toNat, 0]
def k0_off3 (v66 : BitVec 32) : Fin 1 → Nat :=
  let v67 : Index := Scalar.indexCast v66
  ![v67.toNat]

def k0_chk1 (v66 : BitVec 32) : Prop :=
  (∀ a, (k0_off3 v66) a + S1.size a ≤ S128.size a)
theorem k0_off3_inb : ∀ (v66 : BitVec 32) (k0_hw1 : k0_chk1 v66), ∀ a, (k0_off3 v66) a + S1.size a ≤ S128.size a := fun v66 k0_hw1 => k0_hw1

def k0_off4 (v92 : BitVec 32) : Fin 1 → Nat :=
  let v93 : Index := Scalar.indexCast v92
  ![v93.toNat]
def k0_cond2 (d0 : Dev nD) (v66 : BitVec 32) : BitVec 1 :=
  let c0_i32_65 : BitVec 32 := 0#32
  let v73 : BitVec 1 := Scalar.cmpi .sgt v66 c0_i32_65
  let v74 : BitVec 32 := Scalar.extui v73
  let c0_i32_66 : BitVec 32 := 0#32
  let v75 : BitVec 1 := Scalar.cmpi .slt v66 c0_i32_66
  let v76 : BitVec 32 := Scalar.extui v75
  let v77 : BitVec 32 := Scalar.subi v74 v76
  let c4_i32 : BitVec 32 := 4#32
  let c0_i32_67 : BitVec 32 := 0#32
  let v78 : BitVec 1 := Scalar.cmpi .sgt c4_i32 c0_i32_67
  let v79 : BitVec 32 := Scalar.extui v78
  let c0_i32_68 : BitVec 32 := 0#32
  let v80 : BitVec 1 := Scalar.cmpi .slt c4_i32 c0_i32_68
  let v81 : BitVec 32 := Scalar.extui v80
  let v82 : BitVec 32 := Scalar.subi v79 v81
  let v83 : BitVec 1 := Scalar.cmpi .ne v77 v82
  let v84 : BitVec 32 := Scalar.remsi v66 c4_i32
  let c0_i32_69 : BitVec 32 := 0#32
  let v85 : BitVec 1 := Scalar.cmpi .ne v84 c0_i32_69
  let v86 : BitVec 1 := Scalar.andi v83 v85
  let v72 : BitVec 32 := Scalar.divsi v66 c4_i32
  let c1_i32_70 : BitVec 32 := 1#32
  let v87 : BitVec 32 := Scalar.subi v72 c1_i32_70
  let v88 : BitVec 32 := Scalar.select v86 v87 v72
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v89 : BitVec 1 := Scalar.cmpi .eq v88 v2
  let v90 : BitVec 32 := Scalar.extui v89
  let c0_i32_71 : BitVec 32 := 0#32
  let v91 : BitVec 1 := Scalar.cmpi .ne v90 c0_i32_71
  v91

def k0_chk2 (d0 : Dev nD) (v66 : BitVec 32) (v92 : BitVec 32) : Prop :=
  (∀ (k0_h2 : k0_cond2 d0 v66 = 1#1), ∀ a, (k0_off4 v92) a + S1.size a ≤ S1024.size a)
theorem k0_off4_inb : ∀ (d0 : Dev nD) (v66 : BitVec 32) (v92 : BitVec 32) (k0_hw2 : k0_chk2 d0 v66 v92), ∀ (k0_h2 : k0_cond2 d0 v66 = 1#1), ∀ a, (k0_off4 v92) a + S1.size a ≤ S1024.size a := fun d0 v66 v92 k0_hw2 k0_h2 => k0_hw2 k0_h2

@[reducible] def k0_t4_loop (v9 : BitVec 32) : Scf.Loop 32 :=
  let c0_i32_16 : BitVec 32 := 0#32
  let v15 : BitVec 32 := Scalar.subi v9 c0_i32_16
  let c1_i32_17 : BitVec 32 := 1#32
  let v17 : BitVec 32 := Scalar.divsi v15 c1_i32_17
  let v18 : BitVec 32 := Scalar.muli v17 c1_i32_17
  let v19 : BitVec 32 := Scalar.addi c0_i32_16 v18
  let c1_i32_18 : BitVec 32 := 1#32
  ⟨c0_i32_16, v19, c1_i32_18⟩

def k0_off5 (v9 : BitVec 32) (k0_t4 : Fin (k0_t4_loop v9).trips) : Fin 1 → Nat :=
  let c0_i32_16 : BitVec 32 := 0#32
  let c1_i32_18 : BitVec 32 := 1#32
  let arg12 : BitVec 32 := Scf.iv c0_i32_16 c1_i32_18 k0_t4
  let v65 : Index := Scalar.indexCast arg12
  ![v65.toNat]
def k0_off6 (v68 : BitVec 32) : Fin 2 → Nat :=
  let v72 : Index := Scalar.indexCast v68
  let c0_64 : Index := 0#32
  ![v72.toNat, 0]
def k0_cond3 (v66 : BitVec 32) : BitVec 1 :=
  let c7_i32 : BitVec 32 := 7#32
  let v69 : BitVec 1 := Scalar.cmpi .ne v66 c7_i32
  let v70 : BitVec 32 := Scalar.extui v69
  let c0_i32_63 : BitVec 32 := 0#32
  let v71 : BitVec 1 := Scalar.cmpi .ne v70 c0_i32_63
  v71

def k0_chk4 (v66 : BitVec 32) (v68 : BitVec 32) : Prop :=
  (∀ (k0_h3 : k0_cond3 v66 = 1#1), ∀ a, (k0_off6 v68) a + S1x512.size a ≤ S1024x512.size a)
theorem k0_off6_inb : ∀ (v66 : BitVec 32) (v68 : BitVec 32) (k0_hw4 : k0_chk4 v66 v68), ∀ (k0_h3 : k0_cond3 v66 = 1#1), ∀ a, (k0_off6 v68) a + S1x512.size a ≤ S1024x512.size a := fun v66 v68 k0_hw4 k0_h3 => k0_hw4 k0_h3

def k0_off7 (v66 : BitVec 32) : Fin 2 → Nat :=
  let v75 : Index := Scalar.indexCast v66
  let c0_65 : Index := 0#32
  ![v75.toNat, 0]

def k0_chk5 (v66 : BitVec 32) : Prop :=
  (∀ (k0_h3 : k0_cond3 v66 = 1#1), ∀ a, (k0_off7 v66) a + S1x512.size a ≤ S32x512.size a)
theorem k0_off7_inb : ∀ (v66 : BitVec 32) (k0_hw5 : k0_chk5 v66), ∀ (k0_h3 : k0_cond3 v66 = 1#1), ∀ a, (k0_off7 v66) a + S1x512.size a ≤ S32x512.size a := fun v66 k0_hw5 k0_h3 => k0_hw5 k0_h3

@[reducible] def k0_t5_loop (v9 : BitVec 32) : Scf.Loop 32 :=
  let c0_i32_16 : BitVec 32 := 0#32
  let v15 : BitVec 32 := Scalar.subi v9 c0_i32_16
  let c1_i32_17 : BitVec 32 := 1#32
  let v17 : BitVec 32 := Scalar.divsi v15 c1_i32_17
  let v18 : BitVec 32 := Scalar.muli v17 c1_i32_17
  let v19 : BitVec 32 := Scalar.addi c0_i32_16 v18
  let v16 : BitVec 32 := Scalar.addi c0_i32_16 v15
  let c1_i32_19 : BitVec 32 := 1#32
  ⟨v19, v16, c1_i32_19⟩
def k0_off8 (v9 : BitVec 32) (k0_t5 : Fin (k0_t5_loop v9).trips) : Fin 1 → Nat :=
  let c0_i32_16 : BitVec 32 := 0#32
  let v15 : BitVec 32 := Scalar.subi v9 c0_i32_16
  let c1_i32_17 : BitVec 32 := 1#32
  let v17 : BitVec 32 := Scalar.divsi v15 c1_i32_17
  let v18 : BitVec 32 := Scalar.muli v17 c1_i32_17
  let v19 : BitVec 32 := Scalar.addi c0_i32_16 v18
  let c1_i32_19 : BitVec 32 := 1#32
  let arg12 : BitVec 32 := Scf.iv v19 c1_i32_19 k0_t5
  let v65 : Index := Scalar.indexCast arg12
  ![v65.toNat]
def k0_off9 (v68 : BitVec 32) : Fin 2 → Nat :=
  let v72 : Index := Scalar.indexCast v68
  let c0_64 : Index := 0#32
  ![v72.toNat, 0]
def k0_cond4 (v66 : BitVec 32) : BitVec 1 :=
  let c7_i32 : BitVec 32 := 7#32
  let v69 : BitVec 1 := Scalar.cmpi .ne v66 c7_i32
  let v70 : BitVec 32 := Scalar.extui v69
  let c0_i32_63 : BitVec 32 := 0#32
  let v71 : BitVec 1 := Scalar.cmpi .ne v70 c0_i32_63
  v71

def k0_chk6 (v66 : BitVec 32) (v68 : BitVec 32) : Prop :=
  (∀ (k0_h4 : k0_cond4 v66 = 1#1), ∀ a, (k0_off9 v68) a + S1x512.size a ≤ S1024x512.size a)
theorem k0_off9_inb : ∀ (v66 : BitVec 32) (v68 : BitVec 32) (k0_hw6 : k0_chk6 v66 v68), ∀ (k0_h4 : k0_cond4 v66 = 1#1), ∀ a, (k0_off9 v68) a + S1x512.size a ≤ S1024x512.size a := fun v66 v68 k0_hw6 k0_h4 => k0_hw6 k0_h4

def k0_off10 (v66 : BitVec 32) : Fin 2 → Nat :=
  let v75 : Index := Scalar.indexCast v66
  let c0_65 : Index := 0#32
  ![v75.toNat, 0]

def k0_chk7 (v66 : BitVec 32) : Prop :=
  (∀ (k0_h4 : k0_cond4 v66 = 1#1), ∀ a, (k0_off10 v66) a + S1x512.size a ≤ S32x512.size a)
theorem k0_off10_inb : ∀ (v66 : BitVec 32) (k0_hw7 : k0_chk7 v66), ∀ (k0_h4 : k0_cond4 v66 = 1#1), ∀ a, (k0_off10 v66) a + S1x512.size a ≤ S32x512.size a := fun v66 k0_hw7 k0_h4 => k0_hw7 k0_h4

@[reducible] def k0_t6_loop (v9 : BitVec 32) : Scf.Loop 32 :=
  let c0_i32_48 : BitVec 32 := 0#32
  let v48 : BitVec 32 := Scalar.subi v9 c0_i32_48
  let c1_i32_49 : BitVec 32 := 1#32
  let v50 : BitVec 32 := Scalar.divsi v48 c1_i32_49
  let v51 : BitVec 32 := Scalar.muli v50 c1_i32_49
  let v52 : BitVec 32 := Scalar.addi c0_i32_48 v51
  let c1_i32_50 : BitVec 32 := 1#32
  ⟨c0_i32_48, v52, c1_i32_50⟩
def k0_off11 (v9 : BitVec 32) (k0_t6 : Fin (k0_t6_loop v9).trips) : Fin 1 → Nat :=
  let c0_i32_48 : BitVec 32 := 0#32
  let c1_i32_50 : BitVec 32 := 1#32
  let arg12 : BitVec 32 := Scf.iv c0_i32_48 c1_i32_50 k0_t6
  let v65 : Index := Scalar.indexCast arg12
  ![v65.toNat]
def k0_off12 (v68 : BitVec 32) : Fin 2 → Nat :=
  let v102 : Index := Scalar.indexCast v68
  let c0_78 : Index := 0#32
  ![v102.toNat, 0]
def k0_cond5 (d0 : Dev nD) (v66 : BitVec 32) : BitVec 1 :=
  let c0_i32_64 : BitVec 32 := 0#32
  let v70 : BitVec 1 := Scalar.cmpi .sgt v66 c0_i32_64
  let v71 : BitVec 32 := Scalar.extui v70
  let c0_i32_65 : BitVec 32 := 0#32
  let v72 : BitVec 1 := Scalar.cmpi .slt v66 c0_i32_65
  let v73 : BitVec 32 := Scalar.extui v72
  let v74 : BitVec 32 := Scalar.subi v71 v73
  let c32_i32_63 : BitVec 32 := 32#32
  let c0_i32_66 : BitVec 32 := 0#32
  let v75 : BitVec 1 := Scalar.cmpi .sgt c32_i32_63 c0_i32_66
  let v76 : BitVec 32 := Scalar.extui v75
  let c0_i32_67 : BitVec 32 := 0#32
  let v77 : BitVec 1 := Scalar.cmpi .slt c32_i32_63 c0_i32_67
  let v78 : BitVec 32 := Scalar.extui v77
  let v79 : BitVec 32 := Scalar.subi v76 v78
  let v80 : BitVec 1 := Scalar.cmpi .ne v74 v79
  let v81 : BitVec 32 := Scalar.remsi v66 c32_i32_63
  let c0_i32_68 : BitVec 32 := 0#32
  let v82 : BitVec 1 := Scalar.cmpi .ne v81 c0_i32_68
  let v83 : BitVec 1 := Scalar.andi v80 v82
  let v69 : BitVec 32 := Scalar.divsi v66 c32_i32_63
  let c1_i32_69 : BitVec 32 := 1#32
  let v84 : BitVec 32 := Scalar.subi v69 c1_i32_69
  let v85 : BitVec 32 := Scalar.select v83 v84 v69
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v96 : BitVec 1 := Scalar.cmpi .eq v85 v2
  let v97 : BitVec 32 := Scalar.extui v96
  let c0_i32_76 : BitVec 32 := 0#32
  let v98 : BitVec 1 := Scalar.cmpi .ne v97 c0_i32_76
  v98

def k0_off13 (v66 : BitVec 32) : Fin 2 → Nat :=
  let c32_i32_70 : BitVec 32 := 32#32
  let c0_i32_71 : BitVec 32 := 0#32
  let v86 : BitVec 1 := Scalar.cmpi .eq c32_i32_70 c0_i32_71
  let c1_i32_72 : BitVec 32 := 1#32
  let v87 : BitVec 32 := Scalar.select v86 c1_i32_72 c32_i32_70
  let v88 : BitVec 32 := Scalar.remsi v66 v87
  let c0_i32_74 : BitVec 32 := 0#32
  let v90 : BitVec 1 := Scalar.cmpi .slt v88 c0_i32_74
  let c0_i32_75 : BitVec 32 := 0#32
  let v91 : BitVec 1 := Scalar.cmpi .slt v87 c0_i32_75
  let v92 : BitVec 1 := Scalar.xori v90 v91
  let c0_i32_73 : BitVec 32 := 0#32
  let v89 : BitVec 1 := Scalar.cmpi .ne v88 c0_i32_73
  let v93 : BitVec 1 := Scalar.andi v92 v89
  let v94 : BitVec 32 := Scalar.addi v88 v87
  let v95 : BitVec 32 := Scalar.select v93 v94 v88
  let v104 : Index := Scalar.indexCast v95
  let c0_79 : Index := 0#32
  ![v104.toNat, 0]

def k0_off14 (v66 : BitVec 32) : Fin 2 → Nat :=
  let c32_i32_70 : BitVec 32 := 32#32
  let c0_i32_71 : BitVec 32 := 0#32
  let v86 : BitVec 1 := Scalar.cmpi .eq c32_i32_70 c0_i32_71
  let c1_i32_72 : BitVec 32 := 1#32
  let v87 : BitVec 32 := Scalar.select v86 c1_i32_72 c32_i32_70
  let v88 : BitVec 32 := Scalar.remsi v66 v87
  let c0_i32_74 : BitVec 32 := 0#32
  let v90 : BitVec 1 := Scalar.cmpi .slt v88 c0_i32_74
  let c0_i32_75 : BitVec 32 := 0#32
  let v91 : BitVec 1 := Scalar.cmpi .slt v87 c0_i32_75
  let v92 : BitVec 1 := Scalar.xori v90 v91
  let c0_i32_73 : BitVec 32 := 0#32
  let v89 : BitVec 1 := Scalar.cmpi .ne v88 c0_i32_73
  let v93 : BitVec 1 := Scalar.andi v92 v89
  let v94 : BitVec 32 := Scalar.addi v88 v87
  let v95 : BitVec 32 := Scalar.select v93 v94 v88
  let c0_i32_80 : BitVec 32 := 0#32
  ![v95.toNat, 0]
def k0_cond6 (d0 : Dev nD) (v66 : BitVec 32) : BitVec 1 :=
  let c0_i32_64 : BitVec 32 := 0#32
  let v70 : BitVec 1 := Scalar.cmpi .sgt v66 c0_i32_64
  let v71 : BitVec 32 := Scalar.extui v70
  let c0_i32_65 : BitVec 32 := 0#32
  let v72 : BitVec 1 := Scalar.cmpi .slt v66 c0_i32_65
  let v73 : BitVec 32 := Scalar.extui v72
  let v74 : BitVec 32 := Scalar.subi v71 v73
  let c32_i32_63 : BitVec 32 := 32#32
  let c0_i32_66 : BitVec 32 := 0#32
  let v75 : BitVec 1 := Scalar.cmpi .sgt c32_i32_63 c0_i32_66
  let v76 : BitVec 32 := Scalar.extui v75
  let c0_i32_67 : BitVec 32 := 0#32
  let v77 : BitVec 1 := Scalar.cmpi .slt c32_i32_63 c0_i32_67
  let v78 : BitVec 32 := Scalar.extui v77
  let v79 : BitVec 32 := Scalar.subi v76 v78
  let v80 : BitVec 1 := Scalar.cmpi .ne v74 v79
  let v81 : BitVec 32 := Scalar.remsi v66 c32_i32_63
  let c0_i32_68 : BitVec 32 := 0#32
  let v82 : BitVec 1 := Scalar.cmpi .ne v81 c0_i32_68
  let v83 : BitVec 1 := Scalar.andi v80 v82
  let v69 : BitVec 32 := Scalar.divsi v66 c32_i32_63
  let c1_i32_69 : BitVec 32 := 1#32
  let v84 : BitVec 32 := Scalar.subi v69 c1_i32_69
  let v85 : BitVec 32 := Scalar.select v83 v84 v69
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v99 : BitVec 1 := Scalar.cmpi .ne v85 v2
  let v100 : BitVec 32 := Scalar.extui v99
  let c0_i32_77 : BitVec 32 := 0#32
  let v101 : BitVec 1 := Scalar.cmpi .ne v100 c0_i32_77
  v101

def k0_off15 (v68 : BitVec 32) : Fin 2 → Nat :=
  let c0_i32_81 : BitVec 32 := 0#32
  ![v68.toNat, 0]

def k0_chk8 (d0 : Dev nD) (v66 : BitVec 32) (v68 : BitVec 32) : Prop :=
  (∀ (k0_h5 : k0_cond5 d0 v66 = 1#1), ∀ a, (k0_off12 v68) a + S1x1024.size a ≤ S32x1024.size a) ∧
  (∀ (k0_h6 : k0_cond6 d0 v66 = 1#1), ∀ a, (k0_off15 v68) a + S1x1024.size a ≤ S32x1024.size a)
theorem k0_off12_inb : ∀ (d0 : Dev nD) (v66 : BitVec 32) (v68 : BitVec 32) (k0_hw8 : k0_chk8 d0 v66 v68), ∀ (k0_h5 : k0_cond5 d0 v66 = 1#1), ∀ a, (k0_off12 v68) a + S1x1024.size a ≤ S32x1024.size a := fun d0 v66 v68 k0_hw8 k0_h5 => k0_hw8.1 k0_h5
theorem k0_off15_inb : ∀ (d0 : Dev nD) (v66 : BitVec 32) (v68 : BitVec 32) (k0_hw8 : k0_chk8 d0 v66 v68), ∀ (k0_h6 : k0_cond6 d0 v66 = 1#1), ∀ a, (k0_off15 v68) a + S1x1024.size a ≤ S32x1024.size a := fun d0 v66 v68 k0_hw8 k0_h6 => k0_hw8.2 k0_h6

def k0_dev2 (v66 : BitVec 32) : Nat :=
  let c0_i32_79 : BitVec 32 := 0#32
  let c0_i32_64 : BitVec 32 := 0#32
  let v70 : BitVec 1 := Scalar.cmpi .sgt v66 c0_i32_64
  let v71 : BitVec 32 := Scalar.extui v70
  let c0_i32_65 : BitVec 32 := 0#32
  let v72 : BitVec 1 := Scalar.cmpi .slt v66 c0_i32_65
  let v73 : BitVec 32 := Scalar.extui v72
  let v74 : BitVec 32 := Scalar.subi v71 v73
  let c32_i32_63 : BitVec 32 := 32#32
  let c0_i32_66 : BitVec 32 := 0#32
  let v75 : BitVec 1 := Scalar.cmpi .sgt c32_i32_63 c0_i32_66
  let v76 : BitVec 32 := Scalar.extui v75
  let c0_i32_67 : BitVec 32 := 0#32
  let v77 : BitVec 1 := Scalar.cmpi .slt c32_i32_63 c0_i32_67
  let v78 : BitVec 32 := Scalar.extui v77
  let v79 : BitVec 32 := Scalar.subi v76 v78
  let v80 : BitVec 1 := Scalar.cmpi .ne v74 v79
  let v81 : BitVec 32 := Scalar.remsi v66 c32_i32_63
  let c0_i32_68 : BitVec 32 := 0#32
  let v82 : BitVec 1 := Scalar.cmpi .ne v81 c0_i32_68
  let v83 : BitVec 1 := Scalar.andi v80 v82
  let v69 : BitVec 32 := Scalar.divsi v66 c32_i32_63
  let c1_i32_69 : BitVec 32 := 1#32
  let v84 : BitVec 32 := Scalar.subi v69 c1_i32_69
  let v85 : BitVec 32 := Scalar.select v83 v84 v69
  let c1_i32_78 : BitVec 32 := 1#32
  let v102 : BitVec 32 := Scalar.muli v85 c1_i32_78
  let v103 : BitVec 32 := Scalar.addi c0_i32_79 v102
  v103.toNat

def k0_chk9 (d0 : Dev nD) (v66 : BitVec 32) : Prop :=
  (∀ (k0_h5 : k0_cond5 d0 v66 = 1#1), ∀ a, (k0_off13 v66) a + S1x1024.size a ≤ S32x1024.size a) ∧
  (∀ (k0_h6 : k0_cond6 d0 v66 = 1#1), ∀ a, (k0_off14 v66) a + S1x1024.size a ≤ S32x1024.size a) ∧
  (∀ (k0_h6 : k0_cond6 d0 v66 = 1#1), (k0_dev2 v66) < nD)
theorem k0_off13_inb : ∀ (d0 : Dev nD) (v66 : BitVec 32) (k0_hw9 : k0_chk9 d0 v66), ∀ (k0_h5 : k0_cond5 d0 v66 = 1#1), ∀ a, (k0_off13 v66) a + S1x1024.size a ≤ S32x1024.size a := fun d0 v66 k0_hw9 k0_h5 => k0_hw9.1 k0_h5
theorem k0_off14_inb : ∀ (d0 : Dev nD) (v66 : BitVec 32) (k0_hw9 : k0_chk9 d0 v66), ∀ (k0_h6 : k0_cond6 d0 v66 = 1#1), ∀ a, (k0_off14 v66) a + S1x1024.size a ≤ S32x1024.size a := fun d0 v66 k0_hw9 k0_h6 => k0_hw9.2.1 k0_h6
theorem k0_dev2_lt : ∀ (d0 : Dev nD) (v66 : BitVec 32) (k0_hw9 : k0_chk9 d0 v66), ∀ (k0_h6 : k0_cond6 d0 v66 = 1#1), (k0_dev2 v66) < nD := fun d0 v66 k0_hw9 k0_h6 => k0_hw9.2.2 k0_h6

@[reducible] def k0_t7_loop (v9 : BitVec 32) : Scf.Loop 32 :=
  let c0_i32_48 : BitVec 32 := 0#32
  let v48 : BitVec 32 := Scalar.subi v9 c0_i32_48
  let c1_i32_49 : BitVec 32 := 1#32
  let v50 : BitVec 32 := Scalar.divsi v48 c1_i32_49
  let v51 : BitVec 32 := Scalar.muli v50 c1_i32_49
  let v52 : BitVec 32 := Scalar.addi c0_i32_48 v51
  let v49 : BitVec 32 := Scalar.addi c0_i32_48 v48
  let c1_i32_51 : BitVec 32 := 1#32
  ⟨v52, v49, c1_i32_51⟩
def k0_off16 (v9 : BitVec 32) (k0_t7 : Fin (k0_t7_loop v9).trips) : Fin 1 → Nat :=
  let c0_i32_48 : BitVec 32 := 0#32
  let v48 : BitVec 32 := Scalar.subi v9 c0_i32_48
  let c1_i32_49 : BitVec 32 := 1#32
  let v50 : BitVec 32 := Scalar.divsi v48 c1_i32_49
  let v51 : BitVec 32 := Scalar.muli v50 c1_i32_49
  let v52 : BitVec 32 := Scalar.addi c0_i32_48 v51
  let c1_i32_51 : BitVec 32 := 1#32
  let arg12 : BitVec 32 := Scf.iv v52 c1_i32_51 k0_t7
  let v65 : Index := Scalar.indexCast arg12
  ![v65.toNat]

def k0_chk3 (v9 : BitVec 32) : Prop :=
  ((k0_t4_loop v9).OK) ∧
  (∀ k0_t4 : Fin (k0_t4_loop v9).trips, ∀ a, (k0_off5 v9 k0_t4) a + S1.size a ≤ S1024.size a) ∧
  ((k0_t5_loop v9).OK) ∧
  (∀ k0_t5 : Fin (k0_t5_loop v9).trips, ∀ a, (k0_off8 v9 k0_t5) a + S1.size a ≤ S1024.size a) ∧
  ((k0_t6_loop v9).OK) ∧
  (∀ k0_t6 : Fin (k0_t6_loop v9).trips, ∀ a, (k0_off11 v9 k0_t6) a + S1.size a ≤ S1024.size a) ∧
  ((k0_t7_loop v9).OK) ∧
  (∀ k0_t7 : Fin (k0_t7_loop v9).trips, ∀ a, (k0_off16 v9 k0_t7) a + S1.size a ≤ S1024.size a)
theorem k0_t4_ok : ∀ (v9 : BitVec 32) (k0_hw3 : k0_chk3 v9), (k0_t4_loop v9).OK := fun v9 k0_hw3 => k0_hw3.1
theorem k0_off5_inb : ∀ (v9 : BitVec 32) (k0_hw3 : k0_chk3 v9) (k0_t4 : Fin (k0_t4_loop v9).trips), ∀ a, (k0_off5 v9 k0_t4) a + S1.size a ≤ S1024.size a := fun v9 k0_hw3 k0_t4 => k0_hw3.2.1 k0_t4
theorem k0_t5_ok : ∀ (v9 : BitVec 32) (k0_hw3 : k0_chk3 v9), (k0_t5_loop v9).OK := fun v9 k0_hw3 => k0_hw3.2.2.1
theorem k0_off8_inb : ∀ (v9 : BitVec 32) (k0_hw3 : k0_chk3 v9) (k0_t5 : Fin (k0_t5_loop v9).trips), ∀ a, (k0_off8 v9 k0_t5) a + S1.size a ≤ S1024.size a := fun v9 k0_hw3 k0_t5 => k0_hw3.2.2.2.1 k0_t5
theorem k0_t6_ok : ∀ (v9 : BitVec 32) (k0_hw3 : k0_chk3 v9), (k0_t6_loop v9).OK := fun v9 k0_hw3 => k0_hw3.2.2.2.2.1
theorem k0_off11_inb : ∀ (v9 : BitVec 32) (k0_hw3 : k0_chk3 v9) (k0_t6 : Fin (k0_t6_loop v9).trips), ∀ a, (k0_off11 v9 k0_t6) a + S1.size a ≤ S1024.size a := fun v9 k0_hw3 k0_t6 => k0_hw3.2.2.2.2.2.1 k0_t6
theorem k0_t7_ok : ∀ (v9 : BitVec 32) (k0_hw3 : k0_chk3 v9), (k0_t7_loop v9).OK := fun v9 k0_hw3 => k0_hw3.2.2.2.2.2.2.1
theorem k0_off16_inb : ∀ (v9 : BitVec 32) (k0_hw3 : k0_chk3 v9) (k0_t7 : Fin (k0_t7_loop v9).trips), ∀ a, (k0_off16 v9 k0_t7) a + S1.size a ≤ S1024.size a := fun v9 k0_hw3 k0_t7 => k0_hw3.2.2.2.2.2.2.2 k0_t7

def k0_off17 (v68 : BitVec 32) : Fin 2 → Nat :=
  let v102 : Index := Scalar.indexCast v68
  let c0_78 : Index := 0#32
  ![v102.toNat, 0]
def k0_cond7 (d0 : Dev nD) (v66 : BitVec 32) : BitVec 1 :=
  let c0_i32_64 : BitVec 32 := 0#32
  let v70 : BitVec 1 := Scalar.cmpi .sgt v66 c0_i32_64
  let v71 : BitVec 32 := Scalar.extui v70
  let c0_i32_65 : BitVec 32 := 0#32
  let v72 : BitVec 1 := Scalar.cmpi .slt v66 c0_i32_65
  let v73 : BitVec 32 := Scalar.extui v72
  let v74 : BitVec 32 := Scalar.subi v71 v73
  let c32_i32_63 : BitVec 32 := 32#32
  let c0_i32_66 : BitVec 32 := 0#32
  let v75 : BitVec 1 := Scalar.cmpi .sgt c32_i32_63 c0_i32_66
  let v76 : BitVec 32 := Scalar.extui v75
  let c0_i32_67 : BitVec 32 := 0#32
  let v77 : BitVec 1 := Scalar.cmpi .slt c32_i32_63 c0_i32_67
  let v78 : BitVec 32 := Scalar.extui v77
  let v79 : BitVec 32 := Scalar.subi v76 v78
  let v80 : BitVec 1 := Scalar.cmpi .ne v74 v79
  let v81 : BitVec 32 := Scalar.remsi v66 c32_i32_63
  let c0_i32_68 : BitVec 32 := 0#32
  let v82 : BitVec 1 := Scalar.cmpi .ne v81 c0_i32_68
  let v83 : BitVec 1 := Scalar.andi v80 v82
  let v69 : BitVec 32 := Scalar.divsi v66 c32_i32_63
  let c1_i32_69 : BitVec 32 := 1#32
  let v84 : BitVec 32 := Scalar.subi v69 c1_i32_69
  let v85 : BitVec 32 := Scalar.select v83 v84 v69
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v96 : BitVec 1 := Scalar.cmpi .eq v85 v2
  let v97 : BitVec 32 := Scalar.extui v96
  let c0_i32_76 : BitVec 32 := 0#32
  let v98 : BitVec 1 := Scalar.cmpi .ne v97 c0_i32_76
  v98

def k0_off18 (v66 : BitVec 32) : Fin 2 → Nat :=
  let c32_i32_70 : BitVec 32 := 32#32
  let c0_i32_71 : BitVec 32 := 0#32
  let v86 : BitVec 1 := Scalar.cmpi .eq c32_i32_70 c0_i32_71
  let c1_i32_72 : BitVec 32 := 1#32
  let v87 : BitVec 32 := Scalar.select v86 c1_i32_72 c32_i32_70
  let v88 : BitVec 32 := Scalar.remsi v66 v87
  let c0_i32_74 : BitVec 32 := 0#32
  let v90 : BitVec 1 := Scalar.cmpi .slt v88 c0_i32_74
  let c0_i32_75 : BitVec 32 := 0#32
  let v91 : BitVec 1 := Scalar.cmpi .slt v87 c0_i32_75
  let v92 : BitVec 1 := Scalar.xori v90 v91
  let c0_i32_73 : BitVec 32 := 0#32
  let v89 : BitVec 1 := Scalar.cmpi .ne v88 c0_i32_73
  let v93 : BitVec 1 := Scalar.andi v92 v89
  let v94 : BitVec 32 := Scalar.addi v88 v87
  let v95 : BitVec 32 := Scalar.select v93 v94 v88
  let v104 : Index := Scalar.indexCast v95
  let c0_79 : Index := 0#32
  ![v104.toNat, 0]

def k0_off19 (v66 : BitVec 32) : Fin 2 → Nat :=
  let c32_i32_70 : BitVec 32 := 32#32
  let c0_i32_71 : BitVec 32 := 0#32
  let v86 : BitVec 1 := Scalar.cmpi .eq c32_i32_70 c0_i32_71
  let c1_i32_72 : BitVec 32 := 1#32
  let v87 : BitVec 32 := Scalar.select v86 c1_i32_72 c32_i32_70
  let v88 : BitVec 32 := Scalar.remsi v66 v87
  let c0_i32_74 : BitVec 32 := 0#32
  let v90 : BitVec 1 := Scalar.cmpi .slt v88 c0_i32_74
  let c0_i32_75 : BitVec 32 := 0#32
  let v91 : BitVec 1 := Scalar.cmpi .slt v87 c0_i32_75
  let v92 : BitVec 1 := Scalar.xori v90 v91
  let c0_i32_73 : BitVec 32 := 0#32
  let v89 : BitVec 1 := Scalar.cmpi .ne v88 c0_i32_73
  let v93 : BitVec 1 := Scalar.andi v92 v89
  let v94 : BitVec 32 := Scalar.addi v88 v87
  let v95 : BitVec 32 := Scalar.select v93 v94 v88
  let c0_i32_80 : BitVec 32 := 0#32
  ![v95.toNat, 0]
def k0_cond8 (d0 : Dev nD) (v66 : BitVec 32) : BitVec 1 :=
  let c0_i32_64 : BitVec 32 := 0#32
  let v70 : BitVec 1 := Scalar.cmpi .sgt v66 c0_i32_64
  let v71 : BitVec 32 := Scalar.extui v70
  let c0_i32_65 : BitVec 32 := 0#32
  let v72 : BitVec 1 := Scalar.cmpi .slt v66 c0_i32_65
  let v73 : BitVec 32 := Scalar.extui v72
  let v74 : BitVec 32 := Scalar.subi v71 v73
  let c32_i32_63 : BitVec 32 := 32#32
  let c0_i32_66 : BitVec 32 := 0#32
  let v75 : BitVec 1 := Scalar.cmpi .sgt c32_i32_63 c0_i32_66
  let v76 : BitVec 32 := Scalar.extui v75
  let c0_i32_67 : BitVec 32 := 0#32
  let v77 : BitVec 1 := Scalar.cmpi .slt c32_i32_63 c0_i32_67
  let v78 : BitVec 32 := Scalar.extui v77
  let v79 : BitVec 32 := Scalar.subi v76 v78
  let v80 : BitVec 1 := Scalar.cmpi .ne v74 v79
  let v81 : BitVec 32 := Scalar.remsi v66 c32_i32_63
  let c0_i32_68 : BitVec 32 := 0#32
  let v82 : BitVec 1 := Scalar.cmpi .ne v81 c0_i32_68
  let v83 : BitVec 1 := Scalar.andi v80 v82
  let v69 : BitVec 32 := Scalar.divsi v66 c32_i32_63
  let c1_i32_69 : BitVec 32 := 1#32
  let v84 : BitVec 32 := Scalar.subi v69 c1_i32_69
  let v85 : BitVec 32 := Scalar.select v83 v84 v69
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v99 : BitVec 1 := Scalar.cmpi .ne v85 v2
  let v100 : BitVec 32 := Scalar.extui v99
  let c0_i32_77 : BitVec 32 := 0#32
  let v101 : BitVec 1 := Scalar.cmpi .ne v100 c0_i32_77
  v101

def k0_off20 (v68 : BitVec 32) : Fin 2 → Nat :=
  let c0_i32_81 : BitVec 32 := 0#32
  ![v68.toNat, 0]

def k0_chk10 (d0 : Dev nD) (v66 : BitVec 32) (v68 : BitVec 32) : Prop :=
  (∀ (k0_h7 : k0_cond7 d0 v66 = 1#1), ∀ a, (k0_off17 v68) a + S1x1024.size a ≤ S32x1024.size a) ∧
  (∀ (k0_h8 : k0_cond8 d0 v66 = 1#1), ∀ a, (k0_off20 v68) a + S1x1024.size a ≤ S32x1024.size a)
theorem k0_off17_inb : ∀ (d0 : Dev nD) (v66 : BitVec 32) (v68 : BitVec 32) (k0_hw10 : k0_chk10 d0 v66 v68), ∀ (k0_h7 : k0_cond7 d0 v66 = 1#1), ∀ a, (k0_off17 v68) a + S1x1024.size a ≤ S32x1024.size a := fun d0 v66 v68 k0_hw10 k0_h7 => k0_hw10.1 k0_h7
theorem k0_off20_inb : ∀ (d0 : Dev nD) (v66 : BitVec 32) (v68 : BitVec 32) (k0_hw10 : k0_chk10 d0 v66 v68), ∀ (k0_h8 : k0_cond8 d0 v66 = 1#1), ∀ a, (k0_off20 v68) a + S1x1024.size a ≤ S32x1024.size a := fun d0 v66 v68 k0_hw10 k0_h8 => k0_hw10.2 k0_h8

def k0_dev3 (v66 : BitVec 32) : Nat :=
  let c0_i32_79 : BitVec 32 := 0#32
  let c0_i32_64 : BitVec 32 := 0#32
  let v70 : BitVec 1 := Scalar.cmpi .sgt v66 c0_i32_64
  let v71 : BitVec 32 := Scalar.extui v70
  let c0_i32_65 : BitVec 32 := 0#32
  let v72 : BitVec 1 := Scalar.cmpi .slt v66 c0_i32_65
  let v73 : BitVec 32 := Scalar.extui v72
  let v74 : BitVec 32 := Scalar.subi v71 v73
  let c32_i32_63 : BitVec 32 := 32#32
  let c0_i32_66 : BitVec 32 := 0#32
  let v75 : BitVec 1 := Scalar.cmpi .sgt c32_i32_63 c0_i32_66
  let v76 : BitVec 32 := Scalar.extui v75
  let c0_i32_67 : BitVec 32 := 0#32
  let v77 : BitVec 1 := Scalar.cmpi .slt c32_i32_63 c0_i32_67
  let v78 : BitVec 32 := Scalar.extui v77
  let v79 : BitVec 32 := Scalar.subi v76 v78
  let v80 : BitVec 1 := Scalar.cmpi .ne v74 v79
  let v81 : BitVec 32 := Scalar.remsi v66 c32_i32_63
  let c0_i32_68 : BitVec 32 := 0#32
  let v82 : BitVec 1 := Scalar.cmpi .ne v81 c0_i32_68
  let v83 : BitVec 1 := Scalar.andi v80 v82
  let v69 : BitVec 32 := Scalar.divsi v66 c32_i32_63
  let c1_i32_69 : BitVec 32 := 1#32
  let v84 : BitVec 32 := Scalar.subi v69 c1_i32_69
  let v85 : BitVec 32 := Scalar.select v83 v84 v69
  let c1_i32_78 : BitVec 32 := 1#32
  let v102 : BitVec 32 := Scalar.muli v85 c1_i32_78
  let v103 : BitVec 32 := Scalar.addi c0_i32_79 v102
  v103.toNat

def k0_chk11 (d0 : Dev nD) (v66 : BitVec 32) : Prop :=
  (∀ (k0_h7 : k0_cond7 d0 v66 = 1#1), ∀ a, (k0_off18 v66) a + S1x1024.size a ≤ S32x1024.size a) ∧
  (∀ (k0_h8 : k0_cond8 d0 v66 = 1#1), ∀ a, (k0_off19 v66) a + S1x1024.size a ≤ S32x1024.size a) ∧
  (∀ (k0_h8 : k0_cond8 d0 v66 = 1#1), (k0_dev3 v66) < nD)
theorem k0_off18_inb : ∀ (d0 : Dev nD) (v66 : BitVec 32) (k0_hw11 : k0_chk11 d0 v66), ∀ (k0_h7 : k0_cond7 d0 v66 = 1#1), ∀ a, (k0_off18 v66) a + S1x1024.size a ≤ S32x1024.size a := fun d0 v66 k0_hw11 k0_h7 => k0_hw11.1 k0_h7
theorem k0_off19_inb : ∀ (d0 : Dev nD) (v66 : BitVec 32) (k0_hw11 : k0_chk11 d0 v66), ∀ (k0_h8 : k0_cond8 d0 v66 = 1#1), ∀ a, (k0_off19 v66) a + S1x1024.size a ≤ S32x1024.size a := fun d0 v66 k0_hw11 k0_h8 => k0_hw11.2.1 k0_h8
theorem k0_dev3_lt : ∀ (d0 : Dev nD) (v66 : BitVec 32) (k0_hw11 : k0_chk11 d0 v66), ∀ (k0_h8 : k0_cond8 d0 v66 = 1#1), (k0_dev3 v66) < nD := fun d0 v66 k0_hw11 k0_h8 => k0_hw11.2.2 k0_h8

@[reducible] def k0_t8_loop (v10 : BitVec 32) : Scf.Loop 32 :=
  let c0_i32_54 : BitVec 32 := 0#32
  let c32_i32_52 : BitVec 32 := 32#32
  let v53 : BitVec 32 := Scalar.subi c32_i32_52 v10
  let v54 : BitVec 32 := Scalar.subi v53 c0_i32_54
  let c1_i32_55 : BitVec 32 := 1#32
  let v56 : BitVec 32 := Scalar.divsi v54 c1_i32_55
  let v57 : BitVec 32 := Scalar.muli v56 c1_i32_55
  let v58 : BitVec 32 := Scalar.addi c0_i32_54 v57
  let c1_i32_56 : BitVec 32 := 1#32
  ⟨c0_i32_54, v58, c1_i32_56⟩

@[reducible] def k0_t9_loop (v10 : BitVec 32) : Scf.Loop 32 :=
  let c0_i32_54 : BitVec 32 := 0#32
  let c32_i32_52 : BitVec 32 := 32#32
  let v53 : BitVec 32 := Scalar.subi c32_i32_52 v10
  let v54 : BitVec 32 := Scalar.subi v53 c0_i32_54
  let c1_i32_55 : BitVec 32 := 1#32
  let v56 : BitVec 32 := Scalar.divsi v54 c1_i32_55
  let v57 : BitVec 32 := Scalar.muli v56 c1_i32_55
  let v58 : BitVec 32 := Scalar.addi c0_i32_54 v57
  let v55 : BitVec 32 := Scalar.addi c0_i32_54 v54
  let c1_i32_57 : BitVec 32 := 1#32
  ⟨v58, v55, c1_i32_57⟩
@[reducible] def k0_t10_loop (v9 : BitVec 32) (v10 : BitVec 32) : Scf.Loop 32 :=
  let c0_i32_59 : BitVec 32 := 0#32
  let v59 : BitVec 32 := Scalar.subi v9 v10
  let v60 : BitVec 32 := Scalar.subi v59 c0_i32_59
  let c1_i32_60 : BitVec 32 := 1#32
  let v62 : BitVec 32 := Scalar.divsi v60 c1_i32_60
  let v63 : BitVec 32 := Scalar.muli v62 c1_i32_60
  let v64 : BitVec 32 := Scalar.addi c0_i32_59 v63
  let c1_i32_61 : BitVec 32 := 1#32
  ⟨c0_i32_59, v64, c1_i32_61⟩
@[reducible] def k0_t11_loop (v9 : BitVec 32) (v10 : BitVec 32) : Scf.Loop 32 :=
  let c0_i32_59 : BitVec 32 := 0#32
  let v59 : BitVec 32 := Scalar.subi v9 v10
  let v60 : BitVec 32 := Scalar.subi v59 c0_i32_59
  let c1_i32_60 : BitVec 32 := 1#32
  let v62 : BitVec 32 := Scalar.divsi v60 c1_i32_60
  let v63 : BitVec 32 := Scalar.muli v62 c1_i32_60
  let v64 : BitVec 32 := Scalar.addi c0_i32_59 v63
  let v61 : BitVec 32 := Scalar.addi c0_i32_59 v60
  let c1_i32_62 : BitVec 32 := 1#32
  ⟨v64, v61, c1_i32_62⟩

def k0_chk12 (v9 : BitVec 32) (v10 : BitVec 32) : Prop :=
  ((k0_t8_loop v10).OK) ∧
  ((k0_t9_loop v10).OK) ∧
  ((k0_t10_loop v9 v10).OK) ∧
  ((k0_t11_loop v9 v10).OK)
theorem k0_t8_ok : ∀ (v9 : BitVec 32) (v10 : BitVec 32) (k0_hw12 : k0_chk12 v9 v10), (k0_t8_loop v10).OK := fun v9 v10 k0_hw12 => k0_hw12.1
theorem k0_t9_ok : ∀ (v9 : BitVec 32) (v10 : BitVec 32) (k0_hw12 : k0_chk12 v9 v10), (k0_t9_loop v10).OK := fun v9 v10 k0_hw12 => k0_hw12.2.1
theorem k0_t10_ok : ∀ (v9 : BitVec 32) (v10 : BitVec 32) (k0_hw12 : k0_chk12 v9 v10), (k0_t10_loop v9 v10).OK := fun v9 v10 k0_hw12 => k0_hw12.2.2.1
theorem k0_t11_ok : ∀ (v9 : BitVec 32) (v10 : BitVec 32) (k0_hw12 : k0_chk12 v9 v10), (k0_t11_loop v9 v10).OK := fun v9 v10 k0_hw12 => k0_hw12.2.2.2

abbrev stage0_0 : Fin 1 → Memref sig .tc .smem S1024x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1024x512 : Shape := ⟨2, ![1024, 512]⟩
abbrev S1024x1 : Shape := ⟨2, ![1024, 1]⟩
abbrev S128x512x1024 : Shape := ⟨3, ![128, 512, 1024]⟩
abbrev S1024 : Shape := ⟨1, ![1024]⟩
abbrev S1x1024 : Shape := ⟨2, ![1, 1024]⟩
abbrev S1024x1024 : Shape := ⟨2, ![1024, 1024]⟩
abbrev S_ : Shape := ⟨0, ![]⟩
abbrev S1024x512x1024 : Shape := ⟨3, ![1024, 512, 1024]⟩

abbrev nBuf : Space → Nat
  | .hbm => 38
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x1, .i32⟩
  | .hbm, ⟨2, _⟩ => ⟨S128x512x1024, .f32⟩
  | .hbm, ⟨3, _⟩ => ⟨S1024, .i32⟩
  | .hbm, ⟨4, _⟩ => ⟨S1024, .i32⟩
  | .hbm, ⟨5, _⟩ => ⟨S1024x1, .i32⟩
  | .hbm, ⟨6, _⟩ => ⟨S1x1024, .i32⟩
  | .hbm, ⟨7, _⟩ => ⟨S1024x1024, .i32⟩
  | .hbm, ⟨8, _⟩ => ⟨S1024x1024, .i32⟩
  | .hbm, ⟨9, _⟩ => ⟨S1024x1024, .i1⟩
  | .hbm, ⟨10, _⟩ => ⟨S1x1024, .i32⟩
  | .hbm, ⟨11, _⟩ => ⟨S1024x1, .i32⟩
  | .hbm, ⟨12, _⟩ => ⟨S1024x1024, .i32⟩
  | .hbm, ⟨13, _⟩ => ⟨S1024x1024, .i32⟩
  | .hbm, ⟨14, _⟩ => ⟨S1024x1024, .i1⟩
  | .hbm, ⟨15, _⟩ => ⟨S1024x1024, .i1⟩
  | .hbm, ⟨16, _⟩ => ⟨S1024x1024, .i32⟩
  | .hbm, ⟨17, _⟩ => ⟨S_, .i32⟩
  | .hbm, ⟨18, _⟩ => ⟨S1024, .i32⟩
  | .hbm, ⟨19, _⟩ => ⟨S_, .i32⟩
  | .hbm, ⟨20, _⟩ => ⟨S1024, .i32⟩
  | .hbm, ⟨21, _⟩ => ⟨S1024, .i1⟩
  | .hbm, ⟨22, _⟩ => ⟨S_, .i32⟩
  | .hbm, ⟨23, _⟩ => ⟨S1024, .i32⟩
  | .hbm, ⟨24, _⟩ => ⟨S1024, .i32⟩
  | .hbm, ⟨25, _⟩ => ⟨S1024, .i32⟩
  | .hbm, ⟨26, _⟩ => ⟨S1024x1, .i32⟩
  | .hbm, ⟨27, _⟩ => ⟨S1024x512x1024, .f32⟩
  | .hbm, ⟨28, _⟩ => ⟨S1024x1024, .f32⟩
  | .hbm, ⟨29, _⟩ => ⟨S_, .i32⟩
  | .hbm, ⟨30, _⟩ => ⟨S1024, .i32⟩
  | .hbm, ⟨31, _⟩ => ⟨S1024, .i1⟩
  | .hbm, ⟨32, _⟩ => ⟨S1024x1, .i1⟩
  | .hbm, ⟨33, _⟩ => ⟨S_, .f32⟩
  | .hbm, ⟨34, _⟩ => ⟨S_, .f32⟩
  | .hbm, ⟨35, _⟩ => ⟨S1024x1024, .i1⟩
  | .hbm, ⟨36, _⟩ => ⟨S1024x1024, .f32⟩
  | .hbm, ⟨37, _⟩ => ⟨S1024x1024, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_c : Ref sig .tc := ⟨.hbm, 17, rfl⟩
abbrev main_v14 : Ref sig .tc := ⟨.hbm, 18, rfl⟩
abbrev main_c_0 : Ref sig .tc := ⟨.hbm, 19, rfl⟩
abbrev main_v15 : Ref sig .tc := ⟨.hbm, 20, rfl⟩
abbrev main_v16 : Ref sig .tc := ⟨.hbm, 21, rfl⟩
abbrev main_c_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_c_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== Gathered.lean ====
abbrev S1024x512 : Shape := ⟨2, ![1024, 512]⟩
abbrev S32x1 : Shape := ⟨2, ![32, 1]⟩
abbrev S4x512x1024 : Shape := ⟨3, ![4, 512, 1024]⟩
abbrev S1024x1 : Shape := ⟨2, ![1024, 1]⟩
abbrev S32x1024 : Shape := ⟨2, ![32, 1024]⟩
abbrev S32x512 : Shape := ⟨2, ![32, 512]⟩
abbrev S128 : Shape := ⟨1, ![128]⟩
abbrev S1024 : Shape := ⟨1, ![1024]⟩
abbrev S2 : Shape := ⟨1, ![2]⟩
abbrev S_ : Shape := ⟨0, ![]⟩
abbrev S1 : Shape := ⟨1, ![1]⟩
abbrev S1x1 : Shape := ⟨2, ![1, 1]⟩
abbrev S1x512 : Shape := ⟨2, ![1, 512]⟩
abbrev S8x512 : Shape := ⟨2, ![8, 512]⟩
abbrev S1x512x1024 : Shape := ⟨3, ![1, 512, 1024]⟩
abbrev S512x1024 : Shape := ⟨2, ![512, 1024]⟩
abbrev S8x1024 : Shape := ⟨2, ![8, 1024]⟩
abbrev S1x1024 : Shape := ⟨2, ![1, 1024]⟩

abbrev nBuf : Space → Nat
  | .hbm => 5
  | .vmem => 5
  | .smem => 5
  | _ => 0

abbrev bufTy : (tb : Table) → Fin (tcTables nBuf tb) → BufTy
  | .hbm, ⟨0, _⟩ => ⟨S1024x512, .f32⟩
  | .hbm, ⟨1, _⟩ => ⟨S32x1, .i32⟩
  | .hbm, ⟨2, _⟩ => ⟨S4x512x1024, .f32⟩
  | .hbm, ⟨3, _⟩ => ⟨S1024x1, .i32⟩
  | .hbm, ⟨4, _⟩ => ⟨S32x1024, .f32⟩
  | .local _ .vmem, ⟨0, _⟩ => ⟨S1024x512, .f32⟩
  | .local _ .vmem, ⟨1, _⟩ => ⟨S4x512x1024, .f32⟩
  | .local _ .vmem, ⟨2, _⟩ => ⟨S32x1024, .f32⟩
  | .local _ .vmem, ⟨3, _⟩ => ⟨S32x512, .f32⟩
  | .local _ .vmem, ⟨4, _⟩ => ⟨S32x1024, .f32⟩
  | .local _ .smem, ⟨0, _⟩ => ⟨S1024x1, .i32⟩
  | .local _ .smem, ⟨1, _⟩ => ⟨S128, .i32⟩
  | .local _ .smem, ⟨2, _⟩ => ⟨S1024, .i32⟩
  | .local _ .smem, ⟨3, _⟩ => ⟨S1024, .i32⟩
  | .local _ .smem, ⟨4, _⟩ => ⟨S2, .i32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 2 → Bool
  | ⟨0, _⟩ => false
  | ⟨1, _⟩ => false
  | _ => false

abbrev dmaSemScoped : Fin 16 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => true
  | ⟨11, _⟩ => true
  | ⟨12, _⟩ => true
  | ⟨13, _⟩ => true
  | ⟨14, _⟩ => true
  | ⟨15, _⟩ => true
  | _ => false

abbrev sig : RefSig :=
  (ofTc nBuf bufTy 2 16 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_scratch0 : Ref sig .tc := ⟨.vmem, 3, rfl⟩
abbrev cc0_scratch1 : Ref sig .tc := ⟨.vmem, 4, rfl⟩
abbrev cc0_stg0_0 : Ref sig .tc := ⟨.smem, 0, rfl⟩
abbrev cc0_scratch2 : Ref sig .tc := ⟨.smem, 1, rfl⟩
abbrev cc0_scratch3 : Ref sig .tc := ⟨.smem, 2, rfl⟩
abbrev cc0_scratch4 : Ref sig .tc := ⟨.smem, 3, rfl⟩
abbrev cc0_scratch5 : Ref sig .tc := ⟨.smem, 4, rfl⟩
abbrev ag0_recv_cw_0_ring : DmaSem sig := 0
abbrev ag0_recv_cw_0_partner : DmaSem sig := 1
abbrev ag0_recv_cw_1_ring : DmaSem sig := 2
abbrev ag0_recv_cw_1_partner : DmaSem sig := 3
abbrev ag0_recv_ccw_0_ring : DmaSem sig := 4
abbrev ag0_recv_ccw_0_partner : DmaSem sig := 5
abbrev ag0_recv_ccw_1_ring : DmaSem sig := 6
abbrev ag0_recv_ccw_1_partner : DmaSem sig := 7
abbrev ag0_send : DmaSem sig := 8
abbrev ag0_copy : DmaSem sig := 9
abbrev cc0_sem0_0 : DmaSem sig := 10
abbrev cc0_sem1_0 : DmaSem sig := 11
abbrev cc0_sem2_0 : DmaSem sig := 12
abbrev cc0_sem3_0 : DmaSem sig := 13
abbrev ag0_barrier : Sem sig := 0
abbrev barrier0 : Sem sig := 1

abbrev nD : Nat := 32
abbrev τ : Topo := Topo.v7x

variable {F : FTy → Type} [FloatOps F]

abbrev ag0_mem : Fin 1 × Fin 32 × Fin 1 → Dev nD := fun q => (![![0, 1, 2, 3, 4, 5, 6, 7, 8, 9, 10, 11, 12, 13, 14, 15, 16, 17, 18, 19, 20, 21, 22, 23, 24, 25, 26, 27, 28, 29, 30, 31]] : Fin 1 → Fin 32 → Dev nD) q.1 q.2.1
abbrev ag0_pos : Dev nD → Fin 1 × Fin 32 × Fin 1 := fun c => ((![0, 0, 0, 0, 0, 0, 0, 0, 0, 0, 0, 0, 0, 0, 0, 0, 0, 0, 0, 0, 0, 0, 0, 0, 0, 0, 0, 0, 0, 0, 0, 0] : Fin 32 → Fin 1) c, (![0, 1, 2, 3, 4, 5, 6, 7, 8, 9, 10, 11, 12, 13, 14, 15, 16, 17, 18, 19, 20, 21, 22, 23, 24, 25, 26, 27, 28, 29, 30, 31] : Fin 32 → Fin 32) c, 0)
abbrev ag0_recv : AllGather.Dir → AllGather.Parity → Bool → DmaSem sig := fun | .cw, 0, false => ag0_recv_cw_0_ring | .cw, 0, true => ag0_recv_cw_0_partner | .cw, 1, false => ag0_recv_cw_1_ring | .cw, 1, true => ag0_recv_cw_1_partner | .ccw, 0, false => ag0_recv_ccw_0_ring | .ccw, 0, true => ag0_recv_ccw_0_partner | .ccw, 1, false => ag0_recv_ccw_1_ring | .ccw, 1, true => ag0_recv_ccw_1_partner

abbrev grid0 : Pipeline.Grid := .none

@[reducible] def k0_t1_loop : Scf.Loop 32 :=
  let c0_i32 : BitVec 32 := 0#32
  let c32_i32_0 : BitVec 32 := 32#32
  let v4 : BitVec 32 := Scalar.addi c0_i32 c32_i32_0
  let c1_i32_1 : BitVec 32 := 1#32
  ⟨c0_i32, v4, c1_i32_1⟩
def k0_cond1 (d0 : Dev nD) (k0_t1 : Fin k0_t1_loop.trips) : BitVec 1 :=
  let c0_i32 : BitVec 32 := 0#32
  let c1_i32_1 : BitVec 32 := 1#32
  let arg12 : BitVec 32 := Scf.iv c0_i32 c1_i32_1 k0_t1
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v65 : BitVec 1 := Scalar.cmpi .ne arg12 v2
  let v66 : BitVec 32 := Scalar.extui v65
  let c0_i32_63 : BitVec 32 := 0#32
  let v67 : BitVec 1 := Scalar.cmpi .ne v66 c0_i32_63
  v67

def k0_dev1 (k0_t1 : Fin k0_t1_loop.trips) : Nat :=
  let c0_i32_66 : BitVec 32 := 0#32
  let c0_i32 : BitVec 32 := 0#32
  let c1_i32_1 : BitVec 32 := 1#32
  let arg12 : BitVec 32 := Scf.iv c0_i32 c1_i32_1 k0_t1
  let c1_i32_65 : BitVec 32 := 1#32
  let v68 : BitVec 32 := Scalar.muli arg12 c1_i32_65
  let v69 : BitVec 32 := Scalar.addi c0_i32_66 v68
  v69.toNat
@[reducible] def k0_t2_loop : Scf.Loop 32 :=
  let c0_i32_3 : BitVec 32 := 0#32
  let c128_i32 : BitVec 32 := 128#32
  let v5 : BitVec 32 := Scalar.addi c0_i32_3 c128_i32
  let c1_i32_4 : BitVec 32 := 1#32
  ⟨c0_i32_3, v5, c1_i32_4⟩
def k0_off1 (k0_t2 : Fin k0_t2_loop.trips) : Fin 1 → Nat :=
  let c0_i32_3 : BitVec 32 := 0#32
  let c1_i32_4 : BitVec 32 := 1#32
  let arg12 : BitVec 32 := Scf.iv c0_i32_3 c1_i32_4 k0_t2
  let v65 : Index := Scalar.indexCast arg12
  ![v65.toNat]
@[reducible] def k0_t3_loop : Scf.Loop 32 :=
  let c0_i32_8 : BitVec 32 := 0#32
  let c1024_i32 : BitVec 32 := 1024#32
  let v8 : BitVec 32 := Scalar.addi c0_i32_8 c1024_i32
  let c1_i32_9 : BitVec 32 := 1#32
  ⟨c0_i32_8, v8, c1_i32_9⟩
def k0_off2 (k0_t3 : Fin k0_t3_loop.trips) : Fin 2 → Nat :=
  let c0_i32_8 : BitVec 32 := 0#32
  let c1_i32_9 : BitVec 32 := 1#32
  let arg12 : BitVec 32 := Scf.iv c0_i32_8 c1_i32_9 k0_t3
  let v65 : Index := Scalar.indexCast arg12
  let c0_63 : Index := 0#32
  ![v65.toNat, 0]
def k0_off3 (v66 : BitVec 32) : Fin 1 → Nat :=
  let v67 : Index := Scalar.indexCast v66
  ![v67.toNat]

def k0_chk1 (v66 : BitVec 32) : Prop :=
  (∀ a, (k0_off3 v66) a + S1.size a ≤ S128.size a)
theorem k0_off3_inb : ∀ (v66 : BitVec 32) (k0_hw1 : k0_chk1 v66), ∀ a, (k0_off3 v66) a + S1.size a ≤ S128.size a := fun v66 k0_hw1 => k0_hw1

def k0_off4 (v92 : BitVec 32) : Fin 1 → Nat :=
  let v93 : Index := Scalar.indexCast v92
  ![v93.toNat]
def k0_cond2 (d0 : Dev nD) (v66 : BitVec 32) : BitVec 1 :=
  let c0_i32_65 : BitVec 32 := 0#32
  let v73 : BitVec 1 := Scalar.cmpi .sgt v66 c0_i32_65
  let v74 : BitVec 32 := Scalar.extui v73
  let c0_i32_66 : BitVec 32 := 0#32
  let v75 : BitVec 1 := Scalar.cmpi .slt v66 c0_i32_66
  let v76 : BitVec 32 := Scalar.extui v75
  let v77 : BitVec 32 := Scalar.subi v74 v76
  let c4_i32 : BitVec 32 := 4#32
  let c0_i32_67 : BitVec 32 := 0#32
  let v78 : BitVec 1 := Scalar.cmpi .sgt c4_i32 c0_i32_67
  let v79 : BitVec 32 := Scalar.extui v78
  let c0_i32_68 : BitVec 32 := 0#32
  let v80 : BitVec 1 := Scalar.cmpi .slt c4_i32 c0_i32_68
  let v81 : BitVec 32 := Scalar.extui v80
  let v82 : BitVec 32 := Scalar.subi v79 v81
  let v83 : BitVec 1 := Scalar.cmpi .ne v77 v82
  let v84 : BitVec 32 := Scalar.remsi v66 c4_i32
  let c0_i32_69 : BitVec 32 := 0#32
  let v85 : BitVec 1 := Scalar.cmpi .ne v84 c0_i32_69
  let v86 : BitVec 1 := Scalar.andi v83 v85
  let v72 : BitVec 32 := Scalar.divsi v66 c4_i32
  let c1_i32_70 : BitVec 32 := 1#32
  let v87 : BitVec 32 := Scalar.subi v72 c1_i32_70
  let v88 : BitVec 32 := Scalar.select v86 v87 v72
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v89 : BitVec 1 := Scalar.cmpi .eq v88 v2
  let v90 : BitVec 32 := Scalar.extui v89
  let c0_i32_71 : BitVec 32 := 0#32
  let v91 : BitVec 1 := Scalar.cmpi .ne v90 c0_i32_71
  v91

def k0_chk2 (d0 : Dev nD) (v66 : BitVec 32) (v92 : BitVec 32) : Prop :=
  (∀ (k0_h2 : k0_cond2 d0 v66 = 1#1), ∀ a, (k0_off4 v92) a + S1.size a ≤ S1024.size a)
theorem k0_off4_inb : ∀ (d0 : Dev nD) (v66 : BitVec 32) (v92 : BitVec 32) (k0_hw2 : k0_chk2 d0 v66 v92), ∀ (k0_h2 : k0_cond2 d0 v66 = 1#1), ∀ a, (k0_off4 v92) a + S1.size a ≤ S1024.size a := fun d0 v66 v92 k0_hw2 k0_h2 => k0_hw2 k0_h2

@[reducible] def k0_t4_loop (v9 : BitVec 32) : Scf.Loop 32 :=
  let c0_i32_16 : BitVec 32 := 0#32
  let v15 : BitVec 32 := Scalar.subi v9 c0_i32_16
  let c1_i32_17 : BitVec 32 := 1#32
  let v17 : BitVec 32 := Scalar.divsi v15 c1_i32_17
  let v18 : BitVec 32 := Scalar.muli v17 c1_i32_17
  let v19 : BitVec 32 := Scalar.addi c0_i32_16 v18
  let c1_i32_18 : BitVec 32 := 1#32
  ⟨c0_i32_16, v19, c1_i32_18⟩

def k0_off5 (v9 : BitVec 32) (k0_t4 : Fin (k0_t4_loop v9).trips) : Fin 1 → Nat :=
  let c0_i32_16 : BitVec 32 := 0#32
  let c1_i32_18 : BitVec 32 := 1#32
  let arg12 : BitVec 32 := Scf.iv c0_i32_16 c1_i32_18 k0_t4
  let v65 : Index := Scalar.indexCast arg12
  ![v65.toNat]
def k0_off6 (v68 : BitVec 32) : Fin 2 → Nat :=
  let v72 : Index := Scalar.indexCast v68
  let c0_64 : Index := 0#32
  ![v72.toNat, 0]
def k0_cond3 (v66 : BitVec 32) : BitVec 1 :=
  let c7_i32 : BitVec 32 := 7#32
  let v69 : BitVec 1 := Scalar.cmpi .ne v66 c7_i32
  let v70 : BitVec 32 := Scalar.extui v69
  let c0_i32_63 : BitVec 32 := 0#32
  let v71 : BitVec 1 := Scalar.cmpi .ne v70 c0_i32_63
  v71

def k0_chk4 (v66 : BitVec 32) (v68 : BitVec 32) : Prop :=
  (∀ (k0_h3 : k0_cond3 v66 = 1#1), ∀ a, (k0_off6 v68) a + S1x512.size a ≤ S1024x512.size a)
theorem k0_off6_inb : ∀ (v66 : BitVec 32) (v68 : BitVec 32) (k0_hw4 : k0_chk4 v66 v68), ∀ (k0_h3 : k0_cond3 v66 = 1#1), ∀ a, (k0_off6 v68) a + S1x512.size a ≤ S1024x512.size a := fun v66 v68 k0_hw4 k0_h3 => k0_hw4 k0_h3

def k0_off7 (v66 : BitVec 32) : Fin 2 → Nat :=
  let v75 : Index := Scalar.indexCast v66
  let c0_65 : Index := 0#32
  ![v75.toNat, 0]

def k0_chk5 (v66 : BitVec 32) : Prop :=
  (∀ (k0_h3 : k0_cond3 v66 = 1#1), ∀ a, (k0_off7 v66) a + S1x512.size a ≤ S32x512.size a)
theorem k0_off7_inb : ∀ (v66 : BitVec 32) (k0_hw5 : k0_chk5 v66), ∀ (k0_h3 : k0_cond3 v66 = 1#1), ∀ a, (k0_off7 v66) a + S1x512.size a ≤ S32x512.size a := fun v66 k0_hw5 k0_h3 => k0_hw5 k0_h3

@[reducible] def k0_t5_loop (v9 : BitVec 32) : Scf.Loop 32 :=
  let c0_i32_16 : BitVec 32 := 0#32
  let v15 : BitVec 32 := Scalar.subi v9 c0_i32_16
  let c1_i32_17 : BitVec 32 := 1#32
  let v17 : BitVec 32 := Scalar.divsi v15 c1_i32_17
  let v18 : BitVec 32 := Scalar.muli v17 c1_i32_17
  let v19 : BitVec 32 := Scalar.addi c0_i32_16 v18
  let v16 : BitVec 32 := Scalar.addi c0_i32_16 v15
  let c1_i32_19 : BitVec 32 := 1#32
  ⟨v19, v16, c1_i32_19⟩
def k0_off8 (v9 : BitVec 32) (k0_t5 : Fin (k0_t5_loop v9).trips) : Fin 1 → Nat :=
  let c0_i32_16 : BitVec 32 := 0#32
  let v15 : BitVec 32 := Scalar.subi v9 c0_i32_16
  let c1_i32_17 : BitVec 32 := 1#32
  let v17 : BitVec 32 := Scalar.divsi v15 c1_i32_17
  let v18 : BitVec 32 := Scalar.muli v17 c1_i32_17
  let v19 : BitVec 32 := Scalar.addi c0_i32_16 v18
  let c1_i32_19 : BitVec 32 := 1#32
  let arg12 : BitVec 32 := Scf.iv v19 c1_i32_19 k0_t5
  let v65 : Index := Scalar.indexCast arg12
  ![v65.toNat]
def k0_off9 (v68 : BitVec 32) : Fin 2 → Nat :=
  let v72 : Index := Scalar.indexCast v68
  let c0_64 : Index := 0#32
  ![v72.toNat, 0]
def k0_cond4 (v66 : BitVec 32) : BitVec 1 :=
  let c7_i32 : BitVec 32 := 7#32
  let v69 : BitVec 1 := Scalar.cmpi .ne v66 c7_i32
  let v70 : BitVec 32 := Scalar.extui v69
  let c0_i32_63 : BitVec 32 := 0#32
  let v71 : BitVec 1 := Scalar.cmpi .ne v70 c0_i32_63
  v71

def k0_chk6 (v66 : BitVec 32) (v68 : BitVec 32) : Prop :=
  (∀ (k0_h4 : k0_cond4 v66 = 1#1), ∀ a, (k0_off9 v68) a + S1x512.size a ≤ S1024x512.size a)
theorem k0_off9_inb : ∀ (v66 : BitVec 32) (v68 : BitVec 32) (k0_hw6 : k0_chk6 v66 v68), ∀ (k0_h4 : k0_cond4 v66 = 1#1), ∀ a, (k0_off9 v68) a + S1x512.size a ≤ S1024x512.size a := fun v66 v68 k0_hw6 k0_h4 => k0_hw6 k0_h4

def k0_off10 (v66 : BitVec 32) : Fin 2 → Nat :=
  let v75 : Index := Scalar.indexCast v66
  let c0_65 : Index := 0#32
  ![v75.toNat, 0]

def k0_chk7 (v66 : BitVec 32) : Prop :=
  (∀ (k0_h4 : k0_cond4 v66 = 1#1), ∀ a, (k0_off10 v66) a + S1x512.size a ≤ S32x512.size a)
theorem k0_off10_inb : ∀ (v66 : BitVec 32) (k0_hw7 : k0_chk7 v66), ∀ (k0_h4 : k0_cond4 v66 = 1#1), ∀ a, (k0_off10 v66) a + S1x512.size a ≤ S32x512.size a := fun v66 k0_hw7 k0_h4 => k0_hw7 k0_h4

@[reducible] def k0_t6_loop (v9 : BitVec 32) : Scf.Loop 32 :=
  let c0_i32_48 : BitVec 32 := 0#32
  let v48 : BitVec 32 := Scalar.subi v9 c0_i32_48
  let c1_i32_49 : BitVec 32 := 1#32
  let v50 : BitVec 32 := Scalar.divsi v48 c1_i32_49
  let v51 : BitVec 32 := Scalar.muli v50 c1_i32_49
  let v52 : BitVec 32 := Scalar.addi c0_i32_48 v51
  let c1_i32_50 : BitVec 32 := 1#32
  ⟨c0_i32_48, v52, c1_i32_50⟩
def k0_off11 (v9 : BitVec 32) (k0_t6 : Fin (k0_t6_loop v9).trips) : Fin 1 → Nat :=
  let c0_i32_48 : BitVec 32 := 0#32
  let c1_i32_50 : BitVec 32 := 1#32
  let arg12 : BitVec 32 := Scf.iv c0_i32_48 c1_i32_50 k0_t6
  let v65 : Index := Scalar.indexCast arg12
  ![v65.toNat]
def k0_off12 (v68 : BitVec 32) : Fin 2 → Nat :=
  let v102 : Index := Scalar.indexCast v68
  let c0_78 : Index := 0#32
  ![v102.toNat, 0]
def k0_cond5 (d0 : Dev nD) (v66 : BitVec 32) : BitVec 1 :=
  let c0_i32_64 : BitVec 32 := 0#32
  let v70 : BitVec 1 := Scalar.cmpi .sgt v66 c0_i32_64
  let v71 : BitVec 32 := Scalar.extui v70
  let c0_i32_65 : BitVec 32 := 0#32
  let v72 : BitVec 1 := Scalar.cmpi .slt v66 c0_i32_65
  let v73 : BitVec 32 := Scalar.extui v72
  let v74 : BitVec 32 := Scalar.subi v71 v73
  let c32_i32_63 : BitVec 32 := 32#32
  let c0_i32_66 : BitVec 32 := 0#32
  let v75 : BitVec 1 := Scalar.cmpi .sgt c32_i32_63 c0_i32_66
  let v76 : BitVec 32 := Scalar.extui v75
  let c0_i32_67 : BitVec 32 := 0#32
  let v77 : BitVec 1 := Scalar.cmpi .slt c32_i32_63 c0_i32_67
  let v78 : BitVec 32 := Scalar.extui v77
  let v79 : BitVec 32 := Scalar.subi v76 v78
  let v80 : BitVec 1 := Scalar.cmpi .ne v74 v79
  let v81 : BitVec 32 := Scalar.remsi v66 c32_i32_63
  let c0_i32_68 : BitVec 32 := 0#32
  let v82 : BitVec 1 := Scalar.cmpi .ne v81 c0_i32_68
  let v83 : BitVec 1 := Scalar.andi v80 v82
  let v69 : BitVec 32 := Scalar.divsi v66 c32_i32_63
  let c1_i32_69 : BitVec 32 := 1#32
  let v84 : BitVec 32 := Scalar.subi v69 c1_i32_69
  let v85 : BitVec 32 := Scalar.select v83 v84 v69
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v96 : BitVec 1 := Scalar.cmpi .eq v85 v2
  let v97 : BitVec 32 := Scalar.extui v96
  let c0_i32_76 : BitVec 32 := 0#32
  let v98 : BitVec 1 := Scalar.cmpi .ne v97 c0_i32_76
  v98

def k0_off13 (v66 : BitVec 32) : Fin 2 → Nat :=
  let c32_i32_70 : BitVec 32 := 32#32
  let c0_i32_71 : BitVec 32 := 0#32
  let v86 : BitVec 1 := Scalar.cmpi .eq c32_i32_70 c0_i32_71
  let c1_i32_72 : BitVec 32 := 1#32
  let v87 : BitVec 32 := Scalar.select v86 c1_i32_72 c32_i32_70
  let v88 : BitVec 32 := Scalar.remsi v66 v87
  let c0_i32_74 : BitVec 32 := 0#32
  let v90 : BitVec 1 := Scalar.cmpi .slt v88 c0_i32_74
  let c0_i32_75 : BitVec 32 := 0#32
  let v91 : BitVec 1 := Scalar.cmpi .slt v87 c0_i32_75
  let v92 : BitVec 1 := Scalar.xori v90 v91
  let c0_i32_73 : BitVec 32 := 0#32
  let v89 : BitVec 1 := Scalar.cmpi .ne v88 c0_i32_73
  let v93 : BitVec 1 := Scalar.andi v92 v89
  let v94 : BitVec 32 := Scalar.addi v88 v87
  let v95 : BitVec 32 := Scalar.select v93 v94 v88
  let v104 : Index := Scalar.indexCast v95
  let c0_79 : Index := 0#32
  ![v104.toNat, 0]

def k0_off14 (v66 : BitVec 32) : Fin 2 → Nat :=
  let c32_i32_70 : BitVec 32 := 32#32
  let c0_i32_71 : BitVec 32 := 0#32
  let v86 : BitVec 1 := Scalar.cmpi .eq c32_i32_70 c0_i32_71
  let c1_i32_72 : BitVec 32 := 1#32
  let v87 : BitVec 32 := Scalar.select v86 c1_i32_72 c32_i32_70
  let v88 : BitVec 32 := Scalar.remsi v66 v87
  let c0_i32_74 : BitVec 32 := 0#32
  let v90 : BitVec 1 := Scalar.cmpi .slt v88 c0_i32_74
  let c0_i32_75 : BitVec 32 := 0#32
  let v91 : BitVec 1 := Scalar.cmpi .slt v87 c0_i32_75
  let v92 : BitVec 1 := Scalar.xori v90 v91
  let c0_i32_73 : BitVec 32 := 0#32
  let v89 : BitVec 1 := Scalar.cmpi .ne v88 c0_i32_73
  let v93 : BitVec 1 := Scalar.andi v92 v89
  let v94 : BitVec 32 := Scalar.addi v88 v87
  let v95 : BitVec 32 := Scalar.select v93 v94 v88
  let c0_i32_80 : BitVec 32 := 0#32
  ![v95.toNat, 0]
def k0_cond6 (d0 : Dev nD) (v66 : BitVec 32) : BitVec 1 :=
  let c0_i32_64 : BitVec 32 := 0#32
  let v70 : BitVec 1 := Scalar.cmpi .sgt v66 c0_i32_64
  let v71 : BitVec 32 := Scalar.extui v70
  let c0_i32_65 : BitVec 32 := 0#32
  let v72 : BitVec 1 := Scalar.cmpi .slt v66 c0_i32_65
  let v73 : BitVec 32 := Scalar.extui v72
  let v74 : BitVec 32 := Scalar.subi v71 v73
  let c32_i32_63 : BitVec 32 := 32#32
  let c0_i32_66 : BitVec 32 := 0#32
  let v75 : BitVec 1 := Scalar.cmpi .sgt c32_i32_63 c0_i32_66
  let v76 : BitVec 32 := Scalar.extui v75
  let c0_i32_67 : BitVec 32 := 0#32
  let v77 : BitVec 1 := Scalar.cmpi .slt c32_i32_63 c0_i32_67
  let v78 : BitVec 32 := Scalar.extui v77
  let v79 : BitVec 32 := Scalar.subi v76 v78
  let v80 : BitVec 1 := Scalar.cmpi .ne v74 v79
  let v81 : BitVec 32 := Scalar.remsi v66 c32_i32_63
  let c0_i32_68 : BitVec 32 := 0#32
  let v82 : BitVec 1 := Scalar.cmpi .ne v81 c0_i32_68
  let v83 : BitVec 1 := Scalar.andi v80 v82
  let v69 : BitVec 32 := Scalar.divsi v66 c32_i32_63
  let c1_i32_69 : BitVec 32 := 1#32
  let v84 : BitVec 32 := Scalar.subi v69 c1_i32_69
  let v85 : BitVec 32 := Scalar.select v83 v84 v69
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v99 : BitVec 1 := Scalar.cmpi .ne v85 v2
  let v100 : BitVec 32 := Scalar.extui v99
  let c0_i32_77 : BitVec 32 := 0#32
  let v101 : BitVec 1 := Scalar.cmpi .ne v100 c0_i32_77
  v101

def k0_off15 (v68 : BitVec 32) : Fin 2 → Nat :=
  let c0_i32_81 : BitVec 32 := 0#32
  ![v68.toNat, 0]

def k0_chk8 (d0 : Dev nD) (v66 : BitVec 32) (v68 : BitVec 32) : Prop :=
  (∀ (k0_h5 : k0_cond5 d0 v66 = 1#1), ∀ a, (k0_off12 v68) a + S1x1024.size a ≤ S32x1024.size a) ∧
  (∀ (k0_h6 : k0_cond6 d0 v66 = 1#1), ∀ a, (k0_off15 v68) a + S1x1024.size a ≤ S32x1024.size a)
theorem k0_off12_inb : ∀ (d0 : Dev nD) (v66 : BitVec 32) (v68 : BitVec 32) (k0_hw8 : k0_chk8 d0 v66 v68), ∀ (k0_h5 : k0_cond5 d0 v66 = 1#1), ∀ a, (k0_off12 v68) a + S1x1024.size a ≤ S32x1024.size a := fun d0 v66 v68 k0_hw8 k0_h5 => k0_hw8.1 k0_h5
theorem k0_off15_inb : ∀ (d0 : Dev nD) (v66 : BitVec 32) (v68 : BitVec 32) (k0_hw8 : k0_chk8 d0 v66 v68), ∀ (k0_h6 : k0_cond6 d0 v66 = 1#1), ∀ a, (k0_off15 v68) a + S1x1024.size a ≤ S32x1024.size a := fun d0 v66 v68 k0_hw8 k0_h6 => k0_hw8.2 k0_h6

def k0_dev2 (v66 : BitVec 32) : Nat :=
  let c0_i32_79 : BitVec 32 := 0#32
  let c0_i32_64 : BitVec 32 := 0#32
  let v70 : BitVec 1 := Scalar.cmpi .sgt v66 c0_i32_64
  let v71 : BitVec 32 := Scalar.extui v70
  let c0_i32_65 : BitVec 32 := 0#32
  let v72 : BitVec 1 := Scalar.cmpi .slt v66 c0_i32_65
  let v73 : BitVec 32 := Scalar.extui v72
  let v74 : BitVec 32 := Scalar.subi v71 v73
  let c32_i32_63 : BitVec 32 := 32#32
  let c0_i32_66 : BitVec 32 := 0#32
  let v75 : BitVec 1 := Scalar.cmpi .sgt c32_i32_63 c0_i32_66
  let v76 : BitVec 32 := Scalar.extui v75
  let c0_i32_67 : BitVec 32 := 0#32
  let v77 : BitVec 1 := Scalar.cmpi .slt c32_i32_63 c0_i32_67
  let v78 : BitVec 32 := Scalar.extui v77
  let v79 : BitVec 32 := Scalar.subi v76 v78
  let v80 : BitVec 1 := Scalar.cmpi .ne v74 v79
  let v81 : BitVec 32 := Scalar.remsi v66 c32_i32_63
  let c0_i32_68 : BitVec 32 := 0#32
  let v82 : BitVec 1 := Scalar.cmpi .ne v81 c0_i32_68
  let v83 : BitVec 1 := Scalar.andi v80 v82
  let v69 : BitVec 32 := Scalar.divsi v66 c32_i32_63
  let c1_i32_69 : BitVec 32 := 1#32
  let v84 : BitVec 32 := Scalar.subi v69 c1_i32_69
  let v85 : BitVec 32 := Scalar.select v83 v84 v69
  let c1_i32_78 : BitVec 32 := 1#32
  let v102 : BitVec 32 := Scalar.muli v85 c1_i32_78
  let v103 : BitVec 32 := Scalar.addi c0_i32_79 v102
  v103.toNat

def k0_chk9 (d0 : Dev nD) (v66 : BitVec 32) : Prop :=
  (∀ (k0_h5 : k0_cond5 d0 v66 = 1#1), ∀ a, (k0_off13 v66) a + S1x1024.size a ≤ S32x1024.size a) ∧
  (∀ (k0_h6 : k0_cond6 d0 v66 = 1#1), ∀ a, (k0_off14 v66) a + S1x1024.size a ≤ S32x1024.size a) ∧
  (∀ (k0_h6 : k0_cond6 d0 v66 = 1#1), (k0_dev2 v66) < nD)
theorem k0_off13_inb : ∀ (d0 : Dev nD) (v66 : BitVec 32) (k0_hw9 : k0_chk9 d0 v66), ∀ (k0_h5 : k0_cond5 d0 v66 = 1#1), ∀ a, (k0_off13 v66) a + S1x1024.size a ≤ S32x1024.size a := fun d0 v66 k0_hw9 k0_h5 => k0_hw9.1 k0_h5
theorem k0_off14_inb : ∀ (d0 : Dev nD) (v66 : BitVec 32) (k0_hw9 : k0_chk9 d0 v66), ∀ (k0_h6 : k0_cond6 d0 v66 = 1#1), ∀ a, (k0_off14 v66) a + S1x1024.size a ≤ S32x1024.size a := fun d0 v66 k0_hw9 k0_h6 => k0_hw9.2.1 k0_h6
theorem k0_dev2_lt : ∀ (d0 : Dev nD) (v66 : BitVec 32) (k0_hw9 : k0_chk9 d0 v66), ∀ (k0_h6 : k0_cond6 d0 v66 = 1#1), (k0_dev2 v66) < nD := fun d0 v66 k0_hw9 k0_h6 => k0_hw9.2.2 k0_h6

@[reducible] def k0_t7_loop (v9 : BitVec 32) : Scf.Loop 32 :=
  let c0_i32_48 : BitVec 32 := 0#32
  let v48 : BitVec 32 := Scalar.subi v9 c0_i32_48
  let c1_i32_49 : BitVec 32 := 1#32
  let v50 : BitVec 32 := Scalar.divsi v48 c1_i32_49
  let v51 : BitVec 32 := Scalar.muli v50 c1_i32_49
  let v52 : BitVec 32 := Scalar.addi c0_i32_48 v51
  let v49 : BitVec 32 := Scalar.addi c0_i32_48 v48
  let c1_i32_51 : BitVec 32 := 1#32
  ⟨v52, v49, c1_i32_51⟩
def k0_off16 (v9 : BitVec 32) (k0_t7 : Fin (k0_t7_loop v9).trips) : Fin 1 → Nat :=
  let c0_i32_48 : BitVec 32 := 0#32
  let v48 : BitVec 32 := Scalar.subi v9 c0_i32_48
  let c1_i32_49 : BitVec 32 := 1#32
  let v50 : BitVec 32 := Scalar.divsi v48 c1_i32_49
  let v51 : BitVec 32 := Scalar.muli v50 c1_i32_49
  let v52 : BitVec 32 := Scalar.addi c0_i32_48 v51
  let c1_i32_51 : BitVec 32 := 1#32
  let arg12 : BitVec 32 := Scf.iv v52 c1_i32_51 k0_t7
  let v65 : Index := Scalar.indexCast arg12
  ![v65.toNat]

def k0_chk3 (v9 : BitVec 32) : Prop :=
  ((k0_t4_loop v9).OK) ∧
  (∀ k0_t4 : Fin (k0_t4_loop v9).trips, ∀ a, (k0_off5 v9 k0_t4) a + S1.size a ≤ S1024.size a) ∧
  ((k0_t5_loop v9).OK) ∧
  (∀ k0_t5 : Fin (k0_t5_loop v9).trips, ∀ a, (k0_off8 v9 k0_t5) a + S1.size a ≤ S1024.size a) ∧
  ((k0_t6_loop v9).OK) ∧
  (∀ k0_t6 : Fin (k0_t6_loop v9).trips, ∀ a, (k0_off11 v9 k0_t6) a + S1.size a ≤ S1024.size a) ∧
  ((k0_t7_loop v9).OK) ∧
  (∀ k0_t7 : Fin (k0_t7_loop v9).trips, ∀ a, (k0_off16 v9 k0_t7) a + S1.size a ≤ S1024.size a)
theorem k0_t4_ok : ∀ (v9 : BitVec 32) (k0_hw3 : k0_chk3 v9), (k0_t4_loop v9).OK := fun v9 k0_hw3 => k0_hw3.1
theorem k0_off5_inb : ∀ (v9 : BitVec 32) (k0_hw3 : k0_chk3 v9) (k0_t4 : Fin (k0_t4_loop v9).trips), ∀ a, (k0_off5 v9 k0_t4) a + S1.size a ≤ S1024.size a := fun v9 k0_hw3 k0_t4 => k0_hw3.2.1 k0_t4
theorem k0_t5_ok : ∀ (v9 : BitVec 32) (k0_hw3 : k0_chk3 v9), (k0_t5_loop v9).OK := fun v9 k0_hw3 => k0_hw3.2.2.1
theorem k0_off8_inb : ∀ (v9 : BitVec 32) (k0_hw3 : k0_chk3 v9) (k0_t5 : Fin (k0_t5_loop v9).trips), ∀ a, (k0_off8 v9 k0_t5) a + S1.size a ≤ S1024.size a := fun v9 k0_hw3 k0_t5 => k0_hw3.2.2.2.1 k0_t5
theorem k0_t6_ok : ∀ (v9 : BitVec 32) (k0_hw3 : k0_chk3 v9), (k0_t6_loop v9).OK := fun v9 k0_hw3 => k0_hw3.2.2.2.2.1
theorem k0_off11_inb : ∀ (v9 : BitVec 32) (k0_hw3 : k0_chk3 v9) (k0_t6 : Fin (k0_t6_loop v9).trips), ∀ a, (k0_off11 v9 k0_t6) a + S1.size a ≤ S1024.size a := fun v9 k0_hw3 k0_t6 => k0_hw3.2.2.2.2.2.1 k0_t6
theorem k0_t7_ok : ∀ (v9 : BitVec 32) (k0_hw3 : k0_chk3 v9), (k0_t7_loop v9).OK := fun v9 k0_hw3 => k0_hw3.2.2.2.2.2.2.1
theorem k0_off16_inb : ∀ (v9 : BitVec 32) (k0_hw3 : k0_chk3 v9) (k0_t7 : Fin (k0_t7_loop v9).trips), ∀ a, (k0_off16 v9 k0_t7) a + S1.size a ≤ S1024.size a := fun v9 k0_hw3 k0_t7 => k0_hw3.2.2.2.2.2.2.2 k0_t7

def k0_off17 (v68 : BitVec 32) : Fin 2 → Nat :=
  let v102 : Index := Scalar.indexCast v68
  let c0_78 : Index := 0#32
  ![v102.toNat, 0]
def k0_cond7 (d0 : Dev nD) (v66 : BitVec 32) : BitVec 1 :=
  let c0_i32_64 : BitVec 32 := 0#32
  let v70 : BitVec 1 := Scalar.cmpi .sgt v66 c0_i32_64
  let v71 : BitVec 32 := Scalar.extui v70
  let c0_i32_65 : BitVec 32 := 0#32
  let v72 : BitVec 1 := Scalar.cmpi .slt v66 c0_i32_65
  let v73 : BitVec 32 := Scalar.extui v72
  let v74 : BitVec 32 := Scalar.subi v71 v73
  let c32_i32_63 : BitVec 32 := 32#32
  let c0_i32_66 : BitVec 32 := 0#32
  let v75 : BitVec 1 := Scalar.cmpi .sgt c32_i32_63 c0_i32_66
  let v76 : BitVec 32 := Scalar.extui v75
  let c0_i32_67 : BitVec 32 := 0#32
  let v77 : BitVec 1 := Scalar.cmpi .slt c32_i32_63 c0_i32_67
  let v78 : BitVec 32 := Scalar.extui v77
  let v79 : BitVec 32 := Scalar.subi v76 v78
  let v80 : BitVec 1 := Scalar.cmpi .ne v74 v79
  let v81 : BitVec 32 := Scalar.remsi v66 c32_i32_63
  let c0_i32_68 : BitVec 32 := 0#32
  let v82 : BitVec 1 := Scalar.cmpi .ne v81 c0_i32_68
  let v83 : BitVec 1 := Scalar.andi v80 v82
  let v69 : BitVec 32 := Scalar.divsi v66 c32_i32_63
  let c1_i32_69 : BitVec 32 := 1#32
  let v84 : BitVec 32 := Scalar.subi v69 c1_i32_69
  let v85 : BitVec 32 := Scalar.select v83 v84 v69
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v96 : BitVec 1 := Scalar.cmpi .eq v85 v2
  let v97 : BitVec 32 := Scalar.extui v96
  let c0_i32_76 : BitVec 32 := 0#32
  let v98 : BitVec 1 := Scalar.cmpi .ne v97 c0_i32_76
  v98

def k0_off18 (v66 : BitVec 32) : Fin 2 → Nat :=
  let c32_i32_70 : BitVec 32 := 32#32
  let c0_i32_71 : BitVec 32 := 0#32
  let v86 : BitVec 1 := Scalar.cmpi .eq c32_i32_70 c0_i32_71
  let c1_i32_72 : BitVec 32 := 1#32
  let v87 : BitVec 32 := Scalar.select v86 c1_i32_72 c32_i32_70
  let v88 : BitVec 32 := Scalar.remsi v66 v87
  let c0_i32_74 : BitVec 32 := 0#32
  let v90 : BitVec 1 := Scalar.cmpi .slt v88 c0_i32_74
  let c0_i32_75 : BitVec 32 := 0#32
  let v91 : BitVec 1 := Scalar.cmpi .slt v87 c0_i32_75
  let v92 : BitVec 1 := Scalar.xori v90 v91
  let c0_i32_73 : BitVec 32 := 0#32
  let v89 : BitVec 1 := Scalar.cmpi .ne v88 c0_i32_73
  let v93 : BitVec 1 := Scalar.andi v92 v89
  let v94 : BitVec 32 := Scalar.addi v88 v87
  let v95 : BitVec 32 := Scalar.select v93 v94 v88
  let v104 : Index := Scalar.indexCast v95
  let c0_79 : Index := 0#32
  ![v104.toNat, 0]

def k0_off19 (v66 : BitVec 32) : Fin 2 → Nat :=
  let c32_i32_70 : BitVec 32 := 32#32
  let c0_i32_71 : BitVec 32 := 0#32
  let v86 : BitVec 1 := Scalar.cmpi .eq c32_i32_70 c0_i32_71
  let c1_i32_72 : BitVec 32 := 1#32
  let v87 : BitVec 32 := Scalar.select v86 c1_i32_72 c32_i32_70
  let v88 : BitVec 32 := Scalar.remsi v66 v87
  let c0_i32_74 : BitVec 32 := 0#32
  let v90 : BitVec 1 := Scalar.cmpi .slt v88 c0_i32_74
  let c0_i32_75 : BitVec 32 := 0#32
  let v91 : BitVec 1 := Scalar.cmpi .slt v87 c0_i32_75
  let v92 : BitVec 1 := Scalar.xori v90 v91
  let c0_i32_73 : BitVec 32 := 0#32
  let v89 : BitVec 1 := Scalar.cmpi .ne v88 c0_i32_73
  let v93 : BitVec 1 := Scalar.andi v92 v89
  let v94 : BitVec 32 := Scalar.addi v88 v87
  let v95 : BitVec 32 := Scalar.select v93 v94 v88
  let c0_i32_80 : BitVec 32 := 0#32
  ![v95.toNat, 0]
def k0_cond8 (d0 : Dev nD) (v66 : BitVec 32) : BitVec 1 :=
  let c0_i32_64 : BitVec 32 := 0#32
  let v70 : BitVec 1 := Scalar.cmpi .sgt v66 c0_i32_64
  let v71 : BitVec 32 := Scalar.extui v70
  let c0_i32_65 : BitVec 32 := 0#32
  let v72 : BitVec 1 := Scalar.cmpi .slt v66 c0_i32_65
  let v73 : BitVec 32 := Scalar.extui v72
  let v74 : BitVec 32 := Scalar.subi v71 v73
  let c32_i32_63 : BitVec 32 := 32#32
  let c0_i32_66 : BitVec 32 := 0#32
  let v75 : BitVec 1 := Scalar.cmpi .sgt c32_i32_63 c0_i32_66
  let v76 : BitVec 32 := Scalar.extui v75
  let c0_i32_67 : BitVec 32 := 0#32
  let v77 : BitVec 1 := Scalar.cmpi .slt c32_i32_63 c0_i32_67
  let v78 : BitVec 32 := Scalar.extui v77
  let v79 : BitVec 32 := Scalar.subi v76 v78
  let v80 : BitVec 1 := Scalar.cmpi .ne v74 v79
  let v81 : BitVec 32 := Scalar.remsi v66 c32_i32_63
  let c0_i32_68 : BitVec 32 := 0#32
  let v82 : BitVec 1 := Scalar.cmpi .ne v81 c0_i32_68
  let v83 : BitVec 1 := Scalar.andi v80 v82
  let v69 : BitVec 32 := Scalar.divsi v66 c32_i32_63
  let c1_i32_69 : BitVec 32 := 1#32
  let v84 : BitVec 32 := Scalar.subi v69 c1_i32_69
  let v85 : BitVec 32 := Scalar.select v83 v84 v69
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v99 : BitVec 1 := Scalar.cmpi .ne v85 v2
  let v100 : BitVec 32 := Scalar.extui v99
  let c0_i32_77 : BitVec 32 := 0#32
  let v101 : BitVec 1 := Scalar.cmpi .ne v100 c0_i32_77
  v101

def k0_off20 (v68 : BitVec 32) : Fin 2 → Nat :=
  let c0_i32_81 : BitVec 32 := 0#32
  ![v68.toNat, 0]

def k0_chk10 (d0 : Dev nD) (v66 : BitVec 32) (v68 : BitVec 32) : Prop :=
  (∀ (k0_h7 : k0_cond7 d0 v66 = 1#1), ∀ a, (k0_off17 v68) a + S1x1024.size a ≤ S32x1024.size a) ∧
  (∀ (k0_h8 : k0_cond8 d0 v66 = 1#1), ∀ a, (k0_off20 v68) a + S1x1024.size a ≤ S32x1024.size a)
theorem k0_off17_inb : ∀ (d0 : Dev nD) (v66 : BitVec 32) (v68 : BitVec 32) (k0_hw10 : k0_chk10 d0 v66 v68), ∀ (k0_h7 : k0_cond7 d0 v66 = 1#1), ∀ a, (k0_off17 v68) a + S1x1024.size a ≤ S32x1024.size a := fun d0 v66 v68 k0_hw10 k0_h7 => k0_hw10.1 k0_h7
theorem k0_off20_inb : ∀ (d0 : Dev nD) (v66 : BitVec 32) (v68 : BitVec 32) (k0_hw10 : k0_chk10 d0 v66 v68), ∀ (k0_h8 : k0_cond8 d0 v66 = 1#1), ∀ a, (k0_off20 v68) a + S1x1024.size a ≤ S32x1024.size a := fun d0 v66 v68 k0_hw10 k0_h8 => k0_hw10.2 k0_h8

def k0_dev3 (v66 : BitVec 32) : Nat :=
  let c0_i32_79 : BitVec 32 := 0#32
  let c0_i32_64 : BitVec 32 := 0#32
  let v70 : BitVec 1 := Scalar.cmpi .sgt v66 c0_i32_64
  let v71 : BitVec 32 := Scalar.extui v70
  let c0_i32_65 : BitVec 32 := 0#32
  let v72 : BitVec 1 := Scalar.cmpi .slt v66 c0_i32_65
  let v73 : BitVec 32 := Scalar.extui v72
  let v74 : BitVec 32 := Scalar.subi v71 v73
  let c32_i32_63 : BitVec 32 := 32#32
  let c0_i32_66 : BitVec 32 := 0#32
  let v75 : BitVec 1 := Scalar.cmpi .sgt c32_i32_63 c0_i32_66
  let v76 : BitVec 32 := Scalar.extui v75
  let c0_i32_67 : BitVec 32 := 0#32
  let v77 : BitVec 1 := Scalar.cmpi .slt c32_i32_63 c0_i32_67
  let v78 : BitVec 32 := Scalar.extui v77
  let v79 : BitVec 32 := Scalar.subi v76 v78
  let v80 : BitVec 1 := Scalar.cmpi .ne v74 v79
  let v81 : BitVec 32 := Scalar.remsi v66 c32_i32_63
  let c0_i32_68 : BitVec 32 := 0#32
  let v82 : BitVec 1 := Scalar.cmpi .ne v81 c0_i32_68
  let v83 : BitVec 1 := Scalar.andi v80 v82
  let v69 : BitVec 32 := Scalar.divsi v66 c32_i32_63
  let c1_i32_69 : BitVec 32 := 1#32
  let v84 : BitVec 32 := Scalar.subi v69 c1_i32_69
  let v85 : BitVec 32 := Scalar.select v83 v84 v69
  let c1_i32_78 : BitVec 32 := 1#32
  let v102 : BitVec 32 := Scalar.muli v85 c1_i32_78
  let v103 : BitVec 32 := Scalar.addi c0_i32_79 v102
  v103.toNat

def k0_chk11 (d0 : Dev nD) (v66 : BitVec 32) : Prop :=
  (∀ (k0_h7 : k0_cond7 d0 v66 = 1#1), ∀ a, (k0_off18 v66) a + S1x1024.size a ≤ S32x1024.size a) ∧
  (∀ (k0_h8 : k0_cond8 d0 v66 = 1#1), ∀ a, (k0_off19 v66) a + S1x1024.size a ≤ S32x1024.size a) ∧
  (∀ (k0_h8 : k0_cond8 d0 v66 = 1#1), (k0_dev3 v66) < nD)
theorem k0_off18_inb : ∀ (d0 : Dev nD) (v66 : BitVec 32) (k0_hw11 : k0_chk11 d0 v66), ∀ (k0_h7 : k0_cond7 d0 v66 = 1#1), ∀ a, (k0_off18 v66) a + S1x1024.size a ≤ S32x1024.size a := fun d0 v66 k0_hw11 k0_h7 => k0_hw11.1 k0_h7
theorem k0_off19_inb : ∀ (d0 : Dev nD) (v66 : BitVec 32) (k0_hw11 : k0_chk11 d0 v66), ∀ (k0_h8 : k0_cond8 d0 v66 = 1#1), ∀ a, (k0_off19 v66) a + S1x1024.size a ≤ S32x1024.size a := fun d0 v66 k0_hw11 k0_h8 => k0_hw11.2.1 k0_h8
theorem k0_dev3_lt : ∀ (d0 : Dev nD) (v66 : BitVec 32) (k0_hw11 : k0_chk11 d0 v66), ∀ (k0_h8 : k0_cond8 d0 v66 = 1#1), (k0_dev3 v66) < nD := fun d0 v66 k0_hw11 k0_h8 => k0_hw11.2.2 k0_h8

@[reducible] def k0_t8_loop (v10 : BitVec 32) : Scf.Loop 32 :=
  let c0_i32_54 : BitVec 32 := 0#32
  let c32_i32_52 : BitVec 32 := 32#32
  let v53 : BitVec 32 := Scalar.subi c32_i32_52 v10
  let v54 : BitVec 32 := Scalar.subi v53 c0_i32_54
  let c1_i32_55 : BitVec 32 := 1#32
  let v56 : BitVec 32 := Scalar.divsi v54 c1_i32_55
  let v57 : BitVec 32 := Scalar.muli v56 c1_i32_55
  let v58 : BitVec 32 := Scalar.addi c0_i32_54 v57
  let c1_i32_56 : BitVec 32 := 1#32
  ⟨c0_i32_54, v58, c1_i32_56⟩

@[reducible] def k0_t9_loop (v10 : BitVec 32) : Scf.Loop 32 :=
  let c0_i32_54 : BitVec 32 := 0#32
  let c32_i32_52 : BitVec 32 := 32#32
  let v53 : BitVec 32 := Scalar.subi c32_i32_52 v10
  let v54 : BitVec 32 := Scalar.subi v53 c0_i32_54
  let c1_i32_55 : BitVec 32 := 1#32
  let v56 : BitVec 32 := Scalar.divsi v54 c1_i32_55
  let v57 : BitVec 32 := Scalar.muli v56 c1_i32_55
  let v58 : BitVec 32 := Scalar.addi c0_i32_54 v57
  let v55 : BitVec 32 := Scalar.addi c0_i32_54 v54
  let c1_i32_57 : BitVec 32 := 1#32
  ⟨v58, v55, c1_i32_57⟩
@[reducible] def k0_t10_loop (v9 : BitVec 32) (v10 : BitVec 32) : Scf.Loop 32 :=
  let c0_i32_59 : BitVec 32 := 0#32
  let v59 : BitVec 32 := Scalar.subi v9 v10
  let v60 : BitVec 32 := Scalar.subi v59 c0_i32_59
  let c1_i32_60 : BitVec 32 := 1#32
  let v62 : BitVec 32 := Scalar.divsi v60 c1_i32_60
  let v63 : BitVec 32 := Scalar.muli v62 c1_i32_60
  let v64 : BitVec 32 := Scalar.addi c0_i32_59 v63
  let c1_i32_61 : BitVec 32 := 1#32
  ⟨c0_i32_59, v64, c1_i32_61⟩
@[reducible] def k0_t11_loop (v9 : BitVec 32) (v10 : BitVec 32) : Scf.Loop 32 :=
  let c0_i32_59 : BitVec 32 := 0#32
  let v59 : BitVec 32 := Scalar.subi v9 v10
  let v60 : BitVec 32 := Scalar.subi v59 c0_i32_59
  let c1_i32_60 : BitVec 32 := 1#32
  let v62 : BitVec 32 := Scalar.divsi v60 c1_i32_60
  let v63 : BitVec 32 := Scalar.muli v62 c1_i32_60
  let v64 : BitVec 32 := Scalar.addi c0_i32_59 v63
  let v61 : BitVec 32 := Scalar.addi c0_i32_59 v60
  let c1_i32_62 : BitVec 32 := 1#32
  ⟨v64, v61, c1_i32_62⟩

def k0_chk12 (v9 : BitVec 32) (v10 : BitVec 32) : Prop :=
  ((k0_t8_loop v10).OK) ∧
  ((k0_t9_loop v10).OK) ∧
  ((k0_t10_loop v9 v10).OK) ∧
  ((k0_t11_loop v9 v10).OK)
theorem k0_t8_ok : ∀ (v9 : BitVec 32) (v10 : BitVec 32) (k0_hw12 : k0_chk12 v9 v10), (k0_t8_loop v10).OK := fun v9 v10 k0_hw12 => k0_hw12.1
theorem k0_t9_ok : ∀ (v9 : BitVec 32) (v10 : BitVec 32) (k0_hw12 : k0_chk12 v9 v10), (k0_t9_loop v10).OK := fun v9 v10 k0_hw12 => k0_hw12.2.1
theorem k0_t10_ok : ∀ (v9 : BitVec 32) (v10 : BitVec 32) (k0_hw12 : k0_chk12 v9 v10), (k0_t10_loop v9 v10).OK := fun v9 v10 k0_hw12 => k0_hw12.2.2.1
theorem k0_t11_ok : ∀ (v9 : BitVec 32) (v10 : BitVec 32) (k0_hw12 : k0_chk12 v9 v10), (k0_t11_loop v9 v10).OK := fun v9 v10 k0_hw12 => k0_hw12.2.2.2

abbrev stage0_0 : Fin 1 → Memref sig .tc .smem S1024x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Words.lean ====
/-
# The kernel's words in closed form

Every condition, offset, loop bound and device number the body computes, as the natural number it stands
for, over the words the kernel meets: an expert below 128, a token below 1024, a slot below 32.
-/
module

public import proofs.«01_k».proof.Proof.Gen.KernelIdeal
public import proofs.«01_k».proof.Proof.Gen.KernelIdeal.Skeleton
public import Idealize.ShloMosaic.Lib.LoopRemainder

@[expose] public section

set_option maxRecDepth 16384

noncomputable section

namespace Cert.RouteKernelIdeal

open Cert.KernelIdeal Cert.KernelIdeal.Gen
open Idealize.ShloMosaic

/-- The word of a natural number. -/
abbrev wd (n : ℕ) : BitVec 32 := BitVec.ofNat 32 n

theorem wd_toNat {n : ℕ} (h : n < 4096) : (wd n).toNat = n := by
  rw [BitVec.toNat_ofNat]; exact Nat.mod_eq_of_lt (by omega)

theorem wd_of_toNat {b : BitVec 32} {n : ℕ} (h : b.toNat = n) : b = wd n := by
  subst h; simp [wd]

theorem wd_inj {m n : ℕ} (hm : m < 4096) (hn : n < 4096) (h : wd m = wd n) : m = n := by
  rw [← wd_toNat hm, ← wd_toNat hn, h]

theorem wd_add (m n : ℕ) : Scalar.addi (wd m) (wd n) = wd (m + n) := by
  exact (BitVec.ofNat_add m n).symm

/-- The slot of a token: its expert's eight rows, at its rank; row seven beyond the capacity. -/
def slotN (e r : ℕ) : ℕ := if r < 6 then (e % 4) * 8 + r else 7

theorem slotN_lt (e r : ℕ) : slotN e r < 32 := by unfold slotN; split <;> omega

theorem v2_eq : ∀ d : Dev nD, Scalar.remsi (Scalar.divsi (Dev.word d) 1#32) 32#32 = wd d.val := by decide +kernel

theorem iv_t1 (t : Fin k0_t1_loop.trips) : Scf.iv 0#32 1#32 t = wd t.val := by
  simp [Scf.iv, wd]
theorem iv_t3 (t : Fin k0_t3_loop.trips) : Scf.iv 0#32 1#32 t = wd t.val := by
  simp [Scf.iv, wd]

theorem trips_t1 : k0_t1_loop.trips = 32 := by decide +kernel
theorem trips_t2 : k0_t2_loop.trips = 128 := by decide +kernel
theorem trips_t3 : k0_t3_loop.trips = 1024 := by decide +kernel

theorem cond1_iff : ∀ (d : Dev nD) (t : Fin k0_t1_loop.trips), k0_cond1 d t = 1#1 ↔ t.val ≠ d.val := by decide +kernel

theorem cond2_iff : ∀ (d : Dev nD) (e : Fin 128), k0_cond2 d (wd e.val) = 1#1 ↔ e.val / 4 = d.val := by decide +kernel

theorem off3_eq {e : ℕ} (h : e < 128) : k0_off3 (wd e) = ![e] := by
  exact congrArg (fun n => ![n]) (wd_toNat (n := e) (by omega))

theorem off4_eq {e : ℕ} (h : e < 1024) : k0_off4 (wd e) = ![e] := by
  exact congrArg (fun n => ![n]) (wd_toNat (n := e) (by omega))

theorem off6_eq {e : ℕ} (h : e < 1024) : k0_off6 (wd e) = ![e, 0] := by
  exact congrArg (fun n => ![n, 0]) (wd_toNat (n := e) (by omega))

theorem off7_eq {e : ℕ} (h : e < 32) : k0_off7 (wd e) = ![e, 0] := by
  exact congrArg (fun n => ![n, 0]) (wd_toNat (n := e) (by omega))

theorem off12_eq {e : ℕ} (h : e < 32) : k0_off12 (wd e) = ![e, 0] := by
  exact congrArg (fun n => ![n, 0]) (wd_toNat (n := e) (by omega))

theorem off15_eq {e : ℕ} (h : e < 32) : k0_off15 (wd e) = ![e, 0] := by
  exact congrArg (fun n => ![n, 0]) (wd_toNat (n := e) (by omega))

/-- The expert's place on its device, as the body computes it. -/
theorem mod4_word : ∀ e : Fin 128,
    (let v97 := Scalar.select (Scalar.cmpi .eq 4#32 0#32) 1#32 4#32
     let v98 := Scalar.remsi (wd e.val) v97
     Scalar.select (Scalar.andi (Scalar.xori (Scalar.cmpi .slt v98 0#32) (Scalar.cmpi .slt v97 0#32)) (Scalar.cmpi .ne v98 0#32))
       (Scalar.addi v98 v97) v98 : BitVec 32) = wd (e.val % 4) := by decide +kernel

theorem slt6_word : ∀ r : Fin 1024, (Scalar.cmpi .slt (wd r.val) 6#32 = 1#1) ↔ r.val < 6 := by decide +kernel

theorem slot_small : ∀ (r : Fin 6) (m : Fin 4),
    Scalar.addi (Scalar.muli (wd m.val) 8#32) (wd r.val) = wd (m.val * 8 + r.val) := by decide +kernel

/-- The slot, as the body computes it. -/
theorem slot_word {e r : ℕ} (he : e < 128) (hr : r < 1024) :
    (let v97 := Scalar.select (Scalar.cmpi .eq 4#32 0#32) 1#32 4#32
     let v98 := Scalar.remsi (wd e) v97
     Scalar.select (Scalar.cmpi .slt (wd r) 6#32)
      (Scalar.addi (Scalar.muli (Scalar.select (Scalar.andi (Scalar.xori (Scalar.cmpi .slt v98 0#32) (Scalar.cmpi .slt v97 0#32)) (Scalar.cmpi .ne v98 0#32))
       (Scalar.addi v98 v97) v98) 8#32) (wd r)) 7#32 : BitVec 32) = wd (slotN e r) := by
  have h1 := mod4_word ⟨e, he⟩
  have h2 := slt6_word ⟨r, hr⟩
  dsimp only at h1 h2 ⊢
  rw [h1]
  unfold slotN
  by_cases h : r < 6
  · rw [h2.2 h, if_pos h, ← slot_small ⟨r, h⟩ ⟨e % 4, by omega⟩]; rfl
  · have h3 : Scalar.cmpi .slt (wd r) 6#32 = 0#1 := by
      have : ∀ b : BitVec 1, b ≠ 1#1 → b = 0#1 := by decide
      exact this _ fun hc => h (h2.1 hc)
    rw [h3, if_neg h]; rfl

/-- A word divided by 32 and rounded down, as the body computes it. -/
def fdivW (v : BitVec 32) : BitVec 32 :=
  Scalar.select (Scalar.andi (Scalar.cmpi .ne
      (Scalar.subi (Scalar.extui (Scalar.cmpi .sgt v 0#32)) (Scalar.extui (Scalar.cmpi .slt v 0#32)))
      (Scalar.subi (Scalar.extui (Scalar.cmpi .sgt 32#32 0#32)) (Scalar.extui (Scalar.cmpi .slt 32#32 0#32))))
    (Scalar.cmpi .ne (Scalar.remsi v 32#32) 0#32))
    (Scalar.subi (Scalar.divsi v 32#32) 1#32) (Scalar.divsi v 32#32)

theorem fdivW_eq : ∀ i : Fin 1024, fdivW (wd i.val) = wd (i.val / 32) := by decide +kernel

/-- The own block's indicator, as the body computes it. -/
theorem own_word : ∀ a d : Fin 32,
    Scalar.select (Scalar.cmpi .eq (wd a.val) (wd d.val)) 1#32 0#32 = wd (if a = d then 1 else 0) := by decide +kernel

theorem eq_word : ∀ a d : Fin 32,
    Scalar.cmpi .ne (Scalar.extui (Scalar.cmpi .eq (wd a.val) (wd d.val)) : BitVec 32) 0#32 = 1#1 ↔ a = d := by decide +kernel
theorem ne_word : ∀ a d : Fin 32,
    Scalar.cmpi .ne (Scalar.extui (Scalar.cmpi .ne (wd a.val) (wd d.val)) : BitVec 32) 0#32 = 1#1 ↔ a ≠ d := by decide +kernel

theorem cond5_iff (d : Dev nD) {i : ℕ} (hi : i < 1024) : k0_cond5 d (wd i) = 1#1 ↔ i / 32 = d.val := by
  have h : k0_cond5 d (wd i) = Scalar.cmpi .ne (Scalar.extui (Scalar.cmpi .eq (fdivW (wd i)) (Scalar.remsi (Scalar.divsi (Dev.word d) 1#32) 32#32)) : BitVec 32) 0#32 := rfl
  rw [h, v2_eq, fdivW_eq ⟨i, hi⟩]
  exact (eq_word ⟨i / 32, by omega⟩ d).trans Fin.ext_iff

theorem cond6_iff (d : Dev nD) {i : ℕ} (hi : i < 1024) : k0_cond6 d (wd i) = 1#1 ↔ i / 32 ≠ d.val := by
  have h : k0_cond6 d (wd i) = Scalar.cmpi .ne (Scalar.extui (Scalar.cmpi .ne (fdivW (wd i)) (Scalar.remsi (Scalar.divsi (Dev.word d) 1#32) 32#32)) : BitVec 32) 0#32 := rfl
  rw [h, v2_eq, fdivW_eq ⟨i, hi⟩]
  exact (ne_word ⟨i / 32, by omega⟩ d).trans (not_congr Fin.ext_iff)

theorem off13_0 : ∀ i : Fin 1024, (k0_off13 (wd i.val)) 0 = i.val % 32 := by decide +kernel
theorem off13_eq {i : ℕ} (hi : i < 1024) : k0_off13 (wd i) = ![i % 32, 0] := by
  funext a
  match a with
  | 0 => exact off13_0 ⟨i, hi⟩
  | 1 => rfl
theorem off14_0 : ∀ i : Fin 1024, (k0_off14 (wd i.val)) 0 = i.val % 32 := by decide +kernel
theorem off14_eq {i : ℕ} (hi : i < 1024) : k0_off14 (wd i) = ![i % 32, 0] := by
  funext a
  match a with
  | 0 => exact off14_0 ⟨i, hi⟩
  | 1 => rfl
theorem dev2_fin : ∀ i : Fin 1024, k0_dev2 (wd i.val) = i.val / 32 := by decide +kernel
theorem dev2_eq {i : ℕ} (hi : i < 1024) : k0_dev2 (wd i) = i / 32 := dev2_fin ⟨i, hi⟩

theorem cond3_fin : ∀ s : Fin 32, k0_cond3 (wd s.val) = 1#1 ↔ s.val ≠ 7 := by decide +kernel
theorem cond3_iff {s : ℕ} (h : s < 32) : k0_cond3 (wd s) = 1#1 ↔ s ≠ 7 := cond3_fin ⟨s, h⟩

/-! ## The loops' bounds -/

theorem trips_t4 {n : ℕ} (h : n ≤ 1024) : (k0_t4_loop (wd n)).trips = n := by
  have : ∀ n : Fin 1025, (k0_t4_loop (wd n.val)).trips = n.val := by decide +kernel
  exact this ⟨n, by omega⟩
theorem ok_t4 {n : ℕ} (h : n ≤ 1024) : (k0_t4_loop (wd n)).OK := by
  have : ∀ n : Fin 1025, (k0_t4_loop (wd n.val)).OK := by decide +kernel
  exact this ⟨n, by omega⟩
theorem trips_t6 {n : ℕ} (h : n ≤ 1024) : (k0_t6_loop (wd n)).trips = n := trips_t4 h
theorem trips_t5 (w : BitVec 32) : (k0_t5_loop w).trips = 0 := Scf.rem_trips 0#32 (Scalar.subi w 0#32)
theorem trips_t7 (w : BitVec 32) : (k0_t7_loop w).trips = 0 := Scf.rem_trips 0#32 (Scalar.subi w 0#32)
theorem trips_t8 {n : ℕ} (h : n ≤ 32) : (k0_t8_loop (wd n)).trips = 32 - n := by
  have : ∀ n : Fin 33, (k0_t8_loop (wd n.val)).trips = 32 - n.val := by decide +kernel
  exact this ⟨n, by omega⟩
theorem trips_t9 (w : BitVec 32) : (k0_t9_loop w).trips = 0 := Scf.rem_trips 0#32 _
theorem trips_t10 {n m : ℕ} (h : n ≤ 1024) (hm : m ≤ n) : (k0_t10_loop (wd n) (wd m)).trips = n - m := by
  have e : Scalar.subi (wd n) (wd m) = wd (n - m) := by
    apply BitVec.eq_of_toNat_eq
    show (wd n - wd m).toNat = (wd (n - m)).toNat
    rw [BitVec.toNat_sub, wd_toNat (by omega), wd_toNat (by omega), wd_toNat (by omega)]
    omega
  have h4 := trips_t4 (n := n - m) (by omega)
  unfold k0_t10_loop
  rw [e]
  exact h4
theorem trips_t11 (v w : BitVec 32) : (k0_t11_loop v w).trips = 0 := Scf.rem_trips 0#32 _

theorem off1_eq (t : Fin k0_t2_loop.trips) : k0_off1 t = ![t.val] := k0_off1_eq t
theorem off5_eq {n : ℕ} (h : n ≤ 1024) (t : Fin (k0_t4_loop (wd n)).trips) : k0_off5 (wd n) t = ![t.val] := by
  have ht : t.val < n := lt_of_lt_of_eq t.isLt (trips_t4 h)
  have h1 : Scf.iv 0#32 1#32 t.val = wd t.val := by simp [Scf.iv, wd]
  have h2 : (Scf.iv 0#32 1#32 t.val : BitVec 32).toNat = t.val := by
    rw [h1]; exact wd_toNat (by omega)
  exact congrArg (fun n => ![n]) h2
theorem off11_eq {n : ℕ} (h : n ≤ 1024) (t : Fin (k0_t6_loop (wd n)).trips) : k0_off11 (wd n) t = ![t.val] := off5_eq h t

theorem chk1_ok {e : ℕ} (h : e < 128) : k0_chk1 (wd e) := by
  unfold k0_chk1; rw [off3_eq h]; intro a
  match a with | 0 => show e + 1 ≤ 128; omega

theorem chk2_ok (d : Dev nD) (v : BitVec 32) {j : ℕ} (h : k0_cond2 d v = 1#1 → j < 1024) : k0_chk2 d v (wd j) := by
  intro hc; rw [off4_eq (h hc)]; intro a
  have := h hc
  match a with | 0 => show j + 1 ≤ 1024; omega

theorem chk3_ok {n : ℕ} (h : n ≤ 1024) : k0_chk3 (wd n) := by
  refine ⟨ok_t4 h, fun t => ?_, Scf.rem_ok _ _, fun t => absurd (lt_of_lt_of_eq t.isLt (trips_t5 _)) (Nat.not_lt_zero _), ok_t4 h, fun t => ?_,
    Scf.rem_ok _ _, fun t => absurd (lt_of_lt_of_eq t.isLt (trips_t7 _)) (Nat.not_lt_zero _)⟩
  · have ht : t.val < n := lt_of_lt_of_eq t.isLt (trips_t4 h)
    rw [off5_eq h]; intro a
    match a with | 0 => show t.val + 1 ≤ 1024; omega
  · have ht : t.val < n := lt_of_lt_of_eq t.isLt (trips_t6 h)
    rw [off11_eq h]; intro a
    match a with | 0 => show t.val + 1 ≤ 1024; omega

theorem chk4_ok (v : BitVec 32) {i : ℕ} (h : i < 1024) : k0_chk4 v (wd i) := by
  intro _; rw [off6_eq h]; intro a
  match a with
  | 0 => show i + 1 ≤ 1024; omega
  | 1 => show 0 + 512 ≤ 512; omega

theorem chk5_ok {s : ℕ} (h : s < 32) : k0_chk5 (wd s) := by
  intro _; rw [off7_eq h]; intro a
  match a with
  | 0 => show s + 1 ≤ 32; omega
  | 1 => show 0 + 512 ≤ 512; omega

theorem chk8_ok (d : Dev nD) (v : BitVec 32) {s : ℕ} (h : s < 32) : k0_chk8 d v (wd s) := by
  refine ⟨fun _ => ?_, fun _ => ?_⟩
  · rw [off12_eq h]; intro a
    match a with
    | 0 => show s + 1 ≤ 32; omega
    | 1 => show 0 + 1024 ≤ 1024; omega
  · rw [off15_eq h]; intro a
    match a with
    | 0 => show s + 1 ≤ 32; omega
    | 1 => show 0 + 1024 ≤ 1024; omega

theorem chk9_ok (d : Dev nD) {i : ℕ} (h : i < 1024) : k0_chk9 d (wd i) := by
  refine ⟨fun _ => ?_, fun _ => ?_, fun _ => ?_⟩
  · rw [off13_eq h]; intro a
    match a with
    | 0 => show i % 32 + 1 ≤ 32; omega
    | 1 => show 0 + 1024 ≤ 1024; omega
  · rw [off14_eq h]; intro a
    match a with
    | 0 => show i % 32 + 1 ≤ 32; omega
    | 1 => show 0 + 1024 ≤ 1024; omega
  · rw [dev2_eq h]; show i / 32 < 32; omega

end Cert.RouteKernelIdeal

end
-- ==== Proof.World.lean ====
/-
# The routing, as pure data

Tokens are pairs (block, row); `Route` says what each device's table holds and which device serves a token.
Counted here: how many tokens before a time are a device's, how many of those are of its own block, how many
before a time go to an expert. The device's `j`-th token is found by its count.
-/
module

public import proofs.«01_k».proof.Proof.Words

@[expose] public section

set_option maxRecDepth 16384

noncomputable section

namespace Cert.RouteKernelIdeal

open Cert.KernelIdeal Cert.KernelIdeal.Gen
open Idealize.ShloMosaic

/-- A token: the block it lies in (the device that returns its row) and its row there. -/
abbrev Tok : Type := Dev nD × Fin 32

/-- A token's number. -/
def tn (p : Tok) : ℕ := 32 * p.1.val + p.2.val

theorem tn_lt (p : Tok) : tn p < 1024 := by
  have h1 : p.1.val < 32 := p.1.isLt
  have h2 := p.2.isLt
  unfold tn; omega
theorem tn_div (p : Tok) : tn p / 32 = p.1.val := by
  have h2 := p.2.isLt
  unfold tn; omega
theorem tn_mod (p : Tok) : tn p % 32 = p.2.val := by
  have h2 := p.2.isLt
  unfold tn; omega
theorem tn_inj {p q : Tok} (h : tn p = tn q) : p = q := by
  refine Prod.ext (Fin.ext ?_) (Fin.ext ?_)
  · rw [← tn_div, ← tn_div, h]
  · rw [← tn_mod, ← tn_mod, h]

/-- The token of a number below 1024. -/
def tk (n : ℕ) (h : n < 1024) : Tok := (⟨n / 32, by show n / 32 < 32; omega⟩, ⟨n % 32, by omega⟩)

theorem tn_tk (n : ℕ) (h : n < 1024) : tn (tk n h) = n := by unfold tn tk; dsimp only; omega
theorem tk_tn (p : Tok) : tk (tn p) (tn_lt p) = p := tn_inj (tn_tk _ _)

/-- What the tables hold, and who serves a token: device `c`'s table names for token `n` the expert `ex c n`, and
    every device's table agrees about whether a token is its own. -/
structure Route where
  ex : Dev nD → ℕ → ℕ
  home : Tok → Dev nD
  ex_lt : ∀ c n, ex c n < 128
  ex_home : ∀ c p, ex c (tn p) / 4 = c.val ↔ home p = c

namespace Route

variable (R : Route) (c : Dev nD)

/-- Device `c`'s tokens numbered below `t`; -/
def mineB (t : ℕ) : Finset Tok := Finset.univ.filter fun p => R.home p = c ∧ tn p < t
/-- those of its own block; -/
def selfB (t : ℕ) : Finset Tok := Finset.univ.filter fun p => (R.home p = c ∧ p.1 = c) ∧ tn p < t
/-- the tokens below `t` that its table sends to expert `e`. -/
def exB (e t : ℕ) : Finset Tok := Finset.univ.filter fun p => R.ex c (tn p) = e ∧ tn p < t

def cnt (t : ℕ) : ℕ := (R.mineB c t).card
def slf (t : ℕ) : ℕ := (R.selfB c t).card
def cntE (e t : ℕ) : ℕ := (R.exB c e t).card

/-- A token's place among those its table sends to the same expert, and its slot. -/
def rank (n : ℕ) : ℕ := R.cntE c (R.ex c n) n
def slot (n : ℕ) : ℕ := slotN (R.ex c n) (R.rank c n)

theorem slot_lt (n : ℕ) : R.slot c n < 32 := slotN_lt _ _

end Route

/-- Counting up to `t + 1` is counting up to `t` and looking at token `t`. -/
theorem card_step (P : Tok → Prop) [DecidablePred P] (t : ℕ) (h : t < 1024) :
    (Finset.univ.filter fun p => P p ∧ tn p < t + 1).card
      = (Finset.univ.filter fun p => P p ∧ tn p < t).card + if P (tk t h) then 1 else 0 := by
  by_cases hp : P (tk t h)
  · rw [if_pos hp]
    have : (Finset.univ.filter fun p => P p ∧ tn p < t + 1) = insert (tk t h) (Finset.univ.filter fun p => P p ∧ tn p < t) := by
      ext p
      simp only [Finset.mem_filter, Finset.mem_univ, true_and, Finset.mem_insert]
      constructor
      · rintro ⟨h1, h2⟩
        rcases Nat.lt_succ_iff_lt_or_eq.mp h2 with h3 | h3
        · exact .inr ⟨h1, h3⟩
        · exact .inl (tn_inj (h3.trans (tn_tk t h).symm))
      · rintro (rfl | ⟨h1, h2⟩)
        · exact ⟨hp, by rw [tn_tk]; omega⟩
        · exact ⟨h1, by omega⟩
    rw [this, Finset.card_insert_of_notMem]
    simp only [Finset.mem_filter, Finset.mem_univ, true_and, not_and, tn_tk]
    intro _; omega
  · rw [if_neg hp]
    refine (congrArg Finset.card ?_).trans (Nat.add_zero _).symm
    ext p
    simp only [Finset.mem_filter, Finset.mem_univ, true_and]
    constructor
    · rintro ⟨h1, h2⟩
      rcases Nat.lt_succ_iff_lt_or_eq.mp h2 with h3 | h3
      · exact ⟨h1, h3⟩
      · exact absurd (by rwa [← tn_inj (h3.trans (tn_tk t h).symm)] : P (tk t h)) hp
    · rintro ⟨h1, h2⟩; exact ⟨h1, by omega⟩

theorem card_le (P : Tok → Prop) [DecidablePred P] : ∀ t : ℕ, t ≤ 1024 → (Finset.univ.filter fun p => P p ∧ tn p < t).card ≤ t
  | 0, _ => by
    have h0 : (Finset.univ.filter fun p => P p ∧ tn p < 0) = ∅ := by ext p; simp
    rw [h0, Finset.card_empty]
  | t + 1, h => by
    rw [card_step P t (by omega)]
    have := card_le P t (by omega)
    split <;> omega

theorem card_mono (P : Tok → Prop) [DecidablePred P] {t u : ℕ} (h : t ≤ u) :
    (Finset.univ.filter fun p => P p ∧ tn p < t).card ≤ (Finset.univ.filter fun p => P p ∧ tn p < u).card := by
  apply Finset.card_le_card
  intro p hp
  simp only [Finset.mem_filter, Finset.mem_univ, true_and] at hp ⊢
  exact ⟨hp.1, by omega⟩

theorem card_zero (P : Tok → Prop) [DecidablePred P] : (Finset.univ.filter fun p => P p ∧ tn p < 0).card = 0 := by
  have := card_le P 0 (by omega); omega

namespace Route

variable (R : Route) (c : Dev nD)

theorem cnt_succ (t : ℕ) (h : t < 1024) : R.cnt c (t + 1) = R.cnt c t + if R.home (tk t h) = c then 1 else 0 :=
  card_step (fun p => R.home p = c) t h
theorem slf_succ (t : ℕ) (h : t < 1024) : R.slf c (t + 1) = R.slf c t + if (R.home (tk t h) = c ∧ (tk t h).1 = c) then 1 else 0 :=
  card_step (fun p => R.home p = c ∧ p.1 = c) t h
theorem cntE_succ (e t : ℕ) (h : t < 1024) : R.cntE c e (t + 1) = R.cntE c e t + if R.ex c t = e then 1 else 0 := by
  have := card_step (fun p => R.ex c (tn p) = e) t h
  rw [tn_tk] at this; exact this
theorem cnt_zero : R.cnt c 0 = 0 := card_zero _
theorem slf_zero : R.slf c 0 = 0 := card_zero _
theorem cntE_zero (e : ℕ) : R.cntE c e 0 = 0 := card_zero _
theorem cnt_le (t : ℕ) (h : t ≤ 1024) : R.cnt c t ≤ t := card_le _ t h
theorem cntE_le (e t : ℕ) (h : t ≤ 1024) : R.cntE c e t ≤ t := card_le _ t h
theorem slf_le_cnt (t : ℕ) : R.slf c t ≤ R.cnt c t := by
  apply Finset.card_le_card
  intro p hp
  simp only [selfB, mineB, Finset.mem_filter, Finset.mem_univ, true_and] at hp ⊢
  exact ⟨hp.1.1, hp.2⟩
theorem cnt_mono {t u : ℕ} (h : t ≤ u) : R.cnt c t ≤ R.cnt c u := card_mono _ h

theorem home_iff (n : ℕ) (h : n < 1024) : R.ex c n / 4 = c.val ↔ R.home (tk n h) = c := by
  have := R.ex_home c (tk n h)
  rwa [tn_tk] at this

/-- Of two own tokens the earlier has the smaller count. -/
theorem cnt_lt {p : Tok} (hp : R.home p = c) {u : ℕ} (hu : u ≤ 1024) (h : tn p < u) : R.cnt c (tn p) < R.cnt c u := by
  have h1 := R.cnt_succ c (tn p) (tn_lt p)
  rw [tk_tn, if_pos hp] at h1
  have h2 := R.cnt_mono c (t := tn p + 1) (u := u) (by omega)
  omega

theorem cnt_inj {p q : Tok} (hp : R.home p = c) (hq : R.home q = c) (h : R.cnt c (tn p) = R.cnt c (tn q)) : p = q := by
  rcases Nat.lt_trichotomy (tn p) (tn q) with h1 | h1 | h1
  · have := R.cnt_lt c hp (u := tn q) (le_of_lt (tn_lt q)) h1; omega
  · exact tn_inj h1
  · have := R.cnt_lt c hq (u := tn p) (le_of_lt (tn_lt p)) h1; omega

/-- The number of device `c`'s tokens. -/
def nMy : ℕ := R.cnt c 1024
/-- The number of its own block's tokens it serves itself. -/
def nSelf : ℕ := R.slf c 1024

theorem nMy_le : R.nMy c ≤ 1024 := R.cnt_le c 1024 le_rfl
theorem nSelf_le : R.nSelf c ≤ R.nMy c := R.slf_le_cnt c 1024

theorem cnt_lt_nMy {p : Tok} (hp : R.home p = c) : R.cnt c (tn p) < R.nMy c := R.cnt_lt c hp le_rfl (tn_lt p)

/-- The device's `j`-th token. -/
theorem exists_nth {j : ℕ} (hj : j < R.nMy c) : ∃ p, R.home p = c ∧ R.cnt c (tn p) = j := by
  by_contra hn
  have key : ∀ t, t ≤ 1024 → R.cnt c t ≤ j := by
    intro t
    induction t with
    | zero => intro _; rw [R.cnt_zero c]; omega
    | succ t ih =>
      intro ht
      have h1 := ih (by omega)
      rw [R.cnt_succ c t (by omega)]
      by_cases hh : R.home (tk t (by omega)) = c
      · rw [if_pos hh]
        have : R.cnt c t ≠ j := fun he => hn ⟨_, hh, by rw [tn_tk]; exact he⟩
        omega
      · rw [if_neg hh]; omega
  have := key 1024 le_rfl
  unfold nMy at hj; omega

/-- Device `c`'s tokens from its `j`-th on; -/
def left (j : ℕ) : Finset Tok := Finset.univ.filter fun p => R.home p = c ∧ j ≤ R.cnt c (tn p)
/-- those of other blocks; -/
def leftR (j : ℕ) : Finset Tok := Finset.univ.filter fun p => (R.home p = c ∧ p.1 ≠ c) ∧ j ≤ R.cnt c (tn p)
/-- those of other blocks before its `j`-th; -/
def sent (j : ℕ) : Finset Tok := Finset.univ.filter fun p => (R.home p = c ∧ p.1 ≠ c) ∧ R.cnt c (tn p) < j
/-- those of its own block before its `j`-th. -/
def kept (j : ℕ) : Finset Tok := Finset.univ.filter fun p => (R.home p = c ∧ p.1 = c) ∧ R.cnt c (tn p) < j

section Step
variable {p : Tok} {j : ℕ} (hp : R.home p = c) (hj : R.cnt c (tn p) = j)
include hp hj

theorem left_eq : R.left c j = insert p (R.left c (j + 1)) := by
  ext q
  simp only [left, Finset.mem_filter, Finset.mem_univ, true_and, Finset.mem_insert]
  constructor
  · rintro ⟨h1, h2⟩
    by_cases h : R.cnt c (tn q) = j
    · exact .inl (R.cnt_inj c h1 hp (h.trans hj.symm))
    · exact .inr ⟨h1, by omega⟩
  · rintro (rfl | ⟨h1, h2⟩)
    · exact ⟨hp, by omega⟩
    · exact ⟨h1, by omega⟩
theorem not_left : p ∉ R.left c (j + 1) := by
  simp only [left, Finset.mem_filter, Finset.mem_univ, true_and, not_and]; omega
theorem leftR_eq (hr : p.1 ≠ c) : R.leftR c j = insert p (R.leftR c (j + 1)) := by
  ext q
  simp only [leftR, Finset.mem_filter, Finset.mem_univ, true_and, Finset.mem_insert]
  constructor
  · rintro ⟨h1, h2⟩
    by_cases h : R.cnt c (tn q) = j
    · exact .inl (R.cnt_inj c h1.1 hp (h.trans hj.symm))
    · exact .inr ⟨h1, by omega⟩
  · rintro (rfl | ⟨h1, h2⟩)
    · exact ⟨⟨hp, hr⟩, by omega⟩
    · exact ⟨h1, by omega⟩
theorem not_leftR : p ∉ R.leftR c (j + 1) := by
  simp only [leftR, Finset.mem_filter, Finset.mem_univ, true_and, not_and]; omega
theorem leftR_own (hr : p.1 = c) : R.leftR c j = R.leftR c (j + 1) := by
  ext q
  simp only [leftR, Finset.mem_filter, Finset.mem_univ, true_and]
  constructor
  · rintro ⟨h1, h2⟩
    refine ⟨h1, ?_⟩
    have : R.cnt c (tn q) ≠ j := fun h => h1.2 (by rw [R.cnt_inj c h1.1 hp (h.trans hj.symm)]; exact hr)
    omega
  · rintro ⟨h1, h2⟩; exact ⟨h1, by omega⟩
theorem sent_eq (hr : p.1 ≠ c) : R.sent c (j + 1) = insert p (R.sent c j) := by
  ext q
  simp only [sent, Finset.mem_filter, Finset.mem_univ, true_and, Finset.mem_insert]
  constructor
  · rintro ⟨h1, h2⟩
    by_cases h : R.cnt c (tn q) = j
    · exact .inl (R.cnt_inj c h1.1 hp (h.trans hj.symm))
    · exact .inr ⟨h1, by omega⟩
  · rintro (rfl | ⟨h1, h2⟩)
    · exact ⟨⟨hp, hr⟩, by omega⟩
    · exact ⟨h1, by omega⟩
theorem not_sent : p ∉ R.sent c j := by
  simp only [sent, Finset.mem_filter, Finset.mem_univ, true_and, not_and]; omega
theorem sent_own (hr : p.1 = c) : R.sent c (j + 1) = R.sent c j := by
  ext q
  simp only [sent, Finset.mem_filter, Finset.mem_univ, true_and]
  constructor
  · rintro ⟨h1, h2⟩
    refine ⟨h1, ?_⟩
    have : R.cnt c (tn q) ≠ j := fun h => h1.2 (by rw [R.cnt_inj c h1.1 hp (h.trans hj.symm)]; exact hr)
    omega
  · rintro ⟨h1, h2⟩; exact ⟨h1, by omega⟩
theorem kept_eq (hr : p.1 = c) : R.kept c (j + 1) = insert p (R.kept c j) := by
  ext q
  simp only [kept, Finset.mem_filter, Finset.mem_univ, true_and, Finset.mem_insert]
  constructor
  · rintro ⟨h1, h2⟩
    by_cases h : R.cnt c (tn q) = j
    · exact .inl (R.cnt_inj c h1.1 hp (h.trans hj.symm))
    · exact .inr ⟨h1, by omega⟩
  · rintro (rfl | ⟨h1, h2⟩)
    · exact ⟨⟨hp, hr⟩, by omega⟩
    · exact ⟨h1, by omega⟩
theorem not_kept : p ∉ R.kept c j := by
  simp only [kept, Finset.mem_filter, Finset.mem_univ, true_and, not_and]; omega
theorem kept_remote (hr : p.1 ≠ c) : R.kept c (j + 1) = R.kept c j := by
  ext q
  simp only [kept, Finset.mem_filter, Finset.mem_univ, true_and]
  constructor
  · rintro ⟨h1, h2⟩
    refine ⟨h1, ?_⟩
    have : R.cnt c (tn q) ≠ j := fun h => hr (by rw [← R.cnt_inj c h1.1 hp (h.trans hj.symm)]; exact h1.2)
    omega
  · rintro ⟨h1, h2⟩; exact ⟨h1, by omega⟩

end Step

theorem left_zero : R.left c 0 = Finset.univ.filter fun p => R.home p = c := by
  ext p; simp [left]
theorem left_last : R.left c (R.nMy c) = ∅ := by
  ext p
  simp only [left, Finset.mem_filter, Finset.mem_univ, true_and, Finset.notMem_empty, iff_false, not_and]
  intro h; have := R.cnt_lt_nMy c h; omega
theorem leftR_zero : R.leftR c 0 = Finset.univ.filter fun p => R.home p = c ∧ p.1 ≠ c := by
  ext p; simp [leftR]
theorem leftR_last : R.leftR c (R.nMy c) = ∅ := by
  ext p
  simp only [leftR, Finset.mem_filter, Finset.mem_univ, true_and, Finset.notMem_empty, iff_false, not_and]
  intro h; have := R.cnt_lt_nMy c h.1; omega
theorem sent_zero : R.sent c 0 = ∅ := by
  ext p; simp [sent]
theorem kept_zero : R.kept c 0 = ∅ := by
  ext p; simp [kept]
/-- All it sends; -/
def outs : Finset Tok := Finset.univ.filter fun p => R.home p = c ∧ p.1 ≠ c
/-- all it keeps; -/
def own : Finset Tok := Finset.univ.filter fun p => R.home p = c ∧ p.1 = c
/-- all it receives. -/
def ins : Finset Tok := Finset.univ.filter fun p => p.1 = c ∧ R.home p ≠ c

theorem sent_last : R.sent c (R.nMy c) = R.outs c := by
  ext p
  simp only [sent, outs, Finset.mem_filter, Finset.mem_univ, true_and]
  exact ⟨fun h => h.1, fun h => ⟨h, R.cnt_lt_nMy c h.1⟩⟩
theorem kept_last : R.kept c (R.nMy c) = R.own c := by
  ext p
  simp only [kept, own, Finset.mem_filter, Finset.mem_univ, true_and]
  exact ⟨fun h => h.1, fun h => ⟨h, R.cnt_lt_nMy c h.1⟩⟩

theorem card_own : (R.own c).card = R.nSelf c := by
  unfold nSelf slf
  refine congrArg Finset.card ?_
  ext p
  simp only [own, selfB, Finset.mem_filter, Finset.mem_univ, true_and]
  exact ⟨fun h => ⟨h, tn_lt p⟩, fun h => h.1⟩

theorem card_block : (Finset.univ.filter fun p : Tok => p.1 = c).card = 32 := by
  have : (Finset.univ.filter fun p : Tok => p.1 = c) = Finset.univ.map ⟨fun r : Fin 32 => (c, r), fun _ _ h => (Prod.ext_iff.mp h).2⟩ := by
    ext p
    simp only [Finset.mem_filter, Finset.mem_univ, true_and, Finset.mem_map, Function.Embedding.coeFn_mk]
    exact ⟨fun h => ⟨p.2, Prod.ext h.symm rfl⟩, by rintro ⟨r, rfl⟩; rfl⟩
  rw [this, Finset.card_map, Finset.card_univ, Fintype.card_fin]

theorem own_ins : (R.own c).card + (R.ins c).card = 32 := by
  rw [← card_block c, ← Finset.card_union_of_disjoint]
  · refine congrArg Finset.card ?_
    ext p
    simp only [own, ins, Finset.mem_union, Finset.mem_filter, Finset.mem_univ, true_and]
    by_cases h : R.home p = c <;> simp [h]
  · rw [Finset.disjoint_left]
    intro p h1 h2
    simp only [own, ins, Finset.mem_filter, Finset.mem_univ, true_and] at h1 h2
    exact h2.2 h1.1

theorem own_outs : (R.own c).card + (R.outs c).card = R.nMy c := by
  have h : R.nMy c = (Finset.univ.filter fun p => R.home p = c).card := by
    unfold nMy cnt
    refine congrArg Finset.card ?_
    ext p
    simp only [mineB, Finset.mem_filter, Finset.mem_univ, true_and]
    exact ⟨fun h => h.1, fun h => ⟨h, tn_lt p⟩⟩
  rw [h, ← Finset.card_union_of_disjoint]
  · refine congrArg Finset.card ?_
    ext p
    simp only [own, outs, Finset.mem_union, Finset.mem_filter, Finset.mem_univ, true_and]
    by_cases h : p.1 = c <;> simp [h]
  · rw [Finset.disjoint_left]
    intro p h1 h2
    simp only [own, outs, Finset.mem_filter, Finset.mem_univ, true_and] at h1 h2
    exact h2.2 h1.2

theorem card_ins : (R.ins c).card = 32 - R.nSelf c := by
  have := R.own_ins c; rw [R.card_own c] at this; omega
theorem card_outs : (R.outs c).card = R.nMy c - R.nSelf c := by
  have := R.own_outs c; rw [R.card_own c] at this; omega
theorem nSelf_le32 : R.nSelf c ≤ 32 := by
  have := R.own_ins c; rw [R.card_own c] at this; omega

end Route

end Cert.RouteKernelIdeal

end
-- ==== Proof.Cells.lean ====
module

public import proofs.«01_k».proof.Proof.World
public import Idealize.ShloMosaic.Lib.Pipeline.Launch
public import Idealize.ShloMosaic.Lib.Pipeline.Kit
public import Idealize.ShloMosaic.Lib.Tactic

/-! # One cell of a counter list, one row of a buffer

What a one-word access of a rank-one buffer reads and writes, and which elements a one-row access
of a rank-two buffer touches, for any offset function that comes out at the wanted place. -/

@[expose] public section

set_option maxRecDepth 16384

noncomputable section

namespace Cert.RouteKernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode
open Idealize.SL.Sem

variable {Val : EltTy → Type}

/-- A one-word access reads the word at its offset. -/
theorem cell_read {sig : RefSig} {n : ℕ} {κ : Kind} {sp : Space} {e : EltTy} (v : View sig κ sp ⟨1, ![n]⟩ e) (off : Fin 1 → ℕ)
    (inb : ∀ a, off a + S1.size a ≤ (⟨1, ![n]⟩ : Shape).size a) (f : v.ty.Contents Val)
    (x : (Rect.unit (s := ⟨1, ![n]⟩) off S1.size inb).shape.Idx)
    (y : (⟨1, ![n]⟩ : Shape).Idx) (hy : (y 0).val = off 0) :
    (v.slice (Rect.unit (s := ⟨1, ![n]⟩) off S1.size inb)).read Val f x = v.read Val f y := by
  have hx : (Rect.unit (s := ⟨1, ![n]⟩) off S1.size inb).emb x = y := by
    funext a
    have ha : a = 0 := Subsingleton.elim _ _
    subst ha
    have h1 : (x 0).val < 1 := (x 0).isLt
    exact Fin.ext (by
      show off 0 + 1 * (x 0).val = (y 0).val
      omega)
  rw [← hx]; rfl

/-- A one-word store replaces the word at its offset and no other. -/
theorem cell_write {sig : RefSig} {n : ℕ} {κ : Kind} {sp : Space} {e : EltTy} (v : View sig κ sp ⟨1, ![n]⟩ e) (off : Fin 1 → ℕ)
    (inb : ∀ a, off a + S1.size a ≤ (⟨1, ![n]⟩ : Shape).size a) (f : v.ty.Contents Val) (w : Val e)
    (y : (⟨1, ![n]⟩ : Shape).Idx) :
    v.read Val ((v.slice (Rect.unit (s := ⟨1, ![n]⟩) off S1.size inb)).write Val f (fun _ => w) Finset.univ) y
      = if (y 0).val = off 0 then w else v.read Val f y := by
  by_cases h : (y 0).val = off 0
  · have x : (Rect.unit (s := ⟨1, ![n]⟩) off S1.size inb).shape.Idx := fun a =>
      ⟨0, by have ha : a = 0 := Subsingleton.elim _ _
             subst ha; exact Nat.one_pos⟩
    rw [if_pos h, ← cell_read v off inb _ x y h]
    exact View.read_write_of_mem _ _ (Finset.mem_univ _)
  · rw [if_neg h]
    refine View.read_slice_write_of_not_mem _ _ _ _ ?_
    rw [Rect.map_emb_univ, Rect.mem_set_unit]
    intro hall
    have h0 := hall 0
    have : S1.size 0 = 1 := rfl
    omega

/-- The elements of row `r` of a rank-two buffer. -/
def rowSet {n m : ℕ} (r : ℕ) : Finset (⟨2, ![n, m]⟩ : Shape).Idx := Finset.univ.filter fun y => (y 0).val = r

theorem mem_rowSet {n m r : ℕ} (y : (⟨2, ![n, m]⟩ : Shape).Idx) : y ∈ rowSet (n := n) (m := m) r ↔ (y 0).val = r :=
  Finset.mem_filter.trans (and_iff_right (Finset.mem_univ y))

theorem rowSet_disjoint {n m r r' : ℕ} (h : r ≠ r') : Disjoint (rowSet (n := n) (m := m) r) (rowSet r') :=
  Finset.disjoint_left.mpr fun _ h₁ h₂ => h (((mem_rowSet _).mp h₁).symm.trans ((mem_rowSet _).mp h₂))

/-- A unit-stride rectangle one row high and a buffer wide is that row. -/
theorem row_rect {n m r : ℕ} (off : Fin 2 → ℕ) (hoff : off = ![r, 0])
    (inb : ∀ a, off a + (⟨2, ![1, m]⟩ : Shape).size a ≤ (⟨2, ![n, m]⟩ : Shape).size a) :
    (Rect.unit (s := ⟨2, ![n, m]⟩) off (⟨2, ![1, m]⟩ : Shape).size inb).set = rowSet r := by
  subst hoff
  ext y
  rw [mem_rowSet, Rect.mem_set_unit]
  constructor
  · intro h
    have h0 := h 0
    have e0 : (![r, 0] : Fin 2 → ℕ) 0 = r := rfl
    have e1 : (⟨2, ![1, m]⟩ : Shape).size 0 = 1 := rfl
    omega
  · intro h a
    match a with
    | 0 => exact ⟨h.ge, by show (y 0).val < r + 1; omega⟩
    | 1 => exact ⟨Nat.zero_le _, by have := (y 1).isLt; show (y 1).val < 0 + m; rw [Nat.zero_add]; exact this⟩

section Access

variable {nD : ℕ} {τ : Topo} {sig : RefSig} {Ix : Type} [DecidableEq Ix] {Val : EltTy → Type} {Name : Type} [DecidableEq Name]
  {U : Type} [URA U] {Lvl : Type} {Λ : Labels} [Preorder Lvl] {defs : Defs nD τ sig Val Λ} (𝒱 : Variants) (c : Thread nD τ)
  {cs : CoreSpace} {s : Shape} {e : EltTy} {α : Type} {Q : α → sProp (MT nD τ sig Ix Val Name U Lvl)}
  (m : Memref sig c.2.kind cs s e) {f : Buf Val (m.view.loc c)} {S : Finset (Idx (m.view.loc c))} {q : PosShare TreeShare} {r : Rect s}

/-- A store at the head of a program, into a buffer of which enough is held. -/
theorem storeS {w : r.shape.Idx → Val e} {hx : (m.access r).Stores Finset.univ} {hm}
    {k : PUnit → Prog (TpuEff nD τ sig Val Λ c.2) α} (hS : (m.access r).set ⊆ S) :
    (m.view.loc c ↦[S]{fullShare} f)
      ⊢ iprop(((m.view.loc c ↦[S]{fullShare} ((m.access r).write Val f w Finset.univ)) -∗ wp frame (wpE defs 𝒱 c none) Set.univ (k ⟨⟩) Q)
        -∗ wp frame (wpE defs 𝒱 c none) Set.univ (.op (.store m r w Finset.univ hx hm) k) Q) :=
  wp_store (S := S) (f := f) 𝒱 c none Set.univ (m := m) (r := r) hS

/-- A store into a buffer held whole. -/
theorem storeW {w : r.shape.Idx → Val e} {hx : (m.access r).Stores Finset.univ} {hm}
    {k : PUnit → Prog (TpuEff nD τ sig Val Λ c.2) α} :
    (m.view.loc c ↦{fullShare} f)
      ⊢ iprop(((m.view.loc c ↦{fullShare} ((m.access r).write Val f w Finset.univ)) -∗ wp frame (wpE defs 𝒱 c none) Set.univ (k ⟨⟩) Q)
        -∗ wp frame (wpE defs 𝒱 c none) Set.univ (.op (.store m r w Finset.univ hx hm) k) Q) :=
  storeS 𝒱 c m (Finset.subset_univ _)

/-- A load at the head of a program, from a buffer of which enough is held. -/
theorem loadS {hl : m.view.LoadsAt r.toLoadRect} {k : (r.shape.Idx → Val e) → Prog (TpuEff nD τ sig Val Λ c.2) α} (hS : (m.access r).set ⊆ S) :
    (m.view.loc c ↦[S]{q} f)
      ⊢ iprop(((m.view.loc c ↦[S]{q} f) -∗ wp frame (wpE defs 𝒱 c none) Set.univ (k ((m.access r).read Val f)) Q)
        -∗ wp frame (wpE defs 𝒱 c none) Set.univ (.op (.load m r.toLoadRect hl) k) Q) :=
  wp_load_rect (S := S) (f := f) 𝒱 c none Set.univ (m := m) (r := r) hS

/-- A load from a buffer held whole. -/
theorem loadW {hl : m.view.LoadsAt r.toLoadRect} {k : (r.shape.Idx → Val e) → Prog (TpuEff nD τ sig Val Λ c.2) α} :
    (m.view.loc c ↦{q} f)
      ⊢ iprop(((m.view.loc c ↦{q} f) -∗ wp frame (wpE defs 𝒱 c none) Set.univ (k ((m.access r).read Val f)) Q)
        -∗ wp frame (wpE defs 𝒱 c none) Set.univ (.op (.load m r.toLoadRect hl) k) Q) :=
  loadS 𝒱 c m (Finset.subset_univ _)

end Access

section AccessCell

variable {nD : ℕ} {τ : Topo} {sig : RefSig} {Ix : Type} [DecidableEq Ix] {Val : EltTy → Type} {Name : Type} [DecidableEq Name]
  {U : Type} [URA U] {Lvl : Type} {Λ : Labels} [Preorder Lvl] {defs : Defs nD τ sig Val Λ} (𝒱 : Variants) (c : Thread nD τ)
  {cs : CoreSpace} {n : ℕ} {e : EltTy} {α : Type} {Q : α → sProp (MT nD τ sig Ix Val Name U Lvl)}
  (m : Memref sig c.2.kind cs ⟨1, ![n]⟩ e) {f : Buf Val (m.view.loc c)} {q : PosShare TreeShare}
  {off : Fin 1 → ℕ} {inb : ∀ a, off a + S1.size a ≤ (⟨1, ![n]⟩ : Shape).size a}

/-- A load of one word whose value is known. -/
theorem loadC (y : (⟨1, ![n]⟩ : Shape).Idx) {v : Val e} (hv : m.view.read Val f y = v) (hy : (y 0).val = off 0)
    {hl : m.view.LoadsAt (Rect.unit (s := ⟨1, ![n]⟩) off S1.size inb).toLoadRect}
    {k : ((Rect.unit (s := ⟨1, ![n]⟩) off S1.size inb).shape.Idx → Val e) → Prog (TpuEff nD τ sig Val Λ c.2) α} :
    (m.view.loc c ↦{q} f)
      ⊢ iprop(((m.view.loc c ↦{q} f) -∗ wp frame (wpE defs 𝒱 c none) Set.univ (k fun _ => v) Q)
        -∗ wp frame (wpE defs 𝒱 c none) Set.univ (.op (.load m (Rect.unit (s := ⟨1, ![n]⟩) off S1.size inb).toLoadRect hl) k) Q) := by
  have e : (m.access (Rect.unit (s := ⟨1, ![n]⟩) off S1.size inb)).read Val f = fun _ => v :=
    funext fun x => (cell_read m.view off inb f x y hy).trans hv
  have := loadW (defs := defs) (Q := Q) 𝒱 c m (f := f) (q := q) (hl := hl) (k := k)
  rwa [e] at this

/-- A store of one word: the buffer then holds some contents with that word replaced. -/
theorem storeC {w : Val e} {hx : (m.access (Rect.unit (s := ⟨1, ![n]⟩) off S1.size inb)).Stores Finset.univ} {hm}
    {k : PUnit → Prog (TpuEff nD τ sig Val Λ c.2) α} :
    (m.view.loc c ↦{fullShare} f)
      ⊢ iprop((∀ g, ⌜∀ y, m.view.read Val g y = if (y 0).val = off 0 then w else m.view.read Val f y⌝ -∗ (m.view.loc c ↦{fullShare} g)
            -∗ wp frame (wpE defs 𝒱 c none) Set.univ (k ⟨⟩) Q)
        -∗ wp frame (wpE defs 𝒱 c none) Set.univ
          (.op (.store m (Rect.unit (s := ⟨1, ![n]⟩) off S1.size inb) (fun _ => w) Finset.univ hx hm) k) Q) := by
  iintro H Hk
  iapply (storeW 𝒱 c m) $$ H
  iintro H
  iapply Hk $$ [] H
  ipureintro
  exact fun y => cell_write m.view off inb f w y

end AccessCell

end Cert.RouteKernelIdeal
-- ==== Proof.Sched.lean ====
module

public import proofs.«01_k».proof.Proof.Cells
public import proofs.«01_k».proof.Proof.Gen.KernelIdeal.Launch
public import proofs.«01_k».proof.Proof.Gen.KernelIdeal.Frame
public import Idealize.ShloMosaic.Lib.ValueIdxCore
public import Idealize.ShloMosaic.Lib.Transfers

/-! # The schedule of the exchange

Device `c` computes rows for the tokens whose expert it owns (`R.home p = c`) and sends each to the
device whose block of the output holds the token (`p.1`). Three cells per device:

* the barrier cell collects one unit from every other device `d`; device `d`'s unit hands over the
  rows of `d`'s output block that `c` will write;
* the receive cell collects one row's credit for every token of the block computed elsewhere, each
  handing over the row with its result;
* the send cell collects one row's credit for every row sent, each handing back the share of the
  result buffer's row that was lent to the copy. -/

@[expose] public section

set_option maxRecDepth 16384

noncomputable section

namespace Cert.RouteKernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode
open Idealize.SL.Sem
open Idealize.ShloMosaic.Rounds
open Idealize.ShloMosaic.ValueIdx (ix2 ix3)

variable {F : FTy → Type} [FloatOps F]

/-- The protocol's ghost state: per cell, rounds over duties named by tokens. -/
abbrev UB : Type _ := URounds (GSem nD τ sig) Tok
abbrev UU : Type _ := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The buffers and cells -/

abbrev tabM : Memref sig .tc .smem S1024x1 .i32 := Memref.whole cc0_stg0_0
abbrev xM : Memref sig .tc .vmem S1024x512 .f32 := Memref.whole cc0_stg1_0
abbrev wM : Memref sig .tc .vmem S4x512x1024 .f32 := Memref.whole cc0_stg2_0
abbrev oM : Memref sig .tc .vmem S32x1024 .f32 := Memref.whole cc0_stg3_0
abbrev gM : Memref sig .tc .vmem S32x512 .f32 := Memref.whole cc0_scratch0
abbrev eM : Memref sig .tc .vmem S32x1024 .f32 := Memref.whole cc0_scratch1
abbrev cntM : Memref sig .tc .smem S128 .i32 := Memref.whole cc0_scratch2
abbrev tokM : Memref sig .tc .smem S1024 .i32 := Memref.whole cc0_scratch3
abbrev slotM : Memref sig .tc .smem S1024 .i32 := Memref.whole cc0_scratch4
abbrev metaM : Memref sig .tc .smem S2 .i32 := Memref.whole cc0_scratch5

abbrev barS : Sem sig := (SemArray.scalar (sig.barrier 0 rfl) : Sems sig S_).sem
abbrev sendS : DmaSems sig S_ := cc0_scratch6
abbrev recvS : DmaSems sig S_ := cc0_scratch7

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

abbrev osem : Fin 2 → SemLoc sig := fun | 0 => .dma sendS.sem | 1 => .dma recvS.sem
abbrev csem : Fin 3 → SemLoc sig := fun | 0 => .reg barS | 1 => .dma sendS.sem | 2 => .dma recvS.sem
abbrev kcell (ck : Dev nD × Fin 3) : GSem nD τ sig := ((ck.1 : Thread nD τ), csem ck.2)

/-- The first row of the result buffer, as every completion wait names it. -/
abbrev oRow0 : Memref sig .tc .vmem S1x1024 .f32 :=
  oM.slice (Rect.unit (s := S32x1024) ![0, 0] S1x1024.size (by decide)) (fun _ => rfl)
abbrev eRow0 : Memref sig .tc .vmem S1x1024 .f32 :=
  eM.slice (Rect.unit (s := S32x1024) ![0, 0] S1x1024.size (by decide)) (fun _ => rfl)

/-- One row's credit. -/
abbrev N : ℕ := oRow0.view.dmaCredit
theorem N_pos : 0 < N := View.dmaCredit_pos _ (by decide)

theorem credit_row (off : Fin 2 → ℕ) (inb : ∀ a, off a + S1x1024.size a ≤ S32x1024.size a) :
    (oM.slice (Rect.unit (s := S32x1024) off S1x1024.size inb) (fun _ => rfl)).view.dmaCredit = N := rfl
theorem credit_send : eRow0.view.dmaCredit = N := rfl

/-! ## Contents -/

/-- What the launch puts into each device's windows: the routing table (whose words are the
    experts of `R`), the tokens and the expert weights. -/
structure Ins (F : FTy → Type) where
  xs : Dev nD → (cc0_stg1_0 : Ref sig .tc).ty.Contents (Elt F)
  ws : Dev nD → (cc0_stg2_0 : Ref sig .tc).ty.Contents (Elt F)

variable (R : Route) (D : Ins F)

/-- The routing table's words. -/
def tab (c : Dev nD) : (cc0_stg0_0 : Ref sig .tc).ty.Contents (Elt F) := fun y => wd (R.ex c (y 0).val)

open Classical in
/-- The `j`-th token device `c` computes. -/
def nth (c : Dev nD) (j : ℕ) : Tok := if h : ∃ p, R.home p = c ∧ R.cnt c (tn p) = j then h.choose else (0, 0)

theorem nth_eq {c : Dev nD} {j : ℕ} {p : Tok} (hp : R.home p = c) (hj : R.cnt c (tn p) = j) : nth R c j = p := by
  have h : ∃ p, R.home p = c ∧ R.cnt c (tn p) = j := ⟨p, hp, hj⟩
  unfold nth
  rw [dif_pos h]
  exact R.cnt_inj c h.choose_spec.1 hp (h.choose_spec.2.trans hj.symm)

/-- A kept token's row written to its slot (slot 7 stands for a dropped token). -/
def gPut (c : Dev nD) (p : Tok) (f : (cc0_scratch0 : Ref sig .tc).ty.Contents (Elt F)) : (cc0_scratch0 : Ref sig .tc).ty.Contents (Elt F) :=
  fun y : S32x512.Idx => if (y 0).val = R.slot c (tn p) ∧ R.slot c (tn p) ≠ 7 then D.xs c (ix2 ⟨tn p, tn_lt _⟩ (y 1)) else f y

/-- The gathered buffer after its first `j` trips: zero but for the first `j` kept tokens' rows in
    their slots. -/
def gSt (c : Dev nD) : ℕ → (cc0_scratch0 : Ref sig .tc).ty.Contents (Elt F)
  | 0 => k0_pay2 (F := F)
  | j + 1 => gPut R D c (nth R c j) (gSt c j)

theorem gSt_succ {c : Dev nD} {j : ℕ} {p : Tok} (hp : R.home p = c) (hj : R.cnt c (tn p) = j) :
    gSt R D c (j + 1) = gPut R D c p (gSt R D c j) := by
  show gPut R D c (nth R c j) (gSt R D c j) = _
  rw [nth_eq R hp hj]

theorem row8_lt {n : ℕ} (h : n < 32) (k : ℕ) (hk : k < 8) : 8 * (n / 8) + k < 32 := by omega
theorem blk8_lt {n : ℕ} (h : n < 32) : n / 8 < 4 := by omega

/-- The expert results: block `e` of eight rows is the gathered rows of slots `8 * e …` times expert `e`. -/
def eFin (c : Dev nD) : (cc0_scratch1 : Ref sig .tc).ty.Contents (Elt F) := fun y : S32x1024.Idx =>
  k0_pay5 (F := F)
    (fun z : S8x512.Idx => gSt R D c (R.nMy c) (ix2 ⟨8 * ((y 0).val / 8) + (z 0).val, row8_lt (y 0).isLt _ (z 0).isLt⟩ (z 1)))
    (fun z : S1x512x1024.Idx => D.ws c (ix3 ⟨(y 0).val / 8, blk8_lt (y 0).isLt⟩ (z 1) (z 2)))
    (ix2 ⟨(y 0).val % 8, Nat.mod_lt _ (by decide)⟩ (y 1))

/-- A device's finished output block: row `r` is the result of its token `r`, from the device that owns the expert. -/
def oFin (c : Dev nD) : (cc0_stg3_0 : Ref sig .tc).ty.Contents (Elt F) := fun y : S32x1024.Idx =>
  eFin R D (R.home (c, y 0)) (ix2 ⟨R.slot (R.home (c, y 0)) (tn (c, y 0)), R.slot_lt _ _⟩ (y 1))

/-! ## Regions -/

abbrev oPts (c : Dev nD) (r : ℕ) (f : Buf (Elt F) ((c : Thread nD τ).loc cc0_stg3_0)) : sProp 𝕄 :=
  ((c : Thread nD τ).loc cc0_stg3_0) ↦[rowSet r]{fullShare} f

/-- Row `p.2` of the output block of token `p`'s device, whatever it holds. -/
abbrev oAny (p : Tok) : sProp 𝕄 := iprop(∃ f, oPts (F := F) p.1 p.2.val f)
/-- That row finished. -/
abbrev oDone (p : Tok) : sProp 𝕄 := oPts p.1 p.2.val (oFin R D p.1)
/-- The share of the result row of token `p` that its copy reads. -/
abbrev ePts (c : Dev nD) (p : Tok) : sProp 𝕄 :=
  ((c : Thread nD τ).loc cc0_scratch1) ↦[rowSet (R.slot c (tn p))]{Transfers.shareTokN fullShare (tn p)} eFin R D c

/-- The rows of device `d`'s block that device `c` writes. -/
def rowsFor (d c : Dev nD) : Finset Tok := Finset.univ.filter fun p => p.1 = d ∧ R.home p = c

def barPay (c d : Dev nD) : sProp 𝕄 := bigSep (rowsFor R d c) (oAny (F := F))

instance barPay_storable (c d : Dev nD) : BI.Storable (upEmb : UEmb _ 𝕄) (barPay (F := F) R c d) := by
  unfold barPay; infer_instance

/-! ## The schedule -/

/-- Device `d`'s duty at a barrier cell. -/
def dEmb : Dev nD ↪ Tok := ⟨fun d => (d, 0), fun _ _ h => (Prod.mk.inj h).1⟩

def sch : Rounds.Schedule (GSem nD τ sig) Tok 𝕄 where
  duties g r :=
    if r = 0 ∧ g.1.2 = .tc then
      if g.2 = .reg barS then (Finset.univ.erase g.1.1).map dEmb
      else if g.2 = .dma recvS.sem then R.ins g.1.1
      else if g.2 = .dma sendS.sem then R.outs g.1.1
      else ∅
    else ∅
  unitless _ := False
  amount g _ _ := if g.2 = .reg barS then 1 else N
  payload g _ d :=
    if g.2 = .reg barS then barPay R g.1.1 d.1
    else if g.2 = .dma recvS.sem then oDone R D d
    else if g.2 = .dma sendS.sem then ePts R D g.1.1 d
    else iprop(emp)
  amount_pos g _ _ _ := by
    by_cases h : g.2 = .reg barS
    · rw [if_pos h]; exact Nat.one_pos
    · rw [if_neg h]; exact N_pos

instance sch_payload_storable (g : GSem nD τ sig) (r : ℕ) (d : Tok) :
    BI.Storable (upEmb : UEmb _ 𝕄) ((sch (F := F) R D).payload g r d) := by
  show BI.Storable upEmb (if g.2 = .reg barS then barPay R g.1.1 d.1
    else if g.2 = .dma recvS.sem then oDone R D d
    else if g.2 = .dma sendS.sem then ePts R D g.1.1 d
    else iprop(emp))
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide

theorem duties_bar : (sch (F := F) R D).duties (barCell c) 0 = (Finset.univ.erase c).map dEmb := by
  dsimp only [sch]; rw [if_pos ⟨rfl, rfl⟩, if_pos rfl]
theorem duties_recv : (sch (F := F) R D).duties (recvCell c) 0 = R.ins c := by
  dsimp only [sch]; rw [if_pos ⟨rfl, rfl⟩, if_neg recv_ne_bar, if_pos rfl]
theorem duties_send : (sch (F := F) R D).duties (sendCell c) 0 = R.outs c := by
  dsimp only [sch]; rw [if_pos ⟨rfl, rfl⟩, if_neg send_ne_bar, if_neg send_ne_recv, if_pos rfl]
theorem duties_later (g : GSem nD τ sig) : ∀ r, 1 ≤ r → (sch (F := F) R D).duties g r = ∅ := fun r hr => by
  dsimp only [sch]; exact if_neg fun h => by omega

theorem amount_bar (d : Tok) : (sch (F := F) R D).amount (barCell c) 0 d = 1 := by dsimp only [sch]; exact if_pos rfl
theorem amount_recv (d : Tok) : (sch (F := F) R D).amount (recvCell c) 0 d = N := by
  dsimp only [sch]; exact if_neg recv_ne_bar
theorem amount_send (d : Tok) : (sch (F := F) R D).amount (sendCell c) 0 d = N := by
  dsimp only [sch]; exact if_neg send_ne_bar

theorem payload_bar (d : Tok) : (sch (F := F) R D).payload (barCell c) 0 d = barPay R c d.1 := by
  dsimp only [sch]; exact if_pos rfl
theorem payload_recv (d : Tok) : (sch (F := F) R D).payload (recvCell c) 0 d = oDone R D d := by
  dsimp only [sch]; rw [if_neg recv_ne_bar, if_pos rfl]
theorem payload_send (d : Tok) : (sch (F := F) R D).payload (sendCell c) 0 d = ePts R D c d := by
  dsimp only [sch]; rw [if_neg send_ne_bar, if_neg send_ne_recv, if_pos rfl]

theorem expect_bar : (sch (F := F) R D).expect (barCell c) 0 = 31 := by
  unfold Schedule.expect Schedule.amountOf
  rw [duties_bar, Finset.sum_congr rfl fun d _ => amount_bar R D c d, Finset.sum_const, Finset.card_map,
    Finset.card_erase_of_mem (Finset.mem_univ c), Finset.card_univ, smul_eq_mul]
  rfl
theorem expect_recv : (sch (F := F) R D).expect (recvCell c) 0 = (32 - R.nSelf c) * N := by
  unfold Schedule.expect Schedule.amountOf
  rw [duties_recv, Finset.sum_congr rfl fun d _ => amount_recv R D c d, Finset.sum_const, R.card_ins, smul_eq_mul]
theorem expect_send : (sch (F := F) R D).expect (sendCell c) 0 = (R.nMy c - R.nSelf c) * N := by
  unfold Schedule.expect Schedule.amountOf
  rw [duties_send, Finset.sum_congr rfl fun d _ => amount_send R D c d, Finset.sum_const, R.card_outs, smul_eq_mul]

end Sched

/-! ## Levels: a device waits on its barrier cell while it owes receive credits -/

def L (g : GSem nD τ sig) : Finset Unit := if g.1.2 = .tc then {()} else ∅
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := if_pos rfl
theorem lv_recv (c : Dev nD) : lv (recvCell c) () = 2 := by unfold lv; rw [if_neg recv_ne_bar, if_pos rfl]
theorem lv_send (c : Dev nD) : lv (sendCell c) () = 0 := by unfold lv; rw [if_neg send_ne_bar, if_neg send_ne_recv]

/-! ## What a device owes -/

/-- The devices still to be signalled before trip `t` of the signal loop. -/
def toSig (c : Dev nD) (t : ℕ) : Finset (Dev nD) := Finset.univ.filter fun d => t ≤ d.val ∧ d ≠ c

abbrev owBar (c : Dev nD) (t : ℕ) : CellTallies nD τ sig Unit := ∑ d ∈ toSig c t, tallyAt (barCell d) () 1
abbrev owRecv (c : Dev nD) (j : ℕ) : CellTallies nD τ sig Unit := ∑ p ∈ R.leftR c j, tallyAt (recvCell p.1) () N

/-- What a device owes at its start. -/
def O₀ (c : Dev nD) : CellTallies nD τ sig Unit := owRecv R c 0 + owBar c 0

end Cert.RouteKernelIdeal
-- ==== Proof.Scan.lean ====
module

public import proofs.«01_k».proof.Proof.Sched

@[expose] public section

set_option maxRecDepth 16384

noncomputable section

namespace Cert.RouteKernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode
open Idealize.SL.Sem
open Idealize.ShloMosaic.Rounds
open Idealize.ShloMosaic.ValueIdx (ix1 ix2 ix3)

variable {F : FTy → Type} [FloatOps F]

local notation "𝕄" => MT nD τ sig Unit (Elt F) ℕ UU ℕ

variable (R : Route) (D : Ins F)

abbrev 𝒱₀ : Variants := Variants.none

abbrev tabPts (c : Dev nD) (f : Buf (Elt F) ((c : Thread nD τ).loc cc0_stg0_0)) : sProp 𝕄 :=
  ((c : Thread nD τ).loc cc0_stg0_0) ↦{fullShare} f
abbrev cntPts (c : Dev nD) (f : Buf (Elt F) ((c : Thread nD τ).loc cc0_scratch2)) : sProp 𝕄 :=
  ((c : Thread nD τ).loc cc0_scratch2) ↦{fullShare} f
abbrev tokPts (c : Dev nD) (f : Buf (Elt F) ((c : Thread nD τ).loc cc0_scratch3)) : sProp 𝕄 :=
  ((c : Thread nD τ).loc cc0_scratch3) ↦{fullShare} f
abbrev slotPts (c : Dev nD) (f : Buf (Elt F) ((c : Thread nD τ).loc cc0_scratch4)) : sProp 𝕄 :=
  ((c : Thread nD τ).loc cc0_scratch4) ↦{fullShare} f
abbrev metaPts (c : Dev nD) (f : Buf (Elt F) ((c : Thread nD τ).loc cc0_scratch5)) : sProp 𝕄 :=
  ((c : Thread nD τ).loc cc0_scratch5) ↦{fullShare} f

/-! ## The counters cleared -/

/-- Before trip `t` of the loop that clears the counters the first `t` are zero. -/
def zeroI (c : Dev nD) (t : ℕ) : sProp 𝕄 :=
  iprop(∃ f, ⌜∀ y : S128.Idx, (y 0).val < t → f y = wd 0⌝ ∗ cntPts (F := F) c f)

theorem zero_step (c : Dev nD) (t : Fin k0_t2_loop.trips) :
    zeroI (F := F) c t.val ⊢ wp frame (wpE (defs₀ (F := F)) 𝒱₀ (c : Thread nD τ) none) Set.univ
      (k0_t2_body tabM (Memref.isWhole_whole _) xM (Memref.isWhole_whole _) wM (Memref.isWhole_whole _) oM (Memref.isWhole_whole _) gM (Memref.isWhole_whole _) eM (Memref.isWhole_whole _) cntM (Memref.isWhole_whole _) tokM (Memref.isWhole_whole _) slotM (Memref.isWhole_whole _) metaM (Memref.isWhole_whole _) sendS recvS t ⟨⟩) (fun _ => zeroI (F := F) c (t.val + 1)) := by
  unfold zeroI k0_t2_body
  simp only [smemLoad, smemLoadElt, Prog.lift, Prog.bind_op, Prog.bind_ret, Prog.pure_eq_ret]
  iintro ⟨%f, %hf, H⟩
  iapply (loadW 𝒱₀ (c : Thread nD τ) cntM) $$ H
  iintro H
  iapply (storeC 𝒱₀ (c : Thread nD τ) cntM) $$ H
  iintro %g %hg H
  rw [wp_ret]; imodintro
  iexists g
  isplitl []
  · ipureintro
    intro y hy
    have h0 : k0_off1 t 0 = t.val := by rw [off1_eq]; rfl
    refine (hg y).trans ?_
    rw [h0]
    by_cases h : (y 0).val = t.val
    · rw [if_pos h]
    · rw [if_neg h]; exact hf y (by omega)
  · iexact H

/-! ## The scan of the routing table -/

/-- What the four lists hold once the first `t` tokens are read: per expert how many were sent to it,
    how many of them are this device's and how many of those of its own block, and for each of the
    device's tokens, in order, its number and its slot. -/
structure Scanned (c : Dev nD) (t : ℕ) (f6 : Buf (Elt F) ((c : Thread nD τ).loc cc0_scratch2)) (f7 : Buf (Elt F) ((c : Thread nD τ).loc cc0_scratch3))
    (f8 : Buf (Elt F) ((c : Thread nD τ).loc cc0_scratch4)) (f9 : Buf (Elt F) ((c : Thread nD τ).loc cc0_scratch5)) : Prop where
  cnt : ∀ y : S128.Idx, f6 y = wd (R.cntE c (y 0).val t)
  mine : ∀ y : S2.Idx, (y 0).val = 0 → f9 y = wd (R.cnt c t)
  self : ∀ y : S2.Idx, (y 0).val = 1 → f9 y = wd (R.slf c t)
  tok : ∀ (p : Tok) (y : S1024.Idx), R.home p = c → tn p < t → (y 0).val = R.cnt c (tn p) → f7 y = wd (tn p)
  slot : ∀ (p : Tok) (y : S1024.Idx), R.home p = c → tn p < t → (y 0).val = R.cnt c (tn p) → f8 y = wd (R.slot c (tn p))

def scanI (c : Dev nD) (t : ℕ) : sProp 𝕄 :=
  iprop(∃ f6 f7 f8 f9, ⌜Scanned (F := F) R c t f6 f7 f8 f9⌝ ∗ tabPts (F := F) c (tab R c) ∗ cntPts (F := F) c f6 ∗ tokPts (F := F) c f7
    ∗ slotPts (F := F) c f8 ∗ metaPts (F := F) c f9)

theorem off2_eq (t : Fin k0_t3_loop.trips) : k0_off2 t = ![t.val, 0] := k0_off2_eq t

theorem scan_step (c : Dev nD) (v2 : BitVec 32) (hv2 : v2 = wd c.val) (t : Fin k0_t3_loop.trips) :
    scanI (F := F) R c t.val ⊢ wp frame (wpE (defs₀ (F := F)) 𝒱₀ (c : Thread nD τ) none) Set.univ
      (k0_t3_body tabM (Memref.isWhole_whole _) xM (Memref.isWhole_whole _) wM (Memref.isWhole_whole _) oM (Memref.isWhole_whole _) gM (Memref.isWhole_whole _) eM (Memref.isWhole_whole _) cntM (Memref.isWhole_whole _) tokM (Memref.isWhole_whole _) slotM (Memref.isWhole_whole _) metaM (Memref.isWhole_whole _) sendS recvS c v2 t ⟨⟩) (fun _ => scanI (F := F) R c (t.val + 1)) := by
  subst hv2
  have ht : t.val < 1024 := lt_of_lt_of_eq t.isLt trips_t3
  have he := R.ex_lt c t.val
  have hr : R.cntE c (R.ex c t.val) t.val < 1024 := lt_of_le_of_lt (R.cntE_le c _ _ (le_of_lt ht)) ht
  have hn : R.cnt c t.val < 1024 := lt_of_le_of_lt (R.cnt_le c _ (le_of_lt ht)) ht
  unfold scanI k0_t3_body
  simp only [k0_part1_eq_skeleton, k0_part1_skel]
  simp only [smemLoad, smemLoadElt, Prog.lift, Prog.bind_op, Prog.bind_ret, Prog.pure_eq_ret, bind_assoc, Prog.bind_assoc]
  iintro ⟨%f6, %f7, %f8, %f9, %hs, Ht, H6, H7, H8, H9⟩
  iapply (loadW 𝒱₀ (c : Thread nD τ) tabM) $$ Ht
  iintro Ht
  have ev : ((Memref.access tabM (Rect.unit (s := S1024x1) (k0_off2 t) S1x1.size (k0_off2_inb t))).read (Elt F) (tab (F := F) R c)) = fun _ => wd (R.ex c t.val) := by
    funext x
    refine congrArg (fun n => wd (R.ex c n)) ?_
    have h0 : k0_off2 t 0 = t.val := by rw [off2_eq]; rfl
    have hx : (x 0).val < 1 := (x 0).isLt
    show k0_off2 t 0 + 1 * (x 0).val = t.val
    omega
  rw [ev]
  iapply (wp_assume 𝒱₀ (c : Thread nD τ) none Set.univ (chk1_ok he))
  have h3 : k0_off3 (wd (R.ex c t.val)) 0 = R.ex c t.val := by rw [off3_eq he]; rfl
  have r6 : cntM.view.read (Elt F) f6 (ix1 ⟨R.ex c t.val, he⟩) = wd (R.cntE c (R.ex c t.val) t.val) := hs.cnt (ix1 ⟨R.ex c t.val, he⟩)
  iapply (loadC 𝒱₀ (c : Thread nD τ) cntM (ix1 ⟨R.ex c t.val, he⟩) r6 h3.symm) $$ H6; iintro H6
  iapply (loadC 𝒱₀ (c : Thread nD τ) cntM (ix1 ⟨R.ex c t.val, he⟩) r6 h3.symm) $$ H6; iintro H6
  iapply (storeC 𝒱₀ (c : Thread nD τ) cntM) $$ H6; iintro %g6 %hg6 H6
  have hcnt : ∀ y : S128.Idx, g6 y = wd (R.cntE c (y 0).val (t.val + 1)) := by
    intro y
    refine (hg6 y).trans ?_
    rw [h3, R.cntE_succ c _ _ ht]
    by_cases h : (y 0).val = R.ex c t.val
    · rw [if_pos h, if_pos h.symm, h]; exact wd_add _ _
    · rw [if_neg h, if_neg fun h' => h h'.symm, Nat.add_zero]; exact hs.cnt y
  by_cases hc : k0_cond2 c (wd (R.ex c t.val)) = 1#1
  · rw [dif_pos hc]
    have hp : R.home (tk t.val ht) = c := (R.home_iff c t.val ht).mp ((cond2_iff c ⟨_, he⟩).mp hc)
    have r0 : metaM.view.read (Elt F) f9 (ix1 ⟨0, by decide⟩) = wd (R.cnt c t.val) := hs.mine (ix1 ⟨0, by decide⟩) rfl
    iapply (loadC 𝒱₀ (c : Thread nD τ) metaM (ix1 ⟨0, by decide⟩) r0 rfl) $$ H9; iintro H9
    iapply (wp_assume 𝒱₀ (c : Thread nD τ) none Set.univ (chk2_ok c _ fun _ => hn))
    have h4 : k0_off4 (wd (R.cnt c t.val)) 0 = R.cnt c t.val := by rw [off4_eq hn]; rfl
    iapply (loadW 𝒱₀ (c : Thread nD τ) tokM) $$ H7; iintro H7
    iapply (storeC 𝒱₀ (c : Thread nD τ) tokM) $$ H7; iintro %g7 %hg7 H7
    iapply (loadW 𝒱₀ (c : Thread nD τ) slotM) $$ H8; iintro H8
    iapply (storeC 𝒱₀ (c : Thread nD τ) slotM) $$ H8; iintro %g8 %hg8 H8
    iapply (loadC 𝒱₀ (c : Thread nD τ) metaM (ix1 ⟨0, by decide⟩) r0 rfl) $$ H9; iintro H9
    iapply (storeC 𝒱₀ (c : Thread nD τ) metaM) $$ H9; iintro %g9 %hg9 H9
    have r1 : metaM.view.read (Elt F) g9 (ix1 ⟨1, by decide⟩) = wd (R.slf c t.val) :=
      (hg9 _).trans ((if_neg (by decide)).trans (hs.self (ix1 ⟨1, by decide⟩) rfl))
    iapply (loadC 𝒱₀ (c : Thread nD τ) metaM (ix1 ⟨1, by decide⟩) r1 rfl) $$ H9; iintro H9
    iapply (loadC 𝒱₀ (c : Thread nD τ) metaM (ix1 ⟨1, by decide⟩) r1 rfl) $$ H9; iintro H9
    iapply (storeC 𝒱₀ (c : Thread nD τ) metaM) $$ H9; iintro %k9 %hk9 H9
    rw [wp_ret]; imodintro
    iexists g6, g7, g8, k9
    isplitl []
    · ipureintro
      have hcs : R.cnt c (t.val + 1) = R.cnt c t.val + 1 := by rw [R.cnt_succ c _ ht, if_pos hp]
      have hold : ∀ p : Tok, R.home p = c → tn p < t.val + 1 → p ≠ tk t.val ht → tn p < t.val := fun p _ h hne => by
        rcases Nat.lt_or_ge (tn p) t.val with h' | h'
        · exact h'
        · exact absurd (tn_inj ((by omega : tn p = t.val).trans (tn_tk _ _).symm)) hne
      refine ⟨hcnt, fun y hy => ?_, fun y hy => ?_, fun p y hp' h hy => ?_, fun p y hp' h hy => ?_⟩
      · refine (hk9 y).trans ((if_neg (by rw [hy]; decide)).trans ((hg9 y).trans ((if_pos hy).trans ?_)))
        rw [hcs]; exact wd_add _ _
      · refine (hk9 y).trans ((if_pos hy).trans ?_)
        rw [R.slf_succ c _ ht]
        refine Eq.trans ?_ (wd_add _ _)
        refine congrArg (Scalar.addi (wd (R.slf c t.val))) ?_
        have hf : fdivW (Scf.iv 0#32 1#32 t.val) = wd (t.val / 32) := by rw [iv_t3]; exact fdivW_eq ⟨t.val, ht⟩
        have hd : t.val / 32 < 32 := by omega
        have e1 : (Scalar.select (Scalar.cmpi .eq (fdivW (Scf.iv 0#32 1#32 t.val)) (wd c.val)) 1#32 0#32 : BitVec 32)
            = wd (if (⟨t.val / 32, hd⟩ : Fin 32) = c then 1 else 0) := by
          rw [hf]; exact own_word ⟨t.val / 32, hd⟩ c
        refine e1.trans (congrArg wd ?_)
        have : (tk t.val ht).1 = (⟨t.val / 32, hd⟩ : Fin 32) := rfl
        rw [this]
        by_cases h : (⟨t.val / 32, hd⟩ : Fin 32) = c
        · rw [if_pos h, if_pos ⟨hp, h⟩]
        · rw [if_neg h, if_neg fun h' => h h'.2]
      · by_cases hpt : p = tk t.val ht
        · subst hpt
          rw [tn_tk] at hy ⊢
          refine (hg7 y).trans ((if_pos (hy.trans h4.symm)).trans (iv_t3 t))
        · have h' := hold p hp' h hpt
          have hlt := R.cnt_lt c hp' (le_of_lt ht) h'
          refine (hg7 y).trans ((if_neg ?_).trans (hs.tok p y hp' h' hy))
          rw [hy, show k0_off4 _ 0 = R.cnt c t.val from h4]; omega
      · by_cases hpt : p = tk t.val ht
        · subst hpt
          rw [tn_tk] at hy ⊢
          refine (hg8 y).trans ((if_pos (hy.trans h4.symm)).trans ?_)
          exact slot_word he hr
        · have h' := hold p hp' h hpt
          have hlt := R.cnt_lt c hp' (le_of_lt ht) h'
          refine (hg8 y).trans ((if_neg ?_).trans (hs.slot p y hp' h' hy))
          rw [hy, show k0_off4 _ 0 = R.cnt c t.val from h4]; omega
    · iframe
  · rw [dif_neg hc]
    rw [wp_ret]; imodintro
    have hne : R.home (tk t.val ht) ≠ c := fun h => hc ((cond2_iff c ⟨_, he⟩).mpr ((R.home_iff c t.val ht).mpr h))
    iexists g6, f7, f8, f9
    isplitl []
    · ipureintro
      have hlt : ∀ p : Tok, R.home p = c → tn p < t.val + 1 → tn p < t.val := fun p hp h => by
        rcases Nat.lt_or_ge (tn p) t.val with h' | h'
        · exact h'
        · exact absurd hp (by
            have : tk t.val ht = p := tn_inj ((tn_tk _ _).trans (by omega))
            rwa [this] at hne)
      refine ⟨hcnt, fun y hy => ?_, fun y hy => ?_, fun p y hp h hy => hs.tok p y hp (hlt p hp h) hy, fun p y hp h hy => hs.slot p y hp (hlt p hp h) hy⟩
      · rw [hs.mine y hy, R.cnt_succ c _ ht, if_neg hne]; rfl
      · rw [hs.self y hy, R.slf_succ c _ ht, if_neg fun h => hne h.1]; rfl
    · iframe

end Cert.RouteKernelIdeal
-- ==== Proof.Gather.lean ====
module

public import proofs.«01_k».proof.Proof.Scan
public import Idealize.ShloMosaic.Lib.Pipeline.Value

@[expose] public section

set_option maxRecDepth 16384

noncomputable section

namespace Cert.RouteKernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode
open Idealize.SL.Sem
open Idealize.ShloMosaic.Rounds
open Idealize.ShloMosaic.ValueIdx (ix1 ix2 ix3)

variable {F : FTy → Type} [FloatOps F]

local notation "𝕄" => MT nD τ sig Unit (Elt F) ℕ UU ℕ

variable (R : Route) (D : Ins F)

/-- What the two lists hold after the scan: for the device's `j`-th token its number and its slot. -/
structure Listed (c : Dev nD) (f7 : Buf (Elt F) ((c : Thread nD τ).loc cc0_scratch3)) (f8 : Buf (Elt F) ((c : Thread nD τ).loc cc0_scratch4)) : Prop where
  tok : ∀ (p : Tok) (y : S1024.Idx), R.home p = c → (y 0).val = R.cnt c (tn p) → f7 y = wd (tn p)
  slot : ∀ (p : Tok) (y : S1024.Idx), R.home p = c → (y 0).val = R.cnt c (tn p) → f8 y = wd (R.slot c (tn p))

theorem Scanned.listed {c : Dev nD} {f6 f7 f8 f9} (h : Scanned (F := F) R c 1024 f6 f7 f8 f9) : Listed (F := F) R c f7 f8 :=
  ⟨fun p y hp hy => h.tok p y hp (tn_lt p) hy, fun p y hp hy => h.slot p y hp (tn_lt p) hy⟩

abbrev xPts (c : Dev nD) (f : Buf (Elt F) ((c : Thread nD τ).loc cc0_stg1_0)) : sProp 𝕄 :=
  ((c : Thread nD τ).loc cc0_stg1_0) ↦{fullShare} f
abbrev wPts (c : Dev nD) (f : Buf (Elt F) ((c : Thread nD τ).loc cc0_stg2_0)) : sProp 𝕄 :=
  ((c : Thread nD τ).loc cc0_stg2_0) ↦{fullShare} f
abbrev gPts (c : Dev nD) (f : Buf (Elt F) ((c : Thread nD τ).loc cc0_scratch0)) : sProp 𝕄 :=
  ((c : Thread nD τ).loc cc0_scratch0) ↦{fullShare} f

/-- A store of one row of a rank-two view. -/
theorem row_write {sig : RefSig} {Val : EltTy → Type} {n k : ℕ} {κ : Kind} {sp : Space} {e : EltTy} (v : View sig κ sp ⟨2, ![n, k]⟩ e) (off : Fin 2 → ℕ)
    {r : ℕ} (hoff : off = ![r, 0])
    (inb : ∀ a, off a + (⟨2, ![1, k]⟩ : Shape).size a ≤ (⟨2, ![n, k]⟩ : Shape).size a) (f : v.ty.Contents Val)
    (w : (⟨2, ![1, k]⟩ : Shape).Idx → Val e) (y : (⟨2, ![n, k]⟩ : Shape).Idx) :
    v.read Val ((v.slice (Rect.unit (s := ⟨2, ![n, k]⟩) off (⟨2, ![1, k]⟩ : Shape).size inb)).write Val f w Finset.univ) y
      = if (y 0).val = r then w (ix2 0 (y 1)) else v.read Val f y := by
  subst hoff
  by_cases h : (y 0).val = r
  · rw [if_pos h]
    have hy : (Rect.unit (s := ⟨2, ![n, k]⟩) ![r, 0] (⟨2, ![1, k]⟩ : Shape).size inb).emb (ix2 0 (y 1)) = y := by
      funext a
      match a with
      | 0 => exact Fin.ext (by show r + 1 * 0 = (y 0).val; omega)
      | 1 => exact Fin.ext (by show 0 + 1 * (y 1).val = (y 1).val; omega)
    exact (congrArg (v.read Val _) hy.symm).trans (View.read_slice_write_emb _ _ _ (Finset.mem_univ _))
  · rw [if_neg h]
    refine View.read_slice_write_of_not_mem _ _ _ _ ?_
    rw [Rect.map_emb_univ, Rect.mem_set_unit]
    intro hall
    have h0 := hall 0
    have e0 : (![r, 0] : Fin 2 → ℕ) 0 = r := rfl
    have e1 : (⟨2, ![1, k]⟩ : Shape).size 0 = 1 := rfl
    omega

/-- A load of one row of a rank-two view. -/
theorem row_read {sig : RefSig} {Val : EltTy → Type} {n k : ℕ} {κ : Kind} {sp : Space} {e : EltTy} (v : View sig κ sp ⟨2, ![n, k]⟩ e) (off : Fin 2 → ℕ)
    {r : ℕ} (hr : r < n) (hoff : off = ![r, 0])
    (inb : ∀ a, off a + (⟨2, ![1, k]⟩ : Shape).size a ≤ (⟨2, ![n, k]⟩ : Shape).size a) (f : v.ty.Contents Val)
    (x : (⟨2, ![1, k]⟩ : Shape).Idx) :
    (v.slice (Rect.unit (s := ⟨2, ![n, k]⟩) off (⟨2, ![1, k]⟩ : Shape).size inb)).read Val f x = v.read Val f (ix2 ⟨r, hr⟩ (x 1)) := by
  subst hoff
  have hx : (Rect.unit (s := ⟨2, ![n, k]⟩) ![r, 0] (⟨2, ![1, k]⟩ : Shape).size inb).emb x = ix2 ⟨r, hr⟩ (x 1) := by
    funext a
    match a with
    | 0 => exact Fin.ext (by have : (x 0).val < 1 := (x 0).isLt; show r + 1 * (x 0).val = r; omega)
    | 1 => exact Fin.ext (by show 0 + 1 * (x 1).val = (x 1).val; omega)
  exact congrArg (v.read Val f) hx

theorem g_row (c : Dev nD) (off : Fin 2 → ℕ) {r : ℕ} (hoff : off = ![r, 0]) (inb : ∀ a, off a + S1x512.size a ≤ S32x512.size a)
    (f : Buf (Elt F) ((c : Thread nD τ).loc cc0_scratch0)) (w : Vec F S1x512 .f32) :
    (Memref.access gM (Rect.unit (s := S32x512) off S1x512.size inb)).write (Elt F) f w Finset.univ
      = fun y : S32x512.Idx => if (y 0).val = r then w (ix2 0 (y 1)) else f y :=
  (View.read_whole (Val := Elt F) cc0_scratch0 _).symm.trans (funext fun y => row_write (Val := Elt F) (View.whole cc0_scratch0) off hoff inb f w y)

theorem x_row (c : Dev nD) (off : Fin 2 → ℕ) {r : ℕ} (hr : r < 1024) (hoff : off = ![r, 0]) (inb : ∀ a, off a + S1x512.size a ≤ S1024x512.size a)
    (f : Buf (Elt F) ((c : Thread nD τ).loc cc0_stg1_0)) :
    k0_pay3 (F := F) ((Memref.access xM (Rect.unit (s := S1024x512) off S1x512.size inb)).read (Elt F) f)
      = fun y : S1x512.Idx => f (ix2 ⟨r, hr⟩ (y 1)) := by
  unfold k0_pay3
  simp only [shapeCast_self]
  exact funext fun y => row_read (Val := Elt F) (View.whole cc0_stg1_0) off hr hoff inb f y

/-- Before trip `j` of the gather the first `j` kept tokens' rows are in their slots. -/
def gathI (c : Dev nD) (f7 : Buf (Elt F) ((c : Thread nD τ).loc cc0_scratch3)) (f8 : Buf (Elt F) ((c : Thread nD τ).loc cc0_scratch4)) (j : ℕ) : sProp 𝕄 :=
  iprop(xPts (F := F) c (D.xs c) ∗ gPts (F := F) c (gSt R D c j) ∗ tokPts (F := F) c f7 ∗ slotPts (F := F) c f8)

theorem gath_step (c : Dev nD) {f7 f8} (hl : Listed (F := F) R c f7 f8) (h3 : k0_chk3 (wd (R.nMy c))) (t : Fin (k0_t4_loop (wd (R.nMy c))).trips) :
    gathI (F := F) R D c f7 f8 t.val ⊢ wp frame (wpE (defs₀ (F := F)) 𝒱₀ (c : Thread nD τ) none) Set.univ
      (k0_t4_body tabM (Memref.isWhole_whole _) xM (Memref.isWhole_whole _) wM (Memref.isWhole_whole _) oM (Memref.isWhole_whole _) gM (Memref.isWhole_whole _) eM (Memref.isWhole_whole _) cntM (Memref.isWhole_whole _) tokM (Memref.isWhole_whole _) slotM (Memref.isWhole_whole _) metaM (Memref.isWhole_whole _) sendS recvS (wd (R.nMy c)) h3 t ⟨⟩) (fun _ => gathI (F := F) R D c f7 f8 (t.val + 1)) := by
  have ht : t.val < R.nMy c := lt_of_lt_of_eq t.isLt (trips_t4 (R.nMy_le c))
  obtain ⟨p, hp, hj⟩ := R.exists_nth c ht
  have hn : R.cnt c (tn p) < 1024 := lt_of_lt_of_le (R.cnt_lt_nMy c hp) (R.nMy_le c)
  have hsl := R.slot_lt c (tn p)
  have h5 : k0_off5 (wd (R.nMy c)) t 0 = R.cnt c (tn p) := by rw [off5_eq (R.nMy_le c)]; exact hj.symm
  have r7 : tokM.view.read (Elt F) f7 (ix1 ⟨R.cnt c (tn p), hn⟩) = wd (tn p) := hl.tok p _ hp rfl
  have r8 : slotM.view.read (Elt F) f8 (ix1 ⟨R.cnt c (tn p), hn⟩) = wd (R.slot c (tn p)) := hl.slot p _ hp rfl
  unfold gathI k0_t4_body
  simp only [smemLoad, smemLoadElt, Prog.lift, Prog.bind_op, Prog.bind_ret, Prog.pure_eq_ret, Prog.bind_assoc]
  iintro ⟨Hx, Hg, H7, H8⟩
  iapply (loadC 𝒱₀ (c : Thread nD τ) slotM (ix1 ⟨R.cnt c (tn p), hn⟩) r8 h5.symm) $$ H8; iintro H8
  iapply (wp_assume 𝒱₀ (c : Thread nD τ) none Set.univ (chk5_ok hsl))
  iapply (loadC 𝒱₀ (c : Thread nD τ) tokM (ix1 ⟨R.cnt c (tn p), hn⟩) r7 h5.symm) $$ H7; iintro H7
  iapply (wp_assume 𝒱₀ (c : Thread nD τ) none Set.univ (chk4_ok _ (tn_lt p)))
  have hnth : nth R c t.val = p := nth_eq R hp hj
  by_cases hc : k0_cond3 (wd (R.slot c (tn p))) = 1#1
  · rw [dif_pos hc]
    have h7 : R.slot c (tn p) ≠ 7 := (cond3_iff hsl).mp hc
    iapply (loadW 𝒱₀ (c : Thread nD τ) xM) $$ Hx; iintro Hx
    iapply (loadW 𝒱₀ (c : Thread nD τ) gM) $$ Hg; iintro Hg
    iapply (storeW 𝒱₀ (c : Thread nD τ) gM) $$ Hg; iintro Hg
    rw [wp_ret]; imodintro
    rw [gSt_succ R D hp hj]
    have hg : (Memref.access gM (Rect.unit (s := S32x512) (k0_off7 (wd (R.slot c (tn p)))) S1x512.size (k0_off7_inb _ (chk5_ok hsl) hc))).write (Elt F)
        (gSt R D c t.val) (k0_pay3 ((Memref.access xM (Rect.unit (s := S1024x512) (k0_off6 (wd (tn p))) S1x512.size
          (k0_off6_inb _ _ (chk4_ok _ (tn_lt p)) hc))).read (Elt F) (D.xs c))) Finset.univ = gPut R D c p (gSt R D c t.val) := by
      rw [x_row c _ (tn_lt p) (off6_eq (tn_lt p)), g_row c _ (off7_eq hsl)]
      funext y
      unfold gPut
      by_cases h : (y 0).val = R.slot c (tn p)
      · exact (if_pos h).trans (if_pos ⟨h, h7⟩).symm
      · exact (if_neg h).trans (if_neg fun h' => h h'.1).symm
    rw [← hg]
    iframe
  · rw [dif_neg hc]
    have h7 : R.slot c (tn p) = 7 := by by_contra h; exact hc ((cond3_iff hsl).mpr h)
    rw [wp_ret]; imodintro
    have hg : gPut R D c p (gSt R D c t.val) = gSt R D c t.val := by
      funext y
      exact if_neg fun h => h.2 h7
    rw [gSt_succ R D hp hj, hg]
    iframe

end Cert.RouteKernelIdeal
-- ==== Proof.Compute.lean ====
module

public import proofs.«01_k».proof.Proof.Gather
public import Idealize.ShloMosaic.Lib.Pipeline.Value

@[expose] public section

set_option maxRecDepth 16384

noncomputable section

namespace Cert.RouteKernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode
open Idealize.SL.Sem
open Idealize.ShloMosaic.Rounds
open Idealize.ShloMosaic.ValueIdx (ix1 ix2 ix3)

variable {F : FTy → Type} [FloatOps F]

local notation "𝕄" => MT nD τ sig Unit (Elt F) ℕ UU ℕ

variable (R : Route) (D : Ins F)

abbrev eAll (c : Dev nD) (f : Buf (Elt F) ((c : Thread nD τ).loc cc0_scratch1)) : sProp 𝕄 :=
  ((c : Thread nD τ).loc cc0_scratch1) ↦{fullShare} f

/-- A store of block `k` of eight rows. -/
theorem e_block (c : Dev nD) (k : ℕ) (off : Fin 2 → ℕ) (hoff : off = ![8 * k, 0])
    (inb : ∀ a, off a + S8x1024.size a ≤ S32x1024.size a)
    (f : Buf (Elt F) ((c : Thread nD τ).loc cc0_scratch1)) (w : Vec F S8x1024 .f32) :
    (Memref.access eM (Rect.unit (s := S32x1024) off S8x1024.size inb)).write (Elt F) f w Finset.univ
      = fun y : S32x1024.Idx => if (y 0).val / 8 = k then w (ix2 ⟨(y 0).val % 8, Nat.mod_lt _ (by decide)⟩ (y 1)) else f y := by
  subst hoff
  refine (View.read_whole (Val := Elt F) cc0_scratch1 _).symm.trans (funext fun y : S32x1024.Idx => ?_)
  by_cases h : (y 0).val / 8 = k
  · have hy : (Rect.unit (s := S32x1024) ![8 * k, 0] S8x1024.size inb).emb (ix2 ⟨(y 0).val % 8, Nat.mod_lt _ (by decide)⟩ (y 1)) = y := by
      funext a
      match a with
      | 0 => exact Fin.ext (by show 8 * k + 1 * ((y 0).val % 8) = (y 0).val; omega)
      | 1 => exact Fin.ext (by show 0 + 1 * (y 1).val = (y 1).val; omega)
    refine Eq.trans ?_ (if_pos h).symm
    exact (congrArg ((View.whole cc0_scratch1).read (Elt F) _) hy.symm).trans
      (View.read_slice_write_emb (v := View.whole cc0_scratch1) _ _ _ (Finset.mem_univ _))
  · refine Eq.trans ?_ (if_neg h).symm
    refine View.read_slice_write_of_not_mem (v := View.whole cc0_scratch1) _ _ _ _ ?_
    rw [Rect.map_emb_univ]
    intro hm
    have h0 := Rect.mem_set_unit.mp hm 0
    have e0 : (![8 * k, 0] : Fin 2 → ℕ) 0 = 8 * k := rfl
    have e1 : S8x1024.size 0 = 8 := rfl
    omega

theorem g_block (c : Dev nD) (k : ℕ) (hk : k < 4) (off : Fin 2 → ℕ) (hoff : off = ![8 * k, 0])
    (inb : ∀ a, off a + S8x512.size a ≤ S32x512.size a)
    (f : Buf (Elt F) ((c : Thread nD τ).loc cc0_scratch0)) :
    (Memref.access gM (Rect.unit (s := S32x512) off S8x512.size inb)).read (Elt F) f
      = fun z : S8x512.Idx => f (ix2 ⟨8 * k + (z 0).val, by have : (z 0).val < 8 := (z 0).isLt; omega⟩ (z 1)) := by
  subst hoff
  funext z
  refine congrArg f (funext fun a => ?_)
  match a with
  | 0 => exact Fin.ext (by show 8 * k + 1 * (z 0).val = 8 * k + (z 0).val; omega)
  | 1 => exact Fin.ext (by show 0 + 1 * (z 1).val = (z 1).val; omega)

theorem w_block (c : Dev nD) (k : ℕ) (hk : k < 4) (off : Fin 3 → ℕ) (hoff : off = ![k, 0, 0])
    (inb : ∀ a, off a + S1x512x1024.size a ≤ S4x512x1024.size a)
    (f : Buf (Elt F) ((c : Thread nD τ).loc cc0_stg2_0)) :
    (Memref.access wM (Rect.unit (s := S4x512x1024) off S1x512x1024.size inb)).read (Elt F) f
      = fun z : S1x512x1024.Idx => f (ix3 ⟨k, hk⟩ (z 1) (z 2)) := by
  subst hoff
  funext z
  refine congrArg f (funext fun a => ?_)
  match a with
  | 0 => exact Fin.ext (by have : (z 0).val < 1 := (z 0).isLt; show k + 1 * (z 0).val = k; omega)
  | 1 => exact Fin.ext (by show 0 + 1 * (z 1).val = (z 1).val; omega)
  | 2 => exact Fin.ext (by show 0 + 1 * (z 2).val = (z 2).val; omega)

/-- Block `k` of the expert results. -/
def eBlk (c : Dev nD) (k : ℕ) (hk : k < 4) : Vec F S8x1024 .f32 :=
  k0_pay5 (F := F)
    (fun z : S8x512.Idx => gSt R D c (R.nMy c) (ix2 ⟨8 * k + (z 0).val, by have : (z 0).val < 8 := (z 0).isLt; omega⟩ (z 1)))
    (fun z : S1x512x1024.Idx => D.ws c (ix3 ⟨k, hk⟩ (z 1) (z 2)))

theorem eFin_eq (c : Dev nD) (y : S32x1024.Idx) (k : ℕ) (hk : k < 4) (h : (y 0).val / 8 = k) :
    eFin R D c y = eBlk R D c k hk (ix2 ⟨(y 0).val % 8, Nat.mod_lt _ (by decide)⟩ (y 1)) := by
  subst h; rfl

/-- The four products, each stored over its block of rows. -/
theorem compute (c : Dev nD) :
    iprop(wPts (F := F) c (D.ws c) ∗ gPts (F := F) c (gSt R D c (R.nMy c)) ∗ ∃ f, eAll (F := F) c f)
      ⊢ wp frame (wpE (defs₀ (F := F)) 𝒱₀ (c : Thread nD τ) none) Set.univ (k0_part3 tabM (Memref.isWhole_whole _) xM (Memref.isWhole_whole _) wM (Memref.isWhole_whole _) oM (Memref.isWhole_whole _) gM (Memref.isWhole_whole _) eM (Memref.isWhole_whole _) cntM (Memref.isWhole_whole _) tokM (Memref.isWhole_whole _) slotM (Memref.isWhole_whole _) metaM (Memref.isWhole_whole _) sendS recvS)
        (fun r => iprop(wPts (F := F) c (D.ws c) ∗ gPts (F := F) c (gSt R D c (R.nMy c)) ∗ ∃ f, ⌜k0_pay1 (F := F) r.1 = eBlk R D c 3 (by decide)
          ∧ ∀ y : S32x1024.Idx, (y 0).val / 8 ≠ 3 → f y = eFin R D c y⌝ ∗ eAll (F := F) c f)) := by
  rw [k0_part3_eq_skeleton]
  unfold k0_part3_skel
  simp only [Prog.lift, Prog.bind_op, Prog.bind_ret, Prog.pure_eq_ret]
  iintro ⟨Hw, Hg, %f0, He⟩
  iapply (loadW 𝒱₀ (c : Thread nD τ) gM) $$ Hg; iintro Hg
  iapply (loadW 𝒱₀ (c : Thread nD τ) wM) $$ Hw; iintro Hw
  rw [g_block c 0 (by decide) _ rfl, w_block c 0 (by decide) _ rfl]
  iapply (loadW 𝒱₀ (c : Thread nD τ) eM) $$ He; iintro He
  iapply (storeW 𝒱₀ (c : Thread nD τ) eM) $$ He; iintro He
  rw [e_block c 0 _ rfl]
  iapply (loadW 𝒱₀ (c : Thread nD τ) gM) $$ Hg; iintro Hg
  iapply (loadW 𝒱₀ (c : Thread nD τ) wM) $$ Hw; iintro Hw
  rw [g_block c 1 (by decide) _ rfl, w_block c 1 (by decide) _ rfl]
  iapply (loadW 𝒱₀ (c : Thread nD τ) eM) $$ He; iintro He
  iapply (storeW 𝒱₀ (c : Thread nD τ) eM) $$ He; iintro He
  rw [e_block c 1 _ rfl]
  iapply (loadW 𝒱₀ (c : Thread nD τ) gM) $$ Hg; iintro Hg
  iapply (loadW 𝒱₀ (c : Thread nD τ) wM) $$ Hw; iintro Hw
  rw [g_block c 2 (by decide) _ rfl, w_block c 2 (by decide) _ rfl]
  iapply (loadW 𝒱₀ (c : Thread nD τ) eM) $$ He; iintro He
  iapply (storeW 𝒱₀ (c : Thread nD τ) eM) $$ He; iintro He
  rw [e_block c 2 _ rfl]
  iapply (loadW 𝒱₀ (c : Thread nD τ) gM) $$ Hg; iintro Hg
  iapply (loadW 𝒱₀ (c : Thread nD τ) wM) $$ Hw; iintro Hw
  rw [g_block c 3 (by decide) _ rfl, w_block c 3 (by decide) _ rfl]
  iapply (loadW 𝒱₀ (c : Thread nD τ) eM) $$ He; iintro He
  rw [wp_ret]; imodintro
  isplitl [Hw]; · iexact Hw
  isplitl [Hg]; · iexact Hg
  iexists _
  isplitl []
  rotate_left
  · iexact He
  ipureintro
  refine ⟨rfl, fun y h3 => ?_⟩
  have hy : (y 0).val < 32 := (y 0).isLt
  dsimp only
  by_cases h2 : (y 0).val / 8 = 2
  · rw [if_pos h2]; exact (eFin_eq R D c y 2 (by decide) h2).symm
  rw [if_neg h2]
  by_cases h1 : (y 0).val / 8 = 1
  · rw [if_pos h1]; exact (eFin_eq R D c y 1 (by decide) h1).symm
  rw [if_neg h1]
  have h0 : (y 0).val / 8 = 0 := by omega
  rw [if_pos h0]; exact (eFin_eq R D c y 0 (by decide) h0).symm

end Cert.RouteKernelIdeal
-- ==== Proof.Talk.lean ====
module

public import proofs.«01_k».proof.Proof.Compute
public import Idealize.ShloMosaic.Lib.Pipeline.Value

@[expose] public section

set_option maxRecDepth 16384

noncomputable section

namespace Cert.RouteKernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode
open Idealize.SL.Sem
open Idealize.ShloMosaic.Rounds
open Idealize.ShloMosaic.ValueIdx (ix1 ix2 ix3)

variable {F : FTy → Type} [FloatOps F]

local notation "𝕄" => MT nD τ sig Unit (Elt F) ℕ UU ℕ

variable (R : Route) (D : Ins F)

theorem bs_insert {I : Type} [DecidableEq I] {s : Finset I} {i : I} (hi : i ∉ s) {Φ : I → sProp 𝕄} :
    bigSep (insert i s) Φ = iprop(Φ i ∗ bigSep s Φ) := BI.bigSep_insert hi
theorem bs_split {I : Type} [DecidableEq I] {s t : Finset I} (h : t ⊆ s) {Φ : I → sProp 𝕄} :
    bigSep s Φ = iprop(bigSep t Φ ∗ bigSep (s \ t) Φ) := BI.bigSep_sdiff_split h

/-! ## What every device knows of the cells -/

/-- The cells' invariants under the names `K`, and that each cell's first round is reached. -/
def recs (K : Dev nD × Fin 3 → ℕ) : sProp 𝕄 :=
  iprop((bigSep Finset.univ fun ck : Dev nD × Fin 3 => cellInv ER (sch (F := F) R D) (K ck) (kcell ck))
    ∗ bigSep Finset.univ fun ck : Dev nD × Fin 3 => reached ER (kcell ck) 0)

instance recs_persistent (K : Dev nD × Fin 3 → ℕ) : BI.Persistent (recs (F := F) R D K) := by unfold recs; infer_instance

theorem recs_inv (K : Dev nD × Fin 3 → ℕ) (ck : Dev nD × Fin 3) :
    (recs (F := F) R D K : sProp 𝕄) ⊢ cellInv ER (sch (F := F) R D) (K ck) (kcell ck) := by
  unfold recs
  exact sep_elim_left.trans (bigSep_elim (Finset.mem_univ ck))

theorem recs_reached (K : Dev nD × Fin 3 → ℕ) (ck : Dev nD × Fin 3) :
    (recs (F := F) R D K : sProp 𝕄) ⊢ reached ER (kcell ck) 0 := by
  unfold recs
  exact sep_elim_right.trans (bigSep_elim (Finset.mem_univ ck))

/-- What device `c` owes, whatever it has waited for so far. -/
def owing (c : Dev nD) (O : CellTallies nD τ sig Unit) : sProp 𝕄 := iprop(∃ W, owes (c : Thread nD τ) O W)

/-! ## The signals -/

theorem toSig_skip {c : Dev nD} {t : ℕ} (h : t = c.val) : toSig c t = toSig c (t + 1) := by
  ext d
  unfold toSig
  simp only [Finset.mem_filter, Finset.mem_univ, true_and, ne_eq]
  constructor
  · rintro ⟨h1, h2⟩; exact ⟨by have : d.val ≠ c.val := fun e => h2 (Fin.ext e); omega, h2⟩
  · rintro ⟨h1, h2⟩; exact ⟨by omega, h2⟩

theorem toSig_step {c d : Dev nD} (h : d ≠ c) : toSig c d.val = insert d (toSig c (d.val + 1)) := by
  ext e
  unfold toSig
  simp only [Finset.mem_filter, Finset.mem_insert, Finset.mem_univ, true_and, ne_eq]
  constructor
  · rintro ⟨h1, h2⟩
    by_cases he : e = d
    · exact Or.inl he
    · exact Or.inr ⟨by have : e.val ≠ d.val := fun e' => he (Fin.ext e'); omega, h2⟩
  · rintro (rfl | ⟨h1, h2⟩)
    · exact ⟨le_rfl, h⟩
    · exact ⟨by omega, h2⟩

theorem not_toSig {c d : Dev nD} : d ∉ toSig c (d.val + 1) := by
  unfold toSig
  simp only [Finset.mem_filter, not_and]
  intro _ h
  omega

theorem toSig_last (c : Dev nD) : toSig c 32 = ∅ := by
  unfold toSig
  refine Finset.filter_eq_empty_iff.mpr fun d _ h => ?_
  have : d.val < 32 := d.isLt
  omega

theorem toSig_zero (c : Dev nD) : toSig c 0 = Finset.univ.erase c := by
  ext d
  unfold toSig
  simp

/-- Before trip `t` of the signal loop: a duty token and the rows to hand over for every device not yet signalled. -/
def sigI (K : Dev nD × Fin 3 → ℕ) (c : Dev nD) (t : ℕ) : sProp 𝕄 :=
  iprop(recs (F := F) R D K ∗ owing (F := F) c (owRecv R c 0 + owBar c t)
    ∗ bigSep (toSig c t) (fun d => (dutyTok ER (barCell d) 0 (dEmb c) : sProp 𝕄))
    ∗ bigSep (toSig c t) (fun d => barPay (F := F) R d c))

theorem sig_step (K : Dev nD × Fin 3 → ℕ) (c : Dev nD) (t : Fin k0_t1_loop.trips) :
    sigI (F := F) R D K c t.val ⊢ wp frame (wpE (defs₀ (F := F)) 𝒱₀ (c : Thread nD τ) none) Set.univ
      (k0_t1_body tabM (Memref.isWhole_whole _) xM (Memref.isWhole_whole _) wM (Memref.isWhole_whole _) oM (Memref.isWhole_whole _) gM (Memref.isWhole_whole _) eM (Memref.isWhole_whole _) cntM (Memref.isWhole_whole _) tokM (Memref.isWhole_whole _) slotM (Memref.isWhole_whole _) metaM (Memref.isWhole_whole _) sendS recvS c (SemArray.scalar (sig.barrier 0 rfl)) t ⟨⟩) (fun _ => sigI (F := F) R D K c (t.val + 1)) := by
  have ht : t.val < 32 := lt_of_lt_of_eq t.isLt trips_t1
  unfold sigI k0_t1_body
  simp only [semSignalWord, Prog.lift, Prog.bind_op, Prog.bind_ret, Prog.pure_eq_ret, Prog.bind_assoc]
  by_cases hc : k0_cond1 c t = 1#1
  · rw [dif_pos hc]
    have hd : (⟨k0_dev1 t, k0_dev1_lt c t hc⟩ : Dev nD) = ⟨t.val, ht⟩ := Fin.ext (k0_dev1_eq t)
    rw [hd]
    have hne : (⟨t.val, ht⟩ : Dev nD) ≠ c := fun h => (cond1_iff c t).mp hc (congrArg Fin.val h)
    have hs : toSig c t.val = insert ⟨t.val, ht⟩ (toSig c (t.val + 1)) := toSig_step hne
    have hn : (⟨t.val, ht⟩ : Dev nD) ∉ toSig c (t.val + 1) := not_toSig (d := ⟨t.val, ht⟩)
    have hO : owRecv R c 0 + owBar c t.val = (owRecv R c 0 + owBar c (t.val + 1)) + tallyAt (barCell ⟨t.val, ht⟩) () 1 := by
      unfold owBar; rw [hs, Finset.sum_insert hn, add_comm (tallyAt _ _ _), add_assoc]
    rw [hO, hs, bs_insert hn, bs_insert hn]
    unfold owing
    iintro ⟨#HR, ⟨%W, HO⟩, ⟨Ht, Hts⟩, Hp, Hps⟩
    iapply (Rounds.wp_signal 𝒱₀ ER (sch (F := F) R D) (c : Thread nD τ) none (dst := ((⟨t.val, ht⟩ : Dev nD) : Thread nD τ)) (κ := K (⟨t.val, ht⟩, 0))
        (d := dEmb c) (by rw [duties_bar]; exact Finset.mem_map_of_mem _ (Finset.mem_erase.mpr ⟨hne.symm, Finset.mem_univ _⟩))
        ((amount_bar R D ⟨t.val, ht⟩ _).trans (by decide)) () (owRecv R c 0 + owBar c (t.val + 1)) rfl) $$ [HO Ht Hp]
    · isplitr; · iapply (recs_inv R D K (⟨t.val, ht⟩, 0)); iexact HR
      isplitl [HO]; · iexact HO
      isplitl [Ht]; · iexact Ht
      isplitl [Hp]; · rw [payload_bar]; iexact Hp
      iapply (recs_reached R D K (⟨t.val, ht⟩, 0)); iexact HR
    iintro HO
    rw [wp_ret]; imodintro
    isplitr; · iexact HR
    isplitl [HO]; · iexists W; iexact HO
    isplitl [Hts] <;> iassumption
  · rw [dif_neg hc]
    have he : t.val = c.val := by by_contra h; exact hc ((cond1_iff c t).mpr h)
    rw [← toSig_skip he, wp_ret]
    iintro H
    imodintro
    unfold owBar; rw [← toSig_skip he]
    iexact H

/-! ## A loop of equal waits -/

section Waits
variable (g : SemLoc sig) (T : Finset Tok)

/-- After `j` of the waits for the contributions `T` of a cell's only round: some of the contributions are in, all of
    them once the last wait has passed. -/
def waitI (K : Dev nD × Fin 3 → ℕ) (k : Fin 3) (c : Dev nD) (j : ℕ) : sProp 𝕄 :=
  iprop(recs (F := F) R D K ∗ owing (F := F) c 0 ∗ cred (tallyAt (kcell (c, k)) () ((T.card - j) * N))
    ∗ if j < T.card then
        iprop(∃ S, ⌜S ⊆ T⌝ ∗ atPos ER (kcell (c, k)) 0 S (j * N) ∗ bigSep S fun p => (sch (F := F) R D).payload (kcell (c, k)) 0 p)
      else
        iprop(∃ r, ⌜∀ r', r ≤ r' → (sch (F := F) R D).duties (kcell (c, k)) r' = ∅⌝ ∗ atPos ER (kcell (c, k)) r ∅ 0
          ∗ bigSep T fun p => (sch (F := F) R D).payload (kcell (c, k)) 0 p))

theorem wait_step (K : Dev nD × Fin 3 → ℕ) (k : Fin 3) (c : Dev nD) {j : ℕ} (hj : j < T.card)
    (hT : (sch (F := F) R D).duties (kcell (c, k)) 0 = T) (hx : (sch (F := F) R D).expect (kcell (c, k)) 0 = T.card * N)
    {w : TpuEff nD τ sig (Elt F) Λ₀ .tc PUnit}
    (hw : ∀ Q : PUnit → sProp 𝕄, wpE (defs₀ (F := F)) 𝒱₀ (c : Thread nD τ) none Set.univ w Q = waitSpec (c : Thread nD τ) Set.univ (csem k) N Q)
    {Q : Unit → sProp 𝕄} {kk : PUnit → Prog (TpuEff nD τ sig (Elt F) Λ₀ .tc) Unit} :
    waitI (F := F) R D T K k c j ⊢ iprop((waitI (F := F) R D T K k c (j + 1) -∗ wp frame (wpE (defs₀ (F := F)) 𝒱₀ (c : Thread nD τ) none) Set.univ (kk ⟨⟩) Q)
      -∗ wp frame (wpE (defs₀ (F := F)) 𝒱₀ (c : Thread nD τ) none) Set.univ (.op w kk) Q) := by
  unfold waitI
  rw [if_pos hj]
  have hcr : (tallyAt (kcell (c, k)) () ((T.card - j) * N) : CellTallies nD τ sig Unit)
      = tallyAt (kcell (c, k)) () N + tallyAt (kcell (c, k)) () ((T.card - (j + 1)) * N) := by
    rw [tallyAt_add, show T.card - j = (T.card - (j + 1)) + 1 by omega, Nat.succ_mul, Nat.add_comm]
  rw [hcr]
  unfold owing
  iintro ⟨#HR, ⟨%W, HO⟩, Hc, %S, %hS, Hat, Hpay⟩ Hk
  ihave Hc' := (cred_add _ _).1 $$ Hc
  icases Hc' with ⟨HcN, Hc⟩
  by_cases hl : j + 1 < T.card
  · iapply (Rounds.wp_wait 𝒱₀ ER (sch (F := F) R D) (c : Thread nD τ) none (κ := K (c, k)) hw (Set.mem_univ _)
        (cr := Finsupp.single () N) (O := 0) (W := W) {(csem k, ())} (R := 0) (m := j * N) (T := S)
        (by rw [Util.total_single]) (image_single_subset _ _ _)) $$ [HcN HO Hat]
    · isplitr; · iapply (recs_inv R D K (c, k)); iexact HR
      isplitl [HcN]; · iexact HcN
      isplitl [HO]; · iexact HO
      isplitr; · iapply (Entails.of_eq (MayWait_zero (c : Thread nD τ) (csem k) ()).symm); iempintro
      iexact Hat
    iintro %S' ⟨%hS', HO, Hat, Hnew⟩
    iapply Hk
    isplitr; · iexact HR
    isplitl [HO]; · iexists _; iexact HO
    isplitl [Hc]; · iexact Hc
    rw [if_pos hl]
    iexists S'
    isplitr; · ipureintro; rw [← hT]; exact hS'.2.1
    isplitl [Hat]; · rw [Nat.succ_mul]; iexact Hat
    iapply (Entails.of_eq (bs_split hS'.1).symm)
    isplitl [Hpay] <;> iassumption
  · iapply (Rounds.wp_wait_rest_token 𝒱₀ ER (sch (F := F) R D) (c : Thread nD τ) none (κ := K (c, k)) hw (Set.mem_univ _) ()
        (O := 0) (W := W) (R := 0) (m := j * N) (T := S) (by rw [hx, ← Nat.succ_mul]; congr 1; omega)) $$ [HcN HO Hat]
    · isplitr; · iapply (recs_inv R D K (c, k)); iexact HR
      isplitl [HcN]; · iexact HcN
      isplitl [HO]; · iexact HO
      isplitr; · rw [MayWait_zero]; iempintro
      iexact Hat
    iintro ⟨HO, Hat, -, Hnew⟩
    iapply Hk
    isplitr; · iexact HR
    isplitl [HO]; · iexists _; iexact HO
    isplitl [Hc]; · iexact Hc
    rw [if_neg hl]
    iexists (0 + 1)
    isplitr; · ipureintro; exact fun r' hr' => duties_later R D _ r' (by omega)
    isplitl [Hat]; · iexact Hat
    iapply (Entails.of_eq (bs_split hS).symm)
    isplitl [Hpay]; · iexact Hpay
    rw [hT]; iexact Hnew

end Waits

end Cert.RouteKernelIdeal
-- ==== Proof.Exchange.lean ====
module

public import proofs.«01_k».proof.Proof.Talk
public import Idealize.ShloMosaic.Lib.Pipeline.Value

@[expose] public section

set_option maxRecDepth 16384

noncomputable section

namespace Cert.RouteKernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode
open Idealize.SL.Sem
open Idealize.ShloMosaic.Rounds
open Idealize.ShloMosaic.ValueIdx (ix1 ix2 ix3)

variable {F : FTy → Type} [FloatOps F]

local notation "𝕄" => MT nD τ sig Unit (Elt F) ℕ UU ℕ

variable (R : Route) (D : Ins F)

/-! ## Rows of the result buffers -/

/-- The share of the expert results set aside for token `p`, whole, -/
abbrev eTok (c : Dev nD) (p : Tok) : sProp 𝕄 :=
  ((c : Thread nD τ).loc cc0_scratch1) ↦{Transfers.shareTokN fullShare (tn p)} eFin R D c
/-- and without the row its copy reads. -/
abbrev eRest (c : Dev nD) (p : Tok) : sProp 𝕄 :=
  ((c : Thread nD τ).loc cc0_scratch1) ↦[Finset.univ \ rowSet (R.slot c (tn p))]{Transfers.shareTokN fullShare (tn p)} eFin R D c

theorem eTok_split (c : Dev nD) (p : Tok) : eTok R D c p ⊣⊢ iprop(ePts R D c p ∗ eRest R D c p) :=
  pointsTo_split_subset (Finset.subset_univ _)

theorem oFin_eq {c : Dev nD} {p : Tok} (hp : R.home p = c) (y : S32x1024.Idx) (hy : (y 0).val = p.2.val) :
    oFin R D p.1 y = eFin R D c (ix2 ⟨R.slot c (tn p), R.slot_lt _ _⟩ (y 1)) := by
  have h0 : y 0 = p.2 := Fin.ext hy
  have h1 : (p.1, y 0) = p := Prod.ext rfl h0
  subst hp
  show eFin R D (R.home (p.1, y 0)) (ix2 ⟨R.slot (R.home (p.1, y 0)) (tn (p.1, y 0)), R.slot_lt _ _⟩ (y 1)) = _
  have h : ∀ q : Tok, q = p → eFin R D (R.home q) (ix2 ⟨R.slot (R.home q) (tn q), R.slot_lt _ _⟩ (y 1))
      = eFin R D (R.home p) (ix2 ⟨R.slot (R.home p) (tn p), R.slot_lt _ _⟩ (y 1)) := fun q hq => by subst hq; rfl
  exact h _ h1

/-- A row's content read off the expert results and written to the output block is the finished row. -/
theorem o_row {c d : Dev nD} {p : Tok} (hp : R.home p = c) (hd : p.1 = d) (off off' : Fin 2 → ℕ) (hoff : off = ![p.2.val, 0]) (hoff' : off' = ![R.slot c (tn p), 0])
    (inb : ∀ a, off a + S1x1024.size a ≤ S32x1024.size a) (inb' : ∀ a, off' a + S1x1024.size a ≤ S32x1024.size a)
    (f : (cc0_stg3_0 : Ref sig .tc).ty.Contents (Elt F)) :
    (oPts d p.2.val ((View.slice (View.whole cc0_stg3_0) (Rect.unit (s := S32x1024) off S1x1024.size inb)).write (Elt F) f
      ((View.slice (View.whole cc0_scratch1) (Rect.unit (s := S32x1024) off' S1x1024.size inb')).read (Elt F) (eFin R D c)) Finset.univ) : sProp 𝕄)
      = oDone R D p := by
  subst hd
  refine pointsTo_congr fun (y : S32x1024.Idx) hy => ?_
  have hy' : (y 0).val = p.2.val := (mem_rowSet (n := 32) (m := 1024) y).mp hy
  rw [oFin_eq R D hp y hy']
  have h1 := row_write (Val := Elt F) (View.whole cc0_stg3_0) off hoff inb f
    ((View.slice (View.whole cc0_scratch1) (Rect.unit (s := S32x1024) off' S1x1024.size inb')).read (Elt F) (eFin R D c)) y
  rw [if_pos hy'] at h1
  have h2 := row_read (Val := Elt F) (View.whole cc0_scratch1) off' (R.slot_lt c (tn p)) hoff' inb' (eFin R D c) (ix2 0 (y 1))
  exact (View.read_whole (Val := Elt F) cc0_stg3_0 _ ▸ h1).trans h2

theorem oAny_at {c : Dev nD} {p : Tok} (hd : p.1 = c) : oAny (F := F) p ⊢ iprop(∃ f, oPts (F := F) c p.2.val f) := by
  subst hd; exact Entails.refl _

/-! ## A row sent -/

/-- Row `r` of the output block and of the expert results, as the copies name them. -/
abbrev oSl (off : Fin 2 → ℕ) (inb : ∀ a, off a + S1x1024.size a ≤ S32x1024.size a) : Memref sig .tc .vmem S1x1024 .f32 :=
  oM.slice (Rect.unit (s := S32x1024) off S1x1024.size inb) (fun _ => rfl)
abbrev eSl (off : Fin 2 → ℕ) (inb : ∀ a, off a + S1x1024.size a ≤ S32x1024.size a) : Memref sig .tc .vmem S1x1024 .f32 :=
  eM.slice (Rect.unit (s := S32x1024) off S1x1024.size inb) (fun _ => rfl)

theorem eSl_pts (c : Dev nD) {r : ℕ} (off : Fin 2 → ℕ) (hoff : off = ![r, 0]) (inb : ∀ a, off a + S1x1024.size a ≤ S32x1024.size a)
    (q : PosShare TreeShare) (f : Buf (Elt F) ((c : Thread nD τ).loc cc0_scratch1)) :
    ((eSl off inb).view.loc (c : Thread nD τ) ↦[(eSl off inb).view.set]{q} f : sProp 𝕄) = ((c : Thread nD τ).loc cc0_scratch1 ↦[rowSet r]{q} f) :=
  congrArg (fun S => ((c : Thread nD τ).loc cc0_scratch1 ↦[S]{q} f : sProp 𝕄)) ((View.set_slice_whole _ _).trans (row_rect off hoff inb))

theorem oSl_pts (c : Dev nD) {r : ℕ} (off : Fin 2 → ℕ) (hoff : off = ![r, 0]) (inb : ∀ a, off a + S1x1024.size a ≤ S32x1024.size a)
    (q : PosShare TreeShare) (f : Buf (Elt F) ((c : Thread nD τ).loc cc0_stg3_0)) :
    ((oSl off inb).view.loc (c : Thread nD τ) ↦[(oSl off inb).view.set]{q} f : sProp 𝕄) = ((c : Thread nD τ).loc cc0_stg3_0 ↦[rowSet r]{q} f) :=
  congrArg (fun S => ((c : Thread nD τ).loc cc0_stg3_0 ↦[S]{q} f : sProp 𝕄)) ((View.set_slice_whole _ _).trans (row_rect off hoff inb))

theorem send_row (K : Dev nD × Fin 3 → ℕ) {c n : Dev nD} {p : Tok} (hn : n = p.1) (hp : R.home p = c) (hr : p.1 ≠ c) (off off' : Fin 2 → ℕ)
    (hoff : off = ![p.2.val, 0]) (hoff' : off' = ![R.slot c (tn p), 0])
    (inb : ∀ a, off a + S1x1024.size a ≤ S32x1024.size a) (inb' : ∀ a, off' a + S1x1024.size a ≤ S32x1024.size a)
    {hsc : (oSl off inb : Memref sig (Dev.tc n : Thread nD τ).2.kind .vmem S1x1024 .f32).view.ref.isScScratch = false}
    {hsrc : (eSl off' inb' : Memref sig .tc .vmem S1x1024 .f32).view.WordExact}
    {hdst : (oSl off inb : Memref sig .tc .vmem S1x1024 .f32).view.WordExact}
    {hsem : DmaTarget.Typed .vmem (.dma recvS.sem) (.remote (Dev.tc n : Thread nD τ) (oSl off inb) (.dma sendS.sem) hsc)}
    {α : Type} {Q : α → sProp 𝕄} {k : PUnit → Prog (TpuEff nD τ sig (Elt F) Λ₀ .tc) α} (O : CellTallies nD τ sig Unit) :
    iprop(recs (F := F) R D K ∗ eTok R D c p ∗ oAny (F := F) p ∗ owing (F := F) c (O + tallyAt (recvCell p.1) () N)
        ∗ dutyTok ER (sendCell c) 0 p ∗ dutyTok ER (recvCell p.1) 0 p)
      ⊢ iprop(((cred (tallyAt (sendCell c) () N) ∗ owing (F := F) c O ∗ eRest R D c p)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (eSl off' inb')
                (.remote (Dev.tc n : Thread nD τ) (oSl off inb) (.dma sendS.sem) hsc)
                (.dma recvS.sem) hsrc hdst hsem) k) Q) := by
  subst hn
  unfold owing
  iintro ⟨#HR, He, ⟨%f, Ho⟩, ⟨%W, HO⟩, Ht1, Ht2⟩ Hk
  ihave He' := (eTok_split R D c p).1 $$ He
  icases He' with ⟨He, Her⟩
  have hp1 : ((eSl off' inb').view.loc (c : Thread nD τ) ↦[(eSl off' inb').view.set]{Transfers.shareTokN fullShare (tn p)} eFin R D c)
      ⊢ (sch (F := F) R D).payload (sendCell c) 0 p := by
    rw [payload_send, eSl_pts c off' hoff' inb']
  have hp2 : ((oSl off inb).view.loc (p.1 : Thread nD τ) ↦[(oSl off inb).view.set]{fullShare}
        ((oSl off inb).view.write (Elt F) f ((eSl off' inb').view.read (Elt F) (eFin R D c)) Finset.univ))
      ⊢ (sch (F := F) R D).payload (recvCell p.1) 0 p := by
    rw [payload_recv, oSl_pts p.1 off hoff inb]
    exact Entails.of_eq (o_row R D hp rfl off off' hoff hoff' inb inb' f)
  iapply (Rounds.wp_send_pointsTo 𝒱₀ ER (sch (F := F) R D) (c : Thread nD τ) none (c' := (p.1 : Thread nD τ)) (src := eSl off' inb') (dst := oSl off inb) (κ₁ := K (c, 1)) (κ₂ := K (p.1, 2))
    (r₁ := 0) (r₂ := 0) (d₁ := p) (d₂ := p) (q := Transfers.shareTokN fullShare (tn p)) (fs := eFin R D c) (fd := f)
    (by rw [duties_send]; exact Finset.mem_filter.mpr ⟨Finset.mem_univ _, hp, hr⟩)
    (by rw [duties_recv]; exact Finset.mem_filter.mpr ⟨Finset.mem_univ _, rfl, fun h => hr (h.symm.trans hp)⟩)
    () () N rfl (amount_send R D c p) (amount_recv R D p.1 p) O rfl (W := W)
    hp1 hp2)
    $$ [He Ho HO Ht1 Ht2]
  · isplitr; · iapply (recs_inv R D K (c, 1)); iexact HR
    isplitr; · iapply (recs_inv R D K (p.1, 2)); iexact HR
    isplitl [He]; · rw [eSl_pts c off' hoff' inb']; iexact He
    isplitl [Ho]; · rw [oSl_pts p.1 off hoff inb]; iexact Ho
    isplitl [HO]; · iexact HO
    isplitl [Ht1]; · iexact Ht1
    isplitr; · iapply (recs_reached R D K (c, 1)); iexact HR
    isplitl [Ht2]; · iexact Ht2
    iapply (recs_reached R D K (p.1, 2)); iexact HR
  iintro ⟨Hc, HO⟩
  iapply Hk
  isplitl [Hc]; · iexact Hc
  isplitl [HO]; · iexists W; iexact HO
  iexact Her

/-! ## The exchange loop -/

/-- Before trip `j` of the exchange: the rows of the tokens still to come, whatever they hold, and the finished rows of its
    own block; the share set aside for each token, and for those sent what the copy left of it; the duty tokens of the copies to come. -/
def exI (K : Dev nD × Fin 3 → ℕ) (c : Dev nD) (f7 : Buf (Elt F) ((c : Thread nD τ).loc cc0_scratch3)) (f8 : Buf (Elt F) ((c : Thread nD τ).loc cc0_scratch4))
    (j : ℕ) : sProp 𝕄 :=
  iprop(recs (F := F) R D K ∗ tokPts (F := F) c f7 ∗ slotPts (F := F) c f8 ∗ owing (F := F) c (owRecv R c j)
    ∗ bigSep (R.left c j) (oAny (F := F)) ∗ bigSep (R.left c j) (eTok R D c)
    ∗ bigSep (R.kept c j) (oDone R D) ∗ bigSep (R.kept c j) (eTok R D c) ∗ bigSep (R.sent c j) (eRest R D c)
    ∗ bigSep (R.leftR c j) (fun p => (dutyTok ER (sendCell c) 0 p : sProp 𝕄)) ∗ bigSep (R.leftR c j) (fun p => (dutyTok ER (recvCell p.1) 0 p : sProp 𝕄))
    ∗ cred (tallyAt (sendCell c) () ((R.sent c j).card * N)))

theorem ex_step (K : Dev nD × Fin 3 → ℕ) (c : Dev nD) {f7 f8} (hl : Listed (F := F) R c f7 f8) (h3 : k0_chk3 (wd (R.nMy c)))
    (t : Fin (k0_t6_loop (wd (R.nMy c))).trips) :
    exI (F := F) R D K c f7 f8 t.val ⊢ wp frame (wpE (defs₀ (F := F)) 𝒱₀ (c : Thread nD τ) none) Set.univ
      (k0_t6_body tabM (Memref.isWhole_whole _) xM (Memref.isWhole_whole _) wM (Memref.isWhole_whole _) oM (Memref.isWhole_whole _) gM (Memref.isWhole_whole _) eM (Memref.isWhole_whole _) cntM (Memref.isWhole_whole _) tokM (Memref.isWhole_whole _) slotM (Memref.isWhole_whole _) metaM (Memref.isWhole_whole _) sendS recvS c (wd (R.nMy c)) h3 t ⟨⟩) (fun _ => exI (F := F) R D K c f7 f8 (t.val + 1)) := by
  have ht : t.val < R.nMy c := lt_of_lt_of_eq t.isLt (trips_t6 (R.nMy_le c))
  obtain ⟨p, hp, hj⟩ := R.exists_nth c ht
  have hn : R.cnt c (tn p) < 1024 := lt_of_lt_of_le (R.cnt_lt_nMy c hp) (R.nMy_le c)
  have hsl := R.slot_lt c (tn p)
  have h11 : k0_off11 (wd (R.nMy c)) t 0 = R.cnt c (tn p) := by rw [off11_eq (R.nMy_le c)]; exact hj.symm
  have r7 : tokM.view.read (Elt F) f7 (ix1 ⟨R.cnt c (tn p), hn⟩) = wd (tn p) := hl.tok p _ hp rfl
  have r8 : slotM.view.read (Elt F) f8 (ix1 ⟨R.cnt c (tn p), hn⟩) = wd (R.slot c (tn p)) := hl.slot p _ hp rfl
  unfold exI k0_t6_body
  simp only [smemLoad, smemLoadElt, Prog.lift, Prog.bind_op, Prog.bind_ret, Prog.pure_eq_ret, Prog.bind_assoc]
  rw [R.left_eq c hp hj, bs_insert (R.not_left c hp hj), bs_insert (R.not_left c hp hj)]
  by_cases hr : p.1 = c
  · iintro ⟨#HR, H7, H8, HO, ⟨Ho, Hos⟩, ⟨He, Hes⟩, Hko, Hke, Hse, Hts, Htr, Hc⟩
    iapply (loadC 𝒱₀ (c : Thread nD τ) tokM (ix1 ⟨R.cnt c (tn p), hn⟩) r7 h11.symm) $$ H7; iintro H7
    iapply (wp_assume 𝒱₀ (c : Thread nD τ) none Set.univ (chk9_ok c (tn_lt p)))
    iapply (loadC 𝒱₀ (c : Thread nD τ) slotM (ix1 ⟨R.cnt c (tn p), hn⟩) r8 h11.symm) $$ H8; iintro H8
    iapply (wp_assume 𝒱₀ (c : Thread nD τ) none Set.univ (chk8_ok c _ hsl))
    have h5 : k0_cond5 c (wd (tn p)) = 1#1 := (cond5_iff c (tn_lt p)).mpr (by rw [tn_div, hr])
    have h6 : ¬ k0_cond6 c (wd (tn p)) = 1#1 := fun h => (cond6_iff c (tn_lt p)).mp h (by rw [tn_div, hr])
    rw [dif_pos h5]
    simp only [dif_neg h6, Prog.bind_op, Prog.bind_ret]
    have hoff : k0_off13 (wd (tn p)) = ![p.2.val, 0] := (off13_eq (tn_lt p)).trans (by rw [tn_mod])
    have hos : (Memref.access oM (Rect.unit (s := S32x1024) (k0_off13 (wd (tn p))) S1x1024.size (k0_off13_inb c _ (chk9_ok c (tn_lt p)) h5))).set ⊆ rowSet p.2.val :=
      ((View.set_slice_whole _ _).trans (row_rect _ hoff _)).subset
    ihave Ho' := (oAny_at (F := F) hr) $$ Ho
    icases Ho' with ⟨%f, Ho⟩
    iapply (loadW 𝒱₀ (c : Thread nD τ) eM) $$ He; iintro He
    iapply (loadS 𝒱₀ (c : Thread nD τ) oM hos) $$ Ho; iintro Ho
    iapply (storeS 𝒱₀ (c : Thread nD τ) oM hos) $$ Ho; iintro Ho
    rw [wp_ret]; imodintro
    rw [R.kept_eq c hp hj hr, bs_insert (R.not_kept c hp hj), bs_insert (R.not_kept c hp hj), R.sent_own c hp hj hr, ← R.leftR_own c hp hj hr]
    unfold owRecv
    rw [← R.leftR_own c hp hj hr]
    isplitr; · iexact HR
    isplitl [H7]; · iexact H7
    isplitl [H8]; · iexact H8
    isplitl [HO]; · iexact HO
    isplitl [Hos]; · iexact Hos
    isplitl [Hes]; · iexact Hes
    isplitl [Ho Hko]
    · isplitl [Ho]
      · iapply (Entails.of_eq (o_row R D hp hr (k0_off13 (wd (tn p))) (k0_off12 (wd (R.slot c (tn p)))) hoff (off12_eq hsl)
          (k0_off13_inb c _ (chk9_ok c (tn_lt p)) h5) (k0_off12_inb c _ _ (chk8_ok c _ hsl) h5) f))
        iexact Ho
      · iexact Hko
    isplitl [He Hke]
    · isplitl [He] <;> iassumption
    isplitl [Hse]; · iexact Hse
    isplitl [Hts]; · iexact Hts
    isplitl [Htr]; · iexact Htr
    iexact Hc
  · have hO : owRecv R c t.val = owRecv R c (t.val + 1) + tallyAt (recvCell p.1) () N := by
      unfold owRecv; rw [R.leftR_eq c hp hj hr, Finset.sum_insert (R.not_leftR c hp hj), add_comm]
    rw [hO, R.leftR_eq c hp hj hr, bs_insert (R.not_leftR c hp hj), bs_insert (R.not_leftR c hp hj)]
    iintro ⟨#HR, H7, H8, HO, ⟨Ho, Hos⟩, ⟨He, Hes⟩, Hko, Hke, Hse, ⟨Ht1, Hts⟩, ⟨Ht2, Htr⟩, Hc⟩
    iapply (loadC 𝒱₀ (c : Thread nD τ) tokM (ix1 ⟨R.cnt c (tn p), hn⟩) r7 h11.symm) $$ H7; iintro H7
    iapply (wp_assume 𝒱₀ (c : Thread nD τ) none Set.univ (chk9_ok c (tn_lt p)))
    iapply (loadC 𝒱₀ (c : Thread nD τ) slotM (ix1 ⟨R.cnt c (tn p), hn⟩) r8 h11.symm) $$ H8; iintro H8
    iapply (wp_assume 𝒱₀ (c : Thread nD τ) none Set.univ (chk8_ok c _ hsl))
    have h5 : ¬ k0_cond5 c (wd (tn p)) = 1#1 := fun h => hr (Fin.ext ((tn_div p).symm.trans ((cond5_iff c (tn_lt p)).mp h)))
    have h6 : k0_cond6 c (wd (tn p)) = 1#1 := (cond6_iff c (tn_lt p)).mpr fun h => hr (Fin.ext ((tn_div p).symm.trans h))
    rw [dif_neg h5]
    simp only [dif_pos h6, Prog.bind_op, Prog.bind_ret]
    iapply (send_row R D K (Fin.ext ((dev2_eq (tn_lt p)).trans (tn_div p))) hp hr _ _
      ((off14_eq (tn_lt p)).trans (by rw [tn_mod])) (off15_eq hsl) _ _ (owRecv R c (t.val + 1))) $$ [He Ho HO Ht1 Ht2]
    · isplitr; · iexact HR
      isplitl [He]; · iexact He
      isplitl [Ho]; · iexact Ho
      isplitl [HO]; · iexact HO
      isplitl [Ht1] <;> iassumption
    iintro ⟨HcN, HO, Her⟩
    rw [wp_ret]; imodintro
    rw [R.kept_remote c hp hj hr, R.sent_eq c hp hj hr, bs_insert (R.not_sent c hp hj), Finset.card_insert_of_notMem (R.not_sent c hp hj)]
    isplitr; · iexact HR
    isplitl [H7]; · iexact H7
    isplitl [H8]; · iexact H8
    isplitl [HO]; · iexact HO
    isplitl [Hos]; · iexact Hos
    isplitl [Hes]; · iexact Hes
    isplitl [Hko]; · iexact Hko
    isplitl [Hke]; · iexact Hke
    isplitl [Her Hse]
    · isplitl [Her] <;> iassumption
    isplitl [Hts]; · iexact Hts
    isplitl [Htr]; · iexact Htr
    rw [Nat.succ_mul, ← tallyAt_add]
    iapply (cred_add _ _).2
    isplitl [Hc] <;> iassumption

end Cert.RouteKernelIdeal
-- ==== Proof.Front.lean ====
module

public import proofs.«01_k».proof.Proof.Exchange
public import Idealize.ShloMosaic.Lib.Pipeline.Value

@[expose] public section

set_option maxRecDepth 16384

noncomputable section

namespace Cert.RouteKernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode
open Idealize.SL.Sem
open Idealize.ShloMosaic.Rounds
open Idealize.ShloMosaic.ValueIdx (ix1 ix2 ix3)

variable {F : FTy → Type} [FloatOps F]

local notation "𝕄" => MT nD τ sig Unit (Elt F) ℕ UU ℕ

variable (R : Route) (D : Ins F)

/-! ## Loops at the head of a program -/

section Loops
variable {nD' : ℕ} {τ' : Topo} {sig' : RefSig} {Ix : Type} [DecidableEq Ix] {Val : EltTy → Type} {Name : Type} [DecidableEq Name]
  {U : Type} [URA U] {Lvl : Type} {Λ : Labels} [Preorder Lvl] {defs : Defs nD' τ' sig' Val Λ} (𝒱 : Variants) (c : Thread nD' τ')
  {w : ℕ} {l : Scf.Loop w} {hok : l.OK} {body : Fin l.trips → Unit → Prog (TpuEff nD' τ' sig' Val Λ c.2) Unit}
  {α : Type} {Q : α → sProp (MT nD' τ' sig' Ix Val Name U Lvl)} {kk : Unit → Prog (TpuEff nD' τ' sig' Val Λ c.2) α}

/-- A loop of `n` trips carried by an invariant. -/
theorem for_seq (I : ℕ → sProp (MT nD' τ' sig' Ix Val Name U Lvl)) {n : ℕ} (hn : l.trips = n)
    (hb : ∀ t : Fin l.trips, I t.val ⊢ wp frame (wpE defs 𝒱 c none) Set.univ (body t ⟨⟩) (fun _ => I (t.val + 1))) :
    I 0 ⊢ iprop((I n -∗ wp frame (wpE defs 𝒱 c none) Set.univ (kk ⟨⟩) Q)
      -∗ wp frame (wpE defs 𝒱 c none) Set.univ (Scf.Loop.for l hok ⟨⟩ body >>= kk) Q) := by
  subst hn
  iintro H Hk
  iapply (Scf.wp_for_bind frame (wpE defs 𝒱 c none) Set.univ l.lb l.ub l.st hok ⟨⟩ body (fun t _ => I t) (fun t _ => hb t)) $$ H
  iintro %_ H
  iapply Hk; iexact H

/-- A loop of no trips. -/
theorem for_none (hn : l.trips = 0) :
    wp frame (wpE defs 𝒱 c none) Set.univ (kk ⟨⟩) Q ⊢ wp frame (wpE defs 𝒱 c none) Set.univ (Scf.Loop.for l hok ⟨⟩ body >>= kk) Q :=
  Scf.wp_for0_bind' frame (wpE defs 𝒱 c none) Set.univ l.lb l.ub l.st hok ⟨⟩ body hn kk Q _ (BI.Entails.refl _)

end Loops

/-! ## Up to the gathered rows -/

/-- What the kernel has computed when the products begin. -/
def FrontRes (c : Dev nD) (r : Σ' (d0 : Dev nD) (v2 : BitVec 32) (v3 : Sems sig S_) (v9 : Elt F .i32) (k0_hw3 : k0_chk3 v9) (v10 : Elt F .i32), k0_chk12 v9 v10) : Prop :=
  ∃ v2 h3 h12, r = ⟨c, v2, SemArray.scalar (sig.barrier 0 rfl), wd (R.nMy c), h3, wd (R.nSelf c), h12⟩

def frontPost (K : Dev nD × Fin 3 → ℕ) (c : Dev nD) : sProp 𝕄 :=
  iprop(∃ f7 f8, ⌜Listed (F := F) R c f7 f8⌝ ∗ owing (F := F) c (owRecv R c 0) ∗ tabPts (F := F) c (tab R c)
    ∗ gathI (F := F) R D c f7 f8 (R.nMy c) ∗ (∃ f, cntPts (F := F) c f) ∗ ∃ f, metaPts (F := F) c f)

/-- A store over the whole of the gathered rows. -/
theorem g_whole (c : Dev nD) (f : Buf (Elt F) ((c : Thread nD τ).loc cc0_scratch0)) :
    (Memref.access gM (Rect.unit (s := S32x512) ![0, 0] S32x512.size inb_S32x512_S32x512_0_0)).write (Elt F) f (k0_pay2 (F := F)) Finset.univ = gSt R D c 0 :=
  Memref.write_access_unit_zero_univ (Elt F) cc0_scratch0 (show (![0, 0] : Fin 2 → ℕ) = fun _ => 0 from funext fun a => by fin_cases a <;> rfl) _ f _

theorem front (K : Dev nD × Fin 3 → ℕ) (c : Dev nD) :
    iprop(sigI (F := F) R D K c 0 ∗ tabPts (F := F) c (tab R c) ∗ xPts (F := F) c (D.xs c) ∗ (∃ f, gPts (F := F) c f) ∗ (∃ f, cntPts (F := F) c f)
        ∗ (∃ f, tokPts (F := F) c f) ∗ (∃ f, slotPts (F := F) c f) ∗ ∃ f, metaPts (F := F) c f)
      ⊢ wp frame (wpE (defs₀ (F := F)) 𝒱₀ (c : Thread nD τ) none) Set.univ (k0_part2 tabM (Memref.isWhole_whole _) xM (Memref.isWhole_whole _) wM (Memref.isWhole_whole _) oM (Memref.isWhole_whole _) gM (Memref.isWhole_whole _) eM (Memref.isWhole_whole _) cntM (Memref.isWhole_whole _) tokM (Memref.isWhole_whole _) slotM (Memref.isWhole_whole _) metaM (Memref.isWhole_whole _) sendS recvS)
        (fun r => iprop(⌜FrontRes (F := F) R c r⌝ ∗ frontPost (F := F) R D K c)) := by
  rw [k0_part2_eq_skeleton]
  unfold k0_part2_skel
  simp only [smemLoad, smemLoadElt, Prog.lift, Prog.bind_op, Prog.bind_ret, Prog.pure_eq_ret, Prog.bind_assoc, wp_deviceId]
  iintro ⟨Hsig, Ht, Hx, ⟨%fg, Hg⟩, ⟨%f6, H6⟩, ⟨%f7, H7⟩, ⟨%f8, H8⟩, %f9, H9⟩
  iapply (for_seq 𝒱₀ (c : Thread nD τ) (sigI (F := F) R D K c) trips_t1 (fun t => sig_step R D K c t)) $$ Hsig; iintro Hsig
  ihave Hz : zeroI (F := F) c 0 $$ [H6]
  · unfold zeroI
    iexists f6
    isplitr; · ipureintro; intro y hy; exact absurd hy (Nat.not_lt_zero _)
    iexact H6
  iapply (for_seq 𝒱₀ (c : Thread nD τ) (zeroI (F := F) c) trips_t2 (fun t => zero_step c t)) $$ Hz; iintro Hz
  iapply (loadW 𝒱₀ (c : Thread nD τ) metaM) $$ H9; iintro H9
  iapply (storeC 𝒱₀ (c : Thread nD τ) metaM) $$ H9; iintro %g1 %hg1 H9
  iapply (loadW 𝒱₀ (c : Thread nD τ) metaM) $$ H9; iintro H9
  iapply (storeC 𝒱₀ (c : Thread nD τ) metaM) $$ H9; iintro %g2 %hg2 H9
  ihave Hs : scanI (F := F) R c 0 $$ [Ht Hz H7 H8 H9]
  · unfold zeroI scanI
    icases Hz with ⟨%f6', %hf6, H6⟩
    iexists f6', f7, f8, g2
    isplitr
    · ipureintro
      refine ⟨fun y => ?_, fun y hy => ?_, fun y hy => ?_, fun p y _ h => absurd h (Nat.not_lt_zero _), fun p y _ h => absurd h (Nat.not_lt_zero _)⟩
      · rw [R.cntE_zero]; exact hf6 y (y 0).isLt
      · rw [R.cnt_zero]
        have e2 := hg2 y
        have e1 := hg1 y
        rw [if_pos (by rw [hy]; rfl)] at e1
        rw [if_neg (by rw [hy]; decide)] at e2
        exact e2.trans e1
      · rw [R.slf_zero]
        have e2 := hg2 y
        rw [if_pos (by rw [hy]; rfl)] at e2
        exact e2
    isplitl [Ht]; · iexact Ht
    isplitl [H6]; · iexact H6
    isplitl [H7]; · iexact H7
    isplitl [H8] <;> iassumption
  iapply (for_seq 𝒱₀ (c : Thread nD τ) (scanI (F := F) R c) trips_t3 (fun t => scan_step R c _ (v2_eq c) t)) $$ Hs; iintro Hs
  unfold scanI
  icases Hs with ⟨%s6, %s7, %s8, %s9, %hs, Ht, H6, H7, H8, H9⟩
  have m0 : metaM.view.read (Elt F) s9 (ix1 ⟨0, by decide⟩) = wd (R.nMy c) := hs.mine _ rfl
  have m1 : metaM.view.read (Elt F) s9 (ix1 ⟨1, by decide⟩) = wd (R.nSelf c) := hs.self _ rfl
  have h3 : k0_chk3 (wd (R.nMy c)) := chk3_ok (R.nMy_le c)
  have h12 : k0_chk12 (wd (R.nMy c)) (wd (R.nSelf c)) := k0_chk12_all _ _
  iapply (loadC 𝒱₀ (c : Thread nD τ) metaM (ix1 ⟨0, by decide⟩) m0 rfl) $$ H9; iintro H9
  iapply (wp_assume 𝒱₀ (c : Thread nD τ) none Set.univ h3)
  iapply (loadC 𝒱₀ (c : Thread nD τ) metaM (ix1 ⟨1, by decide⟩) m1 rfl) $$ H9; iintro H9
  iapply (wp_assume 𝒱₀ (c : Thread nD τ) none Set.univ h12)
  iapply (loadW 𝒱₀ (c : Thread nD τ) gM) $$ Hg; iintro Hg
  iapply (storeW 𝒱₀ (c : Thread nD τ) gM) $$ Hg; iintro Hg
  ihave Hga : gathI (F := F) R D c s7 s8 0 $$ [Hx Hg H7 H8]
  · unfold gathI
    isplitl [Hx]; · iexact Hx
    isplitl [Hg]
    · rw [g_whole R D c fg]
      iexact Hg
    isplitl [H7] <;> iassumption
  iapply (for_seq 𝒱₀ (c : Thread nD τ) (gathI (F := F) R D c s7 s8) (trips_t4 (R.nMy_le c)) (fun t => gath_step R D c hs.listed h3 t)) $$ Hga; iintro Hga
  iapply (for_none 𝒱₀ (c : Thread nD τ) (trips_t5 _))
  rw [wp_ret]; imodintro
  isplitr; · ipureintro; exact ⟨_, h3, h12, rfl⟩
  unfold frontPost sigI owBar
  rw [toSig_last]
  icases Hsig with ⟨-, HO, -, -⟩
  iexists s7, s8
  isplitr; · ipureintro; exact hs.listed
  isplitl [HO]; · rw [Finset.sum_empty, add_zero]; iexact HO
  isplitl [Ht]; · iexact Ht
  isplitl [Hga]; · iexact Hga
  isplitl [H6]; · iexists s6; iexact H6
  iexists s9; iexact H9

end Cert.RouteKernelIdeal
-- ==== Proof.Deal.lean ====
module

public import proofs.«01_k».proof.Proof.Front
public import Idealize.ShloMosaic.Lib.Pipeline.Value

@[expose] public section

set_option maxRecDepth 16384

noncomputable section

namespace Cert.RouteKernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode
open Idealize.SL.Sem
open Idealize.ShloMosaic.Rounds
open Idealize.ShloMosaic.ValueIdx (ix1 ix2 ix3)

variable {F : FTy → Type} [FloatOps F]

local notation "𝕄" => MT nD τ sig Unit (Elt F) ℕ UU ℕ

variable (R : Route) (D : Ins F)

/-! ## Sets of tokens -/

theorem bs_union {I : Type} [DecidableEq I] {s t : Finset I} (h : Disjoint s t) {Φ : I → sProp 𝕄} :
    bigSep (s ∪ t) Φ = iprop(bigSep s Φ ∗ bigSep t Φ) := BI.bigSep_union h
theorem bs_erase {I : Type} [DecidableEq I] {s : Finset I} {i : I} (h : i ∈ s) {Φ : I → sProp 𝕄} :
    bigSep s Φ = iprop(Φ i ∗ bigSep (s.erase i) Φ) := BI.bigSep_erase h

theorem bs_biUnion {I J : Type} [DecidableEq I] [DecidableEq J] (T : Finset J) (S : J → Finset I)
    (h : ∀ i ∈ T, ∀ j ∈ T, i ≠ j → Disjoint (S i) (S j)) (Φ : I → sProp 𝕄) :
    bigSep (T.biUnion S) Φ = bigSep T fun j => bigSep (S j) Φ := by
  induction T using Finset.induction_on with
  | empty => rw [Finset.biUnion_empty, BI.bigSep_empty, BI.bigSep_empty]
  | insert j T hj ih =>
    rw [Finset.biUnion_insert, bs_insert hj, bs_union, ih fun a ha b hb => h a (Finset.mem_insert_of_mem ha) b (Finset.mem_insert_of_mem hb)]
    exact (Finset.disjoint_biUnion_right _ _ _).mpr fun k hk =>
      h j (Finset.mem_insert_self _ _) k (Finset.mem_insert_of_mem hk) fun e => hj (e ▸ hk)

/-- A set of tokens dealt by a device each is assigned to. -/
theorem bs_fib (s : Finset Tok) (g : Tok → Dev nD) (Φ : Tok → sProp 𝕄) :
    bigSep s Φ = bigSep Finset.univ fun d => bigSep (s.filter fun p => g p = d) Φ := by
  have hU : s = Finset.univ.biUnion fun d => s.filter fun p => g p = d := by ext p; simp
  conv_lhs => rw [hU]
  refine bs_biUnion _ _ (fun d _ d' _ h => ?_) _
  exact Finset.disjoint_filter.mpr fun p _ h1 h2 => h (h1.symm.trans h2)

/-- The tokens of device `c`'s block, and those whose expert it owns. -/
def blk (c : Dev nD) : Finset Tok := Finset.univ.filter fun p => p.1 = c
def mine (c : Dev nD) : Finset Tok := Finset.univ.filter fun p => R.home p = c

theorem blk_eq (c : Dev nD) : blk c = R.own c ∪ R.ins c := by
  ext p
  unfold blk Route.own Route.ins
  simp only [Finset.mem_filter, Finset.mem_union, Finset.mem_univ, true_and]
  tauto
theorem blk_disj (c : Dev nD) : Disjoint (R.own c) (R.ins c) :=
  Finset.disjoint_filter.mpr fun _ _ h1 h2 => h2.2 h1.1
theorem mine_eq (c : Dev nD) : mine R c = R.own c ∪ R.outs c := by
  ext p
  unfold mine Route.own Route.outs
  simp only [Finset.mem_filter, Finset.mem_union, Finset.mem_univ, true_and]
  tauto
theorem mine_disj (c : Dev nD) : Disjoint (R.own c) (R.outs c) :=
  Finset.disjoint_filter.mpr fun _ _ h1 h2 => h2.2 h1.2

theorem blk_home (c d : Dev nD) : ((blk c).filter fun p => R.home p = d) = rowsFor R c d := by
  unfold blk rowsFor; rw [Finset.filter_filter]
theorem mine_blk (c d : Dev nD) : ((mine R c).filter fun p => p.1 = d) = rowsFor R d c := by
  unfold mine rowsFor; rw [Finset.filter_filter]
  exact Finset.filter_congr fun p _ => And.comm

/-! ## The output block's rows -/

abbrev oAll (c : Dev nD) (f : Buf (Elt F) ((c : Thread nD τ).loc cc0_stg3_0)) : sProp 𝕄 :=
  ((c : Thread nD τ).loc cc0_stg3_0) ↦{fullShare} f

theorem o_rows (c : Dev nD) (f : Buf (Elt F) ((c : Thread nD τ).loc cc0_stg3_0)) :
    oAll (F := F) c f = bigSep (blk c) fun p => oPts (F := F) c p.2.val f := by
  have hU : (Finset.univ : Finset (Idx ((c : Thread nD τ).loc cc0_stg3_0))) = (blk c).biUnion fun p => rowSet (n := 32) (m := 1024) p.2.val := by
    symm
    refine Finset.eq_univ_of_forall fun (y : S32x1024.Idx) => ?_
    exact Finset.mem_biUnion.mpr ⟨(c, y 0), Finset.mem_filter.mpr ⟨Finset.mem_univ _, rfl⟩, (mem_rowSet (n := 32) (m := 1024) y).mpr rfl⟩
  unfold oAll
  rw [hU]
  refine pointsTo_biUnion _ _ fun p hp q hq h => ?_
  refine rowSet_disjoint (n := 32) (m := 1024) fun e => h ?_
  have h1 := (Finset.mem_filter.mp hp).2
  have h2 := (Finset.mem_filter.mp hq).2
  exact Prod.ext (h1.trans h2.symm) (Fin.ext e)

/-- A device's block dealt to the devices that write its rows: its own rows, and for every other device those it hands over. -/
theorem deal_block (c : Dev nD) (f : Buf (Elt F) ((c : Thread nD τ).loc cc0_stg3_0)) :
    oAll (F := F) c f ⊢ iprop(barPay (F := F) R c c ∗ bigSep (Finset.univ.erase c) fun d => barPay (F := F) R d c) := by
  rw [o_rows]
  refine (bigSep_mono (Ψ := oAny (F := F)) fun p hp => ?_).trans ?_
  · have h : p.1 = c := (Finset.mem_filter.mp hp).2
    subst h
    show (oPts (F := F) p.1 p.2.val f : sProp 𝕄) ⊢ oAny (F := F) p
    iintro H
    iexists f; iexact H
  · rw [bs_fib (blk c) R.home, bs_erase (Finset.mem_univ c)]
    simp only [blk_home]
    exact BI.Entails.refl _

/-- The rows a device writes: its own, and those the others handed over. -/
theorem rows_mine (c : Dev nD) :
    iprop(barPay (F := F) R c c ∗ bigSep (Finset.univ.erase c) fun d => barPay (F := F) R c d) ⊢ bigSep (mine R c) (oAny (F := F)) := by
  rw [bs_fib (mine R c) Prod.fst, bs_erase (Finset.mem_univ c)]
  simp only [mine_blk]
  exact BI.Entails.refl _

/-- The finished rows joined back. -/
theorem join_block (c : Dev nD) : iprop(bigSep (R.own c) (oDone R D) ∗ bigSep (R.ins c) (oDone R D)) ⊢ oAll (F := F) c (oFin R D c) := by
  rw [← bs_union (blk_disj R c), ← blk_eq, o_rows]
  refine bigSep_mono fun p hp => ?_
  have h : p.1 = c := (Finset.mem_filter.mp hp).2
  subst h
  exact BI.Entails.refl _

/-! ## The expert results' shares -/

abbrev eKeep (c : Dev nD) : sProp 𝕄 :=
  ((c : Thread nD τ).loc cc0_scratch1) ↦{Transfers.shareDrop fullShare 1024} eFin R D c

theorem range_tok : Finset.range 1024 = Finset.univ.map ⟨tn, fun _ _ => tn_inj⟩ := by
  ext n
  simp only [Finset.mem_range, Finset.mem_map, Finset.mem_univ, true_and, Function.Embedding.coeFn_mk]
  exact ⟨fun h => ⟨tk n h, tn_tk n h⟩, fun ⟨p, hp⟩ => hp ▸ tn_lt p⟩

/-- The results' share dealt to the tokens: those of this device, and the rest. -/
theorem e_deal (c : Dev nD) : eAll (F := F) c (eFin R D c)
    ⊣⊢ iprop(eKeep R D c ∗ bigSep (mine R c) (eTok R D c) ∗ bigSep (Finset.univ \ mine R c) (eTok R D c)) := by
  have h := Transfers.pointsTo_toks_range (nD := nD) (τ := τ) (sig := sig) (Ix := Unit) (Val := Elt F) (Name := ℕ) (U := UU) (Lvl := ℕ)
    (ℓ := (c : Thread nD τ).loc cc0_scratch1) (S := Finset.univ) (f := eFin R D c) fullShare 1024
  rw [range_tok, BI.bigSep_map, bs_split (Finset.subset_univ (mine R c))] at h
  exact h

end Cert.RouteKernelIdeal
-- ==== Proof.Body.lean ====
module

public import proofs.«01_k».proof.Proof.Deal
public import Idealize.ShloMosaic.Lib.Pipeline.Value

@[expose] public section

set_option maxRecDepth 16384

noncomputable section

namespace Cert.RouteKernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode
open Idealize.SL.Sem
open Idealize.ShloMosaic.Rounds
open Idealize.ShloMosaic.ValueIdx (ix1 ix2 ix3)

variable {F : FTy → Type} [FloatOps F]

local notation "𝕄" => MT nD τ sig Unit (Elt F) ℕ UU ℕ

variable (R : Route) (D : Ins F)

theorem bs_sep {I : Type} {s : Finset I} {Φ Ψ : I → sProp 𝕄} :
    bigSep s (fun i => iprop(Φ i ∗ Ψ i)) = iprop(bigSep s Φ ∗ bigSep s Ψ) := BI.bigSep_sep s Φ Ψ

/-! ## The wait loops' ends -/

theorem wait_intro (T : Finset Tok) (K : Dev nD × Fin 3 → ℕ) (k : Fin 3) (c : Dev nD)
    (hT : (sch (F := F) R D).duties (kcell (c, k)) 0 = T) :
    iprop(recs (F := F) R D K ∗ owing (F := F) c 0 ∗ cred (tallyAt (kcell (c, k)) () (T.card * N)) ∗ atPos ER (kcell (c, k)) 0 ∅ 0)
      ⊢ waitI (F := F) R D T K k c 0 := by
  unfold waitI
  iintro ⟨HR, HO, Hc, Hat⟩
  isplitl [HR]; · iexact HR
  isplitl [HO]; · iexact HO
  isplitl [Hc]; · rw [Nat.sub_zero]; iexact Hc
  by_cases h : 0 < T.card
  · rw [if_pos h]
    iexists ∅
    isplitr; · ipureintro; exact Finset.empty_subset _
    isplitl [Hat]; · rw [Nat.zero_mul]; iexact Hat
    rw [BI.bigSep_empty]; iempintro
  · rw [if_neg h]
    have h0 : T = ∅ := Finset.card_eq_zero.mp (by omega)
    iexists 0
    isplitr
    · ipureintro
      intro r' _
      rcases Nat.eq_zero_or_pos r' with rfl | hr
      · rw [hT, h0]
      · exact duties_later R D _ r' hr
    isplitl [Hat]; · iexact Hat
    rw [h0, BI.bigSep_empty]; iempintro

theorem wait_elim (T : Finset Tok) (K : Dev nD × Fin 3 → ℕ) (k : Fin 3) (c : Dev nD) :
    waitI (F := F) R D T K k c T.card
      ⊢ |={Set.univ}=> iprop(owing (F := F) c 0 ∗ semVal (kcell (c, k)) 0 ∗ bigSep T fun p => (sch (F := F) R D).payload (kcell (c, k)) 0 p) := by
  unfold waitI
  rw [if_neg (lt_irrefl _)]
  iintro ⟨#HR, HO, -, %r, %hr, Hat, Hp⟩
  imod (Rounds.cell_close ER (sch (F := F) R D) (Set.mem_univ (K (c, k))) (fun h => h) hr) $$ [Hat] with Hz
  · isplitr; · iapply (recs_inv R D K (c, k)); iexact HR
    iexact Hat
  imodintro
  isplitl [HO]; · iexact HO
  isplitl [Hz] <;> iassumption

/-! ## The barrier's level -/

theorem owRecv_pos {c : Dev nD} {j : ℕ} {g : GSem nD τ sig} {u : Unit} (h : 0 < owRecv R c j g u) : ∃ d : Dev nD, g = recvCell d := by
  by_contra hn
  have h0 : owRecv R c j g u = 0 := by
    unfold owRecv
    rw [Finset.sum_apply, Finsupp.finset_sum_apply]
    refine Finset.sum_eq_zero fun p _ => ?_
    rw [tallyAt_apply]
    exact if_neg fun h' => hn ⟨p.1, h'.1⟩
  omega

theorem owBar_pos {c : Dev nD} {j : ℕ} {g : GSem nD τ sig} {u : Unit} (h : 0 < owBar c j g u) : ∃ d : Dev nD, g = barCell d := by
  by_contra hn
  have h0 : owBar c j g u = 0 := by
    unfold owBar
    rw [Finset.sum_apply, Finsupp.finset_sum_apply]
    refine Finset.sum_eq_zero fun d _ => ?_
    rw [tallyAt_apply]
    exact if_neg fun h' => hn ⟨d, h'.1⟩
  omega

theorem mayWait_bar (c : Dev nD) : (levAts L lv : sProp 𝕄) ⊢ MayWait (c : Thread nD τ) (.reg barS) () (owRecv R c 0) :=
  MayOwe.of_cut (L := L) (lev := lv) 1 (fun p hp => by rw [Finset.mem_singleton.mp hp, L_tc]; exact Finset.mem_singleton_self _)
    (fun g u hg => by obtain ⟨d, rfl⟩ := owRecv_pos R hg; rw [L_tc]; exact Finset.mem_singleton_self _)
    (fun p hp => by rw [Finset.mem_singleton.mp hp]; exact (lv_bar c).le)
    (fun g u hg => by obtain ⟨d, rfl⟩ := owRecv_pos R hg; cases u; rw [lv_recv]; decide)

/-! ## The body -/

theorem owing_eq (c : Dev nD) (O : CellTallies nD τ sig Unit) : owing (F := F) c O = iprop(∃ W, owes (c : Thread nD τ) O W) := rfl

/-- The protocol's ghost state device `c` starts from. -/
def ghost (K : Dev nD × Fin 3 → ℕ) (c : Dev nD) : sProp 𝕄 :=
  iprop(recs (F := F) R D K ∗ (atPos ER (barCell c) 0 ∅ 0 ∗ atPos ER (sendCell c) 0 ∅ 0 ∗ atPos ER (recvCell c) 0 ∅ 0)
    ∗ bigSep (Finset.univ.erase c) (fun d => (dutyTok ER (barCell d) 0 (dEmb c) : sProp 𝕄))
    ∗ bigSep (R.outs c) (fun p => (dutyTok ER (sendCell c) 0 p : sProp 𝕄)) ∗ bigSep (R.outs c) (fun p => (dutyTok ER (recvCell p.1) 0 p : sProp 𝕄)))

/-- The credit it is launched with. -/
def creds (c : Dev nD) : sProp 𝕄 :=
  iprop(cred (tallyAt (barCell c) () 31) ∗ cred (tallyAt (recvCell c) () ((R.ins c).card * N)))

/-- The scratch buffers, whatever they hold. -/
def scr (c : Dev nD) : sProp 𝕄 :=
  iprop((∃ f, gPts (F := F) c f) ∗ (∃ f, eAll (F := F) c f) ∗ (∃ f, cntPts (F := F) c f)
        ∗ (∃ f, tokPts (F := F) c f) ∗ (∃ f, slotPts (F := F) c f) ∗ ∃ f, metaPts (F := F) c f)

def sems0 (c : Dev nD) : sProp 𝕄 := iprop(semVal (barCell c) 0 ∗ semVal (sendCell c) 0 ∗ semVal (recvCell c) 0)

theorem leftR_outs (c : Dev nD) : R.leftR c 0 = R.outs c := R.leftR_zero c
theorem left_mine (c : Dev nD) : R.left c 0 = mine R c := R.left_zero c

/-- The barrier's payloads: the rows the other devices hand over. -/
theorem bar_rows (c : Dev nD) :
    (bigSep ((sch (F := F) R D).duties (barCell c) 0 \ ∅) fun p => (sch (F := F) R D).payload (barCell c) 0 p)
      = bigSep (Finset.univ.erase c) fun d => barPay (F := F) R c d := by
  rw [Finset.sdiff_empty, duties_bar, BI.bigSep_map]
  exact bigSep_congr fun d _ => payload_bar R D c _

theorem wait_body (K : Dev nD × Fin 3 → ℕ) (c : Dev nD) (h12 : k0_chk12 (wd (R.nMy c)) (wd (R.nSelf c))) (t : Fin (k0_t8_loop (wd (R.nSelf c))).trips) :
    waitI (F := F) R D (R.ins c) K 2 c t.val ⊢ wp frame (wpE (defs₀ (F := F)) 𝒱₀ (c : Thread nD τ) none) Set.univ
      (k0_t8_body tabM (Memref.isWhole_whole _) xM (Memref.isWhole_whole _) wM (Memref.isWhole_whole _) oM (Memref.isWhole_whole _) gM (Memref.isWhole_whole _) eM (Memref.isWhole_whole _) cntM (Memref.isWhole_whole _) tokM (Memref.isWhole_whole _) slotM (Memref.isWhole_whole _) metaM (Memref.isWhole_whole _) sendS recvS (wd (R.nMy c)) (wd (R.nSelf c)) h12 t ⟨⟩) (fun _ => waitI (F := F) R D (R.ins c) K 2 c (t.val + 1)) := by
  have ht : t.val < (R.ins c).card := lt_of_lt_of_eq t.isLt ((trips_t8 (R.nSelf_le32 c)).trans (R.card_ins c).symm)
  unfold k0_t8_body
  simp only [Prog.lift, Prog.bind_op, Prog.bind_ret, Prog.pure_eq_ret]
  iintro H
  iapply (wait_step R D (R.ins c) K 2 c ht (duties_recv R D c) ((expect_recv R D c).trans (by rw [R.card_ins]))
    (wpE_waitDma2_eq 𝒱₀ (c : Thread nD τ) none Set.univ)) $$ H
  iintro H
  rw [wp_ret]; imodintro
  iexact H

theorem drain_body (K : Dev nD × Fin 3 → ℕ) (c : Dev nD) (h12 : k0_chk12 (wd (R.nMy c)) (wd (R.nSelf c)))
    (t : Fin (k0_t10_loop (wd (R.nMy c)) (wd (R.nSelf c))).trips) :
    waitI (F := F) R D (R.outs c) K 1 c t.val ⊢ wp frame (wpE (defs₀ (F := F)) 𝒱₀ (c : Thread nD τ) none) Set.univ
      (k0_t10_body tabM (Memref.isWhole_whole _) xM (Memref.isWhole_whole _) wM (Memref.isWhole_whole _) oM (Memref.isWhole_whole _) gM (Memref.isWhole_whole _) eM (Memref.isWhole_whole _) cntM (Memref.isWhole_whole _) tokM (Memref.isWhole_whole _) slotM (Memref.isWhole_whole _) metaM (Memref.isWhole_whole _) sendS recvS (wd (R.nMy c)) (wd (R.nSelf c)) h12 t ⟨⟩) (fun _ => waitI (F := F) R D (R.outs c) K 1 c (t.val + 1)) := by
  have ht : t.val < (R.outs c).card :=
    lt_of_lt_of_eq t.isLt ((trips_t10 (R.nMy_le c) (R.nSelf_le c)).trans (R.card_outs c).symm)
  unfold k0_t10_body
  simp only [Prog.lift, Prog.bind_op, Prog.bind_ret, Prog.pure_eq_ret]
  iintro H
  iapply (wait_step R D (R.outs c) K 1 c ht (duties_send R D c) ((expect_send R D c).trans (by rw [R.card_outs]))
    (fun Q => (wpE_waitDma2_eq 𝒱₀ (c : Thread nD τ) none Set.univ Q).trans
      (congrArg (fun n => waitSpec (c : Thread nD τ) Set.univ (csem 1) n Q) credit_send))) $$ H
  iintro H
  rw [wp_ret]; imodintro
  iexact H

/-- A sent token's share whole again. -/
theorem e_back (c : Dev nD) :
    iprop((bigSep (R.outs c) fun p => (sch (F := F) R D).payload (sendCell c) 0 p) ∗ bigSep (R.outs c) (eRest R D c)) ⊢ bigSep (R.outs c) (eTok R D c) := by
  rw [← bs_sep]
  refine bigSep_mono fun p _ => ?_
  show iprop((sch (F := F) R D).payload (sendCell c) 0 p ∗ eRest R D c p) ⊢ eTok R D c p
  rw [payload_send]
  exact (eTok_split R D c p).2

theorem body (K : Dev nD × Fin 3 → ℕ) (c : Dev nD) :
    iprop(ghost (F := F) R D K c ∗ creds (F := F) R c ∗ levAts L lv ∗ owing (F := F) c (O₀ R c)
        ∗ tabPts (F := F) c (tab R c) ∗ xPts (F := F) c (D.xs c) ∗ wPts (F := F) c (D.ws c) ∗ (∃ f, oAll (F := F) c f) ∗ scr (F := F) c)
      ⊢ wp frame (wpE (defs₀ (F := F)) 𝒱₀ (c : Thread nD τ) none) Set.univ (cc0_body tabM (Memref.isWhole_whole _) xM (Memref.isWhole_whole _) wM (Memref.isWhole_whole _) oM (Memref.isWhole_whole _) gM (Memref.isWhole_whole _) eM (Memref.isWhole_whole _) cntM (Memref.isWhole_whole _) tokM (Memref.isWhole_whole _) slotM (Memref.isWhole_whole _) metaM (Memref.isWhole_whole _) sendS recvS)
        (fun _ => iprop(owing (F := F) c 0 ∗ sems0 (F := F) c ∗ tabPts (F := F) c (tab R c) ∗ xPts (F := F) c (D.xs c) ∗ wPts (F := F) c (D.ws c)
          ∗ oAll (F := F) c (oFin R D c) ∗ scr (F := F) c)) := by
  rw [cc0_body_eq_skeleton]
  unfold cc0_body_skel ghost creds scr O₀
  rw [wp_bind]
  iintro ⟨⟨#HR, ⟨HaB, HaS, HaV⟩, HtB, HtS, HtV⟩, ⟨HcB, HcV⟩, #Hlev, HO, Ht, Hx, Hw, ⟨%fo, Ho⟩, Hg, He, H6, H7, H8, H9⟩
  ihave Hrows := (deal_block R c fo) $$ Ho
  icases Hrows with ⟨Hown, Hrows⟩
  iapply (wp_wand frame (wpE (defs₀ (F := F)) 𝒱₀ (c : Thread nD τ) none) Set.univ) $$ [HO HtB Hrows Ht Hx Hg H6 H7 H8 H9]
  · iapply (front R D K c)
    isplitl [HO HtB Hrows]
    · unfold sigI
      rw [toSig_zero]
      isplitr; · iexact HR
      isplitl [HO]; · iexact HO
      isplitl [HtB] <;> iassumption
    isplitl [Ht]; · iexact Ht
    isplitl [Hx]; · iexact Hx
    isplitl [Hg]; · iexact Hg
    isplitl [H6]; · iexact H6
    isplitl [H7]; · iexact H7
    isplitl [H8] <;> iassumption
  iintro %r ⟨%hr, Hf⟩
  obtain ⟨v2, h3, h12, rfl⟩ := hr
  dsimp only
  rw [wp_bind]
  unfold frontPost gathI
  icases Hf with ⟨%f7, %f8, %hl, HO, Ht, ⟨Hx, Hg, H7, H8⟩, H6, H9⟩
  iapply (wp_wand frame (wpE (defs₀ (F := F)) 𝒱₀ (c : Thread nD τ) none) Set.univ) $$ [Hw Hg He]
  · iapply (compute R D c)
    isplitl [Hw]; · iexact Hw
    isplitl [Hg] <;> iassumption
  iintro %r ⟨Hw, Hg, %fe, %he, He⟩
  simp only [semWaitWord, Prog.lift, Prog.bind_op, Prog.bind_ret, Prog.pure_eq_ret, Prog.bind_assoc]
  iapply (storeW 𝒱₀ (c : Thread nD τ) eM) $$ He; iintro He
  ihave He' : eAll (F := F) c (eFin R D c) $$ [He]
  · have hfin : (Memref.access eM (Rect.unit (s := S32x1024) ![24, 0] S8x1024.size inb_S32x1024_S8x1024_24_0)).write (Elt F) fe (k0_pay1 (F := F) r.1) Finset.univ
        = eFin R D c := by
      rw [e_block c 3 _ rfl, he.1]
      funext y
      by_cases h : (y 0).val / 8 = 3
      · exact (if_pos h).trans (eFin_eq R D c y 3 (by decide) h).symm
      · exact (if_neg h).trans (he.2 y h)
    rw [← hfin]; iexact He
  ihave Hsh := (e_deal R D c).1 $$ He'
  icases Hsh with ⟨Hkeep, Hmine, Hothers⟩
  unfold owing
  icases HO with ⟨%W, HO⟩
  iapply (Rounds.wp_wait_rest_token 𝒱₀ ER (sch (F := F) R D) (c : Thread nD τ) none (κ := K (c, 0))
      (wpE_semWait_eq 𝒱₀ (c : Thread nD τ) none Set.univ) (Set.mem_univ _) () (O := owRecv R c 0) (W := W) (R := 0) (m := 0) (T := ∅)
      (by rw [expect_bar]; decide)) $$ [HcB HO HaB]
  · isplitr; · iapply (recs_inv R D K (c, 0)); iexact HR
    isplitl [HcB]; · iexact HcB
    isplitl [HO]; · iexact HO
    isplitr; · iapply (mayWait_bar R c); iexact Hlev
    iexact HaB
  iintro ⟨HO, HaB, -, Hpay⟩
  ihave Hp := (Entails.of_eq (bar_rows R D c)) $$ Hpay
  ihave Hrows := (rows_mine R c) $$ [Hown Hp]
  · isplitl [Hown] <;> iassumption
  ihave Hex : exI (F := F) R D K c f7 f8 0 $$ [HO H7 H8 Hrows Hmine HtS HtV]
  · unfold exI owing
    rw [left_mine, leftR_outs, R.kept_zero, R.sent_zero, BI.bigSep_empty, BI.bigSep_empty, BI.bigSep_empty, Finset.card_empty, Nat.zero_mul, tallyAt_zero, cred_zero]
    isplitr; · iexact HR
    isplitl [H7]; · iexact H7
    isplitl [H8]; · iexact H8
    isplitl [HO]; · iexists _; iexact HO
    isplitl [Hrows]; · iexact Hrows
    isplitl [Hmine]; · iexact Hmine
    isplitr; · iempintro
    isplitr; · iempintro
    isplitr; · iempintro
    isplitl [HtS]; · iexact HtS
    isplitl [HtV]; · iexact HtV
    iempintro
  iapply (for_seq 𝒱₀ (c : Thread nD τ) (exI (F := F) R D K c f7 f8) (trips_t6 (R.nMy_le c)) (fun t => ex_step R D K c hl h3 t)) $$ Hex; iintro Hex
  iapply (for_none 𝒱₀ (c : Thread nD τ) (trips_t7 _))
  unfold exI owRecv
  rw [R.left_last, R.leftR_last, R.kept_last, R.sent_last, Finset.sum_empty]
  icases Hex with ⟨-, H7, H8, HO, -, -, Hko, Hke, Hse, -, -, HcS⟩
  ihave Hwt := (wait_intro R D (R.ins c) K 2 c (duties_recv R D c)) $$ [HO HcV HaV]
  · isplitr; · iexact HR
    isplitl [HO]; · iexact HO
    isplitl [HcV] <;> iassumption
  iapply (for_seq 𝒱₀ (c : Thread nD τ) (waitI (F := F) R D (R.ins c) K 2 c) ((trips_t8 (R.nSelf_le32 c)).trans (R.card_ins c).symm)
    (fun t => wait_body R D K c h12 t)) $$ Hwt; iintro Hwt
  iapply (for_none 𝒱₀ (c : Thread nD τ) (trips_t9 _))
  imod (wait_elim R D (R.ins c) K 2 c) $$ Hwt with ⟨HO, HzV, Hin⟩
  ihave Hwt := (wait_intro R D (R.outs c) K 1 c (duties_send R D c)) $$ [HO HcS HaS]
  · isplitr; · iexact HR
    isplitl [HO]; · iexact HO
    isplitl [HcS] <;> iassumption
  iapply (for_seq 𝒱₀ (c : Thread nD τ) (waitI (F := F) R D (R.outs c) K 1 c) ((trips_t10 (R.nMy_le c) (R.nSelf_le c)).trans (R.card_outs c).symm)
    (fun t => drain_body R D K c h12 t)) $$ Hwt; iintro Hwt
  iapply (for_none 𝒱₀ (c : Thread nD τ) (trips_t11 _ _))
  imod (wait_elim R D (R.outs c) K 1 c) $$ Hwt with ⟨HO, HzS, Hout⟩
  imod (Rounds.cell_close ER (sch (F := F) R D) (Set.mem_univ (K (c, 0))) (fun h => h) (fun r' hr' => duties_later R D _ r' hr')) $$ [HaB] with HzB
  · isplitr; · iapply (recs_inv R D K (c, 0)); iexact HR
    iexact HaB
  rw [wp_ret]; imodintro
  isplitl [HO]; · iapply (Entails.of_eq (owing_eq c 0)); iexact HO
  isplitl [HzB HzS HzV]
  · unfold sems0
    isplitl [HzB]; · iexact HzB
    isplitl [HzS] <;> iassumption
  isplitl [Ht]; · iexact Ht
  isplitl [Hx]; · iexact Hx
  isplitl [Hw]; · iexact Hw
  isplitl [Hko Hin]
  · iapply (join_block R D c)
    isplitl [Hko]; · iexact Hko
    iapply (Entails.of_eq (bigSep_congr fun p _ => payload_recv R D c p)); iexact Hin
  isplitl [Hg]; · iexists _; iexact Hg
  isplitl [Hkeep Hothers Hke Hse Hout]
  · iexists (eFin R D c)
    iapply (e_deal R D c).2
    isplitl [Hkeep]; · iexact Hkeep
    isplitl [Hke Hse Hout]
    · rw [mine_eq, bs_union (mine_disj R c)]
      isplitl [Hke]; · iexact Hke
      iapply (e_back R D c)
      isplitl [Hout]; · iexact Hout
      iexact Hse
    iexact Hothers
  isplitl [H6]; · iexact H6
  isplitl [H7]; · iexists f7; iexact H7
  isplitl [H8]; · iexists f8; iexact H8
  iexact H9

end Cert.RouteKernelIdeal
-- ==== Proof.Duty.lean ====
module

public import proofs.«01_k».proof.Proof.Body
public import proofs.«01_k».proof.Proof.Gen.KernelIdeal.Launch
public import proofs.«01_k».proof.Proof.Gen.KernelIdeal.Frame
public import Idealize.ShloMosaic.Lib.Pipeline.Launch
public import Idealize.ShloMosaic.Lib.Pipeline.Kit
public import Idealize.ShloMosaic.Lib.Pipeline.Value

@[expose] public section

set_option maxRecDepth 16384

noncomputable section

namespace Cert.RouteKernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode
open Idealize.SL.Sem
open Idealize.ShloMosaic.Rounds
open Idealize.ShloMosaic.Pipeline (Dat Cfg Window BodyObligation cellOf)
open Idealize.ShloMosaic.ValueIdx (ix1 ix2 ix3)

variable {F : FTy → Type} [FloatOps F]

local notation "𝕄" => MT nD τ sig Unit (Elt F) ℕ UU ℕ

/-! ## What the pipeline stages -/

variable (m : (ℓ : Loc nD τ sig) → Buf (Elt F) ℓ) (ρ : Dev nD → PrngReg) (R : Route)

/-- The tokens and the weights as each device stages them. -/
def ins : Ins F where
  xs c := iblk m c 1 t0_0
  ws c := iblk m c 2 t0_0

theorem fin_N (t : Fin cfg0.N) : t = t0_0 := fin_N0 t

/-- What the body starts from, besides the windows. -/
def start (c : Dev nD) : sProp 𝕄 :=
  iprop((∃ K, ghost (F := F) R (ins m) K c) ∗ creds (F := F) R c ∗ levAts L lv)

def Φ₀ (c : Dev nD) : sProp 𝕄 := iprop(start m R c ∗ scr (F := F) c)
/-- What it ends with. -/
def Φ₁ (c : Dev nD) : sProp 𝕄 := iprop(sems0 (F := F) c ∗ scr (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => tab R c
    | ⟨1, _⟩ => (ins m).xs c
    | ⟨2, _⟩ => (ins m).ws c
    | ⟨3, _⟩ => oFin R (ins m) c
  Φ t := match t with
    | ⟨0, _⟩ => Φ₀ m R c
    | ⟨_ + 1, _⟩ => Φ₁ c
  q _ := fullShare
  owed t := match t with
    | ⟨0, _⟩ => O₀ R c
    | ⟨_ + 1, _⟩ => 0

theorem owns_buf (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev held (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m R c ∗ (dats m ρ R 0 c).owesAt () t0_0.castSucc
    ∗ (∃ d, held c cc0_stg0_0 ((dats m ρ R 0 c).before (0 : Fin 4) t0_0 d))
    ∗ (∃ d, held c cc0_stg1_0 ((dats m ρ R 0 c).before (1 : Fin 4) t0_0 d))
    ∗ (∃ d, held c cc0_stg2_0 ((dats m ρ R 0 c).before (2 : Fin 4) t0_0 d))
    ∗ (∃ d, held c cc0_stg3_0 ((dats m ρ R 0 c).before (3 : Fin 4) t0_0 d)))

def bodyPost (c : Dev nD) : sProp 𝕄 :=
  iprop(Φ₁ (F := F) c ∗ (dats m ρ R 0 c).owesAt () t0_0.succ ∗ held c cc0_stg0_0 (tab R c) ∗ held c cc0_stg1_0 ((ins m).xs c)
    ∗ held c cc0_stg2_0 ((ins m).ws c) ∗ held c cc0_stg3_0 (oFin R (ins m) c))

theorem tabPts_eq (c : Dev nD) (f : Buf (Elt F) ((c : Thread nD τ).loc cc0_stg0_0)) :
    tabPts (F := F) c f = (((c : Thread nD τ).loc cc0_stg0_0) ↦{fullShare} f) := rfl

theorem obligation (hT : ∀ c, (iblk m c 0 t0_0 : (cc0_stg0_0 : Ref sig .tc).ty.Contents (Elt F)) = tab R c) (c : Dev nD) :
    BodyObligation (dats (F := F) m ρ R 0 c) (defs₀ (F := F)) 𝒱₀ () Set.univ := fun t => by
  rw [fin_N t, bigSep_W0, bigSep_W0]
  simp only [owns_buf]
  show bodyPre m ρ R c ⊢ wp frame (wpE (defs₀ (F := F)) 𝒱₀ (c : Thread nD τ) none) Set.univ (cc0_body tabM (Memref.isWhole_whole _) xM (Memref.isWhole_whole _) wM (Memref.isWhole_whole _) oM (Memref.isWhole_whole _) gM (Memref.isWhole_whole _) eM (Memref.isWhole_whole _) cntM (Memref.isWhole_whole _) tokM (Memref.isWhole_whole _) slotM (Memref.isWhole_whole _) metaM (Memref.isWhole_whole _) sendS recvS) (fun _ => bodyPost m ρ R c)
  unfold bodyPre Φ₀ start Dat.owesAt Pipeline.owesWithin
  rw [show (dats m ρ R 0 c).owed t0_0.castSucc = O₀ R c from rfl]
  iintro ⟨⟨⟨⟨%K, Hg⟩, Hc, Hlev⟩, Hscr⟩, ⟨%W, %hW, HO⟩, ⟨%d0, %g0, %hg0, Ht⟩, ⟨%d1, %g1, %hg1, Hx⟩, ⟨%d2, %g2, %hg2, Hw⟩, ⟨%d3, %g3, %hg3, Ho⟩⟩
  have h0 : g0 = tab R c := by rw [hg0, ← hT c]; unfold Dat.before; rw [if_pos (fetch0_0 t0_0)]; rfl
  have h1 : g1 = (ins m).xs c := by rw [hg1]; unfold Dat.before; rw [if_pos (fetch0_1 t0_0)]; rfl
  have h2 : g2 = (ins m).ws c := by rw [hg2]; unfold Dat.before; rw [if_pos (fetch0_2 t0_0)]; rfl
  clear hg0 hg1 hg2 hg3
  subst h0 h1 h2
  iapply (wp_wand frame (wpE (defs₀ (F := F)) 𝒱₀ (c : Thread nD τ) none) Set.univ) $$ [Hg Hc Hlev HO Ht Hx Hw Ho Hscr]
  · iapply (body R (ins m) K c)
    isplitl [Hg]; · iexact Hg
    isplitl [Hc]; · iexact Hc
    isplitl [Hlev]; · iexact Hlev
    isplitl [HO]; · iapply (Entails.of_eq (owing_eq c _).symm); iexists W; iexact HO
    isplitl [Ht]; · iexact Ht
    isplitl [Hx]; · iexact Hx
    isplitl [Hw]; · iexact Hw
    isplitl [Ho]; · iexists g3; iexact Ho
    iexact Hscr
  iintro %_ ⟨HO, Hz, Ht, Hx, Hw, Ho, Hscr⟩
  ihave HO' := (Entails.of_eq (owing_eq c _)) $$ HO
  icases HO' with ⟨%W', HO⟩
  unfold bodyPost Φ₁ Dat.owesAt Pipeline.owesWithin
  rw [show (dats m ρ R 0 c).owed t0_0.succ = 0 from rfl]
  isplitl [Hz Hscr]
  · isplitl [Hz] <;> iassumption
  isplitl [HO]
  · iexists W'
    isplitr; · ipureintro; exact fun _ _ => Or.inl trivial
    iexact HO
  isplitl [Ht]
  · iexists _; isplitr; · (ipureintro; rfl)
    iexact Ht
  isplitl [Hx]
  · iexists _; isplitr; · (ipureintro; rfl)
    iexact Hx
  isplitl [Hw]
  · iexists _; isplitr; · (ipureintro; rfl)
    iexact Hw
  iexists _; isplitr; · (ipureintro; rfl)
  iexact Ho

end Cert.RouteKernelIdeal
-- ==== Proof.Launch.lean ====
module

public import proofs.«01_k».proof.Proof.Duty
public import proofs.«01_k».proof.Proof.Gen.KernelIdeal.Launch
public import proofs.«01_k».proof.Proof.Gen.KernelIdeal.Frame
public import Idealize.ShloMosaic.Lib.Pipeline.Launch
public import Idealize.ShloMosaic.Lib.Pipeline.CollectiveSegs
public import Idealize.ShloMosaic.Lib.Pipeline.Kit
public import Idealize.ShloMosaic.Lib.Pipeline.Value

@[expose] public section

set_option maxRecDepth 16384

noncomputable section

namespace Cert.RouteKernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode
open Idealize.SL.Sem
open Idealize.ShloMosaic.Rounds
open Idealize.ShloMosaic.Pipeline (Dat Cfg Window BodyObligation cellOf)
open Idealize.ShloMosaic.ValueIdx (ix1 ix2 ix3)

variable {F : FTy → Type} [FloatOps F]

local notation "𝕄" => MT nD τ sig Unit (Elt F) ℕ UU ℕ

variable (m : (ℓ : Loc nD τ sig) → Buf (Elt F) ℓ) (ρ : Dev nD → PrngReg) (R : Route)

/-! ## The ghost state minted at the launch -/

theorem ownSemFacts : Pipeline.OwnSemFacts cfg0.spec osem := by decide

theorem share_eq (c : Dev nD) (w : Fin cfg0.W) : (dats m ρ R 0 c).share w = fullShare := by unfold Dat.share; split <;> rfl

theorem csem_inj : Function.Injective csem := by
  intro k k' h
  fin_cases k <;> fin_cases k' <;> first | rfl | exact absurd h (by decide)

theorem kcell_inj : Function.Injective (kcell : Dev nD × Fin 3 → GSem nD τ sig) := by
  rintro ⟨c, k⟩ ⟨c', k'⟩ h
  have h1 : c = c' := congrArg (fun g : GSem nD τ sig => g.1.1) h
  have h2 : k = k' := csem_inj (congrArg Prod.snd h)
  rw [h1, h2]

/-- Every cell of the protocol; every token any of them may be paid with. -/
def mCells : Finset (GSem nD τ sig) := Finset.univ.map ⟨kcell, kcell_inj⟩
def mTok : (Dev nD × Fin 3) × Tok ↪ GSem nD τ sig × ℕ × Tok :=
  ⟨fun x => (kcell x.1, 0, x.2), fun x y h => Prod.ext (kcell_inj (congrArg Prod.fst h)) (congrArg (fun z => z.2.2) h)⟩
def mToks : Finset (GSem nD τ sig × ℕ × Tok) := Finset.univ.map mTok

def u₀ : UU :=
  (initOf (Pipeline.cells cfgs cellOf_inj) (Pipeline.launchToks cfgs cellOf_inj), initOf mCells mToks)

/-- The tokens of one device's three cells. -/
def toks (c : Dev nD) : sProp 𝕄 :=
  bigSep Finset.univ fun k : Fin 3 => bigSep Finset.univ fun p : Tok => dutyTok ER (kcell (c, k)) 0 p

def seats (c : Dev nD) : sProp 𝕄 :=
  bigSep Finset.univ fun k : Fin 3 => iprop(atPos ER (kcell (c, k)) 0 ∅ 0 ∗ reached ER (kcell (c, k)) 0)

/-- What the launch hands device `c` of the protocol. -/
def G (c : Dev nD) : sProp 𝕄 :=
  iprop((bigSep Finset.univ fun k : Fin 3 => roundState ER (sch (F := F) R (ins m)) (kcell (c, k)) 0) ∗ seats (F := F) c ∗ toks (F := F) c)
def G' (c : Dev nD) : sProp 𝕄 := iprop(∃ K, ghost (F := F) R (ins m) K c)

theorem bs_prod {I J : Type} [Fintype I] [Fintype J] [DecidableEq I] [DecidableEq J] (Φ : I × J → sProp 𝕄) :
    bigSep Finset.univ Φ = bigSep Finset.univ fun i => bigSep Finset.univ fun j => Φ (i, j) := bigSep_univ_prod Φ

theorem bs_comm {I J : Type} [Fintype I] [Fintype J] [DecidableEq I] [DecidableEq J] (Φ : I → J → sProp 𝕄) :
    (bigSep Finset.univ fun i => bigSep Finset.univ fun j => Φ i j) = bigSep Finset.univ fun j => bigSep Finset.univ fun i => Φ i j := by
  rw [← bs_prod (fun x : I × J => Φ x.1 x.2), ← bs_prod (fun x : J × I => Φ x.2 x.1),
    bigSep_univ_equiv (Equiv.prodComm J I) (fun x : I × J => Φ x.1 x.2)]
  rfl

theorem bs_three (Φ : Fin 3 → sProp 𝕄) : bigSep Finset.univ Φ = iprop(Φ 0 ∗ Φ 1 ∗ Φ 2) :=
  bigSep_univ_eq_bigSepL [0, 1, 2] (by decide) (by decide) Φ

theorem fund : BI.own (ER (initOf mCells mToks)) ⊢ (|==> bigSep Finset.univ (G (F := F) m R) : sProp 𝕄) := by
  have hX (Φ : GSem nD τ sig → sProp 𝕄) : bigSep mCells Φ = bigSep Finset.univ fun c : Dev nD => bigSep Finset.univ fun k : Fin 3 => Φ (kcell (c, k)) := by
    unfold mCells; rw [bigSep_map, bs_prod]; rfl
  have hT : bigSep mToks (fun x => (dutyTok ER x.1 x.2.1 x.2.2 : sProp 𝕄)) = bigSep Finset.univ fun c : Dev nD => toks (F := F) c := by
    unfold mToks; rw [bigSep_map, bs_prod, bs_prod]; rfl
  iintro HX
  imod (Rounds.fund ER (sch (F := F) R (ins m)) mCells mToks) $$ HX with ⟨Hst, Hr, Hat, Htok⟩
  imodintro
  ihave Hst' := (Entails.of_eq (hX fun g => roundState ER (sch (F := F) R (ins m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G seats
  simp only [bs_sep]
  isplitl [Hst']; · iexact Hst'
  isplitl [Hat' Hr']
  · isplitl [Hat'] <;> iassumption
  iexact Htok'

theorem ownSems_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
theorem barSem_eq (c : Dev nD) : (unscopedSems0 c : sProp 𝕄) = semVal (barCell c) 0 := by
  unfold unscopedSems0; rw [bigSep_eq_bigSepL_of_eq [SemLoc.reg barS] (by decide) (by decide)]; rfl

/-- One device's cells become invariants. -/
theorem alloc (c : Dev nD) :
    iprop(Pipeline.ownSems0 (Ix := Unit) (Name := ℕ) (U := UU) (Lvl := ℕ) (Val := Elt F) (τ := τ) osem c ∗ unscopedSems0 c ∗ G m R c)
      ⊢ |={Set.univ}=> iprop((bigSep Finset.univ fun k => iprop(∃ κ : ℕ, cellInv ER (sch (F := F) R (ins m)) κ (kcell (c, k)))) ∗ seats (F := F) c ∗ toks (F := F) c) := by
  rw [ownSems_eq, barSem_eq]
  unfold G
  iintro ⟨⟨HS, HV⟩, HB, Hst, Hrest⟩
  imod (show iprop((bigSep Finset.univ fun k : Fin 3 => semVal (kcell (c, k)) 0) ∗ bigSep Finset.univ fun k : Fin 3 => roundState ER (sch (F := F) R (ins m)) (kcell (c, k)) 0)
      ⊢ (|={Set.univ}=> bigSep Finset.univ fun k => iprop(∃ κ : ℕ, cellInv ER (sch (F := F) R (ins m)) κ (kcell (c, k))) : sProp 𝕄) from by
        rw [← bs_sep]
        exact (bigSep_mono fun k _ => (Rounds.body_intro ER (sch (F := F) R (ins m)) (kcell (c, k))).trans inv_alloc).trans (bigSep_fupd _ _)) $$ [HS HV HB Hst] with Hinv
  · isplitr [Hst]
    · rw [bs_three]
      isplitl [HB]; · iexact HB
      isplitl [HS] <;> iassumption
    iexact Hst
  imodintro
  isplitl [Hinv]; · iexact Hinv
  iexact Hrest

/-- The tokens device `c` pays with. -/
def pays (c : Dev nD) : sProp 𝕄 :=
  iprop(bigSep (Finset.univ.erase c) (fun d => (dutyTok ER (barCell d) 0 (dEmb c) : sProp 𝕄))
    ∗ bigSep (R.outs c) (fun p => (dutyTok ER (sendCell c) 0 p : sProp 𝕄)) ∗ bigSep (R.outs c) (fun p => (dutyTok ER (recvCell p.1) 0 p : sProp 𝕄)))

theorem bar_deal : (bigSep Finset.univ fun c : Dev nD => bigSep Finset.univ fun p : Tok => (dutyTok ER (barCell c) 0 p : sProp 𝕄))
    ⊢ bigSep Finset.univ fun c : Dev nD => bigSep (Finset.univ.erase c) fun d => (dutyTok ER (barCell d) 0 (dEmb c) : sProp 𝕄) := by
  refine (bigSep_mono (Ψ := fun c : Dev nD => bigSep Finset.univ fun d : Dev nD => (dutyTok ER (barCell c) 0 (dEmb d) : sProp 𝕄)) fun c _ => ?_).trans ?_
  · rw [← BI.bigSep_map (e := dEmb) (Φ := fun p => (dutyTok ER (barCell c) 0 p : sProp 𝕄))]
    exact BI.bigSep_subset (Finset.subset_univ _)
  · rw [bs_comm]
    exact bigSep_mono fun c _ => BI.bigSep_subset (Finset.subset_univ _)

theorem send_deal : (bigSep Finset.univ fun c : Dev nD => bigSep Finset.univ fun p : Tok => (dutyTok ER (sendCell c) 0 p : sProp 𝕄))
    ⊢ bigSep Finset.univ fun c : Dev nD => bigSep (R.outs c) fun p => (dutyTok ER (sendCell c) 0 p : sProp 𝕄) :=
  bigSep_mono fun c _ => BI.bigSep_subset (Finset.subset_univ _)

theorem recv_deal : (bigSep Finset.univ fun c : Dev nD => bigSep Finset.univ fun p : Tok => (dutyTok ER (recvCell c) 0 p : sProp 𝕄))
    ⊢ bigSep Finset.univ fun c : Dev nD => bigSep (R.outs c) fun p => (dutyTok ER (recvCell p.1) 0 p : sProp 𝕄) := by
  rw [bs_comm]
  refine (bigSep_mono (Ψ := fun p : Tok => (dutyTok ER (recvCell p.1) 0 p : sProp 𝕄)) fun p _ => bigSep_elim (Finset.mem_univ p.1)).trans ?_
  rw [bs_fib Finset.univ R.home]
  refine bigSep_mono fun c _ => BI.bigSep_subset fun p hp => ?_
  unfold Route.outs at hp
  rw [Finset.mem_filter] at hp ⊢
  exact ⟨hp.1, hp.2.1⟩

theorem deal : (bigSep Finset.univ fun c : Dev nD => toks (F := F) c) ⊢ bigSep Finset.univ (pays (F := F) R) := by
  unfold toks pays
  simp only [bs_three, bs_sep]
  iintro ⟨H0, H1, H2⟩
  isplitl [H0]; · iapply bar_deal; iexact H0
  isplitl [H1]; · iapply (send_deal R); iexact H1
  iapply (recv_deal R); iexact H2

theorem bs_pers {I : Type} [DecidableEq I] {S : Finset I} {P : sProp 𝕄} [BI.Persistent P] {Φ Ψ : I → sProp 𝕄}
    (h : ∀ i ∈ S, iprop(P ∗ Φ i) ⊢ Ψ i) : iprop(P ∗ bigSep S Φ) ⊢ bigSep S Ψ :=
  (sep_mono_left (BI.bigSep_of_persistent S P)).trans (by rw [← bs_sep]; exact bigSep_mono h)

theorem ghost_intro (K : Dev nD × Fin 3 → ℕ) (c : Dev nD) :
    iprop(recs (F := F) R (ins m) K ∗ (bigSep Finset.univ fun k : Fin 3 => (atPos ER (kcell (c, k)) 0 ∅ 0 : sProp 𝕄)) ∗ pays (F := F) R c) ⊢ G' m R c := by
  unfold G' ghost pays
  rw [bs_three]
  iintro ⟨HR, Hat, Hp⟩
  iexists K
  isplitl [HR]; · iexact HR
  isplitl [Hat] <;> iassumption

theorem regroup :
    (bigSep Finset.univ fun c : Dev nD => iprop((bigSep Finset.univ fun k => iprop(∃ κ : ℕ, cellInv ER (sch (F := F) R (ins m)) κ (kcell (c, k)))) ∗ seats (F := F) c ∗ toks (F := F) c))
      ⊢ bigSep Finset.univ (G' (F := F) m R) := by
  unfold seats
  simp only [bs_sep]
  rw [← bs_prod (fun ck : Dev nD × Fin 3 => iprop(∃ κ : ℕ, cellInv ER (sch (F := F) R (ins m)) κ (kcell ck))),
    ← bs_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (sch (F := F) R (ins m)) κ (kcell ck) : sProp 𝕄))) $$ HI
  icases HK with ⟨%K, #HI⟩
  ihave Htk := (deal R) $$ Htok
  iapply (bs_pers (P := recs (F := F) R (ins m) K) fun c _ => ghost_intro m R K c)
  isplitr
  · unfold recs; isplitl; · iexact HI
    iexact HR
  · rw [bs_sep]
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m R c) : sProp 𝕄)
    ⊢ |={Set.univ}=> bigSep Finset.univ (G' m R) :=
  ((bigSep_mono fun c _ => alloc m R c).trans (bigSep_fupd _ _)).trans (BI.fupd_mono (regroup m R))

/-! ## The launch credit -/

theorem bar_iff {a b : Dev nD} : barCell a = barCell b ↔ a = b :=
  ⟨fun h => congrArg (fun g : GSem nD τ sig => g.1.1) h, fun h => h ▸ rfl⟩
theorem recv_iff {a b : Dev nD} : recvCell a = recvCell b ↔ a = b :=
  ⟨fun h => congrArg (fun g : GSem nD τ sig => g.1.1) h, fun h => h ▸ rfl⟩

theorem owed_bar (d c : Dev nD) : O₀ R d (barCell c) () = if d ∈ Finset.univ.erase c then 1 else 0 := by
  unfold O₀
  have h0 : owRecv R d 0 (barCell c) () = 0 := by
    by_contra h
    obtain ⟨e, he⟩ := owRecv_pos R (Nat.pos_of_ne_zero h)
    exact recv_ne_bar (congrArg Prod.snd he).symm
  rw [Pi.add_apply, Finsupp.add_apply, h0, Nat.zero_add]
  unfold owBar
  rw [toSig_zero, Finset.sum_apply, Finsupp.finset_sum_apply]
  have h (e : Dev nD) : tallyAt (barCell e) () 1 (barCell c) () = if c = e then 1 else 0 := by
    rw [tallyAt_apply]
    exact if_congr ⟨fun h => bar_iff.mp h.1, fun h => ⟨bar_iff.mpr h, rfl⟩⟩ rfl rfl
  rw [Finset.sum_congr rfl fun e _ => h e, Finset.sum_ite_eq]
  exact if_congr (by simp [eq_comm]) rfl rfl

theorem owed_recv (d c : Dev nD) : O₀ R d (recvCell c) () = ((R.outs d).filter fun p => p.1 = c).card * N := by
  unfold O₀
  have h0 : owBar d 0 (recvCell c) () = 0 := by
    by_contra h
    obtain ⟨e, he⟩ := owBar_pos (Nat.pos_of_ne_zero h)
    exact recv_ne_bar (congrArg Prod.snd he)
  rw [Pi.add_apply, Finsupp.add_apply, h0, Nat.add_zero]
  unfold owRecv
  rw [leftR_outs, Finset.sum_apply, Finsupp.finset_sum_apply]
  have h (p : Tok) : tallyAt (recvCell p.1) () N (recvCell c) () = if p.1 = c then N else 0 := by
    rw [tallyAt_apply]
    exact if_congr ⟨fun h => (recv_iff.mp h.1).symm, fun h => ⟨recv_iff.mpr h.symm, rfl⟩⟩ rfl rfl
  rw [Finset.sum_congr rfl fun p _ => h p, ← Finset.sum_filter, Finset.sum_const, smul_eq_mul]

theorem launch_bar (c : Dev nD) :
    tallyOn (barCell c) (launchCredit (Pipeline.owing (O₀ R)) 0 (barCell c)) = (tallyAt (barCell c) () 31 : CellTallies nD τ sig Unit) := by
  unfold tallyAt; refine congrArg _ (Finsupp.ext fun u => ?_); cases u
  rw [Pipeline.launchCredit_owing, Finsupp.single_eq_same, Finset.sum_congr rfl fun d _ => owed_bar R d c, Finset.sum_ite_mem, Finset.univ_inter,
    Finset.sum_const, Finset.card_erase_of_mem (Finset.mem_univ c), Finset.card_univ, smul_eq_mul]
  rfl

theorem sum_outs (c : Dev nD) : (∑ d : Dev nD, ((R.outs d).filter fun p => p.1 = c).card) = (R.ins c).card := by
  rw [Finset.card_eq_sum_card_fiberwise (f := R.home) (t := Finset.univ) fun _ _ => Finset.mem_univ _]
  refine Finset.sum_congr rfl fun d _ => congrArg Finset.card ?_
  ext p
  unfold Route.outs Route.ins
  simp only [Finset.mem_filter, Finset.mem_univ, true_and]
  constructor
  · rintro ⟨⟨h1, h2⟩, h3⟩; exact ⟨⟨h3, fun h => h2 (h3.trans (h.symm.trans h1))⟩, h1⟩
  · rintro ⟨⟨h1, h2⟩, h3⟩; exact ⟨⟨h3, fun h => h2 (h3.trans (h.symm.trans h1))⟩, h1⟩

theorem launch_recv (c : Dev nD) :
    tallyOn (recvCell c) (launchCredit (Pipeline.owing (O₀ R)) 0 (recvCell c)) = (tallyAt (recvCell c) () ((R.ins c).card * N) : CellTallies nD τ sig Unit) := by
  unfold tallyAt; refine congrArg _ (Finsupp.ext fun u => ?_); cases u
  rw [Pipeline.launchCredit_owing, Finsupp.single_eq_same, Finset.sum_congr rfl fun d _ => owed_recv R d c, ← Finset.sum_mul, sum_outs]

theorem creds_intro (c : Dev nD) : (Pipeline.launchCred (O₀ R) c : sProp 𝕄) ⊢ creds (F := F) R c := by
  unfold Pipeline.launchCred creds
  rw [bigSep_univ_at _ (SemLoc.reg barS), launch_bar]
  refine sep_mono_right ?_
  rw [← launch_recv]
  exact bigSep_elim (Finset.mem_erase.mpr ⟨recv_ne_bar, Finset.mem_univ _⟩)

theorem O₀_pos {c : Dev nD} {g : GSem nD τ sig} {u : Unit} (h : 0 < O₀ R c g u) : ∃ d : Dev nD, g = recvCell d ∨ g = barCell d := by
  unfold O₀ at h
  rw [Pi.add_apply, Finsupp.add_apply] at h
  rcases Nat.eq_zero_or_pos (owRecv R c 0 g u) with h0 | h0
  · obtain ⟨d, hd⟩ := owBar_pos (show 0 < owBar c 0 g u by omega)
    exact ⟨d, Or.inr hd⟩
  · obtain ⟨d, hd⟩ := owRecv_pos R h0
    exact ⟨d, Or.inl hd⟩

theorem mayWait_stage (c : Dev nD) (q : DmaSem sig) (hq : SemLoc.dma q ≠ .dma recvS.sem) (O : CellTallies nD τ sig Unit) (hO : O = O₀ R c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by obtain ⟨d, rfl | rfl⟩ := O₀_pos R hg <;> exact Finset.mem_singleton_self _)
      (fun p hp => by rw [Finset.mem_singleton.mp hp]; unfold lv; rw [if_neg (fun h => by cases h), if_neg hq])
      (fun g u hg => by
        cases u
        obtain ⟨d, rfl | rfl⟩ := O₀_pos R hg
        · rw [lv_recv]; decide
        · rw [lv_bar]; decide)
  · rw [MayWait_zero]; iintro -; iempintro

/-! ## The launch -/

theorem start_intro (c : Dev nD) :
    iprop(Pipeline.unscopedRestP Pipeline.Prefetch.none cfg0.spec c (fun b => m ((c : Thread nD τ).loc b)) ∗ levAts L lv
        ∗ Pipeline.launchCred (O₀ R) c ∗ prngReg c (ρ c) ∗ G' m R c)
      ⊢ |={Set.univ}=> iprop(start m R c ∗ emp) := by
  iintro ⟨-, Hlev, Hcr, -, HG⟩
  ihave Hc := (creds_intro (F := F) R c) $$ Hcr
  imodintro
  unfold start G'
  isplitl
  · isplitl [HG]; · iexact HG
    isplitl [Hc] <;> iassumption
  · iempintro

theorem scr_eq (c : Dev nD) : (Pipeline.scopedRest cfg0.spec c : sProp 𝕄) = scr (F := F) c := by
  rw [scopedRest0_eq]; rfl

theorem enter (c : Dev nD) :
    iprop(start m R c ∗ Pipeline.prefHeld Pipeline.Prefetch.none c (fun _ => fullShare.right) (fun k => k.elim0) ∗ Pipeline.scopedRest cfg0.spec c)
      ⊢ (dats m ρ R 0 c).Φ 0 := by
  rw [show (dats m ρ R 0 c).Φ 0 = Φ₀ m R c from rfl, scr_eq]
  unfold Φ₀
  iintro ⟨Hs, -, Hr⟩
  isplitl [Hs] <;> iassumption

theorem leave (c : Dev nD) :
    (dats m ρ R 0 c).Φ (Fin.last cfg0.N) ⊢ iprop(unscopedSems0 c ∗ Pipeline.ownSems0 osem c ∗ Pipeline.scopedRest cfg0.spec c) := by
  rw [show (dats m ρ R 0 c).Φ (Fin.last cfg0.N) = Φ₁ (F := F) c from rfl, scr_eq, ownSems_eq, barSem_eq]
  unfold Φ₁ sems0
  iintro ⟨⟨HB, HS, HV⟩, Hr⟩
  isplitl [HB]; · iexact HB
  isplitl [HS HV]
  · isplitl [HS] <;> iassumption
  iexact Hr

theorem waits (c : Dev nD) : (levAts L lv : sProp 𝕄) ⊢ Pipeline.cellsWaits cfgs (dats m ρ R) () 0 c :=
  Pipeline.cellsWaits_intro cfgs (dats m ρ R) () 0 c fun w s t =>
    mayWait_stage R c _ (by fin_cases w <;> fin_cases s <;> decide) _ (by
      rcases t with ⟨_ | _, ht⟩
      · exact Or.inl rfl
      · exact Or.inr rfl)

def finalA (c : Dev nD) (w : Fin cfg0.W) : Buf (Elt F) ((cfg0.win w).arr.view.loc (c : Thread nD τ)) := (dats m ρ R 0 c).arrAt w cfg0.N

/-- Every execution ends, each array at the pipeline's contents and every counter at zero. -/
theorem run_all (hT : ∀ c, (iblk m c 0 t0_0 : (cc0_stg0_0 : Ref sig .tc).ty.Contents (Elt F)) = tab R c) :
    θ_run defs (onTc (τ := τ) (main (F := F))) (s₀ m ρ) (fun r =>
      (∀ c : Dev nD, ∀ w : Fin cfg0.W, r.2.mem ((cfg0.win w).arr.view.loc (c : Thread nD τ)) = finalA m ρ R c w) ∧ r.2.sem = fun _ => 0) :=
  Pipeline.θ_run_region_owing_glob_pf (fun p => (cfgs p).toPCfg) (fun p => (cfgs p).toPCfg_adm) (dats m ρ R) () cellOf_inj (0 : Fin 1)
    winFacts0.to₀ ownSemFacts (Pipeline.PreFacts.none _) EP defs₀ 𝒱₀ m ρ main
    (hmain := fun _ => rfl)
    (hbody := obligation m ρ R hT) (hne := block_pos0) (harr := arr_whole0) (hstage := stage_whole0) (hshare := share_eq m ρ R)
    (hdistinct := winFacts0.arr_inj)
    (O₀ := O₀ R) (howed₀ := fun _ => rfl) (howedN := fun _ => rfl)
    (L := L) (lv := lv) (hL := L_of_ne) (hwaits := waits m ρ R)
    (G := G m R) (G' := G' m R) (u₀ := u₀)
    (hu₀ := by
      unfold u₀
      iintro Hu
      ihave H := (ownU_pair _ _) $$ Hu
      icases H with ⟨HP, HX⟩
      imod (fund m R) $$ HX with HG
      imodintro
      isplitl [HP] <;> iassumption)
    (hglob := glob m R)
    (hA := fun _ _ => rfl) (hpf := fun _ k => k.elim0)
    (X := start m R) (Y := fun c => unscopedSems0 c) (Z := fun _ => iprop(emp))
    (hX := start_intro m ρ R) (hin := enter m ρ R) (hout := leave m ρ R)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.RouteKernelIdeal
-- ==== Proof.Final.lean ====
module

public import proofs.«01_k».proof.Proof.Launch
public import proofs.«01_k».proof.Proof.Gen.KernelIdeal.Launch
public import proofs.«01_k».proof.Proof.Gen.KernelIdeal.Frame
public import Idealize.ShloMosaic.Lib.Pipeline.Launch
public import Idealize.ShloMosaic.Lib.Pipeline.CollectiveSegs
public import Idealize.ShloMosaic.Lib.Pipeline.Kit
public import Idealize.ShloMosaic.Lib.Pipeline.Value

@[expose] public section

set_option maxRecDepth 16384

noncomputable section

namespace Cert.RouteKernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode
open Idealize.SL.Sem
open Idealize.ShloMosaic.Rounds
open Idealize.ShloMosaic.Pipeline (Dat Cfg Window BodyObligation cellOf)
open Idealize.ShloMosaic.ValueIdx (ix1 ix2 ix3)

variable {F : FTy → Type} [FloatOps F]

local notation "𝕄" => MT nD τ sig Unit (Elt F) ℕ UU ℕ

variable (m : (ℓ : Loc nD τ sig) → Buf (Elt F) ℓ) (ρ : Dev nD → PrngReg) (R : Route)

theorem blk_tab (c : Dev nD) : (iblk m c 0 t0_0 : (cc0_stg0_0 : Ref sig .tc).ty.Contents (Elt F)) = m ((c : Thread nD τ).loc main_arg1) := by
  funext i
  show m ((c : Thread nD τ).loc main_arg1) ((win0_0.rect t0_0).emb i) = m ((c : Thread nD τ).loc main_arg1) i
  exact congrArg _ (funext fun a => Fin.ext (win0_0.rect_emb_val_of_index_zero t0_0 a (by fin_cases a <;> decide) i))

theorem blk_x (c : Dev nD) : (ins m).xs c = m ((c : Thread nD τ).loc main_arg0) := by
  funext i
  show m ((c : Thread nD τ).loc main_arg0) ((win0_1.rect t0_0).emb i) = m ((c : Thread nD τ).loc main_arg0) i
  exact congrArg _ (funext fun a => Fin.ext (win0_1.rect_emb_val_of_index_zero t0_0 a (by fin_cases a <;> decide) i))

theorem blk_w (c : Dev nD) : (ins m).ws c = m ((c : Thread nD τ).loc main_arg2) := by
  funext i
  show m ((c : Thread nD τ).loc main_arg2) ((win0_2.rect t0_0).emb i) = m ((c : Thread nD τ).loc main_arg2) i
  exact congrArg _ (funext fun a => Fin.ext (win0_2.rect_emb_val_of_index_zero t0_0 a (by fin_cases a <;> decide) i))

theorem out_emb (i : S32x1024.Idx) : (win0_3.rect t0_0).emb i = i :=
  funext fun a => Fin.ext (win0_3.rect_emb_val_of_index_zero t0_0 a (by fin_cases a <;> decide) i)

/-- What the one point writes back. -/
theorem out_flushed (c : Dev nD) (t : Fin cfg0.N) : (dats m ρ R 0 c).flushed 3 t = ((cfg0.win 3).blk t).view.read (Elt F) (oFin R (ins m) c) := by
  obtain rfl := fin_N t
  have ha : (dats m ρ R 0 c).after 3 t0_0 = oFin R (ins m) c := by dsimp only [dats]
  unfold Dat.flushed
  rw [ha]
  funext i
  generalize oFin R (ins m) c = G
  show G _ = G ((win0_3.rect t0_0).emb i)
  rw [out_emb]

theorem out_cover (i : S32x1024.Idx) : i ∈ ((cfg0.win 3).blk t0_0).view.set := by
  have h := ((cfg0.win 3).blk t0_0).view.emb_mem_set i
  have e : ((cfg0.win 3).blk t0_0).view.emb i = i := out_emb i
  rw [e] at h
  exact h

/-- The result array after the run. -/
theorem final_out (c : Dev nD) : finalA m ρ R c (3 : Fin 4) = oFin R (ins m) c :=
  (dats m ρ R 0 c).arrAt_eq_of_cover 3 (oFin R (ins m) c) (fun t _ => out_flushed m ρ R c t) (fun i => ⟨t0_0, flush0_3 _, out_cover i⟩)

/-- A run whose routing tables all name the experts of `R`. -/
theorem run (hT : ∀ c : Dev nD, (m ((c : Thread nD τ).loc main_arg1) : (cc0_stg0_0 : Ref sig .tc).ty.Contents (Elt F)) = tab R c) :
    θ_run defs (onTc (τ := τ) (main (F := F))) ⟨m, fun _ => 0, ρ⟩ (fun r => (∀ c : Dev nD,
      r.2.mem ((c.tc : Thread nD τ).loc main_v1) = oFin R (ins m) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c => ⟨(h.1 c 3).trans (final_out m ρ R c),
      (h.1 c 1).trans ((dats m ρ R 0 c).arrAt_in 1 rfl _), (h.1 c 0).trans ((dats m ρ R 0 c).arrAt_in 0 rfl _),
      (h.1 c 2).trans ((dats m ρ R 0 c).arrAt_in 2 rfl _)⟩, h.2⟩)
    (run_all m ρ R fun c => (blk_tab m c).trans (hT c))

end Cert.RouteKernelIdeal
-- ==== Proof.Value.lean ====
/-
# The kernel's value

At the extended reals: the gathered buffer holds each kept token's row in its slot and zero in row seven, so
a finished output row is its token's row times its expert's matrix, or zero where six earlier tokens chose the
same expert.
-/
module

public import proofs.«01_k».proof.Proof.Final
public import Idealize.ShloMosaic.Lib.MatmulPlain
public import Idealize.ShloMosaic.Lib.ValueLayout
public import Idealize.ShloMosaic.PureOps.Ideal.Laws

@[expose] public section

set_option maxRecDepth 16384

noncomputable section

namespace Cert.RouteKernelIdeal

open Cert.KernelIdeal Cert.KernelIdeal.Gen
open Idealize.ShloMosaic
open Idealize.ShloMosaic.ValueIdx

namespace Route

variable (R : Route) (c : Dev nD)

/-- Of two tokens of one expert the earlier has the smaller rank. -/
theorem cntE_lt {p : Tok} {e u : ℕ} (hp : R.ex c (tn p) = e) (h : tn p < u) : R.cntE c e (tn p) < R.cntE c e u := by
  have h1 := R.cntE_succ c e (tn p) (tn_lt p)
  rw [if_pos hp] at h1
  have h2 : R.cntE c e (tn p + 1) ≤ R.cntE c e u := card_mono _ (by omega)
  omega

theorem home_ex {p : Tok} (hp : R.home p = c) : R.ex c (tn p) / 4 = c.val := (R.ex_home c p).mpr hp

theorem slot_ne (n : ℕ) : R.slot c n ≠ 7 ↔ R.rank c n < 6 := by
  unfold slot slotN
  split
  · next h => exact ⟨fun _ => h, fun _ => by omega⟩
  · next h => exact ⟨fun hh => absurd rfl hh, fun hh => absurd hh h⟩

/-- Kept tokens have slots of their own. -/
theorem slot_inj {p q : Tok} (hp : R.home p = c) (hq : R.home q = c) (h7 : R.slot c (tn p) ≠ 7)
    (h : R.slot c (tn p) = R.slot c (tn q)) : p = q := by
  have r1 := (R.slot_ne c (tn p)).mp h7
  have r2 := (R.slot_ne c (tn q)).mp (h ▸ h7)
  have e1 := R.home_ex c hp
  have e2 := R.home_ex c hq
  unfold slot slotN at h
  rw [if_pos r1, if_pos r2] at h
  have he : R.ex c (tn p) = R.ex c (tn q) := by omega
  have hr : R.rank c (tn p) = R.rank c (tn q) := by omega
  unfold rank at hr
  rw [← he] at hr
  rcases Nat.lt_trichotomy (tn p) (tn q) with h1 | h1 | h1
  · have := R.cntE_lt c rfl h1; omega
  · exact tn_inj h1
  · have := R.cntE_lt c (e := R.ex c (tn p)) he.symm h1; omega

end Route

variable {F : FTy → Type} [FloatOps F] (R : Route) (D : Ins F) (c : Dev nD)

theorem gPut_at (p : Tok) (f : (cc0_scratch0 : Ref sig .tc).ty.Contents (Elt F)) (s : Fin 32) (k : Fin 512) :
    gPut R D c p f (ix2 s k) = if s.val = R.slot c (tn p) ∧ R.slot c (tn p) ≠ 7 then D.xs c (ix2 ⟨tn p, tn_lt _⟩ k) else f (ix2 s k) := rfl

/-- The slot of a kept token, trip by trip. -/
theorem gSt_slot {p : Tok} (hp : R.home p = c) (h7 : R.slot c (tn p) ≠ 7) (k : Fin 512) :
    ∀ j, j ≤ R.nMy c → gSt R D c j (ix2 ⟨R.slot c (tn p), R.slot_lt _ _⟩ k)
      = if R.cnt c (tn p) < j then D.xs c (ix2 ⟨tn p, tn_lt _⟩ k) else k0_pay2 (F := F) (ix2 ⟨R.slot c (tn p), R.slot_lt _ _⟩ k)
  | 0, _ => by rw [if_neg (Nat.not_lt_zero _)]; rfl
  | j + 1, hj => by
    obtain ⟨q, hq, hqj⟩ := R.exists_nth c (show j < R.nMy c by omega)
    rw [gSt_succ R D hq hqj, gPut_at]
    by_cases h : p = q
    · subst h
      rw [if_pos ⟨rfl, h7⟩, if_pos (by omega)]
    · rw [if_neg (fun hh => h (R.slot_inj c hp hq h7 hh.1)), gSt_slot hp h7 k j (by omega)]
      have hne : R.cnt c (tn p) ≠ j := fun he => h (R.cnt_inj c hp hq (he.trans hqj.symm))
      by_cases hlt : R.cnt c (tn p) < j
      · rw [if_pos hlt, if_pos (by omega)]
      · rw [if_neg hlt, if_neg (by omega)]

/-- Row seven keeps what it started with. -/
theorem gSt_seven (k : Fin 512) : ∀ j, gSt R D c j (ix2 7 k) = k0_pay2 (F := F) (ix2 7 k)
  | 0 => rfl
  | j + 1 => by
    show gPut R D c (nth R c j) (gSt R D c j) (ix2 7 k) = _
    rw [gPut_at, if_neg (fun hh => hh.2 hh.1.symm), gSt_seven k j]

section Ideal
variable (D : Ins Ideal)

/-- The buffers' contents as arrays of extended reals. -/
abbrev xv : FVec Ideal S1024x512 .f32 := D.xs c
abbrev wv : FVec Ideal S4x512x1024 .f32 := D.ws c
abbrev gv (j : ℕ) : FVec Ideal S32x512 .f32 := gSt R D c j
abbrev ev : FVec Ideal S32x1024 .f32 := eFin R D c
abbrev ov : FVec Ideal S32x1024 .f32 := oFin R D c

theorem pay2_at (y : S32x512.Idx) : k0_pay2 (F := Ideal) y = 0 := by
  unfold k0_pay2
  rw [shapeCast_self]
  exact Ideal.ofBits_zero_f32

theorem pay5_at (a : Vec Ideal S8x512 .f32) (b : Vec Ideal S1x512x1024 .f32) (r : Fin 8) (o : Fin 1024) :
    k0_pay5 (F := Ideal) a b (ix2 r o) = ∑ k : Fin 512, a (ix2 r k) * b (ix3 0 k o) := by
  unfold k0_pay5
  rw [shapeCast_self]
  refine (Ideal.matmul_plain_apply none a (shapeCast S512x1024 b shapeCasts_S1x512x1024_S512x1024) (constant S8x1024 .f32 0x00000000#32) r o).trans ?_
  show Ideal.ofBits .f32 0x00000000#32 + _ = _
  rw [Ideal.ofBits_zero_f32, zero_add]
  refine Finset.sum_congr rfl fun k _ => ?_
  rw [shapeCast_1ab_ab_apply]

theorem eFin_at (s : Fin 32) (o : Fin 1024) :
    ev R c D (ix2 s o) = ∑ k : Fin 512, gv R c D (R.nMy c) (ix2 s k) * wv c D (ix3 ⟨s.val / 8, blk8_lt s.isLt⟩ k o) := by
  show eFin R D c (ix2 s o) = _
  unfold eFin
  refine (pay5_at _ _ _ o).trans (Finset.sum_congr rfl fun k _ => ?_)
  have h : (ix2 (⟨8 * (s.val / 8) + s.val % 8, row8_lt s.isLt _ (Nat.mod_lt _ (by decide))⟩ : Fin 32) k : S32x512.Idx) = ix2 s k := by
    congr 1
    exact Fin.ext (Nat.div_add_mod _ _)
  exact congrArg (fun z : S32x512.Idx => gv R c D (R.nMy c) z * wv c D (ix3 ⟨s.val / 8, blk8_lt s.isLt⟩ k o)) h

/-- A finished output row. -/
theorem oFin_at (d : Dev nD) (a : Fin 32) (o : Fin 1024) :
    ov R d D (ix2 a o) = if R.rank (R.home (d, a)) (tn (d, a)) < 6 then
      ∑ k : Fin 512, xv (R.home (d, a)) D (ix2 ⟨tn (d, a), tn_lt _⟩ k) * wv (R.home (d, a)) D (ix3 ⟨R.ex (R.home (d, a)) (tn (d, a)) % 4, Nat.mod_lt _ (by decide)⟩ k o)
      else 0 := by
  have hu : ov R d D (ix2 a o) = ev R (R.home (d, a)) D (ix2 ⟨R.slot (R.home (d, a)) (tn (d, a)), R.slot_lt _ _⟩ o) := rfl
  rw [hu, eFin_at]
  generalize hc : R.home (d, a) = c
  generalize hp : (d, a) = p at hc ⊢
  by_cases h : R.rank c (tn p) < 6
  · rw [if_pos h]
    have h7 := (R.slot_ne c (tn p)).mpr h
    refine Finset.sum_congr rfl fun k _ => ?_
    have hlt : R.cnt c (tn p) < R.nMy c := R.cnt_lt_nMy c hc
    have hg : gv R c D (R.nMy c) (ix2 ⟨R.slot c (tn p), R.slot_lt _ _⟩ k) = xv c D (ix2 ⟨tn p, tn_lt _⟩ k) :=
      (gSt_slot R D c hc h7 k _ le_rfl).trans (if_pos hlt)
    rw [hg]
    have hs : R.slot c (tn p) / 8 = R.ex c (tn p) % 4 := by
      unfold Route.slot slotN; rw [if_pos h]; omega
    congr 2
    congr 1
    exact Fin.ext hs
  · rw [if_neg h]
    have hs : R.slot c (tn p) = 7 := by
      by_contra hn; exact h ((R.slot_ne c (tn p)).mp hn)
    have h7 : (⟨R.slot c (tn p), R.slot_lt _ _⟩ : Fin 32) = 7 := Fin.ext hs
    rw [h7]
    refine Finset.sum_eq_zero fun k _ => ?_
    have hg : gv R c D (R.nMy c) (ix2 7 k) = 0 := (gSt_seven R D c k _).trans (pay2_at _)
    rw [hg, zero_mul]

end Ideal

end Cert.RouteKernelIdeal
-- ==== Proof.Home.lean ====
/-
# The routing that the precondition fixes

The precondition makes every device read token `n`'s expert as one of the four on device `n % 32`. That is a
`Route`, and the table a device holds is its words.
-/
module

public import proofs.«01_k».proof.Proof.Value
public import proofs.«01_k».proof.Proof.Gen.Pre_routed_home_Kernel
public import Idealize.ShloMosaic.Lib.WordCmp

@[expose] public section

set_option maxRecDepth 16384

noncomputable section

namespace Cert.RouteKernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode
open Idealize.SL.Sem
open Idealize.ShloMosaic.Rounds
open Idealize.ShloMosaic.Pipeline (Dat Cfg Window BodyObligation cellOf)
open Idealize.ShloMosaic.ValueIdx (ix1 ix2 ix3)

/-- A word in range by the two signed comparisons. -/
theorem range_word (b : BitVec 32) (h : IntOp.andi (IntOp.cmpi .sge b 0#32) (IntOp.cmpi .slt b 128#32) = 1#1) : b.toNat < 128 := by
  rw [WordCmp.cmpi_sge_eq, WordCmp.cmpi_slt_eq, WordCmp.andi_ofBool, WordCmp.ofBool_eq_one_iff, Bool.and_eq_true, decide_eq_true_eq, decide_eq_true_eq] at h
  obtain ⟨h1, h2⟩ := h
  have e0 : (0#32 : BitVec 32).toInt = 0 := by decide
  have e1 : (128#32 : BitVec 32).toInt = 128 := by decide
  rw [e0] at h1
  rw [e1] at h2
  have h3 := BitVec.toInt_eq_toNat_cond b
  have h4 := b.isLt
  split at h3 <;> omega

theorem shr_word : ∀ k : Fin 128, ((BitVec.ofNat 32 k.val).sshiftRight' 2#32).toNat = k.val / 4 := by decide +kernel

/-- What the precondition says of one token's word. -/
theorem home_word {n : ℕ} (hn : n < 1024) (b : BitVec 32)
    (h : IntOp.andi (IntOp.andi (IntOp.cmpi .sge b 0#32) (IntOp.cmpi .slt b 128#32))
      (IntOp.cmpi .eq (IntOp.shrsi .host b 2#32) (IntOp.andi (BitVec.ofNat 32 n) 31#32)) = 1#1) :
    b.toNat < 128 ∧ b.toNat / 4 = n % 32 := by
  have hs : ∀ p q : BitVec 1, IntOp.andi p q = 1#1 → p = 1#1 ∧ q = 1#1 := by decide
  obtain ⟨h1, h2⟩ := hs _ _ h
  have hb := range_word b h1
  refine ⟨hb, ?_⟩
  rw [WordCmp.cmpi_eq_eq, WordCmp.ofBool_eq_one_iff, decide_eq_true_eq] at h2
  have h3 := congrArg BitVec.toNat h2
  have hl : (IntOp.shrsi .host b 2#32).toNat = b.toNat / 4 := by
    have e : IntOp.shrsi .host b 2#32 = b.sshiftRight' 2#32 := if_pos (by decide)
    have e2 := shr_word ⟨b.toNat, hb⟩
    rw [show BitVec.ofNat 32 (⟨b.toNat, hb⟩ : Fin 128).val = b from by simp] at e2
    rw [e]; exact e2
  have hr : (IntOp.andi (BitVec.ofNat 32 n) 31#32).toNat = n % 32 := by
    show (BitVec.ofNat 32 n &&& 31#32).toNat = n % 32
    rw [BitVec.toNat_and, BitVec.toNat_ofNat, Nat.mod_eq_of_lt (by omega)]
    exact Nat.and_two_pow_sub_one_eq_mod n 5
  rw [hl, hr] at h3
  exact h3

section Table
variable (T : Dev nD → IVec S1024x1 32) (hlt : ∀ c (n : Fin 1024), (T c (ix2 n 0)).toNat < 128)

/-- The experts a table names; -/
def tabEx (c : Dev nD) (n : ℕ) : ℕ := if h : n < 1024 then (T c (ix2 ⟨n, h⟩ 0)).toNat else 0

theorem tabEx_tn (c : Dev nD) (p : Tok) : tabEx T c (tn p) = (T c (ix2 ⟨tn p, tn_lt p⟩ 0)).toNat := dif_pos (tn_lt p)

/-- the routing of tables that agree on which device each token goes to. -/
def tabRoute (hlt : ∀ c (n : Fin 1024), (T c (ix2 n 0)).toNat < 128) (home : Tok → Dev nD)
    (hh : ∀ c p, (T c (ix2 ⟨tn p, tn_lt p⟩ 0)).toNat / 4 = c.val ↔ home p = c) : Route where
  ex := tabEx T
  home := home
  ex_lt c n := by
    unfold tabEx
    split
    · exact hlt c _
    · decide
  ex_home c p := by rw [tabEx_tn]; exact hh c p

theorem tab_tabRoute {F : FTy → Type} [FloatOps F] (home : Tok → Dev nD) (hh : ∀ c p, (T c (ix2 ⟨tn p, tn_lt p⟩ 0)).toNat / 4 = c.val ↔ home p = c) (c : Dev nD) :
    (T c : (cc0_stg0_0 : Ref sig .tc).ty.Contents (Elt F)) = tab (F := F) (tabRoute T hlt home hh) c := by
  funext y
  show T c y = wd (tabEx T c (y 0).val)
  have hy : y = ix2 (⟨(y 0).val, (y 0).isLt⟩ : Fin 1024) 0 := by
    funext a
    match a with
    | ⟨0, _⟩ => rfl
    | ⟨1, _⟩ => exact Fin.ext (by have : (y 1).val < 1 := (y 1).isLt; show (y 1).val = 0; omega)
  unfold tabEx
  rw [dif_pos (show (y 0).val < 1024 from (y 0).isLt)]
  have e : T c (ix2 (⟨(y 0).val, (y 0).isLt⟩ : Fin 1024) 0) = T c y := congrArg (T c) hy.symm
  exact (wd_of_toNat (congrArg BitVec.toNat e.symm))

end Table

section Pre
variable {F : FTy → Type} [FloatOps F] (x : Dev nD → FVec F S1024x512 .f32) (T : Dev nD → IVec S1024x1 32) (w : Dev nD → FVec F S4x512x1024 .f32)
  (hp : ∀ c, Cert.Pre_routed_home_Kernel.fn (F := F) (x c) (T c) (w c) = fun _ => 1#1)
include hp

theorem pre_at (c : Dev nD) (n : Fin 1024) : (T c (ix2 n 0)).toNat < 128 ∧ (T c (ix2 n 0)).toNat / 4 = n.val % 32 :=
  home_word n.isLt _ (congrFun (hp c) (ix2 n 0))

/-- The precondition's routing: token `n` goes to device `n % 32`. -/
theorem pre_home (c : Dev nD) (p : Tok) : (T c (ix2 ⟨tn p, tn_lt p⟩ 0)).toNat / 4 = c.val ↔ (⟨p.2.val, p.2.isLt⟩ : Dev nD) = c := by
  have h : (T c (ix2 ⟨tn p, tn_lt p⟩ 0)).toNat / 4 = tn p % 32 := (pre_at x T w hp c ⟨tn p, tn_lt p⟩).2
  have h2 : tn p % 32 = p.2.val := tn_mod p
  constructor
  · intro e; exact Fin.ext (by show p.2.val = c.val; omega)
  · intro e
    have e2 : p.2.val = c.val := congrArg Fin.val e
    omega

end Pre

section Frame
variable {F : FTy → Type} [FloatOps F]

/-- The routing of a memory that meets the precondition. -/
def memRoute (m : (ℓ : Loc nD τ sig) → Buf (Elt F) ℓ)
    (hp : ∀ c : Dev nD, Cert.Pre_routed_home_Kernel.fn (F := F) (m ((c.tc : Thread nD τ).loc main_arg0)) (m ((c.tc : Thread nD τ).loc main_arg1)) (m ((c.tc : Thread nD τ).loc main_arg2)) = fun _ => 1#1) : Route :=
  tabRoute (fun c => m ((c.tc : Thread nD τ).loc main_arg1))
    (fun c n => (pre_at (fun c => m ((c.tc : Thread nD τ).loc main_arg0)) _ (fun c => m ((c.tc : Thread nD τ).loc main_arg2)) hp c n).1)
    (fun p => ⟨p.2.val, p.2.isLt⟩)
    (pre_home (fun c => m ((c.tc : Thread nD τ).loc main_arg0)) _ (fun c => m ((c.tc : Thread nD τ).loc main_arg2)) hp)

/-- Under the precondition the program runs. -/
theorem run_home (m : (ℓ : Loc nD τ sig) → Buf (Elt F) ℓ) (ρ : Dev nD → PrngReg)
    (hp : ∀ c : Dev nD, Cert.Pre_routed_home_Kernel.fn (F := F) (m ((c.tc : Thread nD τ).loc main_arg0)) (m ((c.tc : Thread nD τ).loc main_arg1)) (m ((c.tc : Thread nD τ).loc main_arg2)) = fun _ => 1#1) :
    θ_run defs (onTc (τ := τ) (main (F := F))) ⟨m, fun _ => 0, ρ⟩ (fun r => (∀ c : Dev nD,
      r.2.mem ((c.tc : Thread nD τ).loc main_v1) = oFin (memRoute m hp) (ins m) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  run m ρ (memRoute m hp) fun c => tab_tabRoute (F := F) (fun c => m ((c.tc : Thread nD τ).loc main_arg1)) _ _ _ c

theorem frame_home (m : (ℓ : Loc nD τ sig) → Buf (Elt F) ℓ) (ρ : Dev nD → PrngReg)
    (hp : ∀ c : Dev nD, Cert.Pre_routed_home_Kernel.fn (F := F) (m ((c.tc : Thread nD τ).loc main_arg0)) (m ((c.tc : Thread nD τ).loc main_arg1)) (m ((c.tc : Thread nD τ).loc main_arg2)) = fun _ => 1#1) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c => (h.1 c).2, h.2⟩) (run_home m ρ hp)

end Frame

end Cert.RouteKernelIdeal
-- ==== Proof.Ref.lean ====
/-
# The reference's value, read at an index

Row `n` of the reference's result is `x` row `n` times the matrix of expert `t n` when fewer than six earlier
tokens chose the same expert, and zero otherwise.
-/
module

public import proofs.«01_k».proof.Proof.Gen.ReferenceIdeal.Run
public import Idealize.ShloMosaic.Lib.IdealHost
public import Idealize.ShloMosaic.Lib.IndicatorCount
public import Idealize.ShloMosaic.Lib.WordCmp
public import Idealize.ShloMosaic.Lib.Pipeline.Value

@[expose] public section

set_option maxRecDepth 16384

noncomputable section

namespace Cert.RouteReference

open Cert.ReferenceIdeal Cert.ReferenceIdeal.Gen
open Idealize.ShloMosaic
open Idealize.ShloMosaic.ValueIdx

variable (x : FVec Ideal S1024x512 .f32) (t : IVec S1024x1 32) (w : FVec Ideal S128x512x1024 .f32)

/-- The token's expert, as the reference's vector of words holds it. -/
def rE : IVec S1024 32 := shapeCast S1024 t shapeCasts_S1024x1_S1024

def rIota : IVec S1024 32 := iotaInDim S1024 32 0

/-- Which tokens come before which and chose the same expert. -/
def rBefore : IVec S1024x1024 1 :=
  andi (cmpi .eq (broadcastInDim S1024x1024 ![0, 1] bcast_S1024x1_S1024x1024_0_1 (broadcastInDim S1024x1 ![0] bcast_S1024_S1024x1_0 (rE t)))
      (broadcastInDim S1024x1024 ![0, 1] bcast_S1x1024_S1024x1024_0_1 (broadcastInDim S1x1024 ![1] bcast_S1024_S1x1024_1 (rE t))))
    (cmpi .slt (broadcastInDim S1024x1024 ![0, 1] bcast_S1x1024_S1024x1024_0_1 (broadcastInDim S1x1024 ![1] bcast_S1024_S1x1024_1 rIota))
      (broadcastInDim S1024x1024 ![0, 1] bcast_S1024x1_S1024x1024_0_1 (broadcastInDim S1024x1 ![0] bcast_S1024_S1024x1_0 rIota)))

def rRank : IVec S1024 32 :=
  Host.reduce IntOp.addi (extui 32 (rBefore t) natLt_1_32) (constantI S_ 32 0#32) reducesTo_S1024x1024_S1024_d1 h_S_

def rIdx : IVec S1024x1 32 :=
  broadcastInDim S1024x1 ![0] bcast_S1024_S1024x1_0 (select (cmpi .slt (rE t) (broadcastInDim S1024 ![] bcast_S_S1024 (constantI S_ 32 0#32)))
    (addi (rE t) (broadcastInDim S1024 ![] bcast_S_S1024 (constantI S_ 32 128#32))) (rE t))

def rChosen : FVec Ideal S1024x512x1024 .f32 := Host.gather gather_S128x512x1024_S1024x1_S1024x512x1024_12_0_n_n_0_1_15121024 w (rIdx t)

def rY : FVec Ideal S1024x1024 .f32 :=
  Host.dotGeneral dot_S1024x512_S1024x512x1024_S1024x1024_1_1_n_2_0_0 none x (rChosen t w)

/-- The reference's result. -/
def rOut : FVec Ideal S1024x1024 .f32 :=
  select (broadcastInDim S1024x1024 ![0, 1] bcast_S1024x1_S1024x1024_0_1 (broadcastInDim S1024x1 ![0] bcast_S1024_S1024x1_0
      (cmpi .slt (rRank t) (broadcastInDim S1024 ![] bcast_S_S1024 (constantI S_ 32 6#32)))))
    (rY x t w) (broadcastInDim S1024x1024 ![] bcast_S_S1024x1024 (id (constant S_ .f32 0x00000000#32)))

theorem rE_at (n : Fin 1024) : rE t (ix1 n) = t (ix2 n 0) := by
  unfold rE
  refine shapeCast_apply t shapeCasts_S1024x1_S1024 (ix1 n) (ix2 n 0) ?_
  rw [Shape.rowMajor_val_two, Shape.rowMajor_val_one]
  show n.val * 1 + 0 = n.val
  omega

theorem col_at {α : Type} (f : S1024.Idx → α) (n h : Fin 1024) :
    broadcastInDim S1024x1024 ![0, 1] bcast_S1024x1_S1024x1024_0_1 (broadcastInDim S1024x1 ![0] bcast_S1024_S1024x1_0 f) (ix2 n h) = f (ix1 n) := by
  rw [broadcastInDim_apply _ _ _ (ix2 n h) (ix2 n 0) (by intro a; fin_cases a <;> rfl),
    broadcastInDim_apply _ _ _ (ix2 n 0) (ix1 n) (by intro a; fin_cases a; rfl)]

theorem row_at {α : Type} (f : S1024.Idx → α) (n h : Fin 1024) :
    broadcastInDim S1024x1024 ![0, 1] bcast_S1x1024_S1024x1024_0_1 (broadcastInDim S1x1024 ![1] bcast_S1024_S1x1024_1 f) (ix2 n h) = f (ix1 h) := by
  rw [broadcastInDim_apply _ _ _ (ix2 n h) (ix2 0 h) (by intro a; fin_cases a <;> rfl),
    broadcastInDim_apply _ _ _ (ix2 0 h) (ix1 h) (by intro a; fin_cases a; rfl)]

theorem rBefore_at (n h : Fin 1024) : rBefore t (ix2 n h) = 1#1 ↔ t (ix2 n 0) = t (ix2 h 0) ∧ h.val < n.val := by
  show IntOp.andi (IntOp.cmpi .eq _ _) (IntOp.cmpi .slt _ _) = 1#1 ↔ _
  rw [col_at, row_at, col_at, row_at, rE_at, rE_at]
  show IntOp.andi (IntOp.cmpi .eq (t (ix2 n 0)) (t (ix2 h 0))) (IntOp.cmpi .slt (BitVec.ofNat 32 h.val) (BitVec.ofNat 32 n.val)) = 1#1 ↔ _
  rw [WordCmp.cmpi_eq_eq, WordCmp.cmpi_slt_ofNat (by have := h.isLt; omega) (by have := n.isLt; omega), WordCmp.andi_ofBool, WordCmp.ofBool_eq_one_iff]
  simp

/-- How many earlier tokens chose token `n`'s expert. -/
def rk (n : Fin 1024) : ℕ := (Finset.univ.filter fun h : Fin 1024 => t (ix2 n 0) = t (ix2 h 0) ∧ h.val < n.val).card

theorem rk_le (n : Fin 1024) : rk t n ≤ 1024 := (Finset.card_le_univ _).trans (by simp)

theorem reduces1 : S1024x1024.Reduces [1] S1024 := by decide

theorem lift_at (n h : Fin 1024) : reduces1.lift (ix1 n) h = ix2 n h := by
  funext a; apply Fin.ext
  match a with
  | ⟨0, _⟩ => rfl
  | ⟨1, _⟩ => rfl

theorem rRank_at (n : Fin 1024) : rRank t (ix1 n) = BitVec.ofNat 32 (rk t n) := by
  unfold rRank
  rw [Host.reduce_eq_fold_single IntOp.addi _ _ reducesTo_S1024x1024_S1024_d1 reduces1]
  have e : (extui 32 (rBefore t) natLt_1_32 ∘ reduces1.lift (ix1 n)) = fun h : Fin 1024 => (rBefore t (ix2 n h)).setWidth 32 := by
    funext h
    exact congrArg (fun y => (rBefore t y).setWidth 32) (lift_at n h)
  rw [e]
  refine (IndicatorCount.fold_addi_setWidth_eq_card (fun h : Fin 1024 => rBefore t (ix2 n h)) Finset.univ).trans ?_
  unfold rk
  congr 2
  ext h
  simp only [Finset.mem_filter, Finset.mem_univ, true_and]
  exact rBefore_at t n h

section
variable (ht : ∀ n : Fin 1024, (t (ix2 n 0)).toNat < 128)
include ht

theorem rIdx_at (n : Fin 1024) : rIdx t (ix2 n 0) = t (ix2 n 0) := by
  unfold rIdx
  rw [broadcastInDim_apply _ _ _ (ix2 n 0) (ix1 n) (by intro a; fin_cases a; rfl)]
  show Scalar.select (IntOp.cmpi .slt (rE t (ix1 n)) 0#32) _ (rE t (ix1 n)) = _
  rw [rE_at, WordCmp.cmpi_slt_of_lt (by have := ht n; omega) (by decide)]
  simp [Scalar.select]

theorem rChosen_at (n : Fin 1024) (k : Fin 512) (o : Fin 1024) :
    rChosen t w (ix3 n k o) = w (ix3 ⟨(t (ix2 n 0)).toNat, ht n⟩ k o) := by
  unfold rChosen Host.gather
  refine congrArg w (funext fun a => Fin.ext ?_)
  generalize hd : gather_S128x512x1024_S1024x1_S1024x512x1024_12_0_n_n_0_1_15121024 = d
  show d.start (ix3 n k o) (rIdx t) a + d.batchCoord (ix3 n k o) a + d.offCoord (ix3 n k o) a = _
  rw [GatherDims.batchCoord_eq_zero _ _ _ (by subst hd; exact List.not_mem_nil)]
  subst hd
  have h3 : a = 0 ∨ a = 1 ∨ a = 2 := by
    match a with
    | ⟨0, _⟩ => exact .inl rfl
    | ⟨1, _⟩ => exact .inr (.inl rfl)
    | ⟨2, _⟩ => exact .inr (.inr rfl)
  rcases h3 with rfl | rfl | rfl
  · rw [GatherDims.offCoord_eq_zero _ _ _ (fun h => ((GatherDims.mem_sKept _ _).mp h).1 (List.mem_singleton.mpr rfl))]
    unfold GatherDims.start
    rw [dif_pos (show (0 : Fin 3) ∈ gather_S128x512x1024_S1024x1_S1024x512x1024_12_0_n_n_0_1_15121024.startIndexMap from List.mem_singleton.mpr rfl)]
    have hsi : gather_S128x512x1024_S1024x1_S1024x512x1024_12_0_n_n_0_1_15121024.siIdx (ix3 n k o)
        ⟨List.idxOf (0 : Fin 3) gather_S128x512x1024_S1024x1_S1024x512x1024_12_0_n_n_0_1_15121024.startIndexMap,
          List.idxOf_lt_length_iff.2 (List.mem_singleton.mpr rfl)⟩ = ix2 n 0 := by
      funext b; refine Fin.ext ?_
      match b with
      | ⟨0, _⟩ => rfl
      | ⟨1, _⟩ => rfl
    show min (rIdx t (gather_S128x512x1024_S1024x1_S1024x512x1024_12_0_n_n_0_1_15121024.siIdx (ix3 n k o)
        ⟨List.idxOf (0 : Fin 3) gather_S128x512x1024_S1024x1_S1024x512x1024_12_0_n_n_0_1_15121024.startIndexMap, _⟩)).toInt.toNat (128 - 1) + 0 + 0 = (t (ix2 n 0)).toNat
    rw [hsi, rIdx_at t ht, WordCmp.toInt_eq_toNat_of_lt_half (by have := ht n; omega), Int.toNat_natCast]
    have := ht n
    omega
  · unfold GatherDims.start GatherDims.offCoord
    rw [dif_neg (show (1 : Fin 3) ∉ gather_S128x512x1024_S1024x1_S1024x512x1024_12_0_n_n_0_1_15121024.startIndexMap from fun h => absurd (List.mem_singleton.mp h) (by decide)),
      dif_pos (show (1 : Fin 3) ∈ gather_S128x512x1024_S1024x1_S1024x512x1024_12_0_n_n_0_1_15121024.sKept from (GatherDims.mem_sKept _ _).mpr ⟨fun h => absurd (List.mem_singleton.mp h) (by decide), List.not_mem_nil⟩)]
    rw [Nat.zero_add]
    rfl
  · unfold GatherDims.start GatherDims.offCoord
    rw [dif_neg (show (2 : Fin 3) ∉ gather_S128x512x1024_S1024x1_S1024x512x1024_12_0_n_n_0_1_15121024.startIndexMap from fun h => absurd (List.mem_singleton.mp h) (by decide)),
      dif_pos (show (2 : Fin 3) ∈ gather_S128x512x1024_S1024x1_S1024x512x1024_12_0_n_n_0_1_15121024.sKept from (GatherDims.mem_sKept _ _).mpr ⟨fun h => absurd (List.mem_singleton.mp h) (by decide), List.not_mem_nil⟩)]
    rw [Nat.zero_add]
    rfl

theorem rY_at (n o : Fin 1024) :
    rY x t w (ix2 n o) = ∑ k : Fin 512, x (ix2 n k) * w (ix3 ⟨(t (ix2 n 0)).toNat, ht n⟩ k o) := by
  have hr : dot_S1024x512_S1024x512x1024_S1024x1024_1_1_n_2_0_0.contr.rank = 1 := rfl
  show FloatOps.dotGeneral _ none _ x (rChosen t w) (ix2 n o) = _
  rw [Ideal.dotGeneral_apply, ← Equiv.sum_comp (contrEquiv1 dot_S1024x512_S1024x512x1024_S1024x1024_1_1_n_2_0_0 512 rfl rfl).symm]
  refine Finset.sum_congr rfl fun k _ => ?_
  have hk := contrEquiv1_symm_val dot_S1024x512_S1024x512x1024_S1024x1024_1_1_n_2_0_0 512 rfl rfl k
  have el : dot_S1024x512_S1024x512x1024_S1024x1024_1_1_n_2_0_0.lhsIdx (ix2 n o) ((contrEquiv1 _ 512 rfl rfl).symm k) = ix2 n k := by
    funext a; apply Fin.ext
    match a with
    | ⟨0, _⟩ => rfl
    | ⟨1, _⟩ => exact hk
  have er : dot_S1024x512_S1024x512x1024_S1024x1024_1_1_n_2_0_0.rhsIdx (ix2 n o) ((contrEquiv1 _ 512 rfl rfl).symm k) = ix3 n k o := by
    funext a; apply Fin.ext
    match a with
    | ⟨0, _⟩ => rfl
    | ⟨1, _⟩ => exact hk
    | ⟨2, _⟩ => rfl
  rw [el, er, rChosen_at t w ht]

/-- The reference's result at row `n`, column `o`. -/
theorem rOut_at (n o : Fin 1024) :
    rOut x t w (ix2 n o) = if rk t n < 6 then ∑ k : Fin 512, x (ix2 n k) * w (ix3 ⟨(t (ix2 n 0)).toNat, ht n⟩ k o) else 0 := by
  show Scalar.select (broadcastInDim S1024x1024 ![0, 1] bcast_S1024x1_S1024x1024_0_1 (broadcastInDim S1024x1 ![0] bcast_S1024_S1024x1_0
      (cmpi .slt (rRank t) (broadcastInDim S1024 ![] bcast_S_S1024 (constantI S_ 32 6#32)))) (ix2 n o)) (rY x t w (ix2 n o)) (Ideal.ofBits .f32 0x00000000#32) = _
  rw [col_at, rY_at x t w ht]
  show Scalar.select (IntOp.cmpi .slt (rRank t (ix1 n)) (BitVec.ofNat 32 6)) _ _ = _
  rw [rRank_at, WordCmp.cmpi_slt_ofNat (by have := rk_le t n; omega) (by decide), Ideal.ofBits_zero_f32]
  by_cases h : rk t n < 6
  · rw [if_pos h]; simp [Scalar.select, h]
  · rw [if_neg h]; simp [Scalar.select, h]

end

end Cert.RouteReference
-- ==== Proof.Match.lean ====
/-
# The kernel's result is the reference's block

Where every device holds the same table, and its four experts' matrices are its block of the whole, a device's
output block is its block of the reference's result.
-/
module

public import proofs.«01_k».proof.Proof.Value
public import proofs.«01_k».proof.Proof.Ref
public import Idealize.ShloMosaic.Lib.Layout

@[expose] public section

set_option maxRecDepth 16384

noncomputable section

namespace Cert.RouteKernelIdeal

open Cert.KernelIdeal Cert.KernelIdeal.Gen
open Idealize.ShloMosaic
open Idealize.ShloMosaic.ValueIdx
open Cert.RouteReference (rk rOut rOut_at)

variable (R : Route) (D : Ins Ideal)
variable (x : FVec Ideal S1024x512 .f32) (t : IVec S1024x1 32) (w : FVec Ideal Cert.ReferenceIdeal.S128x512x1024 .f32)
variable (hR : ∀ (c : Dev nD) (p : Tok), R.ex c (tn p) = (t (ix2 ⟨tn p, tn_lt p⟩ 0)).toNat)
include hR

theorem rank_eq (c : Dev nD) (p : Tok) : R.rank c (tn p) = rk t ⟨tn p, tn_lt p⟩ := by
  unfold Route.rank Route.cntE Route.exB rk
  refine Finset.card_bij (fun q _ => (⟨tn q, tn_lt q⟩ : Fin 1024)) ?_ ?_ ?_
  · intro q hq
    simp only [Finset.mem_filter, Finset.mem_univ, true_and] at hq ⊢
    refine ⟨?_, hq.2⟩
    have h := hq.1
    rw [hR, hR] at h
    exact (BitVec.eq_of_toNat_eq h).symm
  · intro q _ r _ h
    exact tn_inj (congrArg Fin.val h)
  · intro h hh
    simp only [Finset.mem_filter, Finset.mem_univ, true_and] at hh
    have e : tn (tk h.val h.isLt) = h.val := tn_tk h.val h.isLt
    have e2 : (⟨tn (tk h.val h.isLt), tn_lt _⟩ : Fin 1024) = h := Fin.ext e
    refine ⟨tk h.val h.isLt, ?_, e2⟩
    simp only [Finset.mem_filter, Finset.mem_univ, true_and]
    refine ⟨?_, by rw [e]; exact hh.2⟩
    rw [hR, hR, e2]
    exact congrArg BitVec.toNat hh.1.symm

/-- Device `d`'s finished block is block `d` of the reference's result. -/
theorem oFin_block (hx : ∀ c, xv c D = x) (hw : ∀ c : Dev nD, wv c D = Layout.block ⟨3, ![4, 512, 1024]⟩ ⟨3, ![128, 512, 1024]⟩ 0 32 c w) (d : Dev nD) :
    ov R d D = Layout.block ⟨2, ![32, 1024]⟩ ⟨2, ![1024, 1024]⟩ 0 32 d (rOut x t w) := by
  have ht : ∀ n : Fin 1024, (t (ix2 n 0)).toNat < 128 := fun n => by
    have h := hR d (tk n.val n.isLt)
    have e : (⟨tn (tk n.val n.isLt), tn_lt _⟩ : Fin 1024) = n := Fin.ext (tn_tk n.val n.isLt)
    rw [e] at h
    rw [← h]
    exact R.ex_lt _ _
  have hb : ∀ (v : FVec Ideal Cert.ReferenceIdeal.S1024x1024 .f32) (a : Fin 32) (o : Fin 1024),
      Layout.block ⟨2, ![32, 1024]⟩ ⟨2, ![1024, 1024]⟩ 0 32 d v (by decide) (ix2 a o) = v (ix2 ⟨tn (d, a), tn_lt _⟩ o) := fun v a o => by
    refine congrArg v (funext fun b => Fin.ext ?_)
    match b with
    | ⟨0, _⟩ => show d.val * 32 + a.val = 32 * d.val + a.val; omega
    | ⟨1, _⟩ => rfl
  funext y
  have hy : y = ix2 (⟨(y 0).val, (y 0).isLt⟩ : Fin 32) (⟨(y 1).val, (y 1).isLt⟩ : Fin 1024) := by
    funext a
    match a with
    | ⟨0, _⟩ => rfl
    | ⟨1, _⟩ => rfl
  rw [hy]
  generalize (⟨(y 0).val, (y 0).isLt⟩ : Fin 32) = a
  generalize (⟨(y 1).val, (y 1).isLt⟩ : Fin 1024) = o
  refine (oFin_at R D d a o).trans (Eq.trans ?_ (hb (rOut x t w) a o).symm)
  rw [rOut_at x t w ht, rank_eq R t hR]
  refine if_congr Iff.rfl ?_ rfl
  refine Finset.sum_congr rfl fun k _ => ?_
  rw [hx, hw]
  generalize hc : R.home (d, a) = c
  have h4 := R.home_ex c hc
  have hwe : Layout.block ⟨3, ![4, 512, 1024]⟩ ⟨3, ![128, 512, 1024]⟩ 0 32 c w (by decide) (ix3 ⟨R.ex c (tn (d, a)) % 4, Nat.mod_lt _ (by decide)⟩ k o)
      = w (ix3 ⟨(t (ix2 ⟨tn (d, a), tn_lt _⟩ 0)).toNat, ht _⟩ k o) := by
    refine congrArg w (funext fun b => Fin.ext ?_)
    match b with
    | ⟨0, _⟩ =>
      show c.val * 4 + R.ex c (tn (d, a)) % 4 = (t (ix2 ⟨tn (d, a), tn_lt _⟩ 0)).toNat
      rw [← hR c (d, a)]
      omega
    | ⟨1, _⟩ => rfl
    | ⟨2, _⟩ => rfl
  exact congrArg (x (ix2 ⟨tn (d, a), tn_lt _⟩ k) * ·) hwe

end Cert.RouteKernelIdeal
-- ==== Proof.Same.lean ====
/-
# One program under two names

Nothing is rewritten between the printed kernel and its ideal reading, so read over words they are one program,
and the first's frame is the second's.
-/
module

public import proofs.«01_k».proof.Defs
public import proofs.«01_k».proof.Proof.Gen.Kernel
public import proofs.«01_k».proof.Proof.Gen.KernelIdeal
public import proofs.«01_k».proof.Proof.Gen.Pre_routed_home_Kernel

@[expose] public section

set_option maxRecDepth 65536

namespace Cert.RouteSame
open Idealize.ShloMosaic

set_option maxHeartbeats 4000000

/-- The bodies, -/
theorem defs0_eq : (Cert.Kernel.defs₀ (F := Bits)) = (Cert.KernelIdeal.defs₀ (F := Bits)) := by
  funext p l a
  cases p with
  | tc =>
    obtain ⟨k, hk⟩ := l
    obtain rfl : k = 0 := Nat.lt_one_iff.mp hk
    obtain ⟨t, s⟩ := a
    rfl
  | scScalar _ => rfl
  | scVector _ _ => rfl

/-- the pipelined calls, -/
theorem defs_eq : (Cert.Kernel.defs (F := Bits)) = (Cert.KernelIdeal.defs (F := Bits)) :=
  congrArg (Pipeline.defs (Cert.KernelIdeal.pcfgs (F := Bits))) defs0_eq

/-- the host's text, -/
theorem main_eq : (Cert.Kernel.main (F := Bits)) = (Cert.KernelIdeal.main (F := Bits)) := rfl

/-- hence the runs agree; -/
theorem run_eq (c : MemSt Cert.KernelIdeal.nD Cert.KernelIdeal.τ Cert.KernelIdeal.sig (Elt Bits)) :
   θ_run (Cert.Kernel.defs (F := Bits)) (onTc (τ := Cert.Kernel.τ) (Cert.Kernel.main (F := Bits))) c
  = θ_run (Cert.KernelIdeal.defs (F := Bits)) (onTc (τ := Cert.KernelIdeal.τ) (Cert.KernelIdeal.main (F := Bits))) c := by
  show θ_run (Cert.Kernel.defs (F := Bits)) (onTc (τ := Cert.KernelIdeal.τ) (Cert.KernelIdeal.main (F := Bits))) c = _
  exact congrArg (fun d => θ_run d (onTc (τ := Cert.KernelIdeal.τ) (Cert.KernelIdeal.main (F := Bits))) c) defs_eq

/-- and a frame of the one is a frame of the other. -/
theorem frame_of
  (h : ∀ (m : (ℓ : Loc Cert.KernelIdeal.nD Cert.KernelIdeal.τ Cert.KernelIdeal.sig) → Buf (Elt Bits) ℓ) (g : Dev Cert.KernelIdeal.nD → PrngReg),
    (∀ c : Dev Cert.KernelIdeal.nD, Cert.Pre_routed_home_Kernel.fn (F := Bits) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) = fun _ => 1#1) →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)) : Cert.quiescent_Kernel := by
  intro m g hp
  rw [show θ_run (Cert.Kernel.defs (F := Bits)) (onTc (τ := Cert.Kernel.τ) (Cert.Kernel.main (F := Bits))) ⟨m, fun _ => 0, g⟩ = _ from run_eq ⟨m, fun _ => 0, g⟩]
  exact h m g hp

end Cert.RouteSame
-- ==== Proof.GWords.lean ====
/-
# The kernel's words in closed form

Every condition, offset, loop bound and device number the body computes, as the natural number it stands
for, over the words the kernel meets: an expert below 128, a token below 1024, a slot below 32.
-/
module

public import proofs.«01_k».proof.Proof.Gen.GatheredIdeal
public import proofs.«01_k».proof.Proof.Gen.GatheredIdeal.Skeleton
public import Idealize.ShloMosaic.Lib.LoopRemainder

@[expose] public section

set_option maxRecDepth 16384

noncomputable section

namespace Cert.RouteGatheredIdeal

open Cert.GatheredIdeal Cert.GatheredIdeal.Gen
open Idealize.ShloMosaic

/-- The word of a natural number. -/
abbrev wd (n : ℕ) : BitVec 32 := BitVec.ofNat 32 n

theorem wd_toNat {n : ℕ} (h : n < 4096) : (wd n).toNat = n := by
  rw [BitVec.toNat_ofNat]; exact Nat.mod_eq_of_lt (by omega)

theorem wd_of_toNat {b : BitVec 32} {n : ℕ} (h : b.toNat = n) : b = wd n := by
  subst h; simp [wd]

theorem wd_inj {m n : ℕ} (hm : m < 4096) (hn : n < 4096) (h : wd m = wd n) : m = n := by
  rw [← wd_toNat hm, ← wd_toNat hn, h]

theorem wd_add (m n : ℕ) : Scalar.addi (wd m) (wd n) = wd (m + n) := by
  exact (BitVec.ofNat_add m n).symm

/-- The slot of a token: its expert's eight rows, at its rank; row seven beyond the capacity. -/
def slotN (e r : ℕ) : ℕ := if r < 6 then (e % 4) * 8 + r else 7

theorem slotN_lt (e r : ℕ) : slotN e r < 32 := by unfold slotN; split <;> omega

theorem v2_eq : ∀ d : Dev nD, Scalar.remsi (Scalar.divsi (Dev.word d) 1#32) 32#32 = wd d.val := by decide +kernel

theorem iv_t1 (t : Fin k0_t1_loop.trips) : Scf.iv 0#32 1#32 t = wd t.val := by
  simp [Scf.iv, wd]
theorem iv_t3 (t : Fin k0_t3_loop.trips) : Scf.iv 0#32 1#32 t = wd t.val := by
  simp [Scf.iv, wd]

theorem trips_t1 : k0_t1_loop.trips = 32 := by decide +kernel
theorem trips_t2 : k0_t2_loop.trips = 128 := by decide +kernel
theorem trips_t3 : k0_t3_loop.trips = 1024 := by decide +kernel

theorem cond1_iff : ∀ (d : Dev nD) (t : Fin k0_t1_loop.trips), k0_cond1 d t = 1#1 ↔ t.val ≠ d.val := by decide +kernel

theorem cond2_iff : ∀ (d : Dev nD) (e : Fin 128), k0_cond2 d (wd e.val) = 1#1 ↔ e.val / 4 = d.val := by decide +kernel

theorem off3_eq {e : ℕ} (h : e < 128) : k0_off3 (wd e) = ![e] := by
  exact congrArg (fun n => ![n]) (wd_toNat (n := e) (by omega))

theorem off4_eq {e : ℕ} (h : e < 1024) : k0_off4 (wd e) = ![e] := by
  exact congrArg (fun n => ![n]) (wd_toNat (n := e) (by omega))

theorem off6_eq {e : ℕ} (h : e < 1024) : k0_off6 (wd e) = ![e, 0] := by
  exact congrArg (fun n => ![n, 0]) (wd_toNat (n := e) (by omega))

theorem off7_eq {e : ℕ} (h : e < 32) : k0_off7 (wd e) = ![e, 0] := by
  exact congrArg (fun n => ![n, 0]) (wd_toNat (n := e) (by omega))

theorem off12_eq {e : ℕ} (h : e < 32) : k0_off12 (wd e) = ![e, 0] := by
  exact congrArg (fun n => ![n, 0]) (wd_toNat (n := e) (by omega))

theorem off15_eq {e : ℕ} (h : e < 32) : k0_off15 (wd e) = ![e, 0] := by
  exact congrArg (fun n => ![n, 0]) (wd_toNat (n := e) (by omega))

/-- The expert's place on its device, as the body computes it. -/
theorem mod4_word : ∀ e : Fin 128,
    (let v97 := Scalar.select (Scalar.cmpi .eq 4#32 0#32) 1#32 4#32
     let v98 := Scalar.remsi (wd e.val) v97
     Scalar.select (Scalar.andi (Scalar.xori (Scalar.cmpi .slt v98 0#32) (Scalar.cmpi .slt v97 0#32)) (Scalar.cmpi .ne v98 0#32))
       (Scalar.addi v98 v97) v98 : BitVec 32) = wd (e.val % 4) := by decide +kernel

theorem slt6_word : ∀ r : Fin 1024, (Scalar.cmpi .slt (wd r.val) 6#32 = 1#1) ↔ r.val < 6 := by decide +kernel

theorem slot_small : ∀ (r : Fin 6) (m : Fin 4),
    Scalar.addi (Scalar.muli (wd m.val) 8#32) (wd r.val) = wd (m.val * 8 + r.val) := by decide +kernel

/-- The slot, as the body computes it. -/
theorem slot_word {e r : ℕ} (he : e < 128) (hr : r < 1024) :
    (let v97 := Scalar.select (Scalar.cmpi .eq 4#32 0#32) 1#32 4#32
     let v98 := Scalar.remsi (wd e) v97
     Scalar.select (Scalar.cmpi .slt (wd r) 6#32)
      (Scalar.addi (Scalar.muli (Scalar.select (Scalar.andi (Scalar.xori (Scalar.cmpi .slt v98 0#32) (Scalar.cmpi .slt v97 0#32)) (Scalar.cmpi .ne v98 0#32))
       (Scalar.addi v98 v97) v98) 8#32) (wd r)) 7#32 : BitVec 32) = wd (slotN e r) := by
  have h1 := mod4_word ⟨e, he⟩
  have h2 := slt6_word ⟨r, hr⟩
  dsimp only at h1 h2 ⊢
  rw [h1]
  unfold slotN
  by_cases h : r < 6
  · rw [h2.2 h, if_pos h, ← slot_small ⟨r, h⟩ ⟨e % 4, by omega⟩]; rfl
  · have h3 : Scalar.cmpi .slt (wd r) 6#32 = 0#1 := by
      have : ∀ b : BitVec 1, b ≠ 1#1 → b = 0#1 := by decide
      exact this _ fun hc => h (h2.1 hc)
    rw [h3, if_neg h]; rfl

/-- A word divided by 32 and rounded down, as the body computes it. -/
def fdivW (v : BitVec 32) : BitVec 32 :=
  Scalar.select (Scalar.andi (Scalar.cmpi .ne
      (Scalar.subi (Scalar.extui (Scalar.cmpi .sgt v 0#32)) (Scalar.extui (Scalar.cmpi .slt v 0#32)))
      (Scalar.subi (Scalar.extui (Scalar.cmpi .sgt 32#32 0#32)) (Scalar.extui (Scalar.cmpi .slt 32#32 0#32))))
    (Scalar.cmpi .ne (Scalar.remsi v 32#32) 0#32))
    (Scalar.subi (Scalar.divsi v 32#32) 1#32) (Scalar.divsi v 32#32)

theorem fdivW_eq : ∀ i : Fin 1024, fdivW (wd i.val) = wd (i.val / 32) := by decide +kernel

/-- The own block's indicator, as the body computes it. -/
theorem own_word : ∀ a d : Fin 32,
    Scalar.select (Scalar.cmpi .eq (wd a.val) (wd d.val)) 1#32 0#32 = wd (if a = d then 1 else 0) := by decide +kernel

theorem eq_word : ∀ a d : Fin 32,
    Scalar.cmpi .ne (Scalar.extui (Scalar.cmpi .eq (wd a.val) (wd d.val)) : BitVec 32) 0#32 = 1#1 ↔ a = d := by decide +kernel
theorem ne_word : ∀ a d : Fin 32,
    Scalar.cmpi .ne (Scalar.extui (Scalar.cmpi .ne (wd a.val) (wd d.val)) : BitVec 32) 0#32 = 1#1 ↔ a ≠ d := by decide +kernel

theorem cond5_iff (d : Dev nD) {i : ℕ} (hi : i < 1024) : k0_cond5 d (wd i) = 1#1 ↔ i / 32 = d.val := by
  have h : k0_cond5 d (wd i) = Scalar.cmpi .ne (Scalar.extui (Scalar.cmpi .eq (fdivW (wd i)) (Scalar.remsi (Scalar.divsi (Dev.word d) 1#32) 32#32)) : BitVec 32) 0#32 := rfl
  rw [h, v2_eq, fdivW_eq ⟨i, hi⟩]
  exact (eq_word ⟨i / 32, by omega⟩ d).trans Fin.ext_iff

theorem cond6_iff (d : Dev nD) {i : ℕ} (hi : i < 1024) : k0_cond6 d (wd i) = 1#1 ↔ i / 32 ≠ d.val := by
  have h : k0_cond6 d (wd i) = Scalar.cmpi .ne (Scalar.extui (Scalar.cmpi .ne (fdivW (wd i)) (Scalar.remsi (Scalar.divsi (Dev.word d) 1#32) 32#32)) : BitVec 32) 0#32 := rfl
  rw [h, v2_eq, fdivW_eq ⟨i, hi⟩]
  exact (ne_word ⟨i / 32, by omega⟩ d).trans (not_congr Fin.ext_iff)

theorem off13_0 : ∀ i : Fin 1024, (k0_off13 (wd i.val)) 0 = i.val % 32 := by decide +kernel
theorem off13_eq {i : ℕ} (hi : i < 1024) : k0_off13 (wd i) = ![i % 32, 0] := by
  funext a
  match a with
  | 0 => exact off13_0 ⟨i, hi⟩
  | 1 => rfl
theorem off14_0 : ∀ i : Fin 1024, (k0_off14 (wd i.val)) 0 = i.val % 32 := by decide +kernel
theorem off14_eq {i : ℕ} (hi : i < 1024) : k0_off14 (wd i) = ![i % 32, 0] := by
  funext a
  match a with
  | 0 => exact off14_0 ⟨i, hi⟩
  | 1 => rfl
theorem dev2_fin : ∀ i : Fin 1024, k0_dev2 (wd i.val) = i.val / 32 := by decide +kernel
theorem dev2_eq {i : ℕ} (hi : i < 1024) : k0_dev2 (wd i) = i / 32 := dev2_fin ⟨i, hi⟩

theorem cond3_fin : ∀ s : Fin 32, k0_cond3 (wd s.val) = 1#1 ↔ s.val ≠ 7 := by decide +kernel
theorem cond3_iff {s : ℕ} (h : s < 32) : k0_cond3 (wd s) = 1#1 ↔ s ≠ 7 := cond3_fin ⟨s, h⟩

/-! ## The loops' bounds -/

theorem trips_t4 {n : ℕ} (h : n ≤ 1024) : (k0_t4_loop (wd n)).trips = n := by
  have : ∀ n : Fin 1025, (k0_t4_loop (wd n.val)).trips = n.val := by decide +kernel
  exact this ⟨n, by omega⟩
theorem ok_t4 {n : ℕ} (h : n ≤ 1024) : (k0_t4_loop (wd n)).OK := by
  have : ∀ n : Fin 1025, (k0_t4_loop (wd n.val)).OK := by decide +kernel
  exact this ⟨n, by omega⟩
theorem trips_t6 {n : ℕ} (h : n ≤ 1024) : (k0_t6_loop (wd n)).trips = n := trips_t4 h
theorem trips_t5 (w : BitVec 32) : (k0_t5_loop w).trips = 0 := Scf.rem_trips 0#32 (Scalar.subi w 0#32)
theorem trips_t7 (w : BitVec 32) : (k0_t7_loop w).trips = 0 := Scf.rem_trips 0#32 (Scalar.subi w 0#32)
theorem trips_t8 {n : ℕ} (h : n ≤ 32) : (k0_t8_loop (wd n)).trips = 32 - n := by
  have : ∀ n : Fin 33, (k0_t8_loop (wd n.val)).trips = 32 - n.val := by decide +kernel
  exact this ⟨n, by omega⟩
theorem trips_t9 (w : BitVec 32) : (k0_t9_loop w).trips = 0 := Scf.rem_trips 0#32 _
theorem trips_t10 {n m : ℕ} (h : n ≤ 1024) (hm : m ≤ n) : (k0_t10_loop (wd n) (wd m)).trips = n - m := by
  have e : Scalar.subi (wd n) (wd m) = wd (n - m) := by
    apply BitVec.eq_of_toNat_eq
    show (wd n - wd m).toNat = (wd (n - m)).toNat
    rw [BitVec.toNat_sub, wd_toNat (by omega), wd_toNat (by omega), wd_toNat (by omega)]
    omega
  have h4 := trips_t4 (n := n - m) (by omega)
  unfold k0_t10_loop
  rw [e]
  exact h4
theorem trips_t11 (v w : BitVec 32) : (k0_t11_loop v w).trips = 0 := Scf.rem_trips 0#32 _

theorem off1_eq (t : Fin k0_t2_loop.trips) : k0_off1 t = ![t.val] := k0_off1_eq t
theorem off5_eq {n : ℕ} (h : n ≤ 1024) (t : Fin (k0_t4_loop (wd n)).trips) : k0_off5 (wd n) t = ![t.val] := by
  have ht : t.val < n := lt_of_lt_of_eq t.isLt (trips_t4 h)
  have h1 : Scf.iv 0#32 1#32 t.val = wd t.val := by simp [Scf.iv, wd]
  have h2 : (Scf.iv 0#32 1#32 t.val : BitVec 32).toNat = t.val := by
    rw [h1]; exact wd_toNat (by omega)
  exact congrArg (fun n => ![n]) h2
theorem off11_eq {n : ℕ} (h : n ≤ 1024) (t : Fin (k0_t6_loop (wd n)).trips) : k0_off11 (wd n) t = ![t.val] := off5_eq h t

theorem chk1_ok {e : ℕ} (h : e < 128) : k0_chk1 (wd e) := by
  unfold k0_chk1; rw [off3_eq h]; intro a
  match a with | 0 => show e + 1 ≤ 128; omega

theorem chk2_ok (d : Dev nD) (v : BitVec 32) {j : ℕ} (h : k0_cond2 d v = 1#1 → j < 1024) : k0_chk2 d v (wd j) := by
  intro hc; rw [off4_eq (h hc)]; intro a
  have := h hc
  match a with | 0 => show j + 1 ≤ 1024; omega

theorem chk3_ok {n : ℕ} (h : n ≤ 1024) : k0_chk3 (wd n) := by
  refine ⟨ok_t4 h, fun t => ?_, Scf.rem_ok _ _, fun t => absurd (lt_of_lt_of_eq t.isLt (trips_t5 _)) (Nat.not_lt_zero _), ok_t4 h, fun t => ?_,
    Scf.rem_ok _ _, fun t => absurd (lt_of_lt_of_eq t.isLt (trips_t7 _)) (Nat.not_lt_zero _)⟩
  · have ht : t.val < n := lt_of_lt_of_eq t.isLt (trips_t4 h)
    rw [off5_eq h]; intro a
    match a with | 0 => show t.val + 1 ≤ 1024; omega
  · have ht : t.val < n := lt_of_lt_of_eq t.isLt (trips_t6 h)
    rw [off11_eq h]; intro a
    match a with | 0 => show t.val + 1 ≤ 1024; omega

theorem chk4_ok (v : BitVec 32) {i : ℕ} (h : i < 1024) : k0_chk4 v (wd i) := by
  intro _; rw [off6_eq h]; intro a
  match a with
  | 0 => show i + 1 ≤ 1024; omega
  | 1 => show 0 + 512 ≤ 512; omega

theorem chk5_ok {s : ℕ} (h : s < 32) : k0_chk5 (wd s) := by
  intro _; rw [off7_eq h]; intro a
  match a with
  | 0 => show s + 1 ≤ 32; omega
  | 1 => show 0 + 512 ≤ 512; omega

theorem chk8_ok (d : Dev nD) (v : BitVec 32) {s : ℕ} (h : s < 32) : k0_chk8 d v (wd s) := by
  refine ⟨fun _ => ?_, fun _ => ?_⟩
  · rw [off12_eq h]; intro a
    match a with
    | 0 => show s + 1 ≤ 32; omega
    | 1 => show 0 + 1024 ≤ 1024; omega
  · rw [off15_eq h]; intro a
    match a with
    | 0 => show s + 1 ≤ 32; omega
    | 1 => show 0 + 1024 ≤ 1024; omega

theorem chk9_ok (d : Dev nD) {i : ℕ} (h : i < 1024) : k0_chk9 d (wd i) := by
  refine ⟨fun _ => ?_, fun _ => ?_, fun _ => ?_⟩
  · rw [off13_eq h]; intro a
    match a with
    | 0 => show i % 32 + 1 ≤ 32; omega
    | 1 => show 0 + 1024 ≤ 1024; omega
  · rw [off14_eq h]; intro a
    match a with
    | 0 => show i % 32 + 1 ≤ 32; omega
    | 1 => show 0 + 1024 ≤ 1024; omega
  · rw [dev2_eq h]; show i / 32 < 32; omega

end Cert.RouteGatheredIdeal

end
-- ==== Proof.GWorld.lean ====
/-
# The routing, as pure data

Tokens are pairs (block, row); `Route` says what each device's table holds and which device serves a token.
Counted here: how many tokens before a time are a device's, how many of those are of its own block, how many
before a time go to an expert. The device's `j`-th token is found by its count.
-/
module

public import proofs.«01_k».proof.Proof.GWords

@[expose] public section

set_option maxRecDepth 16384

noncomputable section

namespace Cert.RouteGatheredIdeal

open Cert.GatheredIdeal Cert.GatheredIdeal.Gen
open Idealize.ShloMosaic

/-- A token: the block it lies in (the device that returns its row) and its row there. -/
abbrev Tok : Type := Dev nD × Fin 32

/-- A token's number. -/
def tn (p : Tok) : ℕ := 32 * p.1.val + p.2.val

theorem tn_lt (p : Tok) : tn p < 1024 := by
  have h1 : p.1.val < 32 := p.1.isLt
  have h2 := p.2.isLt
  unfold tn; omega
theorem tn_div (p : Tok) : tn p / 32 = p.1.val := by
  have h2 := p.2.isLt
  unfold tn; omega
theorem tn_mod (p : Tok) : tn p % 32 = p.2.val := by
  have h2 := p.2.isLt
  unfold tn; omega
theorem tn_inj {p q : Tok} (h : tn p = tn q) : p = q := by
  refine Prod.ext (Fin.ext ?_) (Fin.ext ?_)
  · rw [← tn_div, ← tn_div, h]
  · rw [← tn_mod, ← tn_mod, h]

/-- The token of a number below 1024. -/
def tk (n : ℕ) (h : n < 1024) : Tok := (⟨n / 32, by show n / 32 < 32; omega⟩, ⟨n % 32, by omega⟩)

theorem tn_tk (n : ℕ) (h : n < 1024) : tn (tk n h) = n := by unfold tn tk; dsimp only; omega
theorem tk_tn (p : Tok) : tk (tn p) (tn_lt p) = p := tn_inj (tn_tk _ _)

/-- What the tables hold, and who serves a token: device `c`'s table names for token `n` the expert `ex c n`, and
    every device's table agrees about whether a token is its own. -/
structure Route where
  ex : Dev nD → ℕ → ℕ
  home : Tok → Dev nD
  ex_lt : ∀ c n, ex c n < 128
  ex_home : ∀ c p, ex c (tn p) / 4 = c.val ↔ home p = c

namespace Route

variable (R : Route) (c : Dev nD)

/-- Device `c`'s tokens numbered below `t`; -/
def mineB (t : ℕ) : Finset Tok := Finset.univ.filter fun p => R.home p = c ∧ tn p < t
/-- those of its own block; -/
def selfB (t : ℕ) : Finset Tok := Finset.univ.filter fun p => (R.home p = c ∧ p.1 = c) ∧ tn p < t
/-- the tokens below `t` that its table sends to expert `e`. -/
def exB (e t : ℕ) : Finset Tok := Finset.univ.filter fun p => R.ex c (tn p) = e ∧ tn p < t

def cnt (t : ℕ) : ℕ := (R.mineB c t).card
def slf (t : ℕ) : ℕ := (R.selfB c t).card
def cntE (e t : ℕ) : ℕ := (R.exB c e t).card

/-- A token's place among those its table sends to the same expert, and its slot. -/
def rank (n : ℕ) : ℕ := R.cntE c (R.ex c n) n
def slot (n : ℕ) : ℕ := slotN (R.ex c n) (R.rank c n)

theorem slot_lt (n : ℕ) : R.slot c n < 32 := slotN_lt _ _

end Route

/-- Counting up to `t + 1` is counting up to `t` and looking at token `t`. -/
theorem card_step (P : Tok → Prop) [DecidablePred P] (t : ℕ) (h : t < 1024) :
    (Finset.univ.filter fun p => P p ∧ tn p < t + 1).card
      = (Finset.univ.filter fun p => P p ∧ tn p < t).card + if P (tk t h) then 1 else 0 := by
  by_cases hp : P (tk t h)
  · rw [if_pos hp]
    have : (Finset.univ.filter fun p => P p ∧ tn p < t + 1) = insert (tk t h) (Finset.univ.filter fun p => P p ∧ tn p < t) := by
      ext p
      simp only [Finset.mem_filter, Finset.mem_univ, true_and, Finset.mem_insert]
      constructor
      · rintro ⟨h1, h2⟩
        rcases Nat.lt_succ_iff_lt_or_eq.mp h2 with h3 | h3
        · exact .inr ⟨h1, h3⟩
        · exact .inl (tn_inj (h3.trans (tn_tk t h).symm))
      · rintro (rfl | ⟨h1, h2⟩)
        · exact ⟨hp, by rw [tn_tk]; omega⟩
        · exact ⟨h1, by omega⟩
    rw [this, Finset.card_insert_of_notMem]
    simp only [Finset.mem_filter, Finset.mem_univ, true_and, not_and, tn_tk]
    intro _; omega
  · rw [if_neg hp]
    refine (congrArg Finset.card ?_).trans (Nat.add_zero _).symm
    ext p
    simp only [Finset.mem_filter, Finset.mem_univ, true_and]
    constructor
    · rintro ⟨h1, h2⟩
      rcases Nat.lt_succ_iff_lt_or_eq.mp h2 with h3 | h3
      · exact ⟨h1, h3⟩
      · exact absurd (by rwa [← tn_inj (h3.trans (tn_tk t h).symm)] : P (tk t h)) hp
    · rintro ⟨h1, h2⟩; exact ⟨h1, by omega⟩

theorem card_le (P : Tok → Prop) [DecidablePred P] : ∀ t : ℕ, t ≤ 1024 → (Finset.univ.filter fun p => P p ∧ tn p < t).card ≤ t
  | 0, _ => by
    have h0 : (Finset.univ.filter fun p => P p ∧ tn p < 0) = ∅ := by ext p; simp
    rw [h0, Finset.card_empty]
  | t + 1, h => by
    rw [card_step P t (by omega)]
    have := card_le P t (by omega)
    split <;> omega

theorem card_mono (P : Tok → Prop) [DecidablePred P] {t u : ℕ} (h : t ≤ u) :
    (Finset.univ.filter fun p => P p ∧ tn p < t).card ≤ (Finset.univ.filter fun p => P p ∧ tn p < u).card := by
  apply Finset.card_le_card
  intro p hp
  simp only [Finset.mem_filter, Finset.mem_univ, true_and] at hp ⊢
  exact ⟨hp.1, by omega⟩

theorem card_zero (P : Tok → Prop) [DecidablePred P] : (Finset.univ.filter fun p => P p ∧ tn p < 0).card = 0 := by
  have := card_le P 0 (by omega); omega

namespace Route

variable (R : Route) (c : Dev nD)

theorem cnt_succ (t : ℕ) (h : t < 1024) : R.cnt c (t + 1) = R.cnt c t + if R.home (tk t h) = c then 1 else 0 :=
  card_step (fun p => R.home p = c) t h
theorem slf_succ (t : ℕ) (h : t < 1024) : R.slf c (t + 1) = R.slf c t + if (R.home (tk t h) = c ∧ (tk t h).1 = c) then 1 else 0 :=
  card_step (fun p => R.home p = c ∧ p.1 = c) t h
theorem cntE_succ (e t : ℕ) (h : t < 1024) : R.cntE c e (t + 1) = R.cntE c e t + if R.ex c t = e then 1 else 0 := by
  have := card_step (fun p => R.ex c (tn p) = e) t h
  rw [tn_tk] at this; exact this
theorem cnt_zero : R.cnt c 0 = 0 := card_zero _
theorem slf_zero : R.slf c 0 = 0 := card_zero _
theorem cntE_zero (e : ℕ) : R.cntE c e 0 = 0 := card_zero _
theorem cnt_le (t : ℕ) (h : t ≤ 1024) : R.cnt c t ≤ t := card_le _ t h
theorem cntE_le (e t : ℕ) (h : t ≤ 1024) : R.cntE c e t ≤ t := card_le _ t h
theorem slf_le_cnt (t : ℕ) : R.slf c t ≤ R.cnt c t := by
  apply Finset.card_le_card
  intro p hp
  simp only [selfB, mineB, Finset.mem_filter, Finset.mem_univ, true_and] at hp ⊢
  exact ⟨hp.1.1, hp.2⟩
theorem cnt_mono {t u : ℕ} (h : t ≤ u) : R.cnt c t ≤ R.cnt c u := card_mono _ h

theorem home_iff (n : ℕ) (h : n < 1024) : R.ex c n / 4 = c.val ↔ R.home (tk n h) = c := by
  have := R.ex_home c (tk n h)
  rwa [tn_tk] at this

/-- Of two own tokens the earlier has the smaller count. -/
theorem cnt_lt {p : Tok} (hp : R.home p = c) {u : ℕ} (hu : u ≤ 1024) (h : tn p < u) : R.cnt c (tn p) < R.cnt c u := by
  have h1 := R.cnt_succ c (tn p) (tn_lt p)
  rw [tk_tn, if_pos hp] at h1
  have h2 := R.cnt_mono c (t := tn p + 1) (u := u) (by omega)
  omega

theorem cnt_inj {p q : Tok} (hp : R.home p = c) (hq : R.home q = c) (h : R.cnt c (tn p) = R.cnt c (tn q)) : p = q := by
  rcases Nat.lt_trichotomy (tn p) (tn q) with h1 | h1 | h1
  · have := R.cnt_lt c hp (u := tn q) (le_of_lt (tn_lt q)) h1; omega
  · exact tn_inj h1
  · have := R.cnt_lt c hq (u := tn p) (le_of_lt (tn_lt p)) h1; omega

/-- The number of device `c`'s tokens. -/
def nMy : ℕ := R.cnt c 1024
/-- The number of its own block's tokens it serves itself. -/
def nSelf : ℕ := R.slf c 1024

theorem nMy_le : R.nMy c ≤ 1024 := R.cnt_le c 1024 le_rfl
theorem nSelf_le : R.nSelf c ≤ R.nMy c := R.slf_le_cnt c 1024

theorem cnt_lt_nMy {p : Tok} (hp : R.home p = c) : R.cnt c (tn p) < R.nMy c := R.cnt_lt c hp le_rfl (tn_lt p)

/-- The device's `j`-th token. -/
theorem exists_nth {j : ℕ} (hj : j < R.nMy c) : ∃ p, R.home p = c ∧ R.cnt c (tn p) = j := by
  by_contra hn
  have key : ∀ t, t ≤ 1024 → R.cnt c t ≤ j := by
    intro t
    induction t with
    | zero => intro _; rw [R.cnt_zero c]; omega
    | succ t ih =>
      intro ht
      have h1 := ih (by omega)
      rw [R.cnt_succ c t (by omega)]
      by_cases hh : R.home (tk t (by omega)) = c
      · rw [if_pos hh]
        have : R.cnt c t ≠ j := fun he => hn ⟨_, hh, by rw [tn_tk]; exact he⟩
        omega
      · rw [if_neg hh]; omega
  have := key 1024 le_rfl
  unfold nMy at hj; omega

/-- Device `c`'s tokens from its `j`-th on; -/
def left (j : ℕ) : Finset Tok := Finset.univ.filter fun p => R.home p = c ∧ j ≤ R.cnt c (tn p)
/-- those of other blocks; -/
def leftR (j : ℕ) : Finset Tok := Finset.univ.filter fun p => (R.home p = c ∧ p.1 ≠ c) ∧ j ≤ R.cnt c (tn p)
/-- those of other blocks before its `j`-th; -/
def sent (j : ℕ) : Finset Tok := Finset.univ.filter fun p => (R.home p = c ∧ p.1 ≠ c) ∧ R.cnt c (tn p) < j
/-- those of its own block before its `j`-th. -/
def kept (j : ℕ) : Finset Tok := Finset.univ.filter fun p => (R.home p = c ∧ p.1 = c) ∧ R.cnt c (tn p) < j

section Step
variable {p : Tok} {j : ℕ} (hp : R.home p = c) (hj : R.cnt c (tn p) = j)
include hp hj

theorem left_eq : R.left c j = insert p (R.left c (j + 1)) := by
  ext q
  simp only [left, Finset.mem_filter, Finset.mem_univ, true_and, Finset.mem_insert]
  constructor
  · rintro ⟨h1, h2⟩
    by_cases h : R.cnt c (tn q) = j
    · exact .inl (R.cnt_inj c h1 hp (h.trans hj.symm))
    · exact .inr ⟨h1, by omega⟩
  · rintro (rfl | ⟨h1, h2⟩)
    · exact ⟨hp, by omega⟩
    · exact ⟨h1, by omega⟩
theorem not_left : p ∉ R.left c (j + 1) := by
  simp only [left, Finset.mem_filter, Finset.mem_univ, true_and, not_and]; omega
theorem leftR_eq (hr : p.1 ≠ c) : R.leftR c j = insert p (R.leftR c (j + 1)) := by
  ext q
  simp only [leftR, Finset.mem_filter, Finset.mem_univ, true_and, Finset.mem_insert]
  constructor
  · rintro ⟨h1, h2⟩
    by_cases h : R.cnt c (tn q) = j
    · exact .inl (R.cnt_inj c h1.1 hp (h.trans hj.symm))
    · exact .inr ⟨h1, by omega⟩
  · rintro (rfl | ⟨h1, h2⟩)
    · exact ⟨⟨hp, hr⟩, by omega⟩
    · exact ⟨h1, by omega⟩
theorem not_leftR : p ∉ R.leftR c (j + 1) := by
  simp only [leftR, Finset.mem_filter, Finset.mem_univ, true_and, not_and]; omega
theorem leftR_own (hr : p.1 = c) : R.leftR c j = R.leftR c (j + 1) := by
  ext q
  simp only [leftR, Finset.mem_filter, Finset.mem_univ, true_and]
  constructor
  · rintro ⟨h1, h2⟩
    refine ⟨h1, ?_⟩
    have : R.cnt c (tn q) ≠ j := fun h => h1.2 (by rw [R.cnt_inj c h1.1 hp (h.trans hj.symm)]; exact hr)
    omega
  · rintro ⟨h1, h2⟩; exact ⟨h1, by omega⟩
theorem sent_eq (hr : p.1 ≠ c) : R.sent c (j + 1) = insert p (R.sent c j) := by
  ext q
  simp only [sent, Finset.mem_filter, Finset.mem_univ, true_and, Finset.mem_insert]
  constructor
  · rintro ⟨h1, h2⟩
    by_cases h : R.cnt c (tn q) = j
    · exact .inl (R.cnt_inj c h1.1 hp (h.trans hj.symm))
    · exact .inr ⟨h1, by omega⟩
  · rintro (rfl | ⟨h1, h2⟩)
    · exact ⟨⟨hp, hr⟩, by omega⟩
    · exact ⟨h1, by omega⟩
theorem not_sent : p ∉ R.sent c j := by
  simp only [sent, Finset.mem_filter, Finset.mem_univ, true_and, not_and]; omega
theorem sent_own (hr : p.1 = c) : R.sent c (j + 1) = R.sent c j := by
  ext q
  simp only [sent, Finset.mem_filter, Finset.mem_univ, true_and]
  constructor
  · rintro ⟨h1, h2⟩
    refine ⟨h1, ?_⟩
    have : R.cnt c (tn q) ≠ j := fun h => h1.2 (by rw [R.cnt_inj c h1.1 hp (h.trans hj.symm)]; exact hr)
    omega
  · rintro ⟨h1, h2⟩; exact ⟨h1, by omega⟩
theorem kept_eq (hr : p.1 = c) : R.kept c (j + 1) = insert p (R.kept c j) := by
  ext q
  simp only [kept, Finset.mem_filter, Finset.mem_univ, true_and, Finset.mem_insert]
  constructor
  · rintro ⟨h1, h2⟩
    by_cases h : R.cnt c (tn q) = j
    · exact .inl (R.cnt_inj c h1.1 hp (h.trans hj.symm))
    · exact .inr ⟨h1, by omega⟩
  · rintro (rfl | ⟨h1, h2⟩)
    · exact ⟨⟨hp, hr⟩, by omega⟩
    · exact ⟨h1, by omega⟩
theorem not_kept : p ∉ R.kept c j := by
  simp only [kept, Finset.mem_filter, Finset.mem_univ, true_and, not_and]; omega
theorem kept_remote (hr : p.1 ≠ c) : R.kept c (j + 1) = R.kept c j := by
  ext q
  simp only [kept, Finset.mem_filter, Finset.mem_univ, true_and]
  constructor
  · rintro ⟨h1, h2⟩
    refine ⟨h1, ?_⟩
    have : R.cnt c (tn q) ≠ j := fun h => hr (by rw [← R.cnt_inj c h1.1 hp (h.trans hj.symm)]; exact h1.2)
    omega
  · rintro ⟨h1, h2⟩; exact ⟨h1, by omega⟩

end Step

theorem left_zero : R.left c 0 = Finset.univ.filter fun p => R.home p = c := by
  ext p; simp [left]
theorem left_last : R.left c (R.nMy c) = ∅ := by
  ext p
  simp only [left, Finset.mem_filter, Finset.mem_univ, true_and, Finset.notMem_empty, iff_false, not_and]
  intro h; have := R.cnt_lt_nMy c h; omega
theorem leftR_zero : R.leftR c 0 = Finset.univ.filter fun p => R.home p = c ∧ p.1 ≠ c := by
  ext p; simp [leftR]
theorem leftR_last : R.leftR c (R.nMy c) = ∅ := by
  ext p
  simp only [leftR, Finset.mem_filter, Finset.mem_univ, true_and, Finset.notMem_empty, iff_false, not_and]
  intro h; have := R.cnt_lt_nMy c h.1; omega
theorem sent_zero : R.sent c 0 = ∅ := by
  ext p; simp [sent]
theorem kept_zero : R.kept c 0 = ∅ := by
  ext p; simp [kept]
/-- All it sends; -/
def outs : Finset Tok := Finset.univ.filter fun p => R.home p = c ∧ p.1 ≠ c
/-- all it keeps; -/
def own : Finset Tok := Finset.univ.filter fun p => R.home p = c ∧ p.1 = c
/-- all it receives. -/
def ins : Finset Tok := Finset.univ.filter fun p => p.1 = c ∧ R.home p ≠ c

theorem sent_last : R.sent c (R.nMy c) = R.outs c := by
  ext p
  simp only [sent, outs, Finset.mem_filter, Finset.mem_univ, true_and]
  exact ⟨fun h => h.1, fun h => ⟨h, R.cnt_lt_nMy c h.1⟩⟩
theorem kept_last : R.kept c (R.nMy c) = R.own c := by
  ext p
  simp only [kept, own, Finset.mem_filter, Finset.mem_univ, true_and]
  exact ⟨fun h => h.1, fun h => ⟨h, R.cnt_lt_nMy c h.1⟩⟩

theorem card_own : (R.own c).card = R.nSelf c := by
  unfold nSelf slf
  refine congrArg Finset.card ?_
  ext p
  simp only [own, selfB, Finset.mem_filter, Finset.mem_univ, true_and]
  exact ⟨fun h => ⟨h, tn_lt p⟩, fun h => h.1⟩

theorem card_block : (Finset.univ.filter fun p : Tok => p.1 = c).card = 32 := by
  have : (Finset.univ.filter fun p : Tok => p.1 = c) = Finset.univ.map ⟨fun r : Fin 32 => (c, r), fun _ _ h => (Prod.ext_iff.mp h).2⟩ := by
    ext p
    simp only [Finset.mem_filter, Finset.mem_univ, true_and, Finset.mem_map, Function.Embedding.coeFn_mk]
    exact ⟨fun h => ⟨p.2, Prod.ext h.symm rfl⟩, by rintro ⟨r, rfl⟩; rfl⟩
  rw [this, Finset.card_map, Finset.card_univ, Fintype.card_fin]

theorem own_ins : (R.own c).card + (R.ins c).card = 32 := by
  rw [← card_block c, ← Finset.card_union_of_disjoint]
  · refine congrArg Finset.card ?_
    ext p
    simp only [own, ins, Finset.mem_union, Finset.mem_filter, Finset.mem_univ, true_and]
    by_cases h : R.home p = c <;> simp [h]
  · rw [Finset.disjoint_left]
    intro p h1 h2
    simp only [own, ins, Finset.mem_filter, Finset.mem_univ, true_and] at h1 h2
    exact h2.2 h1.1

theorem own_outs : (R.own c).card + (R.outs c).card = R.nMy c := by
  have h : R.nMy c = (Finset.univ.filter fun p => R.home p = c).card := by
    unfold nMy cnt
    refine congrArg Finset.card ?_
    ext p
    simp only [mineB, Finset.mem_filter, Finset.mem_univ, true_and]
    exact ⟨fun h => h.1, fun h => ⟨h, tn_lt p⟩⟩
  rw [h, ← Finset.card_union_of_disjoint]
  · refine congrArg Finset.card ?_
    ext p
    simp only [own, outs, Finset.mem_union, Finset.mem_filter, Finset.mem_univ, true_and]
    by_cases h : p.1 = c <;> simp [h]
  · rw [Finset.disjoint_left]
    intro p h1 h2
    simp only [own, outs, Finset.mem_filter, Finset.mem_univ, true_and] at h1 h2
    exact h2.2 h1.2

theorem card_ins : (R.ins c).card = 32 - R.nSelf c := by
  have := R.own_ins c; rw [R.card_own c] at this; omega
theorem card_outs : (R.outs c).card = R.nMy c - R.nSelf c := by
  have := R.own_outs c; rw [R.card_own c] at this; omega
theorem nSelf_le32 : R.nSelf c ≤ 32 := by
  have := R.own_ins c; rw [R.card_own c] at this; omega

end Route

end Cert.RouteGatheredIdeal

end
-- ==== Proof.GCells.lean ====
module

public import proofs.«01_k».proof.Proof.GWorld
public import Idealize.ShloMosaic.Lib.Pipeline.Launch
public import Idealize.ShloMosaic.Lib.Pipeline.Kit
public import Idealize.ShloMosaic.Lib.Tactic

/-! # One cell of a counter list, one row of a buffer

What a one-word access of a rank-one buffer reads and writes, and which elements a one-row access
of a rank-two buffer touches, for any offset function that comes out at the wanted place. -/

@[expose] public section

set_option maxRecDepth 16384

noncomputable section

namespace Cert.RouteGatheredIdeal

open Cert.GatheredIdeal Cert.GatheredIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode
open Idealize.SL.Sem

variable {Val : EltTy → Type}

/-- A one-word access reads the word at its offset. -/
theorem cell_read {sig : RefSig} {n : ℕ} {κ : Kind} {sp : Space} {e : EltTy} (v : View sig κ sp ⟨1, ![n]⟩ e) (off : Fin 1 → ℕ)
    (inb : ∀ a, off a + S1.size a ≤ (⟨1, ![n]⟩ : Shape).size a) (f : v.ty.Contents Val)
    (x : (Rect.unit (s := ⟨1, ![n]⟩) off S1.size inb).shape.Idx)
    (y : (⟨1, ![n]⟩ : Shape).Idx) (hy : (y 0).val = off 0) :
    (v.slice (Rect.unit (s := ⟨1, ![n]⟩) off S1.size inb)).read Val f x = v.read Val f y := by
  have hx : (Rect.unit (s := ⟨1, ![n]⟩) off S1.size inb).emb x = y := by
    funext a
    have ha : a = 0 := Subsingleton.elim _ _
    subst ha
    have h1 : (x 0).val < 1 := (x 0).isLt
    exact Fin.ext (by
      show off 0 + 1 * (x 0).val = (y 0).val
      omega)
  rw [← hx]; rfl

/-- A one-word store replaces the word at its offset and no other. -/
theorem cell_write {sig : RefSig} {n : ℕ} {κ : Kind} {sp : Space} {e : EltTy} (v : View sig κ sp ⟨1, ![n]⟩ e) (off : Fin 1 → ℕ)
    (inb : ∀ a, off a + S1.size a ≤ (⟨1, ![n]⟩ : Shape).size a) (f : v.ty.Contents Val) (w : Val e)
    (y : (⟨1, ![n]⟩ : Shape).Idx) :
    v.read Val ((v.slice (Rect.unit (s := ⟨1, ![n]⟩) off S1.size inb)).write Val f (fun _ => w) Finset.univ) y
      = if (y 0).val = off 0 then w else v.read Val f y := by
  by_cases h : (y 0).val = off 0
  · have x : (Rect.unit (s := ⟨1, ![n]⟩) off S1.size inb).shape.Idx := fun a =>
      ⟨0, by have ha : a = 0 := Subsingleton.elim _ _
             subst ha; exact Nat.one_pos⟩
    rw [if_pos h, ← cell_read v off inb _ x y h]
    exact View.read_write_of_mem _ _ (Finset.mem_univ _)
  · rw [if_neg h]
    refine View.read_slice_write_of_not_mem _ _ _ _ ?_
    rw [Rect.map_emb_univ, Rect.mem_set_unit]
    intro hall
    have h0 := hall 0
    have : S1.size 0 = 1 := rfl
    omega

/-- The elements of row `r` of a rank-two buffer. -/
def rowSet {n m : ℕ} (r : ℕ) : Finset (⟨2, ![n, m]⟩ : Shape).Idx := Finset.univ.filter fun y => (y 0).val = r

theorem mem_rowSet {n m r : ℕ} (y : (⟨2, ![n, m]⟩ : Shape).Idx) : y ∈ rowSet (n := n) (m := m) r ↔ (y 0).val = r :=
  Finset.mem_filter.trans (and_iff_right (Finset.mem_univ y))

theorem rowSet_disjoint {n m r r' : ℕ} (h : r ≠ r') : Disjoint (rowSet (n := n) (m := m) r) (rowSet r') :=
  Finset.disjoint_left.mpr fun _ h₁ h₂ => h (((mem_rowSet _).mp h₁).symm.trans ((mem_rowSet _).mp h₂))

/-- A unit-stride rectangle one row high and a buffer wide is that row. -/
theorem row_rect {n m r : ℕ} (off : Fin 2 → ℕ) (hoff : off = ![r, 0])
    (inb : ∀ a, off a + (⟨2, ![1, m]⟩ : Shape).size a ≤ (⟨2, ![n, m]⟩ : Shape).size a) :
    (Rect.unit (s := ⟨2, ![n, m]⟩) off (⟨2, ![1, m]⟩ : Shape).size inb).set = rowSet r := by
  subst hoff
  ext y
  rw [mem_rowSet, Rect.mem_set_unit]
  constructor
  · intro h
    have h0 := h 0
    have e0 : (![r, 0] : Fin 2 → ℕ) 0 = r := rfl
    have e1 : (⟨2, ![1, m]⟩ : Shape).size 0 = 1 := rfl
    omega
  · intro h a
    match a with
    | 0 => exact ⟨h.ge, by show (y 0).val < r + 1; omega⟩
    | 1 => exact ⟨Nat.zero_le _, by have := (y 1).isLt; show (y 1).val < 0 + m; rw [Nat.zero_add]; exact this⟩

section Access

variable {nD : ℕ} {τ : Topo} {sig : RefSig} {Ix : Type} [DecidableEq Ix] {Val : EltTy → Type} {Name : Type} [DecidableEq Name]
  {U : Type} [URA U] {Lvl : Type} {Λ : Labels} [Preorder Lvl] {defs : Defs nD τ sig Val Λ} (𝒱 : Variants) (c : Thread nD τ)
  {cs : CoreSpace} {s : Shape} {e : EltTy} {α : Type} {Q : α → sProp (MT nD τ sig Ix Val Name U Lvl)}
  (m : Memref sig c.2.kind cs s e) {f : Buf Val (m.view.loc c)} {S : Finset (Idx (m.view.loc c))} {q : PosShare TreeShare} {r : Rect s}

/-- A store at the head of a program, into a buffer of which enough is held. -/
theorem storeS {w : r.shape.Idx → Val e} {hx : (m.access r).Stores Finset.univ} {hm}
    {k : PUnit → Prog (TpuEff nD τ sig Val Λ c.2) α} (hS : (m.access r).set ⊆ S) :
    (m.view.loc c ↦[S]{fullShare} f)
      ⊢ iprop(((m.view.loc c ↦[S]{fullShare} ((m.access r).write Val f w Finset.univ)) -∗ wp frame (wpE defs 𝒱 c none) Set.univ (k ⟨⟩) Q)
        -∗ wp frame (wpE defs 𝒱 c none) Set.univ (.op (.store m r w Finset.univ hx hm) k) Q) :=
  wp_store (S := S) (f := f) 𝒱 c none Set.univ (m := m) (r := r) hS

/-- A store into a buffer held whole. -/
theorem storeW {w : r.shape.Idx → Val e} {hx : (m.access r).Stores Finset.univ} {hm}
    {k : PUnit → Prog (TpuEff nD τ sig Val Λ c.2) α} :
    (m.view.loc c ↦{fullShare} f)
      ⊢ iprop(((m.view.loc c ↦{fullShare} ((m.access r).write Val f w Finset.univ)) -∗ wp frame (wpE defs 𝒱 c none) Set.univ (k ⟨⟩) Q)
        -∗ wp frame (wpE defs 𝒱 c none) Set.univ (.op (.store m r w Finset.univ hx hm) k) Q) :=
  storeS 𝒱 c m (Finset.subset_univ _)

/-- A load at the head of a program, from a buffer of which enough is held. -/
theorem loadS {hl : m.view.LoadsAt r.toLoadRect} {k : (r.shape.Idx → Val e) → Prog (TpuEff nD τ sig Val Λ c.2) α} (hS : (m.access r).set ⊆ S) :
    (m.view.loc c ↦[S]{q} f)
      ⊢ iprop(((m.view.loc c ↦[S]{q} f) -∗ wp frame (wpE defs 𝒱 c none) Set.univ (k ((m.access r).read Val f)) Q)
        -∗ wp frame (wpE defs 𝒱 c none) Set.univ (.op (.load m r.toLoadRect hl) k) Q) :=
  wp_load_rect (S := S) (f := f) 𝒱 c none Set.univ (m := m) (r := r) hS

/-- A load from a buffer held whole. -/
theorem loadW {hl : m.view.LoadsAt r.toLoadRect} {k : (r.shape.Idx → Val e) → Prog (TpuEff nD τ sig Val Λ c.2) α} :
    (m.view.loc c ↦{q} f)
      ⊢ iprop(((m.view.loc c ↦{q} f) -∗ wp frame (wpE defs 𝒱 c none) Set.univ (k ((m.access r).read Val f)) Q)
        -∗ wp frame (wpE defs 𝒱 c none) Set.univ (.op (.load m r.toLoadRect hl) k) Q) :=
  loadS 𝒱 c m (Finset.subset_univ _)

end Access

section AccessCell

variable {nD : ℕ} {τ : Topo} {sig : RefSig} {Ix : Type} [DecidableEq Ix] {Val : EltTy → Type} {Name : Type} [DecidableEq Name]
  {U : Type} [URA U] {Lvl : Type} {Λ : Labels} [Preorder Lvl] {defs : Defs nD τ sig Val Λ} (𝒱 : Variants) (c : Thread nD τ)
  {cs : CoreSpace} {n : ℕ} {e : EltTy} {α : Type} {Q : α → sProp (MT nD τ sig Ix Val Name U Lvl)}
  (m : Memref sig c.2.kind cs ⟨1, ![n]⟩ e) {f : Buf Val (m.view.loc c)} {q : PosShare TreeShare}
  {off : Fin 1 → ℕ} {inb : ∀ a, off a + S1.size a ≤ (⟨1, ![n]⟩ : Shape).size a}

/-- A load of one word whose value is known. -/
theorem loadC (y : (⟨1, ![n]⟩ : Shape).Idx) {v : Val e} (hv : m.view.read Val f y = v) (hy : (y 0).val = off 0)
    {hl : m.view.LoadsAt (Rect.unit (s := ⟨1, ![n]⟩) off S1.size inb).toLoadRect}
    {k : ((Rect.unit (s := ⟨1, ![n]⟩) off S1.size inb).shape.Idx → Val e) → Prog (TpuEff nD τ sig Val Λ c.2) α} :
    (m.view.loc c ↦{q} f)
      ⊢ iprop(((m.view.loc c ↦{q} f) -∗ wp frame (wpE defs 𝒱 c none) Set.univ (k fun _ => v) Q)
        -∗ wp frame (wpE defs 𝒱 c none) Set.univ (.op (.load m (Rect.unit (s := ⟨1, ![n]⟩) off S1.size inb).toLoadRect hl) k) Q) := by
  have e : (m.access (Rect.unit (s := ⟨1, ![n]⟩) off S1.size inb)).read Val f = fun _ => v :=
    funext fun x => (cell_read m.view off inb f x y hy).trans hv
  have := loadW (defs := defs) (Q := Q) 𝒱 c m (f := f) (q := q) (hl := hl) (k := k)
  rwa [e] at this

/-- A store of one word: the buffer then holds some contents with that word replaced. -/
theorem storeC {w : Val e} {hx : (m.access (Rect.unit (s := ⟨1, ![n]⟩) off S1.size inb)).Stores Finset.univ} {hm}
    {k : PUnit → Prog (TpuEff nD τ sig Val Λ c.2) α} :
    (m.view.loc c ↦{fullShare} f)
      ⊢ iprop((∀ g, ⌜∀ y, m.view.read Val g y = if (y 0).val = off 0 then w else m.view.read Val f y⌝ -∗ (m.view.loc c ↦{fullShare} g)
            -∗ wp frame (wpE defs 𝒱 c none) Set.univ (k ⟨⟩) Q)
        -∗ wp frame (wpE defs 𝒱 c none) Set.univ
          (.op (.store m (Rect.unit (s := ⟨1, ![n]⟩) off S1.size inb) (fun _ => w) Finset.univ hx hm) k) Q) := by
  iintro H Hk
  iapply (storeW 𝒱 c m) $$ H
  iintro H
  iapply Hk $$ [] H
  ipureintro
  exact fun y => cell_write m.view off inb f w y

end AccessCell

end Cert.RouteGatheredIdeal
-- ==== Proof.GSched.lean ====
module

public import proofs.«01_k».proof.Proof.GCells
public import proofs.«01_k».proof.Proof.Gen.GatheredIdeal.Launch
public import proofs.«01_k».proof.Proof.Gen.GatheredIdeal.Launch
public import Idealize.ShloMosaic.Lib.ValueIdxCore
public import Idealize.ShloMosaic.Lib.Transfers

/-! # The schedule of the exchange

Device `c` computes rows for the tokens whose expert it owns (`R.home p = c`) and sends each to the
device whose block of the output holds the token (`p.1`). Three cells per device:

* the barrier cell collects one unit from every other device `d`; device `d`'s unit hands over the
  rows of `d`'s output block that `c` will write;
* the receive cell collects one row's credit for every token of the block computed elsewhere, each
  handing over the row with its result;
* the send cell collects one row's credit for every row sent, each handing back the share of the
  result buffer's row that was lent to the copy. -/

@[expose] public section

set_option maxRecDepth 16384

noncomputable section

namespace Cert.RouteGatheredIdeal

open Cert.GatheredIdeal Cert.GatheredIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode
open Idealize.SL.Sem
open Idealize.ShloMosaic.Rounds
open Idealize.ShloMosaic.ValueIdx (ix2 ix3)

variable {F : FTy → Type} [FloatOps F]

/-- The protocol's ghost state: per cell, rounds over duties named by tokens. -/
abbrev UB : Type _ := URounds (GSem nD τ sig) Tok
/-- The gathering operation's ghost state. -/
abbrev UC : Type _ := URounds (GSem nD τ sig) AllGather.Duty
abbrev UU : Type _ := UR sig nD τ × (UC × UB)

local notation "𝕄" => MT nD τ sig ℕ (Elt F) ℕ UU ℕ

abbrev EP : Emb (UR sig nD τ) (MT nD τ sig ℕ (Elt F) ℕ UU ℕ) := embL
abbrev EC : Emb UC (MT nD τ sig ℕ (Elt F) ℕ UU ℕ) := (Emb.inl : Emb UC (UC × UB)).trans embR
abbrev ER : Emb UB (MT nD τ sig ℕ (Elt F) ℕ UU ℕ) := (Emb.inr : Emb UB (UC × UB)).trans embR

/-! ## The buffers and cells -/

abbrev tabM : Memref sig .tc .smem S1024x1 .i32 := Memref.whole cc0_stg0_0
abbrev xM : Memref sig .tc .vmem S1024x512 .f32 := Memref.whole cc0_stg1_0
abbrev wM : Memref sig .tc .vmem S4x512x1024 .f32 := Memref.whole cc0_stg2_0
abbrev oM : Memref sig .tc .vmem S32x1024 .f32 := Memref.whole cc0_stg3_0
abbrev gM : Memref sig .tc .vmem S32x512 .f32 := Memref.whole cc0_scratch0
abbrev eM : Memref sig .tc .vmem S32x1024 .f32 := Memref.whole cc0_scratch1
abbrev cntM : Memref sig .tc .smem S128 .i32 := Memref.whole cc0_scratch2
abbrev tokM : Memref sig .tc .smem S1024 .i32 := Memref.whole cc0_scratch3
abbrev slotM : Memref sig .tc .smem S1024 .i32 := Memref.whole cc0_scratch4
abbrev metaM : Memref sig .tc .smem S2 .i32 := Memref.whole cc0_scratch5

abbrev barS : Sem sig := (SemArray.scalar (sig.barrier 0 rfl) : Sems sig S_).sem
abbrev sendS : DmaSems sig S_ := cc0_scratch6
abbrev recvS : DmaSems sig S_ := cc0_scratch7

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

abbrev osem : Fin 2 → SemLoc sig := fun | 0 => .dma sendS.sem | 1 => .dma recvS.sem
abbrev csem : Fin 3 → SemLoc sig := fun | 0 => .reg barS | 1 => .dma sendS.sem | 2 => .dma recvS.sem
abbrev kcell (ck : Dev nD × Fin 3) : GSem nD τ sig := ((ck.1 : Thread nD τ), csem ck.2)

/-- The first row of the result buffer, as every completion wait names it. -/
abbrev oRow0 : Memref sig .tc .vmem S1x1024 .f32 :=
  oM.slice (Rect.unit (s := S32x1024) ![0, 0] S1x1024.size (by decide)) (fun _ => rfl)
abbrev eRow0 : Memref sig .tc .vmem S1x1024 .f32 :=
  eM.slice (Rect.unit (s := S32x1024) ![0, 0] S1x1024.size (by decide)) (fun _ => rfl)

/-- One row's credit. -/
abbrev N : ℕ := oRow0.view.dmaCredit
theorem N_pos : 0 < N := View.dmaCredit_pos _ (by decide)

theorem credit_row (off : Fin 2 → ℕ) (inb : ∀ a, off a + S1x1024.size a ≤ S32x1024.size a) :
    (oM.slice (Rect.unit (s := S32x1024) off S1x1024.size inb) (fun _ => rfl)).view.dmaCredit = N := rfl
theorem credit_send : eRow0.view.dmaCredit = N := rfl

/-! ## Contents -/

/-- What the launch puts into each device's windows: the routing table (whose words are the
    experts of `R`), the tokens and the expert weights. -/
structure Ins (F : FTy → Type) where
  xs : Dev nD → (cc0_stg1_0 : Ref sig .tc).ty.Contents (Elt F)
  ws : Dev nD → (cc0_stg2_0 : Ref sig .tc).ty.Contents (Elt F)

variable (R : Route) (D : Ins F)

/-- The routing table's words. -/
def tab (c : Dev nD) : (cc0_stg0_0 : Ref sig .tc).ty.Contents (Elt F) := fun y => wd (R.ex c (y 0).val)

open Classical in
/-- The `j`-th token device `c` computes. -/
def nth (c : Dev nD) (j : ℕ) : Tok := if h : ∃ p, R.home p = c ∧ R.cnt c (tn p) = j then h.choose else (0, 0)

theorem nth_eq {c : Dev nD} {j : ℕ} {p : Tok} (hp : R.home p = c) (hj : R.cnt c (tn p) = j) : nth R c j = p := by
  have h : ∃ p, R.home p = c ∧ R.cnt c (tn p) = j := ⟨p, hp, hj⟩
  unfold nth
  rw [dif_pos h]
  exact R.cnt_inj c h.choose_spec.1 hp (h.choose_spec.2.trans hj.symm)

/-- A kept token's row written to its slot (slot 7 stands for a dropped token). -/
def gPut (c : Dev nD) (p : Tok) (f : (cc0_scratch0 : Ref sig .tc).ty.Contents (Elt F)) : (cc0_scratch0 : Ref sig .tc).ty.Contents (Elt F) :=
  fun y : S32x512.Idx => if (y 0).val = R.slot c (tn p) ∧ R.slot c (tn p) ≠ 7 then D.xs c (ix2 ⟨tn p, tn_lt _⟩ (y 1)) else f y

/-- The gathered buffer after its first `j` trips: zero but for the first `j` kept tokens' rows in
    their slots. -/
def gSt (c : Dev nD) : ℕ → (cc0_scratch0 : Ref sig .tc).ty.Contents (Elt F)
  | 0 => k0_pay2 (F := F)
  | j + 1 => gPut R D c (nth R c j) (gSt c j)

theorem gSt_succ {c : Dev nD} {j : ℕ} {p : Tok} (hp : R.home p = c) (hj : R.cnt c (tn p) = j) :
    gSt R D c (j + 1) = gPut R D c p (gSt R D c j) := by
  show gPut R D c (nth R c j) (gSt R D c j) = _
  rw [nth_eq R hp hj]

theorem row8_lt {n : ℕ} (h : n < 32) (k : ℕ) (hk : k < 8) : 8 * (n / 8) + k < 32 := by omega
theorem blk8_lt {n : ℕ} (h : n < 32) : n / 8 < 4 := by omega

/-- The expert results: block `e` of eight rows is the gathered rows of slots `8 * e …` times expert `e`. -/
def eFin (c : Dev nD) : (cc0_scratch1 : Ref sig .tc).ty.Contents (Elt F) := fun y : S32x1024.Idx =>
  k0_pay5 (F := F)
    (fun z : S8x512.Idx => gSt R D c (R.nMy c) (ix2 ⟨8 * ((y 0).val / 8) + (z 0).val, row8_lt (y 0).isLt _ (z 0).isLt⟩ (z 1)))
    (fun z : S1x512x1024.Idx => D.ws c (ix3 ⟨(y 0).val / 8, blk8_lt (y 0).isLt⟩ (z 1) (z 2)))
    (ix2 ⟨(y 0).val % 8, Nat.mod_lt _ (by decide)⟩ (y 1))

/-- A device's finished output block: row `r` is the result of its token `r`, from the device that owns the expert. -/
def oFin (c : Dev nD) : (cc0_stg3_0 : Ref sig .tc).ty.Contents (Elt F) := fun y : S32x1024.Idx =>
  eFin R D (R.home (c, y 0)) (ix2 ⟨R.slot (R.home (c, y 0)) (tn (c, y 0)), R.slot_lt _ _⟩ (y 1))

/-! ## Regions -/

abbrev oPts (c : Dev nD) (r : ℕ) (f : Buf (Elt F) ((c : Thread nD τ).loc cc0_stg3_0)) : sProp 𝕄 :=
  ((c : Thread nD τ).loc cc0_stg3_0) ↦[rowSet r]{fullShare} f

/-- Row `p.2` of the output block of token `p`'s device, whatever it holds. -/
abbrev oAny (p : Tok) : sProp 𝕄 := iprop(∃ f, oPts (F := F) p.1 p.2.val f)
/-- That row finished. -/
abbrev oDone (p : Tok) : sProp 𝕄 := oPts p.1 p.2.val (oFin R D p.1)
/-- The share of the result row of token `p` that its copy reads. -/
abbrev ePts (c : Dev nD) (p : Tok) : sProp 𝕄 :=
  ((c : Thread nD τ).loc cc0_scratch1) ↦[rowSet (R.slot c (tn p))]{Transfers.shareTokN fullShare (tn p)} eFin R D c

/-- The rows of device `d`'s block that device `c` writes. -/
def rowsFor (d c : Dev nD) : Finset Tok := Finset.univ.filter fun p => p.1 = d ∧ R.home p = c

def barPay (c d : Dev nD) : sProp 𝕄 := bigSep (rowsFor R d c) (oAny (F := F))

instance barPay_storable (c d : Dev nD) : BI.Storable (upEmb : UEmb _ 𝕄) (barPay (F := F) R c d) := by
  unfold barPay; infer_instance

/-- What device `d` hands device `c` with its signal: the rows, and that its own two copy cells are open. -/
def barGive (c d : Dev nD) : sProp 𝕄 :=
  iprop(barPay (F := F) R c d ∗ reached ER (sendCell d) 0 ∗ reached ER (recvCell d) 0)

instance barGive_storable (c d : Dev nD) : BI.Storable (upEmb : UEmb _ 𝕄) (barGive (F := F) R c d) := by
  unfold barGive; infer_instance

/-! ## The schedule -/

/-- Device `d`'s duty at a barrier cell. -/
def dEmb : Dev nD ↪ Tok := ⟨fun d => (d, 0), fun _ _ h => (Prod.mk.inj h).1⟩

def sch : Rounds.Schedule (GSem nD τ sig) Tok 𝕄 where
  duties g r :=
    if r = 0 ∧ g.1.2 = .tc then
      if g.2 = .reg barS then (Finset.univ.erase g.1.1).map dEmb
      else if g.2 = .dma recvS.sem then R.ins g.1.1
      else if g.2 = .dma sendS.sem then R.outs g.1.1
      else ∅
    else ∅
  unitless _ := False
  amount g _ _ := if g.2 = .reg barS then 1 else N
  payload g _ d :=
    if g.2 = .reg barS then barGive R g.1.1 d.1
    else if g.2 = .dma recvS.sem then oDone R D d
    else if g.2 = .dma sendS.sem then ePts R D g.1.1 d
    else iprop(emp)
  amount_pos g _ _ _ := by
    by_cases h : g.2 = .reg barS
    · rw [if_pos h]; exact Nat.one_pos
    · rw [if_neg h]; exact N_pos

instance sch_payload_storable (g : GSem nD τ sig) (r : ℕ) (d : Tok) :
    BI.Storable (upEmb : UEmb _ 𝕄) ((sch (F := F) R D).payload g r d) := by
  show BI.Storable upEmb (if g.2 = .reg barS then barGive R g.1.1 d.1
    else if g.2 = .dma recvS.sem then oDone R D d
    else if g.2 = .dma sendS.sem then ePts R D g.1.1 d
    else iprop(emp))
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide

theorem duties_bar : (sch (F := F) R D).duties (barCell c) 0 = (Finset.univ.erase c).map dEmb := by
  dsimp only [sch]; rw [if_pos ⟨rfl, rfl⟩, if_pos rfl]
theorem duties_recv : (sch (F := F) R D).duties (recvCell c) 0 = R.ins c := by
  dsimp only [sch]; rw [if_pos ⟨rfl, rfl⟩, if_neg recv_ne_bar, if_pos rfl]
theorem duties_send : (sch (F := F) R D).duties (sendCell c) 0 = R.outs c := by
  dsimp only [sch]; rw [if_pos ⟨rfl, rfl⟩, if_neg send_ne_bar, if_neg send_ne_recv, if_pos rfl]
theorem duties_later (g : GSem nD τ sig) : ∀ r, 1 ≤ r → (sch (F := F) R D).duties g r = ∅ := fun r hr => by
  dsimp only [sch]; exact if_neg fun h => by omega

theorem amount_bar (d : Tok) : (sch (F := F) R D).amount (barCell c) 0 d = 1 := by dsimp only [sch]; exact if_pos rfl
theorem amount_recv (d : Tok) : (sch (F := F) R D).amount (recvCell c) 0 d = N := by
  dsimp only [sch]; exact if_neg recv_ne_bar
theorem amount_send (d : Tok) : (sch (F := F) R D).amount (sendCell c) 0 d = N := by
  dsimp only [sch]; exact if_neg send_ne_bar

theorem payload_bar (d : Tok) : (sch (F := F) R D).payload (barCell c) 0 d = barGive R c d.1 := by
  dsimp only [sch]; exact if_pos rfl
theorem payload_recv (d : Tok) : (sch (F := F) R D).payload (recvCell c) 0 d = oDone R D d := by
  dsimp only [sch]; rw [if_neg recv_ne_bar, if_pos rfl]
theorem payload_send (d : Tok) : (sch (F := F) R D).payload (sendCell c) 0 d = ePts R D c d := by
  dsimp only [sch]; rw [if_neg send_ne_bar, if_neg send_ne_recv, if_pos rfl]

theorem expect_bar : (sch (F := F) R D).expect (barCell c) 0 = 31 := by
  unfold Schedule.expect Schedule.amountOf
  rw [duties_bar, Finset.sum_congr rfl fun d _ => amount_bar R D c d, Finset.sum_const, Finset.card_map,
    Finset.card_erase_of_mem (Finset.mem_univ c), Finset.card_univ, smul_eq_mul]
  rfl
theorem expect_recv : (sch (F := F) R D).expect (recvCell c) 0 = (32 - R.nSelf c) * N := by
  unfold Schedule.expect Schedule.amountOf
  rw [duties_recv, Finset.sum_congr rfl fun d _ => amount_recv R D c d, Finset.sum_const, R.card_ins, smul_eq_mul]
theorem expect_send : (sch (F := F) R D).expect (sendCell c) 0 = (R.nMy c - R.nSelf c) * N := by
  unfold Schedule.expect Schedule.amountOf
  rw [duties_send, Finset.sum_congr rfl fun d _ => amount_send R D c d, Finset.sum_const, R.card_outs, smul_eq_mul]

end Sched

/-! ## Levels: a device waits on its barrier cell while it owes receive credits -/

def L (g : GSem nD τ sig) : Finset ℕ := if g.1.2 = .tc then Finset.range 19 else ∅
/-- The gathering uses its index as level; the kernel's cells, all at index zero, lie above it. -/
def lv (g : GSem nD τ sig) (i : ℕ) : ℕ := if i = 0 then (if g.2 = .reg barS then 20 else if g.2 = .dma recvS.sem then 21 else 0) else i

theorem L_of_ne (g : GSem nD τ sig) (h : g.1.2 ≠ .tc) : L g = ∅ := if_neg h
theorem L_tc (c : Dev nD) (sm : SemLoc sig) : L ((c : Thread nD τ), sm) = Finset.range 19 := if_pos rfl
theorem lv_bar (c : Dev nD) : lv (barCell c) 0 = 20 := rfl
theorem lv_recv (c : Dev nD) : lv (recvCell c) 0 = 21 := by unfold lv; rw [if_pos rfl, if_neg recv_ne_bar, if_pos rfl]
theorem lv_send (c : Dev nD) : lv (sendCell c) 0 = 0 := by unfold lv; rw [if_pos rfl, if_neg send_ne_bar, if_neg send_ne_recv]

/-! ## What a device owes -/

/-- The devices still to be signalled before trip `t` of the signal loop. -/
def toSig (c : Dev nD) (t : ℕ) : Finset (Dev nD) := Finset.univ.filter fun d => t ≤ d.val ∧ d ≠ c

abbrev owBar (c : Dev nD) (t : ℕ) : CellTallies nD τ sig ℕ := ∑ d ∈ toSig c t, tallyAt (barCell d) 0 1
abbrev owRecv (c : Dev nD) (j : ℕ) : CellTallies nD τ sig ℕ := ∑ p ∈ R.leftR c j, tallyAt (recvCell p.1) 0 N

/-- What a device owes at its start. -/
def O₀ (c : Dev nD) : CellTallies nD τ sig ℕ := owRecv R c 0 + owBar c 0

end Cert.RouteGatheredIdeal
-- ==== Proof.GScan.lean ====
module

public import proofs.«01_k».proof.Proof.GSched

@[expose] public section

set_option maxRecDepth 16384

noncomputable section

namespace Cert.RouteGatheredIdeal

open Cert.GatheredIdeal Cert.GatheredIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode
open Idealize.SL.Sem
open Idealize.ShloMosaic.Rounds
open Idealize.ShloMosaic.ValueIdx (ix1 ix2 ix3)

variable {F : FTy → Type} [FloatOps F]

local notation "𝕄" => MT nD τ sig ℕ (Elt F) ℕ UU ℕ

variable (R : Route) (D : Ins F)

abbrev 𝒱₀ : Variants := Variants.none

abbrev tabPts (c : Dev nD) (f : Buf (Elt F) ((c : Thread nD τ).loc cc0_stg0_0)) : sProp 𝕄 :=
  ((c : Thread nD τ).loc cc0_stg0_0) ↦{fullShare} f
abbrev cntPts (c : Dev nD) (f : Buf (Elt F) ((c : Thread nD τ).loc cc0_scratch2)) : sProp 𝕄 :=
  ((c : Thread nD τ).loc cc0_scratch2) ↦{fullShare} f
abbrev tokPts (c : Dev nD) (f : Buf (Elt F) ((c : Thread nD τ).loc cc0_scratch3)) : sProp 𝕄 :=
  ((c : Thread nD τ).loc cc0_scratch3) ↦{fullShare} f
abbrev slotPts (c : Dev nD) (f : Buf (Elt F) ((c : Thread nD τ).loc cc0_scratch4)) : sProp 𝕄 :=
  ((c : Thread nD τ).loc cc0_scratch4) ↦{fullShare} f
abbrev metaPts (c : Dev nD) (f : Buf (Elt F) ((c : Thread nD τ).loc cc0_scratch5)) : sProp 𝕄 :=
  ((c : Thread nD τ).loc cc0_scratch5) ↦{fullShare} f

/-! ## The counters cleared -/

/-- Before trip `t` of the loop that clears the counters the first `t` are zero. -/
def zeroI (c : Dev nD) (t : ℕ) : sProp 𝕄 :=
  iprop(∃ f, ⌜∀ y : S128.Idx, (y 0).val < t → f y = wd 0⌝ ∗ cntPts (F := F) c f)

theorem zero_step (c : Dev nD) (t : Fin k0_t2_loop.trips) :
    zeroI (F := F) c t.val ⊢ wp frame (wpE (defs₀ (F := F)) 𝒱₀ (c : Thread nD τ) none) Set.univ
      (k0_t2_body tabM (Memref.isWhole_whole _) xM (Memref.isWhole_whole _) wM (Memref.isWhole_whole _) oM (Memref.isWhole_whole _) gM (Memref.isWhole_whole _) eM (Memref.isWhole_whole _) cntM (Memref.isWhole_whole _) tokM (Memref.isWhole_whole _) slotM (Memref.isWhole_whole _) metaM (Memref.isWhole_whole _) sendS recvS t ⟨⟩) (fun _ => zeroI (F := F) c (t.val + 1)) := by
  unfold zeroI k0_t2_body
  simp only [smemLoad, smemLoadElt, Prog.lift, Prog.bind_op, Prog.bind_ret, Prog.pure_eq_ret]
  iintro ⟨%f, %hf, H⟩
  iapply (loadW 𝒱₀ (c : Thread nD τ) cntM) $$ H
  iintro H
  iapply (storeC 𝒱₀ (c : Thread nD τ) cntM) $$ H
  iintro %g %hg H
  rw [wp_ret]; imodintro
  iexists g
  isplitl []
  · ipureintro
    intro y hy
    have h0 : k0_off1 t 0 = t.val := by rw [off1_eq]; rfl
    refine (hg y).trans ?_
    rw [h0]
    by_cases h : (y 0).val = t.val
    · rw [if_pos h]
    · rw [if_neg h]; exact hf y (by omega)
  · iexact H

/-! ## The scan of the routing table -/

/-- What the four lists hold once the first `t` tokens are read: per expert how many were sent to it,
    how many of them are this device's and how many of those of its own block, and for each of the
    device's tokens, in order, its number and its slot. -/
structure Scanned (c : Dev nD) (t : ℕ) (f6 : Buf (Elt F) ((c : Thread nD τ).loc cc0_scratch2)) (f7 : Buf (Elt F) ((c : Thread nD τ).loc cc0_scratch3))
    (f8 : Buf (Elt F) ((c : Thread nD τ).loc cc0_scratch4)) (f9 : Buf (Elt F) ((c : Thread nD τ).loc cc0_scratch5)) : Prop where
  cnt : ∀ y : S128.Idx, f6 y = wd (R.cntE c (y 0).val t)
  mine : ∀ y : S2.Idx, (y 0).val = 0 → f9 y = wd (R.cnt c t)
  self : ∀ y : S2.Idx, (y 0).val = 1 → f9 y = wd (R.slf c t)
  tok : ∀ (p : Tok) (y : S1024.Idx), R.home p = c → tn p < t → (y 0).val = R.cnt c (tn p) → f7 y = wd (tn p)
  slot : ∀ (p : Tok) (y : S1024.Idx), R.home p = c → tn p < t → (y 0).val = R.cnt c (tn p) → f8 y = wd (R.slot c (tn p))

def scanI (c : Dev nD) (t : ℕ) : sProp 𝕄 :=
  iprop(∃ f6 f7 f8 f9, ⌜Scanned (F := F) R c t f6 f7 f8 f9⌝ ∗ tabPts (F := F) c (tab R c) ∗ cntPts (F := F) c f6 ∗ tokPts (F := F) c f7
    ∗ slotPts (F := F) c f8 ∗ metaPts (F := F) c f9)

theorem off2_eq (t : Fin k0_t3_loop.trips) : k0_off2 t = ![t.val, 0] := k0_off2_eq t

theorem scan_step (c : Dev nD) (v2 : BitVec 32) (hv2 : v2 = wd c.val) (t : Fin k0_t3_loop.trips) :
    scanI (F := F) R c t.val ⊢ wp frame (wpE (defs₀ (F := F)) 𝒱₀ (c : Thread nD τ) none) Set.univ
      (k0_t3_body tabM (Memref.isWhole_whole _) xM (Memref.isWhole_whole _) wM (Memref.isWhole_whole _) oM (Memref.isWhole_whole _) gM (Memref.isWhole_whole _) eM (Memref.isWhole_whole _) cntM (Memref.isWhole_whole _) tokM (Memref.isWhole_whole _) slotM (Memref.isWhole_whole _) metaM (Memref.isWhole_whole _) sendS recvS c v2 t ⟨⟩) (fun _ => scanI (F := F) R c (t.val + 1)) := by
  subst hv2
  have ht : t.val < 1024 := lt_of_lt_of_eq t.isLt trips_t3
  have he := R.ex_lt c t.val
  have hr : R.cntE c (R.ex c t.val) t.val < 1024 := lt_of_le_of_lt (R.cntE_le c _ _ (le_of_lt ht)) ht
  have hn : R.cnt c t.val < 1024 := lt_of_le_of_lt (R.cnt_le c _ (le_of_lt ht)) ht
  unfold scanI k0_t3_body
  simp only [k0_part1_eq_skeleton, k0_part1_skel]
  simp only [smemLoad, smemLoadElt, Prog.lift, Prog.bind_op, Prog.bind_ret, Prog.pure_eq_ret, bind_assoc, Prog.bind_assoc]
  iintro ⟨%f6, %f7, %f8, %f9, %hs, Ht, H6, H7, H8, H9⟩
  iapply (loadW 𝒱₀ (c : Thread nD τ) tabM) $$ Ht
  iintro Ht
  have ev : ((Memref.access tabM (Rect.unit (s := S1024x1) (k0_off2 t) S1x1.size (k0_off2_inb t))).read (Elt F) (tab (F := F) R c)) = fun _ => wd (R.ex c t.val) := by
    funext x
    refine congrArg (fun n => wd (R.ex c n)) ?_
    have h0 : k0_off2 t 0 = t.val := by rw [off2_eq]; rfl
    have hx : (x 0).val < 1 := (x 0).isLt
    show k0_off2 t 0 + 1 * (x 0).val = t.val
    omega
  rw [ev]
  iapply (wp_assume 𝒱₀ (c : Thread nD τ) none Set.univ (chk1_ok he))
  have h3 : k0_off3 (wd (R.ex c t.val)) 0 = R.ex c t.val := by rw [off3_eq he]; rfl
  have r6 : cntM.view.read (Elt F) f6 (ix1 ⟨R.ex c t.val, he⟩) = wd (R.cntE c (R.ex c t.val) t.val) := hs.cnt (ix1 ⟨R.ex c t.val, he⟩)
  iapply (loadC 𝒱₀ (c : Thread nD τ) cntM (ix1 ⟨R.ex c t.val, he⟩) r6 h3.symm) $$ H6; iintro H6
  iapply (loadC 𝒱₀ (c : Thread nD τ) cntM (ix1 ⟨R.ex c t.val, he⟩) r6 h3.symm) $$ H6; iintro H6
  iapply (storeC 𝒱₀ (c : Thread nD τ) cntM) $$ H6; iintro %g6 %hg6 H6
  have hcnt : ∀ y : S128.Idx, g6 y = wd (R.cntE c (y 0).val (t.val + 1)) := by
    intro y
    refine (hg6 y).trans ?_
    rw [h3, R.cntE_succ c _ _ ht]
    by_cases h : (y 0).val = R.ex c t.val
    · rw [if_pos h, if_pos h.symm, h]; exact wd_add _ _
    · rw [if_neg h, if_neg fun h' => h h'.symm, Nat.add_zero]; exact hs.cnt y
  by_cases hc : k0_cond2 c (wd (R.ex c t.val)) = 1#1
  · rw [dif_pos hc]
    have hp : R.home (tk t.val ht) = c := (R.home_iff c t.val ht).mp ((cond2_iff c ⟨_, he⟩).mp hc)
    have r0 : metaM.view.read (Elt F) f9 (ix1 ⟨0, by decide⟩) = wd (R.cnt c t.val) := hs.mine (ix1 ⟨0, by decide⟩) rfl
    iapply (loadC 𝒱₀ (c : Thread nD τ) metaM (ix1 ⟨0, by decide⟩) r0 rfl) $$ H9; iintro H9
    iapply (wp_assume 𝒱₀ (c : Thread nD τ) none Set.univ (chk2_ok c _ fun _ => hn))
    have h4 : k0_off4 (wd (R.cnt c t.val)) 0 = R.cnt c t.val := by rw [off4_eq hn]; rfl
    iapply (loadW 𝒱₀ (c : Thread nD τ) tokM) $$ H7; iintro H7
    iapply (storeC 𝒱₀ (c : Thread nD τ) tokM) $$ H7; iintro %g7 %hg7 H7
    iapply (loadW 𝒱₀ (c : Thread nD τ) slotM) $$ H8; iintro H8
    iapply (storeC 𝒱₀ (c : Thread nD τ) slotM) $$ H8; iintro %g8 %hg8 H8
    iapply (loadC 𝒱₀ (c : Thread nD τ) metaM (ix1 ⟨0, by decide⟩) r0 rfl) $$ H9; iintro H9
    iapply (storeC 𝒱₀ (c : Thread nD τ) metaM) $$ H9; iintro %g9 %hg9 H9
    have r1 : metaM.view.read (Elt F) g9 (ix1 ⟨1, by decide⟩) = wd (R.slf c t.val) :=
      (hg9 _).trans ((if_neg (by decide)).trans (hs.self (ix1 ⟨1, by decide⟩) rfl))
    iapply (loadC 𝒱₀ (c : Thread nD τ) metaM (ix1 ⟨1, by decide⟩) r1 rfl) $$ H9; iintro H9
    iapply (loadC 𝒱₀ (c : Thread nD τ) metaM (ix1 ⟨1, by decide⟩) r1 rfl) $$ H9; iintro H9
    iapply (storeC 𝒱₀ (c : Thread nD τ) metaM) $$ H9; iintro %k9 %hk9 H9
    rw [wp_ret]; imodintro
    iexists g6, g7, g8, k9
    isplitl []
    · ipureintro
      have hcs : R.cnt c (t.val + 1) = R.cnt c t.val + 1 := by rw [R.cnt_succ c _ ht, if_pos hp]
      have hold : ∀ p : Tok, R.home p = c → tn p < t.val + 1 → p ≠ tk t.val ht → tn p < t.val := fun p _ h hne => by
        rcases Nat.lt_or_ge (tn p) t.val with h' | h'
        · exact h'
        · exact absurd (tn_inj ((by omega : tn p = t.val).trans (tn_tk _ _).symm)) hne
      refine ⟨hcnt, fun y hy => ?_, fun y hy => ?_, fun p y hp' h hy => ?_, fun p y hp' h hy => ?_⟩
      · refine (hk9 y).trans ((if_neg (by rw [hy]; decide)).trans ((hg9 y).trans ((if_pos hy).trans ?_)))
        rw [hcs]; exact wd_add _ _
      · refine (hk9 y).trans ((if_pos hy).trans ?_)
        rw [R.slf_succ c _ ht]
        refine Eq.trans ?_ (wd_add _ _)
        refine congrArg (Scalar.addi (wd (R.slf c t.val))) ?_
        have hf : fdivW (Scf.iv 0#32 1#32 t.val) = wd (t.val / 32) := by rw [iv_t3]; exact fdivW_eq ⟨t.val, ht⟩
        have hd : t.val / 32 < 32 := by omega
        have e1 : (Scalar.select (Scalar.cmpi .eq (fdivW (Scf.iv 0#32 1#32 t.val)) (wd c.val)) 1#32 0#32 : BitVec 32)
            = wd (if (⟨t.val / 32, hd⟩ : Fin 32) = c then 1 else 0) := by
          rw [hf]; exact own_word ⟨t.val / 32, hd⟩ c
        refine e1.trans (congrArg wd ?_)
        have : (tk t.val ht).1 = (⟨t.val / 32, hd⟩ : Fin 32) := rfl
        rw [this]
        by_cases h : (⟨t.val / 32, hd⟩ : Fin 32) = c
        · rw [if_pos h, if_pos ⟨hp, h⟩]
        · rw [if_neg h, if_neg fun h' => h h'.2]
      · by_cases hpt : p = tk t.val ht
        · subst hpt
          rw [tn_tk] at hy ⊢
          refine (hg7 y).trans ((if_pos (hy.trans h4.symm)).trans (iv_t3 t))
        · have h' := hold p hp' h hpt
          have hlt := R.cnt_lt c hp' (le_of_lt ht) h'
          refine (hg7 y).trans ((if_neg ?_).trans (hs.tok p y hp' h' hy))
          rw [hy, show k0_off4 _ 0 = R.cnt c t.val from h4]; omega
      · by_cases hpt : p = tk t.val ht
        · subst hpt
          rw [tn_tk] at hy ⊢
          refine (hg8 y).trans ((if_pos (hy.trans h4.symm)).trans ?_)
          exact slot_word he hr
        · have h' := hold p hp' h hpt
          have hlt := R.cnt_lt c hp' (le_of_lt ht) h'
          refine (hg8 y).trans ((if_neg ?_).trans (hs.slot p y hp' h' hy))
          rw [hy, show k0_off4 _ 0 = R.cnt c t.val from h4]; omega
    · iframe
  · rw [dif_neg hc]
    rw [wp_ret]; imodintro
    have hne : R.home (tk t.val ht) ≠ c := fun h => hc ((cond2_iff c ⟨_, he⟩).mpr ((R.home_iff c t.val ht).mpr h))
    iexists g6, f7, f8, f9
    isplitl []
    · ipureintro
      have hlt : ∀ p : Tok, R.home p = c → tn p < t.val + 1 → tn p < t.val := fun p hp h => by
        rcases Nat.lt_or_ge (tn p) t.val with h' | h'
        · exact h'
        · exact absurd hp (by
            have : tk t.val ht = p := tn_inj ((tn_tk _ _).trans (by omega))
            rwa [this] at hne)
      refine ⟨hcnt, fun y hy => ?_, fun y hy => ?_, fun p y hp h hy => hs.tok p y hp (hlt p hp h) hy, fun p y hp h hy => hs.slot p y hp (hlt p hp h) hy⟩
      · rw [hs.mine y hy, R.cnt_succ c _ ht, if_neg hne]; rfl
      · rw [hs.self y hy, R.slf_succ c _ ht, if_neg fun h => hne h.1]; rfl
    · iframe

end Cert.RouteGatheredIdeal
-- ==== Proof.GGather.lean ====
module

public import proofs.«01_k».proof.Proof.GScan
public import Idealize.ShloMosaic.Lib.Pipeline.Value

@[expose] public section

set_option maxRecDepth 16384

noncomputable section

namespace Cert.RouteGatheredIdeal

open Cert.GatheredIdeal Cert.GatheredIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode
open Idealize.SL.Sem
open Idealize.ShloMosaic.Rounds
open Idealize.ShloMosaic.ValueIdx (ix1 ix2 ix3)

variable {F : FTy → Type} [FloatOps F]

local notation "𝕄" => MT nD τ sig ℕ (Elt F) ℕ UU ℕ

variable (R : Route) (D : Ins F)

/-- What the two lists hold after the scan: for the device's `j`-th token its number and its slot. -/
structure Listed (c : Dev nD) (f7 : Buf (Elt F) ((c : Thread nD τ).loc cc0_scratch3)) (f8 : Buf (Elt F) ((c : Thread nD τ).loc cc0_scratch4)) : Prop where
  tok : ∀ (p : Tok) (y : S1024.Idx), R.home p = c → (y 0).val = R.cnt c (tn p) → f7 y = wd (tn p)
  slot : ∀ (p : Tok) (y : S1024.Idx), R.home p = c → (y 0).val = R.cnt c (tn p) → f8 y = wd (R.slot c (tn p))

theorem Scanned.listed {c : Dev nD} {f6 f7 f8 f9} (h : Scanned (F := F) R c 1024 f6 f7 f8 f9) : Listed (F := F) R c f7 f8 :=
  ⟨fun p y hp hy => h.tok p y hp (tn_lt p) hy, fun p y hp hy => h.slot p y hp (tn_lt p) hy⟩

abbrev xPts (c : Dev nD) (f : Buf (Elt F) ((c : Thread nD τ).loc cc0_stg1_0)) : sProp 𝕄 :=
  ((c : Thread nD τ).loc cc0_stg1_0) ↦{fullShare} f
abbrev wPts (c : Dev nD) (f : Buf (Elt F) ((c : Thread nD τ).loc cc0_stg2_0)) : sProp 𝕄 :=
  ((c : Thread nD τ).loc cc0_stg2_0) ↦{fullShare} f
abbrev gPts (c : Dev nD) (f : Buf (Elt F) ((c : Thread nD τ).loc cc0_scratch0)) : sProp 𝕄 :=
  ((c : Thread nD τ).loc cc0_scratch0) ↦{fullShare} f

/-- A store of one row of a rank-two view. -/
theorem row_write {sig : RefSig} {Val : EltTy → Type} {n k : ℕ} {κ : Kind} {sp : Space} {e : EltTy} (v : View sig κ sp ⟨2, ![n, k]⟩ e) (off : Fin 2 → ℕ)
    {r : ℕ} (hoff : off = ![r, 0])
    (inb : ∀ a, off a + (⟨2, ![1, k]⟩ : Shape).size a ≤ (⟨2, ![n, k]⟩ : Shape).size a) (f : v.ty.Contents Val)
    (w : (⟨2, ![1, k]⟩ : Shape).Idx → Val e) (y : (⟨2, ![n, k]⟩ : Shape).Idx) :
    v.read Val ((v.slice (Rect.unit (s := ⟨2, ![n, k]⟩) off (⟨2, ![1, k]⟩ : Shape).size inb)).write Val f w Finset.univ) y
      = if (y 0).val = r then w (ix2 0 (y 1)) else v.read Val f y := by
  subst hoff
  by_cases h : (y 0).val = r
  · rw [if_pos h]
    have hy : (Rect.unit (s := ⟨2, ![n, k]⟩) ![r, 0] (⟨2, ![1, k]⟩ : Shape).size inb).emb (ix2 0 (y 1)) = y := by
      funext a
      match a with
      | 0 => exact Fin.ext (by show r + 1 * 0 = (y 0).val; omega)
      | 1 => exact Fin.ext (by show 0 + 1 * (y 1).val = (y 1).val; omega)
    exact (congrArg (v.read Val _) hy.symm).trans (View.read_slice_write_emb _ _ _ (Finset.mem_univ _))
  · rw [if_neg h]
    refine View.read_slice_write_of_not_mem _ _ _ _ ?_
    rw [Rect.map_emb_univ, Rect.mem_set_unit]
    intro hall
    have h0 := hall 0
    have e0 : (![r, 0] : Fin 2 → ℕ) 0 = r := rfl
    have e1 : (⟨2, ![1, k]⟩ : Shape).size 0 = 1 := rfl
    omega

/-- A load of one row of a rank-two view. -/
theorem row_read {sig : RefSig} {Val : EltTy → Type} {n k : ℕ} {κ : Kind} {sp : Space} {e : EltTy} (v : View sig κ sp ⟨2, ![n, k]⟩ e) (off : Fin 2 → ℕ)
    {r : ℕ} (hr : r < n) (hoff : off = ![r, 0])
    (inb : ∀ a, off a + (⟨2, ![1, k]⟩ : Shape).size a ≤ (⟨2, ![n, k]⟩ : Shape).size a) (f : v.ty.Contents Val)
    (x : (⟨2, ![1, k]⟩ : Shape).Idx) :
    (v.slice (Rect.unit (s := ⟨2, ![n, k]⟩) off (⟨2, ![1, k]⟩ : Shape).size inb)).read Val f x = v.read Val f (ix2 ⟨r, hr⟩ (x 1)) := by
  subst hoff
  have hx : (Rect.unit (s := ⟨2, ![n, k]⟩) ![r, 0] (⟨2, ![1, k]⟩ : Shape).size inb).emb x = ix2 ⟨r, hr⟩ (x 1) := by
    funext a
    match a with
    | 0 => exact Fin.ext (by have : (x 0).val < 1 := (x 0).isLt; show r + 1 * (x 0).val = r; omega)
    | 1 => exact Fin.ext (by show 0 + 1 * (x 1).val = (x 1).val; omega)
  exact congrArg (v.read Val f) hx

theorem g_row (c : Dev nD) (off : Fin 2 → ℕ) {r : ℕ} (hoff : off = ![r, 0]) (inb : ∀ a, off a + S1x512.size a ≤ S32x512.size a)
    (f : Buf (Elt F) ((c : Thread nD τ).loc cc0_scratch0)) (w : Vec F S1x512 .f32) :
    (Memref.access gM (Rect.unit (s := S32x512) off S1x512.size inb)).write (Elt F) f w Finset.univ
      = fun y : S32x512.Idx => if (y 0).val = r then w (ix2 0 (y 1)) else f y :=
  (View.read_whole (Val := Elt F) cc0_scratch0 _).symm.trans (funext fun y => row_write (Val := Elt F) (View.whole cc0_scratch0) off hoff inb f w y)

theorem x_row (c : Dev nD) (off : Fin 2 → ℕ) {r : ℕ} (hr : r < 1024) (hoff : off = ![r, 0]) (inb : ∀ a, off a + S1x512.size a ≤ S1024x512.size a)
    (f : Buf (Elt F) ((c : Thread nD τ).loc cc0_stg1_0)) :
    k0_pay3 (F := F) ((Memref.access xM (Rect.unit (s := S1024x512) off S1x512.size inb)).read (Elt F) f)
      = fun y : S1x512.Idx => f (ix2 ⟨r, hr⟩ (y 1)) := by
  unfold k0_pay3
  simp only [shapeCast_self]
  exact funext fun y => row_read (Val := Elt F) (View.whole cc0_stg1_0) off hr hoff inb f y

/-- Before trip `j` of the gather the first `j` kept tokens' rows are in their slots. -/
def gathI (c : Dev nD) (f7 : Buf (Elt F) ((c : Thread nD τ).loc cc0_scratch3)) (f8 : Buf (Elt F) ((c : Thread nD τ).loc cc0_scratch4)) (j : ℕ) : sProp 𝕄 :=
  iprop(xPts (F := F) c (D.xs c) ∗ gPts (F := F) c (gSt R D c j) ∗ tokPts (F := F) c f7 ∗ slotPts (F := F) c f8)

theorem gath_step (c : Dev nD) {f7 f8} (hl : Listed (F := F) R c f7 f8) (h3 : k0_chk3 (wd (R.nMy c))) (t : Fin (k0_t4_loop (wd (R.nMy c))).trips) :
    gathI (F := F) R D c f7 f8 t.val ⊢ wp frame (wpE (defs₀ (F := F)) 𝒱₀ (c : Thread nD τ) none) Set.univ
      (k0_t4_body tabM (Memref.isWhole_whole _) xM (Memref.isWhole_whole _) wM (Memref.isWhole_whole _) oM (Memref.isWhole_whole _) gM (Memref.isWhole_whole _) eM (Memref.isWhole_whole _) cntM (Memref.isWhole_whole _) tokM (Memref.isWhole_whole _) slotM (Memref.isWhole_whole _) metaM (Memref.isWhole_whole _) sendS recvS (wd (R.nMy c)) h3 t ⟨⟩) (fun _ => gathI (F := F) R D c f7 f8 (t.val + 1)) := by
  have ht : t.val < R.nMy c := lt_of_lt_of_eq t.isLt (trips_t4 (R.nMy_le c))
  obtain ⟨p, hp, hj⟩ := R.exists_nth c ht
  have hn : R.cnt c (tn p) < 1024 := lt_of_lt_of_le (R.cnt_lt_nMy c hp) (R.nMy_le c)
  have hsl := R.slot_lt c (tn p)
  have h5 : k0_off5 (wd (R.nMy c)) t 0 = R.cnt c (tn p) := by rw [off5_eq (R.nMy_le c)]; exact hj.symm
  have r7 : tokM.view.read (Elt F) f7 (ix1 ⟨R.cnt c (tn p), hn⟩) = wd (tn p) := hl.tok p _ hp rfl
  have r8 : slotM.view.read (Elt F) f8 (ix1 ⟨R.cnt c (tn p), hn⟩) = wd (R.slot c (tn p)) := hl.slot p _ hp rfl
  unfold gathI k0_t4_body
  simp only [smemLoad, smemLoadElt, Prog.lift, Prog.bind_op, Prog.bind_ret, Prog.pure_eq_ret, Prog.bind_assoc]
  iintro ⟨Hx, Hg, H7, H8⟩
  iapply (loadC 𝒱₀ (c : Thread nD τ) slotM (ix1 ⟨R.cnt c (tn p), hn⟩) r8 h5.symm) $$ H8; iintro H8
  iapply (wp_assume 𝒱₀ (c : Thread nD τ) none Set.univ (chk5_ok hsl))
  iapply (loadC 𝒱₀ (c : Thread nD τ) tokM (ix1 ⟨R.cnt c (tn p), hn⟩) r7 h5.symm) $$ H7; iintro H7
  iapply (wp_assume 𝒱₀ (c : Thread nD τ) none Set.univ (chk4_ok _ (tn_lt p)))
  have hnth : nth R c t.val = p := nth_eq R hp hj
  by_cases hc : k0_cond3 (wd (R.slot c (tn p))) = 1#1
  · rw [dif_pos hc]
    have h7 : R.slot c (tn p) ≠ 7 := (cond3_iff hsl).mp hc
    iapply (loadW 𝒱₀ (c : Thread nD τ) xM) $$ Hx; iintro Hx
    iapply (loadW 𝒱₀ (c : Thread nD τ) gM) $$ Hg; iintro Hg
    iapply (storeW 𝒱₀ (c : Thread nD τ) gM) $$ Hg; iintro Hg
    rw [wp_ret]; imodintro
    rw [gSt_succ R D hp hj]
    have hg : (Memref.access gM (Rect.unit (s := S32x512) (k0_off7 (wd (R.slot c (tn p)))) S1x512.size (k0_off7_inb _ (chk5_ok hsl) hc))).write (Elt F)
        (gSt R D c t.val) (k0_pay3 ((Memref.access xM (Rect.unit (s := S1024x512) (k0_off6 (wd (tn p))) S1x512.size
          (k0_off6_inb _ _ (chk4_ok _ (tn_lt p)) hc))).read (Elt F) (D.xs c))) Finset.univ = gPut R D c p (gSt R D c t.val) := by
      rw [x_row c _ (tn_lt p) (off6_eq (tn_lt p)), g_row c _ (off7_eq hsl)]
      funext y
      unfold gPut
      by_cases h : (y 0).val = R.slot c (tn p)
      · exact (if_pos h).trans (if_pos ⟨h, h7⟩).symm
      · exact (if_neg h).trans (if_neg fun h' => h h'.1).symm
    rw [← hg]
    iframe
  · rw [dif_neg hc]
    have h7 : R.slot c (tn p) = 7 := by by_contra h; exact hc ((cond3_iff hsl).mpr h)
    rw [wp_ret]; imodintro
    have hg : gPut R D c p (gSt R D c t.val) = gSt R D c t.val := by
      funext y
      exact if_neg fun h => h.2 h7
    rw [gSt_succ R D hp hj, hg]
    iframe

end Cert.RouteGatheredIdeal
-- ==== Proof.GCompute.lean ====
module

public import proofs.«01_k».proof.Proof.GGather
public import Idealize.ShloMosaic.Lib.Pipeline.Value

@[expose] public section

set_option maxRecDepth 16384

noncomputable section

namespace Cert.RouteGatheredIdeal

open Cert.GatheredIdeal Cert.GatheredIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode
open Idealize.SL.Sem
open Idealize.ShloMosaic.Rounds
open Idealize.ShloMosaic.ValueIdx (ix1 ix2 ix3)

variable {F : FTy → Type} [FloatOps F]

local notation "𝕄" => MT nD τ sig ℕ (Elt F) ℕ UU ℕ

variable (R : Route) (D : Ins F)

abbrev eAll (c : Dev nD) (f : Buf (Elt F) ((c : Thread nD τ).loc cc0_scratch1)) : sProp 𝕄 :=
  ((c : Thread nD τ).loc cc0_scratch1) ↦{fullShare} f

/-- A store of block `k` of eight rows. -/
theorem e_block (c : Dev nD) (k : ℕ) (off : Fin 2 → ℕ) (hoff : off = ![8 * k, 0])
    (inb : ∀ a, off a + S8x1024.size a ≤ S32x1024.size a)
    (f : Buf (Elt F) ((c : Thread nD τ).loc cc0_scratch1)) (w : Vec F S8x1024 .f32) :
    (Memref.access eM (Rect.unit (s := S32x1024) off S8x1024.size inb)).write (Elt F) f w Finset.univ
      = fun y : S32x1024.Idx => if (y 0).val / 8 = k then w (ix2 ⟨(y 0).val % 8, Nat.mod_lt _ (by decide)⟩ (y 1)) else f y := by
  subst hoff
  refine (View.read_whole (Val := Elt F) cc0_scratch1 _).symm.trans (funext fun y : S32x1024.Idx => ?_)
  by_cases h : (y 0).val / 8 = k
  · have hy : (Rect.unit (s := S32x1024) ![8 * k, 0] S8x1024.size inb).emb (ix2 ⟨(y 0).val % 8, Nat.mod_lt _ (by decide)⟩ (y 1)) = y := by
      funext a
      match a with
      | 0 => exact Fin.ext (by show 8 * k + 1 * ((y 0).val % 8) = (y 0).val; omega)
      | 1 => exact Fin.ext (by show 0 + 1 * (y 1).val = (y 1).val; omega)
    refine Eq.trans ?_ (if_pos h).symm
    exact (congrArg ((View.whole cc0_scratch1).read (Elt F) _) hy.symm).trans
      (View.read_slice_write_emb (v := View.whole cc0_scratch1) _ _ _ (Finset.mem_univ _))
  · refine Eq.trans ?_ (if_neg h).symm
    refine View.read_slice_write_of_not_mem (v := View.whole cc0_scratch1) _ _ _ _ ?_
    rw [Rect.map_emb_univ]
    intro hm
    have h0 := Rect.mem_set_unit.mp hm 0
    have e0 : (![8 * k, 0] : Fin 2 → ℕ) 0 = 8 * k := rfl
    have e1 : S8x1024.size 0 = 8 := rfl
    omega

theorem g_block (c : Dev nD) (k : ℕ) (hk : k < 4) (off : Fin 2 → ℕ) (hoff : off = ![8 * k, 0])
    (inb : ∀ a, off a + S8x512.size a ≤ S32x512.size a)
    (f : Buf (Elt F) ((c : Thread nD τ).loc cc0_scratch0)) :
    (Memref.access gM (Rect.unit (s := S32x512) off S8x512.size inb)).read (Elt F) f
      = fun z : S8x512.Idx => f (ix2 ⟨8 * k + (z 0).val, by have : (z 0).val < 8 := (z 0).isLt; omega⟩ (z 1)) := by
  subst hoff
  funext z
  refine congrArg f (funext fun a => ?_)
  match a with
  | 0 => exact Fin.ext (by show 8 * k + 1 * (z 0).val = 8 * k + (z 0).val; omega)
  | 1 => exact Fin.ext (by show 0 + 1 * (z 1).val = (z 1).val; omega)

theorem w_block (c : Dev nD) (k : ℕ) (hk : k < 4) (off : Fin 3 → ℕ) (hoff : off = ![k, 0, 0])
    (inb : ∀ a, off a + S1x512x1024.size a ≤ S4x512x1024.size a)
    (f : Buf (Elt F) ((c : Thread nD τ).loc cc0_stg2_0)) :
    (Memref.access wM (Rect.unit (s := S4x512x1024) off S1x512x1024.size inb)).read (Elt F) f
      = fun z : S1x512x1024.Idx => f (ix3 ⟨k, hk⟩ (z 1) (z 2)) := by
  subst hoff
  funext z
  refine congrArg f (funext fun a => ?_)
  match a with
  | 0 => exact Fin.ext (by have : (z 0).val < 1 := (z 0).isLt; show k + 1 * (z 0).val = k; omega)
  | 1 => exact Fin.ext (by show 0 + 1 * (z 1).val = (z 1).val; omega)
  | 2 => exact Fin.ext (by show 0 + 1 * (z 2).val = (z 2).val; omega)

/-- Block `k` of the expert results. -/
def eBlk (c : Dev nD) (k : ℕ) (hk : k < 4) : Vec F S8x1024 .f32 :=
  k0_pay5 (F := F)
    (fun z : S8x512.Idx => gSt R D c (R.nMy c) (ix2 ⟨8 * k + (z 0).val, by have : (z 0).val < 8 := (z 0).isLt; omega⟩ (z 1)))
    (fun z : S1x512x1024.Idx => D.ws c (ix3 ⟨k, hk⟩ (z 1) (z 2)))

theorem eFin_eq (c : Dev nD) (y : S32x1024.Idx) (k : ℕ) (hk : k < 4) (h : (y 0).val / 8 = k) :
    eFin R D c y = eBlk R D c k hk (ix2 ⟨(y 0).val % 8, Nat.mod_lt _ (by decide)⟩ (y 1)) := by
  subst h; rfl

/-- The four products, each stored over its block of rows. -/
theorem compute (c : Dev nD) :
    iprop(wPts (F := F) c (D.ws c) ∗ gPts (F := F) c (gSt R D c (R.nMy c)) ∗ ∃ f, eAll (F := F) c f)
      ⊢ wp frame (wpE (defs₀ (F := F)) 𝒱₀ (c : Thread nD τ) none) Set.univ (k0_part3 tabM (Memref.isWhole_whole _) xM (Memref.isWhole_whole _) wM (Memref.isWhole_whole _) oM (Memref.isWhole_whole _) gM (Memref.isWhole_whole _) eM (Memref.isWhole_whole _) cntM (Memref.isWhole_whole _) tokM (Memref.isWhole_whole _) slotM (Memref.isWhole_whole _) metaM (Memref.isWhole_whole _) sendS recvS)
        (fun r => iprop(wPts (F := F) c (D.ws c) ∗ gPts (F := F) c (gSt R D c (R.nMy c)) ∗ ∃ f, ⌜k0_pay1 (F := F) r.1 = eBlk R D c 3 (by decide)
          ∧ ∀ y : S32x1024.Idx, (y 0).val / 8 ≠ 3 → f y = eFin R D c y⌝ ∗ eAll (F := F) c f)) := by
  rw [k0_part3_eq_skeleton]
  unfold k0_part3_skel
  simp only [Prog.lift, Prog.bind_op, Prog.bind_ret, Prog.pure_eq_ret]
  iintro ⟨Hw, Hg, %f0, He⟩
  iapply (loadW 𝒱₀ (c : Thread nD τ) gM) $$ Hg; iintro Hg
  iapply (loadW 𝒱₀ (c : Thread nD τ) wM) $$ Hw; iintro Hw
  rw [g_block c 0 (by decide) _ rfl, w_block c 0 (by decide) _ rfl]
  iapply (loadW 𝒱₀ (c : Thread nD τ) eM) $$ He; iintro He
  iapply (storeW 𝒱₀ (c : Thread nD τ) eM) $$ He; iintro He
  rw [e_block c 0 _ rfl]
  iapply (loadW 𝒱₀ (c : Thread nD τ) gM) $$ Hg; iintro Hg
  iapply (loadW 𝒱₀ (c : Thread nD τ) wM) $$ Hw; iintro Hw
  rw [g_block c 1 (by decide) _ rfl, w_block c 1 (by decide) _ rfl]
  iapply (loadW 𝒱₀ (c : Thread nD τ) eM) $$ He; iintro He
  iapply (storeW 𝒱₀ (c : Thread nD τ) eM) $$ He; iintro He
  rw [e_block c 1 _ rfl]
  iapply (loadW 𝒱₀ (c : Thread nD τ) gM) $$ Hg; iintro Hg
  iapply (loadW 𝒱₀ (c : Thread nD τ) wM) $$ Hw; iintro Hw
  rw [g_block c 2 (by decide) _ rfl, w_block c 2 (by decide) _ rfl]
  iapply (loadW 𝒱₀ (c : Thread nD τ) eM) $$ He; iintro He
  iapply (storeW 𝒱₀ (c : Thread nD τ) eM) $$ He; iintro He
  rw [e_block c 2 _ rfl]
  iapply (loadW 𝒱₀ (c : Thread nD τ) gM) $$ Hg; iintro Hg
  iapply (loadW 𝒱₀ (c : Thread nD τ) wM) $$ Hw; iintro Hw
  rw [g_block c 3 (by decide) _ rfl, w_block c 3 (by decide) _ rfl]
  iapply (loadW 𝒱₀ (c : Thread nD τ) eM) $$ He; iintro He
  rw [wp_ret]; imodintro
  isplitl [Hw]; · iexact Hw
  isplitl [Hg]; · iexact Hg
  iexists _
  isplitl []
  rotate_left
  · iexact He
  ipureintro
  refine ⟨rfl, fun y h3 => ?_⟩
  have hy : (y 0).val < 32 := (y 0).isLt
  dsimp only
  by_cases h2 : (y 0).val / 8 = 2
  · rw [if_pos h2]; exact (eFin_eq R D c y 2 (by decide) h2).symm
  rw [if_neg h2]
  by_cases h1 : (y 0).val / 8 = 1
  · rw [if_pos h1]; exact (eFin_eq R D c y 1 (by decide) h1).symm
  rw [if_neg h1]
  have h0 : (y 0).val / 8 = 0 := by omega
  rw [if_pos h0]; exact (eFin_eq R D c y 0 (by decide) h0).symm

end Cert.RouteGatheredIdeal
-- ==== Proof.GTalk.lean ====
module

public import proofs.«01_k».proof.Proof.GCompute
public import Idealize.ShloMosaic.Lib.Pipeline.Value

@[expose] public section

set_option maxRecDepth 16384

noncomputable section

namespace Cert.RouteGatheredIdeal

open Cert.GatheredIdeal Cert.GatheredIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode
open Idealize.SL.Sem
open Idealize.ShloMosaic.Rounds
open Idealize.ShloMosaic.ValueIdx (ix1 ix2 ix3)

variable {F : FTy → Type} [FloatOps F]

local notation "𝕄" => MT nD τ sig ℕ (Elt F) ℕ UU ℕ

variable (R : Route) (D : Ins F)

theorem bs_insert {I : Type} [DecidableEq I] {s : Finset I} {i : I} (hi : i ∉ s) {Φ : I → sProp 𝕄} :
    bigSep (insert i s) Φ = iprop(Φ i ∗ bigSep s Φ) := BI.bigSep_insert hi
theorem bs_split {I : Type} [DecidableEq I] {s t : Finset I} (h : t ⊆ s) {Φ : I → sProp 𝕄} :
    bigSep s Φ = iprop(bigSep t Φ ∗ bigSep (s \ t) Φ) := BI.bigSep_sdiff_split h

/-! ## What every device knows of the cells -/

/-- The cells' invariants under the names `K`, and that each cell's first round is reached. -/
def recs (K : Dev nD × Fin 3 → ℕ) : sProp 𝕄 :=
  iprop((bigSep Finset.univ fun ck : Dev nD × Fin 3 => cellInv ER (sch (F := F) R D) (K ck) (kcell ck))
    ∗ bigSep Finset.univ fun ck : Dev nD × Fin 3 => reached ER (kcell ck) 0)

instance recs_persistent (K : Dev nD × Fin 3 → ℕ) : BI.Persistent (recs (F := F) R D K) := by unfold recs; infer_instance

theorem recs_inv (K : Dev nD × Fin 3 → ℕ) (ck : Dev nD × Fin 3) :
    (recs (F := F) R D K : sProp 𝕄) ⊢ cellInv ER (sch (F := F) R D) (K ck) (kcell ck) := by
  unfold recs
  exact sep_elim_left.trans (bigSep_elim (Finset.mem_univ ck))

theorem recs_reached (K : Dev nD × Fin 3 → ℕ) (ck : Dev nD × Fin 3) :
    (recs (F := F) R D K : sProp 𝕄) ⊢ reached ER (kcell ck) 0 := by
  unfold recs
  exact sep_elim_right.trans (bigSep_elim (Finset.mem_univ ck))

/-- What device `c` knows of them before the barrier: of the copy cells only that its own are open. -/
def recs0 (K : Dev nD × Fin 3 → ℕ) (c : Dev nD) : sProp 𝕄 :=
  iprop((bigSep Finset.univ fun ck : Dev nD × Fin 3 => cellInv ER (sch (F := F) R D) (K ck) (kcell ck))
    ∗ (bigSep Finset.univ fun d : Dev nD => reached ER (barCell d) 0) ∗ reached ER (sendCell c) 0 ∗ reached ER (recvCell c) 0)

instance recs0_persistent (K : Dev nD × Fin 3 → ℕ) (c : Dev nD) : BI.Persistent (recs0 (F := F) R D K c) := by unfold recs0; infer_instance

theorem recs0_inv (K : Dev nD × Fin 3 → ℕ) (c : Dev nD) (ck : Dev nD × Fin 3) :
    (recs0 (F := F) R D K c : sProp 𝕄) ⊢ cellInv ER (sch (F := F) R D) (K ck) (kcell ck) := by
  unfold recs0
  exact sep_elim_left.trans (bigSep_elim (Finset.mem_univ ck))

theorem recs0_bar (K : Dev nD × Fin 3 → ℕ) (c d : Dev nD) :
    (recs0 (F := F) R D K c : sProp 𝕄) ⊢ reached ER (barCell d) 0 := by
  unfold recs0
  exact (sep_elim_right.trans sep_elim_left).trans (bigSep_elim (Finset.mem_univ d))

theorem recs0_own (K : Dev nD × Fin 3 → ℕ) (c : Dev nD) :
    (recs0 (F := F) R D K c : sProp 𝕄) ⊢ iprop(reached ER (sendCell c) 0 ∗ reached ER (recvCell c) 0) := by
  unfold recs0
  exact sep_elim_right.trans sep_elim_right

/-- What device `c` owes, whatever it has waited for so far. -/
def owing (c : Dev nD) (O : CellTallies nD τ sig ℕ) : sProp 𝕄 := iprop(∃ W, owes (c : Thread nD τ) O W)

/-! ## The signals -/

theorem toSig_skip {c : Dev nD} {t : ℕ} (h : t = c.val) : toSig c t = toSig c (t + 1) := by
  ext d
  unfold toSig
  simp only [Finset.mem_filter, Finset.mem_univ, true_and, ne_eq]
  constructor
  · rintro ⟨h1, h2⟩; exact ⟨by have : d.val ≠ c.val := fun e => h2 (Fin.ext e); omega, h2⟩
  · rintro ⟨h1, h2⟩; exact ⟨by omega, h2⟩

theorem toSig_step {c d : Dev nD} (h : d ≠ c) : toSig c d.val = insert d (toSig c (d.val + 1)) := by
  ext e
  unfold toSig
  simp only [Finset.mem_filter, Finset.mem_insert, Finset.mem_univ, true_and, ne_eq]
  constructor
  · rintro ⟨h1, h2⟩
    by_cases he : e = d
    · exact Or.inl he
    · exact Or.inr ⟨by have : e.val ≠ d.val := fun e' => he (Fin.ext e'); omega, h2⟩
  · rintro (rfl | ⟨h1, h2⟩)
    · exact ⟨le_rfl, h⟩
    · exact ⟨by omega, h2⟩

theorem not_toSig {c d : Dev nD} : d ∉ toSig c (d.val + 1) := by
  unfold toSig
  simp only [Finset.mem_filter, not_and]
  intro _ h
  omega

theorem toSig_last (c : Dev nD) : toSig c 32 = ∅ := by
  unfold toSig
  refine Finset.filter_eq_empty_iff.mpr fun d _ h => ?_
  have : d.val < 32 := d.isLt
  omega

theorem toSig_zero (c : Dev nD) : toSig c 0 = Finset.univ.erase c := by
  ext d
  unfold toSig
  simp

/-- Before trip `t` of the signal loop: a duty token and the rows to hand over for every device not yet signalled. -/
def sigI (K : Dev nD × Fin 3 → ℕ) (c : Dev nD) (t : ℕ) : sProp 𝕄 :=
  iprop(recs0 (F := F) R D K c ∗ owing (F := F) c (owRecv R c 0 + owBar c t)
    ∗ bigSep (toSig c t) (fun d => (dutyTok ER (barCell d) 0 (dEmb c) : sProp 𝕄))
    ∗ bigSep (toSig c t) (fun d => barPay (F := F) R d c))

theorem sig_step (K : Dev nD × Fin 3 → ℕ) (c : Dev nD) (t : Fin k0_t1_loop.trips) :
    sigI (F := F) R D K c t.val ⊢ wp frame (wpE (defs₀ (F := F)) 𝒱₀ (c : Thread nD τ) none) Set.univ
      (k0_t1_body tabM (Memref.isWhole_whole _) xM (Memref.isWhole_whole _) wM (Memref.isWhole_whole _) oM (Memref.isWhole_whole _) gM (Memref.isWhole_whole _) eM (Memref.isWhole_whole _) cntM (Memref.isWhole_whole _) tokM (Memref.isWhole_whole _) slotM (Memref.isWhole_whole _) metaM (Memref.isWhole_whole _) sendS recvS c (SemArray.scalar (sig.barrier 0 rfl)) t ⟨⟩) (fun _ => sigI (F := F) R D K c (t.val + 1)) := by
  have ht : t.val < 32 := lt_of_lt_of_eq t.isLt trips_t1
  unfold sigI k0_t1_body
  simp only [semSignalWord, Prog.lift, Prog.bind_op, Prog.bind_ret, Prog.pure_eq_ret, Prog.bind_assoc]
  by_cases hc : k0_cond1 c t = 1#1
  · rw [dif_pos hc]
    have hd : (⟨k0_dev1 t, k0_dev1_lt c t hc⟩ : Dev nD) = ⟨t.val, ht⟩ := Fin.ext (k0_dev1_eq t)
    rw [hd]
    have hne : (⟨t.val, ht⟩ : Dev nD) ≠ c := fun h => (cond1_iff c t).mp hc (congrArg Fin.val h)
    have hs : toSig c t.val = insert ⟨t.val, ht⟩ (toSig c (t.val + 1)) := toSig_step hne
    have hn : (⟨t.val, ht⟩ : Dev nD) ∉ toSig c (t.val + 1) := not_toSig (d := ⟨t.val, ht⟩)
    have hO : owRecv R c 0 + owBar c t.val = (owRecv R c 0 + owBar c (t.val + 1)) + tallyAt (barCell ⟨t.val, ht⟩) 0 1 := by
      unfold owBar; rw [hs, Finset.sum_insert hn, add_comm (tallyAt _ _ _), add_assoc]
    rw [hO, hs, bs_insert hn, bs_insert hn]
    unfold owing
    iintro ⟨#HR, ⟨%W, HO⟩, ⟨Ht, Hts⟩, Hp, Hps⟩
    iapply (Rounds.wp_signal 𝒱₀ ER (sch (F := F) R D) (c : Thread nD τ) none (dst := ((⟨t.val, ht⟩ : Dev nD) : Thread nD τ)) (κ := K (⟨t.val, ht⟩, 0))
        (d := dEmb c) (by rw [duties_bar]; exact Finset.mem_map_of_mem _ (Finset.mem_erase.mpr ⟨hne.symm, Finset.mem_univ _⟩))
        ((amount_bar R D ⟨t.val, ht⟩ _).trans (by decide)) 0 (owRecv R c 0 + owBar c (t.val + 1)) rfl) $$ [HO Ht Hp]
    · isplitr; · iapply (recs0_inv R D K c (⟨t.val, ht⟩, 0)); iexact HR
      isplitl [HO]; · iexact HO
      isplitl [Ht]; · iexact Ht
      isplitl [Hp]
      · rw [payload_bar]
        unfold barGive
        isplitl [Hp]; · iexact Hp
        iapply (recs0_own R D K c); iexact HR
      iapply (recs0_bar R D K c ⟨t.val, ht⟩); iexact HR
    iintro HO
    rw [wp_ret]; imodintro
    isplitr; · iexact HR
    isplitl [HO]; · iexists W; iexact HO
    isplitl [Hts] <;> iassumption
  · rw [dif_neg hc]
    have he : t.val = c.val := by by_contra h; exact hc ((cond1_iff c t).mpr h)
    rw [← toSig_skip he, wp_ret]
    iintro H
    imodintro
    unfold owBar; rw [← toSig_skip he]
    iexact H

/-! ## A loop of equal waits -/

section Waits
variable (g : SemLoc sig) (T : Finset Tok)

/-- After `j` of the waits for the contributions `T` of a cell's only round: some of the contributions are in, all of
    them once the last wait has passed. -/
def waitI (K : Dev nD × Fin 3 → ℕ) (k : Fin 3) (c : Dev nD) (j : ℕ) : sProp 𝕄 :=
  iprop(recs (F := F) R D K ∗ owing (F := F) c 0 ∗ cred (tallyAt (kcell (c, k)) 0 ((T.card - j) * N))
    ∗ if j < T.card then
        iprop(∃ S, ⌜S ⊆ T⌝ ∗ atPos ER (kcell (c, k)) 0 S (j * N) ∗ bigSep S fun p => (sch (F := F) R D).payload (kcell (c, k)) 0 p)
      else
        iprop(∃ r, ⌜∀ r', r ≤ r' → (sch (F := F) R D).duties (kcell (c, k)) r' = ∅⌝ ∗ atPos ER (kcell (c, k)) r ∅ 0
          ∗ bigSep T fun p => (sch (F := F) R D).payload (kcell (c, k)) 0 p))

theorem wait_step (K : Dev nD × Fin 3 → ℕ) (k : Fin 3) (c : Dev nD) {j : ℕ} (hj : j < T.card)
    (hT : (sch (F := F) R D).duties (kcell (c, k)) 0 = T) (hx : (sch (F := F) R D).expect (kcell (c, k)) 0 = T.card * N)
    {w : TpuEff nD τ sig (Elt F) Λ₀ .tc PUnit}
    (hw : ∀ Q : PUnit → sProp 𝕄, wpE (defs₀ (F := F)) 𝒱₀ (c : Thread nD τ) none Set.univ w Q = waitSpec (c : Thread nD τ) Set.univ (csem k) N Q)
    {Q : Unit → sProp 𝕄} {kk : PUnit → Prog (TpuEff nD τ sig (Elt F) Λ₀ .tc) Unit} :
    waitI (F := F) R D T K k c j ⊢ iprop((waitI (F := F) R D T K k c (j + 1) -∗ wp frame (wpE (defs₀ (F := F)) 𝒱₀ (c : Thread nD τ) none) Set.univ (kk ⟨⟩) Q)
      -∗ wp frame (wpE (defs₀ (F := F)) 𝒱₀ (c : Thread nD τ) none) Set.univ (.op w kk) Q) := by
  unfold waitI
  rw [if_pos hj]
  have hcr : (tallyAt (kcell (c, k)) 0 ((T.card - j) * N) : CellTallies nD τ sig ℕ)
      = tallyAt (kcell (c, k)) 0 N + tallyAt (kcell (c, k)) 0 ((T.card - (j + 1)) * N) := by
    rw [tallyAt_add, show T.card - j = (T.card - (j + 1)) + 1 by omega, Nat.succ_mul, Nat.add_comm]
  rw [hcr]
  unfold owing
  iintro ⟨#HR, ⟨%W, HO⟩, Hc, %S, %hS, Hat, Hpay⟩ Hk
  ihave Hc' := (cred_add _ _).1 $$ Hc
  icases Hc' with ⟨HcN, Hc⟩
  by_cases hl : j + 1 < T.card
  · iapply (Rounds.wp_wait 𝒱₀ ER (sch (F := F) R D) (c : Thread nD τ) none (κ := K (c, k)) hw (Set.mem_univ _)
        (cr := Finsupp.single 0 N) (O := 0) (W := W) {(csem k, 0)} (R := 0) (m := j * N) (T := S)
        (by rw [Util.total_single]) (image_single_subset _ _ _)) $$ [HcN HO Hat]
    · isplitr; · iapply (recs_inv R D K (c, k)); iexact HR
      isplitl [HcN]; · iexact HcN
      isplitl [HO]; · iexact HO
      isplitr; · iapply (Entails.of_eq (MayWait_zero (c : Thread nD τ) (csem k) 0).symm); iempintro
      iexact Hat
    iintro %S' ⟨%hS', HO, Hat, Hnew⟩
    iapply Hk
    isplitr; · iexact HR
    isplitl [HO]; · iexists _; iexact HO
    isplitl [Hc]; · iexact Hc
    rw [if_pos hl]
    iexists S'
    isplitr; · ipureintro; rw [← hT]; exact hS'.2.1
    isplitl [Hat]; · rw [Nat.succ_mul]; iexact Hat
    iapply (Entails.of_eq (bs_split hS'.1).symm)
    isplitl [Hpay] <;> iassumption
  · iapply (Rounds.wp_wait_rest_token 𝒱₀ ER (sch (F := F) R D) (c : Thread nD τ) none (κ := K (c, k)) hw (Set.mem_univ _) 0
        (O := 0) (W := W) (R := 0) (m := j * N) (T := S) (by rw [hx, ← Nat.succ_mul]; congr 1; omega)) $$ [HcN HO Hat]
    · isplitr; · iapply (recs_inv R D K (c, k)); iexact HR
      isplitl [HcN]; · iexact HcN
      isplitl [HO]; · iexact HO
      isplitr; · rw [MayWait_zero]; iempintro
      iexact Hat
    iintro ⟨HO, Hat, -, Hnew⟩
    iapply Hk
    isplitr; · iexact HR
    isplitl [HO]; · iexists _; iexact HO
    isplitl [Hc]; · iexact Hc
    rw [if_neg hl]
    iexists (0 + 1)
    isplitr; · ipureintro; exact fun r' hr' => duties_later R D _ r' (by omega)
    isplitl [Hat]; · iexact Hat
    iapply (Entails.of_eq (bs_split hS).symm)
    isplitl [Hpay]; · iexact Hpay
    rw [hT]; iexact Hnew

end Waits

end Cert.RouteGatheredIdeal
-- ==== Proof.GExchange.lean ====
module

public import proofs.«01_k».proof.Proof.GTalk
public import Idealize.ShloMosaic.Lib.Pipeline.Value

@[expose] public section

set_option maxRecDepth 16384

noncomputable section

namespace Cert.RouteGatheredIdeal

open Cert.GatheredIdeal Cert.GatheredIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode
open Idealize.SL.Sem
open Idealize.ShloMosaic.Rounds
open Idealize.ShloMosaic.ValueIdx (ix1 ix2 ix3)

variable {F : FTy → Type} [FloatOps F]

local notation "𝕄" => MT nD τ sig ℕ (Elt F) ℕ UU ℕ

variable (R : Route) (D : Ins F)

/-! ## Rows of the result buffers -/

/-- The share of the expert results set aside for token `p`, whole, -/
abbrev eTok (c : Dev nD) (p : Tok) : sProp 𝕄 :=
  ((c : Thread nD τ).loc cc0_scratch1) ↦{Transfers.shareTokN fullShare (tn p)} eFin R D c
/-- and without the row its copy reads. -/
abbrev eRest (c : Dev nD) (p : Tok) : sProp 𝕄 :=
  ((c : Thread nD τ).loc cc0_scratch1) ↦[Finset.univ \ rowSet (R.slot c (tn p))]{Transfers.shareTokN fullShare (tn p)} eFin R D c

theorem eTok_split (c : Dev nD) (p : Tok) : eTok R D c p ⊣⊢ iprop(ePts R D c p ∗ eRest R D c p) :=
  pointsTo_split_subset (Finset.subset_univ _)

theorem oFin_eq {c : Dev nD} {p : Tok} (hp : R.home p = c) (y : S32x1024.Idx) (hy : (y 0).val = p.2.val) :
    oFin R D p.1 y = eFin R D c (ix2 ⟨R.slot c (tn p), R.slot_lt _ _⟩ (y 1)) := by
  have h0 : y 0 = p.2 := Fin.ext hy
  have h1 : (p.1, y 0) = p := Prod.ext rfl h0
  subst hp
  show eFin R D (R.home (p.1, y 0)) (ix2 ⟨R.slot (R.home (p.1, y 0)) (tn (p.1, y 0)), R.slot_lt _ _⟩ (y 1)) = _
  have h : ∀ q : Tok, q = p → eFin R D (R.home q) (ix2 ⟨R.slot (R.home q) (tn q), R.slot_lt _ _⟩ (y 1))
      = eFin R D (R.home p) (ix2 ⟨R.slot (R.home p) (tn p), R.slot_lt _ _⟩ (y 1)) := fun q hq => by subst hq; rfl
  exact h _ h1

/-- A row's content read off the expert results and written to the output block is the finished row. -/
theorem o_row {c d : Dev nD} {p : Tok} (hp : R.home p = c) (hd : p.1 = d) (off off' : Fin 2 → ℕ) (hoff : off = ![p.2.val, 0]) (hoff' : off' = ![R.slot c (tn p), 0])
    (inb : ∀ a, off a + S1x1024.size a ≤ S32x1024.size a) (inb' : ∀ a, off' a + S1x1024.size a ≤ S32x1024.size a)
    (f : (cc0_stg3_0 : Ref sig .tc).ty.Contents (Elt F)) :
    (oPts d p.2.val ((View.slice (View.whole cc0_stg3_0) (Rect.unit (s := S32x1024) off S1x1024.size inb)).write (Elt F) f
      ((View.slice (View.whole cc0_scratch1) (Rect.unit (s := S32x1024) off' S1x1024.size inb')).read (Elt F) (eFin R D c)) Finset.univ) : sProp 𝕄)
      = oDone R D p := by
  subst hd
  refine pointsTo_congr fun (y : S32x1024.Idx) hy => ?_
  have hy' : (y 0).val = p.2.val := (mem_rowSet (n := 32) (m := 1024) y).mp hy
  rw [oFin_eq R D hp y hy']
  have h1 := row_write (Val := Elt F) (View.whole cc0_stg3_0) off hoff inb f
    ((View.slice (View.whole cc0_scratch1) (Rect.unit (s := S32x1024) off' S1x1024.size inb')).read (Elt F) (eFin R D c)) y
  rw [if_pos hy'] at h1
  have h2 := row_read (Val := Elt F) (View.whole cc0_scratch1) off' (R.slot_lt c (tn p)) hoff' inb' (eFin R D c) (ix2 0 (y 1))
  exact (View.read_whole (Val := Elt F) cc0_stg3_0 _ ▸ h1).trans h2

theorem oAny_at {c : Dev nD} {p : Tok} (hd : p.1 = c) : oAny (F := F) p ⊢ iprop(∃ f, oPts (F := F) c p.2.val f) := by
  subst hd; exact Entails.refl _

/-! ## A row sent -/

/-- Row `r` of the output block and of the expert results, as the copies name them. -/
abbrev oSl (off : Fin 2 → ℕ) (inb : ∀ a, off a + S1x1024.size a ≤ S32x1024.size a) : Memref sig .tc .vmem S1x1024 .f32 :=
  oM.slice (Rect.unit (s := S32x1024) off S1x1024.size inb) (fun _ => rfl)
abbrev eSl (off : Fin 2 → ℕ) (inb : ∀ a, off a + S1x1024.size a ≤ S32x1024.size a) : Memref sig .tc .vmem S1x1024 .f32 :=
  eM.slice (Rect.unit (s := S32x1024) off S1x1024.size inb) (fun _ => rfl)

theorem eSl_pts (c : Dev nD) {r : ℕ} (off : Fin 2 → ℕ) (hoff : off = ![r, 0]) (inb : ∀ a, off a + S1x1024.size a ≤ S32x1024.size a)
    (q : PosShare TreeShare) (f : Buf (Elt F) ((c : Thread nD τ).loc cc0_scratch1)) :
    ((eSl off inb).view.loc (c : Thread nD τ) ↦[(eSl off inb).view.set]{q} f : sProp 𝕄) = ((c : Thread nD τ).loc cc0_scratch1 ↦[rowSet r]{q} f) :=
  congrArg (fun S => ((c : Thread nD τ).loc cc0_scratch1 ↦[S]{q} f : sProp 𝕄)) ((View.set_slice_whole _ _).trans (row_rect off hoff inb))

theorem oSl_pts (c : Dev nD) {r : ℕ} (off : Fin 2 → ℕ) (hoff : off = ![r, 0]) (inb : ∀ a, off a + S1x1024.size a ≤ S32x1024.size a)
    (q : PosShare TreeShare) (f : Buf (Elt F) ((c : Thread nD τ).loc cc0_stg3_0)) :
    ((oSl off inb).view.loc (c : Thread nD τ) ↦[(oSl off inb).view.set]{q} f : sProp 𝕄) = ((c : Thread nD τ).loc cc0_stg3_0 ↦[rowSet r]{q} f) :=
  congrArg (fun S => ((c : Thread nD τ).loc cc0_stg3_0 ↦[S]{q} f : sProp 𝕄)) ((View.set_slice_whole _ _).trans (row_rect off hoff inb))

theorem send_row (K : Dev nD × Fin 3 → ℕ) {c n : Dev nD} {p : Tok} (hn : n = p.1) (hp : R.home p = c) (hr : p.1 ≠ c) (off off' : Fin 2 → ℕ)
    (hoff : off = ![p.2.val, 0]) (hoff' : off' = ![R.slot c (tn p), 0])
    (inb : ∀ a, off a + S1x1024.size a ≤ S32x1024.size a) (inb' : ∀ a, off' a + S1x1024.size a ≤ S32x1024.size a)
    {hsc : (oSl off inb : Memref sig (Dev.tc n : Thread nD τ).2.kind .vmem S1x1024 .f32).view.ref.isScScratch = false}
    {hsrc : (eSl off' inb' : Memref sig .tc .vmem S1x1024 .f32).view.WordExact}
    {hdst : (oSl off inb : Memref sig .tc .vmem S1x1024 .f32).view.WordExact}
    {hsem : DmaTarget.Typed .vmem (.dma recvS.sem) (.remote (Dev.tc n : Thread nD τ) (oSl off inb) (.dma sendS.sem) hsc)}
    {α : Type} {Q : α → sProp 𝕄} {k : PUnit → Prog (TpuEff nD τ sig (Elt F) Λ₀ .tc) α} (O : CellTallies nD τ sig ℕ) :
    iprop(recs (F := F) R D K ∗ eTok R D c p ∗ oAny (F := F) p ∗ owing (F := F) c (O + tallyAt (recvCell p.1) 0 N)
        ∗ dutyTok ER (sendCell c) 0 p ∗ dutyTok ER (recvCell p.1) 0 p)
      ⊢ iprop(((cred (tallyAt (sendCell c) 0 N) ∗ owing (F := F) c O ∗ eRest R D c p)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (eSl off' inb')
                (.remote (Dev.tc n : Thread nD τ) (oSl off inb) (.dma sendS.sem) hsc)
                (.dma recvS.sem) hsrc hdst hsem) k) Q) := by
  subst hn
  unfold owing
  iintro ⟨#HR, He, ⟨%f, Ho⟩, ⟨%W, HO⟩, Ht1, Ht2⟩ Hk
  ihave He' := (eTok_split R D c p).1 $$ He
  icases He' with ⟨He, Her⟩
  have hp1 : ((eSl off' inb').view.loc (c : Thread nD τ) ↦[(eSl off' inb').view.set]{Transfers.shareTokN fullShare (tn p)} eFin R D c)
      ⊢ (sch (F := F) R D).payload (sendCell c) 0 p := by
    rw [payload_send, eSl_pts c off' hoff' inb']
  have hp2 : ((oSl off inb).view.loc (p.1 : Thread nD τ) ↦[(oSl off inb).view.set]{fullShare}
        ((oSl off inb).view.write (Elt F) f ((eSl off' inb').view.read (Elt F) (eFin R D c)) Finset.univ))
      ⊢ (sch (F := F) R D).payload (recvCell p.1) 0 p := by
    rw [payload_recv, oSl_pts p.1 off hoff inb]
    exact Entails.of_eq (o_row R D hp rfl off off' hoff hoff' inb inb' f)
  iapply (Rounds.wp_send_pointsTo 𝒱₀ ER (sch (F := F) R D) (c : Thread nD τ) none (c' := (p.1 : Thread nD τ)) (src := eSl off' inb') (dst := oSl off inb) (κ₁ := K (c, 1)) (κ₂ := K (p.1, 2))
    (r₁ := 0) (r₂ := 0) (d₁ := p) (d₂ := p) (q := Transfers.shareTokN fullShare (tn p)) (fs := eFin R D c) (fd := f)
    (by rw [duties_send]; exact Finset.mem_filter.mpr ⟨Finset.mem_univ _, hp, hr⟩)
    (by rw [duties_recv]; exact Finset.mem_filter.mpr ⟨Finset.mem_univ _, rfl, fun h => hr (h.symm.trans hp)⟩)
    0 0 N rfl (amount_send R D c p) (amount_recv R D p.1 p) O rfl (W := W)
    hp1 hp2)
    $$ [He Ho HO Ht1 Ht2]
  · isplitr; · iapply (recs_inv R D K (c, 1)); iexact HR
    isplitr; · iapply (recs_inv R D K (p.1, 2)); iexact HR
    isplitl [He]; · rw [eSl_pts c off' hoff' inb']; iexact He
    isplitl [Ho]; · rw [oSl_pts p.1 off hoff inb]; iexact Ho
    isplitl [HO]; · iexact HO
    isplitl [Ht1]; · iexact Ht1
    isplitr; · iapply (recs_reached R D K (c, 1)); iexact HR
    isplitl [Ht2]; · iexact Ht2
    iapply (recs_reached R D K (p.1, 2)); iexact HR
  iintro ⟨Hc, HO⟩
  iapply Hk
  isplitl [Hc]; · iexact Hc
  isplitl [HO]; · iexists W; iexact HO
  iexact Her

/-! ## The exchange loop -/

/-- Before trip `j` of the exchange: the rows of the tokens still to come, whatever they hold, and the finished rows of its
    own block; the share set aside for each token, and for those sent what the copy left of it; the duty tokens of the copies to come. -/
def exI (K : Dev nD × Fin 3 → ℕ) (c : Dev nD) (f7 : Buf (Elt F) ((c : Thread nD τ).loc cc0_scratch3)) (f8 : Buf (Elt F) ((c : Thread nD τ).loc cc0_scratch4))
    (j : ℕ) : sProp 𝕄 :=
  iprop(recs (F := F) R D K ∗ tokPts (F := F) c f7 ∗ slotPts (F := F) c f8 ∗ owing (F := F) c (owRecv R c j)
    ∗ bigSep (R.left c j) (oAny (F := F)) ∗ bigSep (R.left c j) (eTok R D c)
    ∗ bigSep (R.kept c j) (oDone R D) ∗ bigSep (R.kept c j) (eTok R D c) ∗ bigSep (R.sent c j) (eRest R D c)
    ∗ bigSep (R.leftR c j) (fun p => (dutyTok ER (sendCell c) 0 p : sProp 𝕄)) ∗ bigSep (R.leftR c j) (fun p => (dutyTok ER (recvCell p.1) 0 p : sProp 𝕄))
    ∗ cred (tallyAt (sendCell c) 0 ((R.sent c j).card * N)))

theorem ex_step (K : Dev nD × Fin 3 → ℕ) (c : Dev nD) {f7 f8} (hl : Listed (F := F) R c f7 f8) (h3 : k0_chk3 (wd (R.nMy c)))
    (t : Fin (k0_t6_loop (wd (R.nMy c))).trips) :
    exI (F := F) R D K c f7 f8 t.val ⊢ wp frame (wpE (defs₀ (F := F)) 𝒱₀ (c : Thread nD τ) none) Set.univ
      (k0_t6_body tabM (Memref.isWhole_whole _) xM (Memref.isWhole_whole _) wM (Memref.isWhole_whole _) oM (Memref.isWhole_whole _) gM (Memref.isWhole_whole _) eM (Memref.isWhole_whole _) cntM (Memref.isWhole_whole _) tokM (Memref.isWhole_whole _) slotM (Memref.isWhole_whole _) metaM (Memref.isWhole_whole _) sendS recvS c (wd (R.nMy c)) h3 t ⟨⟩) (fun _ => exI (F := F) R D K c f7 f8 (t.val + 1)) := by
  have ht : t.val < R.nMy c := lt_of_lt_of_eq t.isLt (trips_t6 (R.nMy_le c))
  obtain ⟨p, hp, hj⟩ := R.exists_nth c ht
  have hn : R.cnt c (tn p) < 1024 := lt_of_lt_of_le (R.cnt_lt_nMy c hp) (R.nMy_le c)
  have hsl := R.slot_lt c (tn p)
  have h11 : k0_off11 (wd (R.nMy c)) t 0 = R.cnt c (tn p) := by rw [off11_eq (R.nMy_le c)]; exact hj.symm
  have r7 : tokM.view.read (Elt F) f7 (ix1 ⟨R.cnt c (tn p), hn⟩) = wd (tn p) := hl.tok p _ hp rfl
  have r8 : slotM.view.read (Elt F) f8 (ix1 ⟨R.cnt c (tn p), hn⟩) = wd (R.slot c (tn p)) := hl.slot p _ hp rfl
  unfold exI k0_t6_body
  simp only [smemLoad, smemLoadElt, Prog.lift, Prog.bind_op, Prog.bind_ret, Prog.pure_eq_ret, Prog.bind_assoc]
  rw [R.left_eq c hp hj, bs_insert (R.not_left c hp hj), bs_insert (R.not_left c hp hj)]
  by_cases hr : p.1 = c
  · iintro ⟨#HR, H7, H8, HO, ⟨Ho, Hos⟩, ⟨He, Hes⟩, Hko, Hke, Hse, Hts, Htr, Hc⟩
    iapply (loadC 𝒱₀ (c : Thread nD τ) tokM (ix1 ⟨R.cnt c (tn p), hn⟩) r7 h11.symm) $$ H7; iintro H7
    iapply (wp_assume 𝒱₀ (c : Thread nD τ) none Set.univ (chk9_ok c (tn_lt p)))
    iapply (loadC 𝒱₀ (c : Thread nD τ) slotM (ix1 ⟨R.cnt c (tn p), hn⟩) r8 h11.symm) $$ H8; iintro H8
    iapply (wp_assume 𝒱₀ (c : Thread nD τ) none Set.univ (chk8_ok c _ hsl))
    have h5 : k0_cond5 c (wd (tn p)) = 1#1 := (cond5_iff c (tn_lt p)).mpr (by rw [tn_div, hr])
    have h6 : ¬ k0_cond6 c (wd (tn p)) = 1#1 := fun h => (cond6_iff c (tn_lt p)).mp h (by rw [tn_div, hr])
    rw [dif_pos h5]
    simp only [dif_neg h6, Prog.bind_op, Prog.bind_ret]
    have hoff : k0_off13 (wd (tn p)) = ![p.2.val, 0] := (off13_eq (tn_lt p)).trans (by rw [tn_mod])
    have hos : (Memref.access oM (Rect.unit (s := S32x1024) (k0_off13 (wd (tn p))) S1x1024.size (k0_off13_inb c _ (chk9_ok c (tn_lt p)) h5))).set ⊆ rowSet p.2.val :=
      ((View.set_slice_whole _ _).trans (row_rect _ hoff _)).subset
    ihave Ho' := (oAny_at (F := F) hr) $$ Ho
    icases Ho' with ⟨%f, Ho⟩
    iapply (loadW 𝒱₀ (c : Thread nD τ) eM) $$ He; iintro He
    iapply (loadS 𝒱₀ (c : Thread nD τ) oM hos) $$ Ho; iintro Ho
    iapply (storeS 𝒱₀ (c : Thread nD τ) oM hos) $$ Ho; iintro Ho
    rw [wp_ret]; imodintro
    rw [R.kept_eq c hp hj hr, bs_insert (R.not_kept c hp hj), bs_insert (R.not_kept c hp hj), R.sent_own c hp hj hr, ← R.leftR_own c hp hj hr]
    unfold owRecv
    rw [← R.leftR_own c hp hj hr]
    isplitr; · iexact HR
    isplitl [H7]; · iexact H7
    isplitl [H8]; · iexact H8
    isplitl [HO]; · iexact HO
    isplitl [Hos]; · iexact Hos
    isplitl [Hes]; · iexact Hes
    isplitl [Ho Hko]
    · isplitl [Ho]
      · iapply (Entails.of_eq (o_row R D hp hr (k0_off13 (wd (tn p))) (k0_off12 (wd (R.slot c (tn p)))) hoff (off12_eq hsl)
          (k0_off13_inb c _ (chk9_ok c (tn_lt p)) h5) (k0_off12_inb c _ _ (chk8_ok c _ hsl) h5) f))
        iexact Ho
      · iexact Hko
    isplitl [He Hke]
    · isplitl [He] <;> iassumption
    isplitl [Hse]; · iexact Hse
    isplitl [Hts]; · iexact Hts
    isplitl [Htr]; · iexact Htr
    iexact Hc
  · have hO : owRecv R c t.val = owRecv R c (t.val + 1) + tallyAt (recvCell p.1) 0 N := by
      unfold owRecv; rw [R.leftR_eq c hp hj hr, Finset.sum_insert (R.not_leftR c hp hj), add_comm]
    rw [hO, R.leftR_eq c hp hj hr, bs_insert (R.not_leftR c hp hj), bs_insert (R.not_leftR c hp hj)]
    iintro ⟨#HR, H7, H8, HO, ⟨Ho, Hos⟩, ⟨He, Hes⟩, Hko, Hke, Hse, ⟨Ht1, Hts⟩, ⟨Ht2, Htr⟩, Hc⟩
    iapply (loadC 𝒱₀ (c : Thread nD τ) tokM (ix1 ⟨R.cnt c (tn p), hn⟩) r7 h11.symm) $$ H7; iintro H7
    iapply (wp_assume 𝒱₀ (c : Thread nD τ) none Set.univ (chk9_ok c (tn_lt p)))
    iapply (loadC 𝒱₀ (c : Thread nD τ) slotM (ix1 ⟨R.cnt c (tn p), hn⟩) r8 h11.symm) $$ H8; iintro H8
    iapply (wp_assume 𝒱₀ (c : Thread nD τ) none Set.univ (chk8_ok c _ hsl))
    have h5 : ¬ k0_cond5 c (wd (tn p)) = 1#1 := fun h => hr (Fin.ext ((tn_div p).symm.trans ((cond5_iff c (tn_lt p)).mp h)))
    have h6 : k0_cond6 c (wd (tn p)) = 1#1 := (cond6_iff c (tn_lt p)).mpr fun h => hr (Fin.ext ((tn_div p).symm.trans h))
    rw [dif_neg h5]
    simp only [dif_pos h6, Prog.bind_op, Prog.bind_ret]
    iapply (send_row R D K (Fin.ext ((dev2_eq (tn_lt p)).trans (tn_div p))) hp hr _ _
      ((off14_eq (tn_lt p)).trans (by rw [tn_mod])) (off15_eq hsl) _ _ (owRecv R c (t.val + 1))) $$ [He Ho HO Ht1 Ht2]
    · isplitr; · iexact HR
      isplitl [He]; · iexact He
      isplitl [Ho]; · iexact Ho
      isplitl [HO]; · iexact HO
      isplitl [Ht1] <;> iassumption
    iintro ⟨HcN, HO, Her⟩
    rw [wp_ret]; imodintro
    rw [R.kept_remote c hp hj hr, R.sent_eq c hp hj hr, bs_insert (R.not_sent c hp hj), Finset.card_insert_of_notMem (R.not_sent c hp hj)]
    isplitr; · iexact HR
    isplitl [H7]; · iexact H7
    isplitl [H8]; · iexact H8
    isplitl [HO]; · iexact HO
    isplitl [Hos]; · iexact Hos
    isplitl [Hes]; · iexact Hes
    isplitl [Hko]; · iexact Hko
    isplitl [Hke]; · iexact Hke
    isplitl [Her Hse]
    · isplitl [Her] <;> iassumption
    isplitl [Hts]; · iexact Hts
    isplitl [Htr]; · iexact Htr
    rw [Nat.succ_mul, ← tallyAt_add]
    iapply (cred_add _ _).2
    isplitl [Hc] <;> iassumption

end Cert.RouteGatheredIdeal
-- ==== Proof.GFront.lean ====
module

public import proofs.«01_k».proof.Proof.GExchange
public import Idealize.ShloMosaic.Lib.Pipeline.Value

@[expose] public section

set_option maxRecDepth 16384

noncomputable section

namespace Cert.RouteGatheredIdeal

open Cert.GatheredIdeal Cert.GatheredIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode
open Idealize.SL.Sem
open Idealize.ShloMosaic.Rounds
open Idealize.ShloMosaic.ValueIdx (ix1 ix2 ix3)

variable {F : FTy → Type} [FloatOps F]

local notation "𝕄" => MT nD τ sig ℕ (Elt F) ℕ UU ℕ

variable (R : Route) (D : Ins F)

/-! ## Loops at the head of a program -/

section Loops
variable {nD' : ℕ} {τ' : Topo} {sig' : RefSig} {Ix : Type} [DecidableEq Ix] {Val : EltTy → Type} {Name : Type} [DecidableEq Name]
  {U : Type} [URA U] {Lvl : Type} {Λ : Labels} [Preorder Lvl] {defs : Defs nD' τ' sig' Val Λ} (𝒱 : Variants) (c : Thread nD' τ')
  {w : ℕ} {l : Scf.Loop w} {hok : l.OK} {body : Fin l.trips → Unit → Prog (TpuEff nD' τ' sig' Val Λ c.2) Unit}
  {α : Type} {Q : α → sProp (MT nD' τ' sig' Ix Val Name U Lvl)} {kk : Unit → Prog (TpuEff nD' τ' sig' Val Λ c.2) α}

/-- A loop of `n` trips carried by an invariant. -/
theorem for_seq (I : ℕ → sProp (MT nD' τ' sig' Ix Val Name U Lvl)) {n : ℕ} (hn : l.trips = n)
    (hb : ∀ t : Fin l.trips, I t.val ⊢ wp frame (wpE defs 𝒱 c none) Set.univ (body t ⟨⟩) (fun _ => I (t.val + 1))) :
    I 0 ⊢ iprop((I n -∗ wp frame (wpE defs 𝒱 c none) Set.univ (kk ⟨⟩) Q)
      -∗ wp frame (wpE defs 𝒱 c none) Set.univ (Scf.Loop.for l hok ⟨⟩ body >>= kk) Q) := by
  subst hn
  iintro H Hk
  iapply (Scf.wp_for_bind frame (wpE defs 𝒱 c none) Set.univ l.lb l.ub l.st hok ⟨⟩ body (fun t _ => I t) (fun t _ => hb t)) $$ H
  iintro %_ H
  iapply Hk; iexact H

/-- A loop of no trips. -/
theorem for_none (hn : l.trips = 0) :
    wp frame (wpE defs 𝒱 c none) Set.univ (kk ⟨⟩) Q ⊢ wp frame (wpE defs 𝒱 c none) Set.univ (Scf.Loop.for l hok ⟨⟩ body >>= kk) Q :=
  Scf.wp_for0_bind' frame (wpE defs 𝒱 c none) Set.univ l.lb l.ub l.st hok ⟨⟩ body hn kk Q _ (BI.Entails.refl _)

end Loops

/-! ## Up to the gathered rows -/

/-- What the kernel has computed when the products begin. -/
def FrontRes (c : Dev nD) (r : Σ' (d0 : Dev nD) (v2 : BitVec 32) (v3 : Sems sig S_) (v9 : Elt F .i32) (k0_hw3 : k0_chk3 v9) (v10 : Elt F .i32), k0_chk12 v9 v10) : Prop :=
  ∃ v2 h3 h12, r = ⟨c, v2, SemArray.scalar (sig.barrier 0 rfl), wd (R.nMy c), h3, wd (R.nSelf c), h12⟩

def frontPost (K : Dev nD × Fin 3 → ℕ) (c : Dev nD) : sProp 𝕄 :=
  iprop(∃ f7 f8, ⌜Listed (F := F) R c f7 f8⌝ ∗ owing (F := F) c (owRecv R c 0) ∗ tabPts (F := F) c (tab R c)
    ∗ gathI (F := F) R D c f7 f8 (R.nMy c) ∗ (∃ f, cntPts (F := F) c f) ∗ ∃ f, metaPts (F := F) c f)

/-- A store over the whole of the gathered rows. -/
theorem g_whole (c : Dev nD) (f : Buf (Elt F) ((c : Thread nD τ).loc cc0_scratch0)) :
    (Memref.access gM (Rect.unit (s := S32x512) ![0, 0] S32x512.size inb_S32x512_S32x512_0_0)).write (Elt F) f (k0_pay2 (F := F)) Finset.univ = gSt R D c 0 :=
  Memref.write_access_unit_zero_univ (Elt F) cc0_scratch0 (show (![0, 0] : Fin 2 → ℕ) = fun _ => 0 from funext fun a => by fin_cases a <;> rfl) _ f _

theorem front (K : Dev nD × Fin 3 → ℕ) (c : Dev nD) :
    iprop(sigI (F := F) R D K c 0 ∗ tabPts (F := F) c (tab R c) ∗ xPts (F := F) c (D.xs c) ∗ (∃ f, gPts (F := F) c f) ∗ (∃ f, cntPts (F := F) c f)
        ∗ (∃ f, tokPts (F := F) c f) ∗ (∃ f, slotPts (F := F) c f) ∗ ∃ f, metaPts (F := F) c f)
      ⊢ wp frame (wpE (defs₀ (F := F)) 𝒱₀ (c : Thread nD τ) none) Set.univ (k0_part2 tabM (Memref.isWhole_whole _) xM (Memref.isWhole_whole _) wM (Memref.isWhole_whole _) oM (Memref.isWhole_whole _) gM (Memref.isWhole_whole _) eM (Memref.isWhole_whole _) cntM (Memref.isWhole_whole _) tokM (Memref.isWhole_whole _) slotM (Memref.isWhole_whole _) metaM (Memref.isWhole_whole _) sendS recvS)
        (fun r => iprop(⌜FrontRes (F := F) R c r⌝ ∗ frontPost (F := F) R D K c)) := by
  rw [k0_part2_eq_skeleton]
  unfold k0_part2_skel
  simp only [smemLoad, smemLoadElt, Prog.lift, Prog.bind_op, Prog.bind_ret, Prog.pure_eq_ret, Prog.bind_assoc, wp_deviceId]
  iintro ⟨Hsig, Ht, Hx, ⟨%fg, Hg⟩, ⟨%f6, H6⟩, ⟨%f7, H7⟩, ⟨%f8, H8⟩, %f9, H9⟩
  iapply (for_seq 𝒱₀ (c : Thread nD τ) (sigI (F := F) R D K c) trips_t1 (fun t => sig_step R D K c t)) $$ Hsig; iintro Hsig
  ihave Hz : zeroI (F := F) c 0 $$ [H6]
  · unfold zeroI
    iexists f6
    isplitr; · ipureintro; intro y hy; exact absurd hy (Nat.not_lt_zero _)
    iexact H6
  iapply (for_seq 𝒱₀ (c : Thread nD τ) (zeroI (F := F) c) trips_t2 (fun t => zero_step c t)) $$ Hz; iintro Hz
  iapply (loadW 𝒱₀ (c : Thread nD τ) metaM) $$ H9; iintro H9
  iapply (storeC 𝒱₀ (c : Thread nD τ) metaM) $$ H9; iintro %g1 %hg1 H9
  iapply (loadW 𝒱₀ (c : Thread nD τ) metaM) $$ H9; iintro H9
  iapply (storeC 𝒱₀ (c : Thread nD τ) metaM) $$ H9; iintro %g2 %hg2 H9
  ihave Hs : scanI (F := F) R c 0 $$ [Ht Hz H7 H8 H9]
  · unfold zeroI scanI
    icases Hz with ⟨%f6', %hf6, H6⟩
    iexists f6', f7, f8, g2
    isplitr
    · ipureintro
      refine ⟨fun y => ?_, fun y hy => ?_, fun y hy => ?_, fun p y _ h => absurd h (Nat.not_lt_zero _), fun p y _ h => absurd h (Nat.not_lt_zero _)⟩
      · rw [R.cntE_zero]; exact hf6 y (y 0).isLt
      · rw [R.cnt_zero]
        have e2 := hg2 y
        have e1 := hg1 y
        rw [if_pos (by rw [hy]; rfl)] at e1
        rw [if_neg (by rw [hy]; decide)] at e2
        exact e2.trans e1
      · rw [R.slf_zero]
        have e2 := hg2 y
        rw [if_pos (by rw [hy]; rfl)] at e2
        exact e2
    isplitl [Ht]; · iexact Ht
    isplitl [H6]; · iexact H6
    isplitl [H7]; · iexact H7
    isplitl [H8] <;> iassumption
  iapply (for_seq 𝒱₀ (c : Thread nD τ) (scanI (F := F) R c) trips_t3 (fun t => scan_step R c _ (v2_eq c) t)) $$ Hs; iintro Hs
  unfold scanI
  icases Hs with ⟨%s6, %s7, %s8, %s9, %hs, Ht, H6, H7, H8, H9⟩
  have m0 : metaM.view.read (Elt F) s9 (ix1 ⟨0, by decide⟩) = wd (R.nMy c) := hs.mine _ rfl
  have m1 : metaM.view.read (Elt F) s9 (ix1 ⟨1, by decide⟩) = wd (R.nSelf c) := hs.self _ rfl
  have h3 : k0_chk3 (wd (R.nMy c)) := chk3_ok (R.nMy_le c)
  have h12 : k0_chk12 (wd (R.nMy c)) (wd (R.nSelf c)) := k0_chk12_all _ _
  iapply (loadC 𝒱₀ (c : Thread nD τ) metaM (ix1 ⟨0, by decide⟩) m0 rfl) $$ H9; iintro H9
  iapply (wp_assume 𝒱₀ (c : Thread nD τ) none Set.univ h3)
  iapply (loadC 𝒱₀ (c : Thread nD τ) metaM (ix1 ⟨1, by decide⟩) m1 rfl) $$ H9; iintro H9
  iapply (wp_assume 𝒱₀ (c : Thread nD τ) none Set.univ h12)
  iapply (loadW 𝒱₀ (c : Thread nD τ) gM) $$ Hg; iintro Hg
  iapply (storeW 𝒱₀ (c : Thread nD τ) gM) $$ Hg; iintro Hg
  ihave Hga : gathI (F := F) R D c s7 s8 0 $$ [Hx Hg H7 H8]
  · unfold gathI
    isplitl [Hx]; · iexact Hx
    isplitl [Hg]
    · rw [g_whole R D c fg]
      iexact Hg
    isplitl [H7] <;> iassumption
  iapply (for_seq 𝒱₀ (c : Thread nD τ) (gathI (F := F) R D c s7 s8) (trips_t4 (R.nMy_le c)) (fun t => gath_step R D c hs.listed h3 t)) $$ Hga; iintro Hga
  iapply (for_none 𝒱₀ (c : Thread nD τ) (trips_t5 _))
  rw [wp_ret]; imodintro
  isplitr; · ipureintro; exact ⟨_, h3, h12, rfl⟩
  unfold frontPost sigI owBar
  rw [toSig_last]
  icases Hsig with ⟨-, HO, -, -⟩
  iexists s7, s8
  isplitr; · ipureintro; exact hs.listed
  isplitl [HO]; · rw [Finset.sum_empty, add_zero]; iexact HO
  isplitl [Ht]; · iexact Ht
  isplitl [Hga]; · iexact Hga
  isplitl [H6]; · iexists s6; iexact H6
  iexists s9; iexact H9

end Cert.RouteGatheredIdeal
-- ==== Proof.GDeal.lean ====
module

public import proofs.«01_k».proof.Proof.GFront
public import Idealize.ShloMosaic.Lib.Pipeline.Value

@[expose] public section

set_option maxRecDepth 16384

noncomputable section

namespace Cert.RouteGatheredIdeal

open Cert.GatheredIdeal Cert.GatheredIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode
open Idealize.SL.Sem
open Idealize.ShloMosaic.Rounds
open Idealize.ShloMosaic.ValueIdx (ix1 ix2 ix3)

variable {F : FTy → Type} [FloatOps F]

local notation "𝕄" => MT nD τ sig ℕ (Elt F) ℕ UU ℕ

variable (R : Route) (D : Ins F)

/-! ## Sets of tokens -/

theorem bs_union {I : Type} [DecidableEq I] {s t : Finset I} (h : Disjoint s t) {Φ : I → sProp 𝕄} :
    bigSep (s ∪ t) Φ = iprop(bigSep s Φ ∗ bigSep t Φ) := BI.bigSep_union h
theorem bs_erase {I : Type} [DecidableEq I] {s : Finset I} {i : I} (h : i ∈ s) {Φ : I → sProp 𝕄} :
    bigSep s Φ = iprop(Φ i ∗ bigSep (s.erase i) Φ) := BI.bigSep_erase h

theorem bs_biUnion {I J : Type} [DecidableEq I] [DecidableEq J] (T : Finset J) (S : J → Finset I)
    (h : ∀ i ∈ T, ∀ j ∈ T, i ≠ j → Disjoint (S i) (S j)) (Φ : I → sProp 𝕄) :
    bigSep (T.biUnion S) Φ = bigSep T fun j => bigSep (S j) Φ := by
  induction T using Finset.induction_on with
  | empty => rw [Finset.biUnion_empty, BI.bigSep_empty, BI.bigSep_empty]
  | insert j T hj ih =>
    rw [Finset.biUnion_insert, bs_insert hj, bs_union, ih fun a ha b hb => h a (Finset.mem_insert_of_mem ha) b (Finset.mem_insert_of_mem hb)]
    exact (Finset.disjoint_biUnion_right _ _ _).mpr fun k hk =>
      h j (Finset.mem_insert_self _ _) k (Finset.mem_insert_of_mem hk) fun e => hj (e ▸ hk)

/-- A set of tokens dealt by a device each is assigned to. -/
theorem bs_fib (s : Finset Tok) (g : Tok → Dev nD) (Φ : Tok → sProp 𝕄) :
    bigSep s Φ = bigSep Finset.univ fun d => bigSep (s.filter fun p => g p = d) Φ := by
  have hU : s = Finset.univ.biUnion fun d => s.filter fun p => g p = d := by ext p; simp
  conv_lhs => rw [hU]
  refine bs_biUnion _ _ (fun d _ d' _ h => ?_) _
  exact Finset.disjoint_filter.mpr fun p _ h1 h2 => h (h1.symm.trans h2)

/-- The tokens of device `c`'s block, and those whose expert it owns. -/
def blk (c : Dev nD) : Finset Tok := Finset.univ.filter fun p => p.1 = c
def mine (c : Dev nD) : Finset Tok := Finset.univ.filter fun p => R.home p = c

theorem blk_eq (c : Dev nD) : blk c = R.own c ∪ R.ins c := by
  ext p
  unfold blk Route.own Route.ins
  simp only [Finset.mem_filter, Finset.mem_union, Finset.mem_univ, true_and]
  tauto
theorem blk_disj (c : Dev nD) : Disjoint (R.own c) (R.ins c) :=
  Finset.disjoint_filter.mpr fun _ _ h1 h2 => h2.2 h1.1
theorem mine_eq (c : Dev nD) : mine R c = R.own c ∪ R.outs c := by
  ext p
  unfold mine Route.own Route.outs
  simp only [Finset.mem_filter, Finset.mem_union, Finset.mem_univ, true_and]
  tauto
theorem mine_disj (c : Dev nD) : Disjoint (R.own c) (R.outs c) :=
  Finset.disjoint_filter.mpr fun _ _ h1 h2 => h2.2 h1.2

theorem blk_home (c d : Dev nD) : ((blk c).filter fun p => R.home p = d) = rowsFor R c d := by
  unfold blk rowsFor; rw [Finset.filter_filter]
theorem mine_blk (c d : Dev nD) : ((mine R c).filter fun p => p.1 = d) = rowsFor R d c := by
  unfold mine rowsFor; rw [Finset.filter_filter]
  exact Finset.filter_congr fun p _ => And.comm

/-! ## The output block's rows -/

abbrev oAll (c : Dev nD) (f : Buf (Elt F) ((c : Thread nD τ).loc cc0_stg3_0)) : sProp 𝕄 :=
  ((c : Thread nD τ).loc cc0_stg3_0) ↦{fullShare} f

theorem o_rows (c : Dev nD) (f : Buf (Elt F) ((c : Thread nD τ).loc cc0_stg3_0)) :
    oAll (F := F) c f = bigSep (blk c) fun p => oPts (F := F) c p.2.val f := by
  have hU : (Finset.univ : Finset (Idx ((c : Thread nD τ).loc cc0_stg3_0))) = (blk c).biUnion fun p => rowSet (n := 32) (m := 1024) p.2.val := by
    symm
    refine Finset.eq_univ_of_forall fun (y : S32x1024.Idx) => ?_
    exact Finset.mem_biUnion.mpr ⟨(c, y 0), Finset.mem_filter.mpr ⟨Finset.mem_univ _, rfl⟩, (mem_rowSet (n := 32) (m := 1024) y).mpr rfl⟩
  unfold oAll
  rw [hU]
  refine pointsTo_biUnion _ _ fun p hp q hq h => ?_
  refine rowSet_disjoint (n := 32) (m := 1024) fun e => h ?_
  have h1 := (Finset.mem_filter.mp hp).2
  have h2 := (Finset.mem_filter.mp hq).2
  exact Prod.ext (h1.trans h2.symm) (Fin.ext e)

/-- A device's block dealt to the devices that write its rows: its own rows, and for every other device those it hands over. -/
theorem deal_block (c : Dev nD) (f : Buf (Elt F) ((c : Thread nD τ).loc cc0_stg3_0)) :
    oAll (F := F) c f ⊢ iprop(barPay (F := F) R c c ∗ bigSep (Finset.univ.erase c) fun d => barPay (F := F) R d c) := by
  rw [o_rows]
  refine (bigSep_mono (Ψ := oAny (F := F)) fun p hp => ?_).trans ?_
  · have h : p.1 = c := (Finset.mem_filter.mp hp).2
    subst h
    show (oPts (F := F) p.1 p.2.val f : sProp 𝕄) ⊢ oAny (F := F) p
    iintro H
    iexists f; iexact H
  · rw [bs_fib (blk c) R.home, bs_erase (Finset.mem_univ c)]
    simp only [blk_home]
    exact BI.Entails.refl _

/-- The rows a device writes: its own, and those the others handed over. -/
theorem rows_mine (c : Dev nD) :
    iprop(barPay (F := F) R c c ∗ bigSep (Finset.univ.erase c) fun d => barPay (F := F) R c d) ⊢ bigSep (mine R c) (oAny (F := F)) := by
  rw [bs_fib (mine R c) Prod.fst, bs_erase (Finset.mem_univ c)]
  simp only [mine_blk]
  exact BI.Entails.refl _

/-- The finished rows joined back. -/
theorem join_block (c : Dev nD) : iprop(bigSep (R.own c) (oDone R D) ∗ bigSep (R.ins c) (oDone R D)) ⊢ oAll (F := F) c (oFin R D c) := by
  rw [← bs_union (blk_disj R c), ← blk_eq, o_rows]
  refine bigSep_mono fun p hp => ?_
  have h : p.1 = c := (Finset.mem_filter.mp hp).2
  subst h
  exact BI.Entails.refl _

/-! ## The expert results' shares -/

abbrev eKeep (c : Dev nD) : sProp 𝕄 :=
  ((c : Thread nD τ).loc cc0_scratch1) ↦{Transfers.shareDrop fullShare 1024} eFin R D c

theorem range_tok : Finset.range 1024 = Finset.univ.map ⟨tn, fun _ _ => tn_inj⟩ := by
  ext n
  simp only [Finset.mem_range, Finset.mem_map, Finset.mem_univ, true_and, Function.Embedding.coeFn_mk]
  exact ⟨fun h => ⟨tk n h, tn_tk n h⟩, fun ⟨p, hp⟩ => hp ▸ tn_lt p⟩

/-- The results' share dealt to the tokens: those of this device, and the rest. -/
theorem e_deal (c : Dev nD) : eAll (F := F) c (eFin R D c)
    ⊣⊢ iprop(eKeep R D c ∗ bigSep (mine R c) (eTok R D c) ∗ bigSep (Finset.univ \ mine R c) (eTok R D c)) := by
  have h := Transfers.pointsTo_toks_range (nD := nD) (τ := τ) (sig := sig) (Ix := ℕ) (Val := Elt F) (Name := ℕ) (U := UU) (Lvl := ℕ)
    (ℓ := (c : Thread nD τ).loc cc0_scratch1) (S := Finset.univ) (f := eFin R D c) fullShare 1024
  rw [range_tok, BI.bigSep_map, bs_split (Finset.subset_univ (mine R c))] at h
  exact h

end Cert.RouteGatheredIdeal
-- ==== Proof.GBody.lean ====
module

public import proofs.«01_k».proof.Proof.GDeal
public import Idealize.ShloMosaic.Lib.Pipeline.Value

@[expose] public section

set_option maxRecDepth 16384

noncomputable section

namespace Cert.RouteGatheredIdeal

open Cert.GatheredIdeal Cert.GatheredIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode
open Idealize.SL.Sem
open Idealize.ShloMosaic.Rounds
open Idealize.ShloMosaic.ValueIdx (ix1 ix2 ix3)

variable {F : FTy → Type} [FloatOps F]

local notation "𝕄" => MT nD τ sig ℕ (Elt F) ℕ UU ℕ

variable (R : Route) (D : Ins F)

theorem bs_sep {I : Type} {s : Finset I} {Φ Ψ : I → sProp 𝕄} :
    bigSep s (fun i => iprop(Φ i ∗ Ψ i)) = iprop(bigSep s Φ ∗ bigSep s Ψ) := BI.bigSep_sep s Φ Ψ

/-! ## The wait loops' ends -/

theorem wait_intro (T : Finset Tok) (K : Dev nD × Fin 3 → ℕ) (k : Fin 3) (c : Dev nD)
    (hT : (sch (F := F) R D).duties (kcell (c, k)) 0 = T) :
    iprop(recs (F := F) R D K ∗ owing (F := F) c 0 ∗ cred (tallyAt (kcell (c, k)) 0 (T.card * N)) ∗ atPos ER (kcell (c, k)) 0 ∅ 0)
      ⊢ waitI (F := F) R D T K k c 0 := by
  unfold waitI
  iintro ⟨HR, HO, Hc, Hat⟩
  isplitl [HR]; · iexact HR
  isplitl [HO]; · iexact HO
  isplitl [Hc]; · rw [Nat.sub_zero]; iexact Hc
  by_cases h : 0 < T.card
  · rw [if_pos h]
    iexists ∅
    isplitr; · ipureintro; exact Finset.empty_subset _
    isplitl [Hat]; · rw [Nat.zero_mul]; iexact Hat
    rw [BI.bigSep_empty]; iempintro
  · rw [if_neg h]
    have h0 : T = ∅ := Finset.card_eq_zero.mp (by omega)
    iexists 0
    isplitr
    · ipureintro
      intro r' _
      rcases Nat.eq_zero_or_pos r' with rfl | hr
      · rw [hT, h0]
      · exact duties_later R D _ r' hr
    isplitl [Hat]; · iexact Hat
    rw [h0, BI.bigSep_empty]; iempintro

theorem wait_elim (T : Finset Tok) (K : Dev nD × Fin 3 → ℕ) (k : Fin 3) (c : Dev nD) :
    waitI (F := F) R D T K k c T.card
      ⊢ |={Set.univ}=> iprop(owing (F := F) c 0 ∗ semVal (kcell (c, k)) 0 ∗ bigSep T fun p => (sch (F := F) R D).payload (kcell (c, k)) 0 p) := by
  unfold waitI
  rw [if_neg (lt_irrefl _)]
  iintro ⟨#HR, HO, -, %r, %hr, Hat, Hp⟩
  imod (Rounds.cell_close ER (sch (F := F) R D) (Set.mem_univ (K (c, k))) (fun h => h) hr) $$ [Hat] with Hz
  · isplitr; · iapply (recs_inv R D K (c, k)); iexact HR
    iexact Hat
  imodintro
  isplitl [HO]; · iexact HO
  isplitl [Hz] <;> iassumption

/-! ## The barrier's level -/

theorem owRecv_pos {c : Dev nD} {j : ℕ} {g : GSem nD τ sig} {u : ℕ} (h : 0 < owRecv R c j g u) : ∃ d : Dev nD, g = recvCell d ∧ u = 0 := by
  by_contra hn
  have h0 : owRecv R c j g u = 0 := by
    unfold owRecv
    rw [Finset.sum_apply, Finsupp.finset_sum_apply]
    refine Finset.sum_eq_zero fun p _ => ?_
    rw [tallyAt_apply]
    exact if_neg fun h' => hn ⟨p.1, h'⟩
  omega

theorem owBar_pos {c : Dev nD} {j : ℕ} {g : GSem nD τ sig} {u : ℕ} (h : 0 < owBar c j g u) : ∃ d : Dev nD, g = barCell d ∧ u = 0 := by
  by_contra hn
  have h0 : owBar c j g u = 0 := by
    unfold owBar
    rw [Finset.sum_apply, Finsupp.finset_sum_apply]
    refine Finset.sum_eq_zero fun d _ => ?_
    rw [tallyAt_apply]
    exact if_neg fun h' => hn ⟨d, h'⟩
  omega

theorem mayWait_bar (c : Dev nD) : (levAts L lv : sProp 𝕄) ⊢ MayWait (c : Thread nD τ) (.reg barS) 0 (owRecv R c 0) :=
  MayOwe.of_cut (L := L) (lev := lv) 20 (fun p hp => by rw [Finset.mem_singleton.mp hp, L_tc]; decide)
    (fun g u hg => by obtain ⟨d, rfl, rfl⟩ := owRecv_pos R hg; rw [L_tc]; decide)
    (fun p hp => by rw [Finset.mem_singleton.mp hp]; exact (lv_bar c).le)
    (fun g u hg => by obtain ⟨d, rfl, rfl⟩ := owRecv_pos R hg; rw [lv_recv]; decide)

/-! ## The body -/

theorem owing_eq (c : Dev nD) (O : CellTallies nD τ sig ℕ) : owing (F := F) c O = iprop(∃ W, owes (c : Thread nD τ) O W) := rfl

/-- The protocol's ghost state device `c` starts from. -/
def ghost (K : Dev nD × Fin 3 → ℕ) (c : Dev nD) : sProp 𝕄 :=
  iprop(recs0 (F := F) R D K c ∗ (atPos ER (barCell c) 0 ∅ 0 ∗ atPos ER (sendCell c) 0 ∅ 0 ∗ atPos ER (recvCell c) 0 ∅ 0)
    ∗ bigSep (Finset.univ.erase c) (fun d => (dutyTok ER (barCell d) 0 (dEmb c) : sProp 𝕄))
    ∗ bigSep (R.outs c) (fun p => (dutyTok ER (sendCell c) 0 p : sProp 𝕄)) ∗ bigSep (R.outs c) (fun p => (dutyTok ER (recvCell p.1) 0 p : sProp 𝕄)))

/-- The credit it is launched with. -/
def creds (c : Dev nD) : sProp 𝕄 :=
  iprop(cred (tallyAt (barCell c) 0 31) ∗ cred (tallyAt (recvCell c) 0 ((R.ins c).card * N)))

/-- The scratch buffers, whatever they hold. -/
def scr (c : Dev nD) : sProp 𝕄 :=
  iprop((∃ f, gPts (F := F) c f) ∗ (∃ f, eAll (F := F) c f) ∗ (∃ f, cntPts (F := F) c f)
        ∗ (∃ f, tokPts (F := F) c f) ∗ (∃ f, slotPts (F := F) c f) ∗ ∃ f, metaPts (F := F) c f)

def sems0 (c : Dev nD) : sProp 𝕄 := iprop(semVal (barCell c) 0 ∗ semVal (sendCell c) 0 ∗ semVal (recvCell c) 0)

theorem leftR_outs (c : Dev nD) : R.leftR c 0 = R.outs c := R.leftR_zero c
theorem left_mine (c : Dev nD) : R.left c 0 = mine R c := R.left_zero c

theorem bs_triple (Φ : Fin 3 → sProp 𝕄) : bigSep Finset.univ Φ = iprop(Φ 0 ∗ Φ 1 ∗ Φ 2) :=
  bigSep_univ_eq_bigSepL [0, 1, 2] (by decide) (by decide) Φ

/-- After the barrier a device knows every cell open. -/
theorem learn (K : Dev nD × Fin 3 → ℕ) (c : Dev nD) :
    iprop(recs0 (F := F) R D K c ∗ bigSep (Finset.univ.erase c) fun d => barGive (F := F) R c d)
      ⊢ iprop(recs (F := F) R D K ∗ bigSep (Finset.univ.erase c) fun d => barPay (F := F) R c d) := by
  unfold recs0 recs barGive
  rw [bs_sep, bs_sep]
  rw [show (bigSep Finset.univ fun ck : Dev nD × Fin 3 => (reached ER (kcell ck) 0 : sProp 𝕄))
      = bigSep Finset.univ fun d : Dev nD => bigSep Finset.univ fun k : Fin 3 => reached ER (kcell (d, k)) 0 from bigSep_univ_prod _]
  simp only [bs_triple]
  rw [bs_sep, bs_sep, bs_erase (s := Finset.univ) (Φ := fun d : Dev nD => (reached ER (kcell (d, 1)) 0 : sProp 𝕄)) (Finset.mem_univ c),
    bs_erase (s := Finset.univ) (Φ := fun d : Dev nD => (reached ER (kcell (d, 2)) 0 : sProp 𝕄)) (Finset.mem_univ c)]
  iintro ⟨⟨Hi, Hb, Hs, Hv⟩, Hp, Hss, Hvs⟩
  isplitr [Hp]
  · isplitl [Hi]; · iexact Hi
    isplitl [Hb]; · iexact Hb
    isplitl [Hs Hss]
    · isplitl [Hs]; · iexact Hs
      iexact Hss
    isplitl [Hv]; · iexact Hv
    iexact Hvs
  iexact Hp

/-- The barrier's payloads: the rows the other devices hand over. -/
theorem bar_rows (c : Dev nD) :
    (bigSep ((sch (F := F) R D).duties (barCell c) 0 \ ∅) fun p => (sch (F := F) R D).payload (barCell c) 0 p)
      = bigSep (Finset.univ.erase c) fun d => barGive (F := F) R c d := by
  rw [Finset.sdiff_empty, duties_bar, BI.bigSep_map]
  exact bigSep_congr fun d _ => payload_bar R D c _

theorem wait_body (K : Dev nD × Fin 3 → ℕ) (c : Dev nD) (h12 : k0_chk12 (wd (R.nMy c)) (wd (R.nSelf c))) (t : Fin (k0_t8_loop (wd (R.nSelf c))).trips) :
    waitI (F := F) R D (R.ins c) K 2 c t.val ⊢ wp frame (wpE (defs₀ (F := F)) 𝒱₀ (c : Thread nD τ) none) Set.univ
      (k0_t8_body tabM (Memref.isWhole_whole _) xM (Memref.isWhole_whole _) wM (Memref.isWhole_whole _) oM (Memref.isWhole_whole _) gM (Memref.isWhole_whole _) eM (Memref.isWhole_whole _) cntM (Memref.isWhole_whole _) tokM (Memref.isWhole_whole _) slotM (Memref.isWhole_whole _) metaM (Memref.isWhole_whole _) sendS recvS (wd (R.nMy c)) (wd (R.nSelf c)) h12 t ⟨⟩) (fun _ => waitI (F := F) R D (R.ins c) K 2 c (t.val + 1)) := by
  have ht : t.val < (R.ins c).card := lt_of_lt_of_eq t.isLt ((trips_t8 (R.nSelf_le32 c)).trans (R.card_ins c).symm)
  unfold k0_t8_body
  simp only [Prog.lift, Prog.bind_op, Prog.bind_ret, Prog.pure_eq_ret]
  iintro H
  iapply (wait_step R D (R.ins c) K 2 c ht (duties_recv R D c) ((expect_recv R D c).trans (by rw [R.card_ins]))
    (wpE_waitDma2_eq 𝒱₀ (c : Thread nD τ) none Set.univ)) $$ H
  iintro H
  rw [wp_ret]; imodintro
  iexact H

theorem drain_body (K : Dev nD × Fin 3 → ℕ) (c : Dev nD) (h12 : k0_chk12 (wd (R.nMy c)) (wd (R.nSelf c)))
    (t : Fin (k0_t10_loop (wd (R.nMy c)) (wd (R.nSelf c))).trips) :
    waitI (F := F) R D (R.outs c) K 1 c t.val ⊢ wp frame (wpE (defs₀ (F := F)) 𝒱₀ (c : Thread nD τ) none) Set.univ
      (k0_t10_body tabM (Memref.isWhole_whole _) xM (Memref.isWhole_whole _) wM (Memref.isWhole_whole _) oM (Memref.isWhole_whole _) gM (Memref.isWhole_whole _) eM (Memref.isWhole_whole _) cntM (Memref.isWhole_whole _) tokM (Memref.isWhole_whole _) slotM (Memref.isWhole_whole _) metaM (Memref.isWhole_whole _) sendS recvS (wd (R.nMy c)) (wd (R.nSelf c)) h12 t ⟨⟩) (fun _ => waitI (F := F) R D (R.outs c) K 1 c (t.val + 1)) := by
  have ht : t.val < (R.outs c).card :=
    lt_of_lt_of_eq t.isLt ((trips_t10 (R.nMy_le c) (R.nSelf_le c)).trans (R.card_outs c).symm)
  unfold k0_t10_body
  simp only [Prog.lift, Prog.bind_op, Prog.bind_ret, Prog.pure_eq_ret]
  iintro H
  iapply (wait_step R D (R.outs c) K 1 c ht (duties_send R D c) ((expect_send R D c).trans (by rw [R.card_outs]))
    (fun Q => (wpE_waitDma2_eq 𝒱₀ (c : Thread nD τ) none Set.univ Q).trans
      (congrArg (fun n => waitSpec (c : Thread nD τ) Set.univ (csem 1) n Q) credit_send))) $$ H
  iintro H
  rw [wp_ret]; imodintro
  iexact H

/-- A sent token's share whole again. -/
theorem e_back (c : Dev nD) :
    iprop((bigSep (R.outs c) fun p => (sch (F := F) R D).payload (sendCell c) 0 p) ∗ bigSep (R.outs c) (eRest R D c)) ⊢ bigSep (R.outs c) (eTok R D c) := by
  rw [← bs_sep]
  refine bigSep_mono fun p _ => ?_
  show iprop((sch (F := F) R D).payload (sendCell c) 0 p ∗ eRest R D c p) ⊢ eTok R D c p
  rw [payload_send]
  exact (eTok_split R D c p).2

theorem body (K : Dev nD × Fin 3 → ℕ) (c : Dev nD) :
    iprop(ghost (F := F) R D K c ∗ creds (F := F) R c ∗ levAts L lv ∗ owing (F := F) c (O₀ R c)
        ∗ tabPts (F := F) c (tab R c) ∗ xPts (F := F) c (D.xs c) ∗ wPts (F := F) c (D.ws c) ∗ (∃ f, oAll (F := F) c f) ∗ scr (F := F) c)
      ⊢ wp frame (wpE (defs₀ (F := F)) 𝒱₀ (c : Thread nD τ) none) Set.univ (cc0_body tabM (Memref.isWhole_whole _) xM (Memref.isWhole_whole _) wM (Memref.isWhole_whole _) oM (Memref.isWhole_whole _) gM (Memref.isWhole_whole _) eM (Memref.isWhole_whole _) cntM (Memref.isWhole_whole _) tokM (Memref.isWhole_whole _) slotM (Memref.isWhole_whole _) metaM (Memref.isWhole_whole _) sendS recvS)
        (fun _ => iprop(owing (F := F) c 0 ∗ sems0 (F := F) c ∗ tabPts (F := F) c (tab R c) ∗ xPts (F := F) c (D.xs c) ∗ wPts (F := F) c (D.ws c)
          ∗ oAll (F := F) c (oFin R D c) ∗ scr (F := F) c)) := by
  rw [cc0_body_eq_skeleton]
  unfold cc0_body_skel ghost creds scr O₀
  rw [wp_bind]
  iintro ⟨⟨#HR0, ⟨HaB, HaS, HaV⟩, HtB, HtS, HtV⟩, ⟨HcB, HcV⟩, #Hlev, HO, Ht, Hx, Hw, ⟨%fo, Ho⟩, Hg, He, H6, H7, H8, H9⟩
  ihave Hrows := (deal_block R c fo) $$ Ho
  icases Hrows with ⟨Hown, Hrows⟩
  iapply (wp_wand frame (wpE (defs₀ (F := F)) 𝒱₀ (c : Thread nD τ) none) Set.univ) $$ [HO HtB Hrows Ht Hx Hg H6 H7 H8 H9]
  · iapply (front R D K c)
    isplitl [HO HtB Hrows]
    · unfold sigI
      rw [toSig_zero]
      isplitr; · iexact HR0
      isplitl [HO]; · iexact HO
      isplitl [HtB] <;> iassumption
    isplitl [Ht]; · iexact Ht
    isplitl [Hx]; · iexact Hx
    isplitl [Hg]; · iexact Hg
    isplitl [H6]; · iexact H6
    isplitl [H7]; · iexact H7
    isplitl [H8] <;> iassumption
  iintro %r ⟨%hr, Hf⟩
  obtain ⟨v2, h3, h12, rfl⟩ := hr
  dsimp only
  rw [wp_bind]
  unfold frontPost gathI
  icases Hf with ⟨%f7, %f8, %hl, HO, Ht, ⟨Hx, Hg, H7, H8⟩, H6, H9⟩
  iapply (wp_wand frame (wpE (defs₀ (F := F)) 𝒱₀ (c : Thread nD τ) none) Set.univ) $$ [Hw Hg He]
  · iapply (compute R D c)
    isplitl [Hw]; · iexact Hw
    isplitl [Hg] <;> iassumption
  iintro %r ⟨Hw, Hg, %fe, %he, He⟩
  simp only [semWaitWord, Prog.lift, Prog.bind_op, Prog.bind_ret, Prog.pure_eq_ret, Prog.bind_assoc]
  iapply (storeW 𝒱₀ (c : Thread nD τ) eM) $$ He; iintro He
  ihave He' : eAll (F := F) c (eFin R D c) $$ [He]
  · have hfin : (Memref.access eM (Rect.unit (s := S32x1024) ![24, 0] S8x1024.size inb_S32x1024_S8x1024_24_0)).write (Elt F) fe (k0_pay1 (F := F) r.1) Finset.univ
        = eFin R D c := by
      rw [e_block c 3 _ rfl, he.1]
      funext y
      by_cases h : (y 0).val / 8 = 3
      · exact (if_pos h).trans (eFin_eq R D c y 3 (by decide) h).symm
      · exact (if_neg h).trans (he.2 y h)
    rw [← hfin]; iexact He
  ihave Hsh := (e_deal R D c).1 $$ He'
  icases Hsh with ⟨Hkeep, Hmine, Hothers⟩
  unfold owing
  icases HO with ⟨%W, HO⟩
  iapply (Rounds.wp_wait_rest_token 𝒱₀ ER (sch (F := F) R D) (c : Thread nD τ) none (κ := K (c, 0))
      (wpE_semWait_eq 𝒱₀ (c : Thread nD τ) none Set.univ) (Set.mem_univ _) 0 (O := owRecv R c 0) (W := W) (R := 0) (m := 0) (T := ∅)
      (by rw [expect_bar]; decide)) $$ [HcB HO HaB]
  · isplitr; · iapply (recs0_inv R D K c (c, 0)); iexact HR0
    isplitl [HcB]; · iexact HcB
    isplitl [HO]; · iexact HO
    isplitr; · iapply (mayWait_bar R c); iexact Hlev
    iexact HaB
  iintro ⟨HO, HaB, -, Hpay⟩
  ihave Hp' := (Entails.of_eq (bar_rows R D c)) $$ Hpay
  ihave Hp'' := (learn R D K c) $$ [Hp']
  · isplitr; · iexact HR0
    iexact Hp'
  icases Hp'' with ⟨#HR, Hp⟩
  ihave Hrows := (rows_mine R c) $$ [Hown Hp]
  · isplitl [Hown] <;> iassumption
  ihave Hex : exI (F := F) R D K c f7 f8 0 $$ [HO H7 H8 Hrows Hmine HtS HtV]
  · unfold exI owing
    rw [left_mine, leftR_outs, R.kept_zero, R.sent_zero, BI.bigSep_empty, BI.bigSep_empty, BI.bigSep_empty, Finset.card_empty, Nat.zero_mul, tallyAt_zero, cred_zero]
    isplitr; · iexact HR
    isplitl [H7]; · iexact H7
    isplitl [H8]; · iexact H8
    isplitl [HO]; · iexists _; iexact HO
    isplitl [Hrows]; · iexact Hrows
    isplitl [Hmine]; · iexact Hmine
    isplitr; · iempintro
    isplitr; · iempintro
    isplitr; · iempintro
    isplitl [HtS]; · iexact HtS
    isplitl [HtV]; · iexact HtV
    iempintro
  iapply (for_seq 𝒱₀ (c : Thread nD τ) (exI (F := F) R D K c f7 f8) (trips_t6 (R.nMy_le c)) (fun t => ex_step R D K c hl h3 t)) $$ Hex; iintro Hex
  iapply (for_none 𝒱₀ (c : Thread nD τ) (trips_t7 _))
  unfold exI owRecv
  rw [R.left_last, R.leftR_last, R.kept_last, R.sent_last, Finset.sum_empty]
  icases Hex with ⟨-, H7, H8, HO, -, -, Hko, Hke, Hse, -, -, HcS⟩
  ihave Hwt := (wait_intro R D (R.ins c) K 2 c (duties_recv R D c)) $$ [HO HcV HaV]
  · isplitr; · iexact HR
    isplitl [HO]; · iexact HO
    isplitl [HcV] <;> iassumption
  iapply (for_seq 𝒱₀ (c : Thread nD τ) (waitI (F := F) R D (R.ins c) K 2 c) ((trips_t8 (R.nSelf_le32 c)).trans (R.card_ins c).symm)
    (fun t => wait_body R D K c h12 t)) $$ Hwt; iintro Hwt
  iapply (for_none 𝒱₀ (c : Thread nD τ) (trips_t9 _))
  imod (wait_elim R D (R.ins c) K 2 c) $$ Hwt with ⟨HO, HzV, Hin⟩
  ihave Hwt := (wait_intro R D (R.outs c) K 1 c (duties_send R D c)) $$ [HO HcS HaS]
  · isplitr; · iexact HR
    isplitl [HO]; · iexact HO
    isplitl [HcS] <;> iassumption
  iapply (for_seq 𝒱₀ (c : Thread nD τ) (waitI (F := F) R D (R.outs c) K 1 c) ((trips_t10 (R.nMy_le c) (R.nSelf_le c)).trans (R.card_outs c).symm)
    (fun t => drain_body R D K c h12 t)) $$ Hwt; iintro Hwt
  iapply (for_none 𝒱₀ (c : Thread nD τ) (trips_t11 _ _))
  imod (wait_elim R D (R.outs c) K 1 c) $$ Hwt with ⟨HO, HzS, Hout⟩
  imod (Rounds.cell_close ER (sch (F := F) R D) (Set.mem_univ (K (c, 0))) (fun h => h) (fun r' hr' => duties_later R D _ r' hr')) $$ [HaB] with HzB
  · isplitr; · iapply (recs_inv R D K (c, 0)); iexact HR
    iexact HaB
  rw [wp_ret]; imodintro
  isplitl [HO]; · iapply (Entails.of_eq (owing_eq c 0)); iexact HO
  isplitl [HzB HzS HzV]
  · unfold sems0
    isplitl [HzB]; · iexact HzB
    isplitl [HzS] <;> iassumption
  isplitl [Ht]; · iexact Ht
  isplitl [Hx]; · iexact Hx
  isplitl [Hw]; · iexact Hw
  isplitl [Hko Hin]
  · iapply (join_block R D c)
    isplitl [Hko]; · iexact Hko
    iapply (Entails.of_eq (bigSep_congr fun p _ => payload_recv R D c p)); iexact Hin
  isplitl [Hg]; · iexists _; iexact Hg
  isplitl [Hkeep Hothers Hke Hse Hout]
  · iexists (eFin R D c)
    iapply (e_deal R D c).2
    isplitl [Hkeep]; · iexact Hkeep
    isplitl [Hke Hse Hout]
    · rw [mine_eq, bs_union (mine_disj R c)]
      isplitl [Hke]; · iexact Hke
      iapply (e_back R D c)
      isplitl [Hout]; · iexact Hout
      iexact Hse
    iexact Hothers
  isplitl [H6]; · iexact H6
  isplitl [H7]; · iexists f7; iexact H7
  isplitl [H8]; · iexists f8; iexact H8
  iexact H9

end Cert.RouteGatheredIdeal
-- ==== Proof.GDuty.lean ====
module

public import proofs.«01_k».proof.Proof.GBody
public import proofs.«01_k».proof.Proof.Gen.GatheredIdeal.Launch
public import proofs.«01_k».proof.Proof.Gen.GatheredIdeal.Points
public import Idealize.ShloMosaic.Lib.Pipeline.Launch
public import Idealize.ShloMosaic.Lib.Pipeline.Kit
public import Idealize.ShloMosaic.Lib.Pipeline.Value

@[expose] public section

set_option maxRecDepth 16384

noncomputable section

namespace Cert.RouteGatheredIdeal

open Cert.GatheredIdeal Cert.GatheredIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode
open Idealize.SL.Sem
open Idealize.ShloMosaic.Rounds
open Idealize.ShloMosaic.Pipeline (Dat Cfg Window BodyObligation cellOf)
open Idealize.ShloMosaic.ValueIdx (ix1 ix2 ix3)

variable {F : FTy → Type} [FloatOps F]

local notation "𝕄" => MT nD τ sig ℕ (Elt F) ℕ UU ℕ

/-! ## What the pipeline stages -/

variable (m : (ℓ : Loc nD τ sig) → Buf (Elt F) ℓ) (ρ : Dev nD → PrngReg) (R : Route)

/-- Window `w`'s block of a memory. -/
def iblk (c : Dev nD) (w : Fin cfg0.W) (t : Fin cfg0.N) : ((cfg0.win w).xblock (cfg0.grid.coords t)).Idx → Elt F (cfg0.win w).elt :=
  ((cfg0.win w).blk t).view.read (Elt F) (m ((cfg0.win w).arr.view.loc (c : Thread nD τ)))

/-- The tokens and the weights as each device stages them. -/
def ins : Ins F where
  xs c := iblk m c 1 t0_0
  ws c := iblk m c 2 t0_0

theorem fin_N (t : Fin cfg0.N) : t = t0_0 := fin_N0 t

/-- What the body starts from, besides the windows. -/
def start (c : Dev nD) : sProp 𝕄 :=
  iprop((∃ K, ghost (F := F) R (ins m) K c) ∗ creds (F := F) R c ∗ levAts L lv)

def Φ₀ (c : Dev nD) : sProp 𝕄 := iprop(start m R c ∗ scr (F := F) c)
/-- What it ends with. -/
def Φ₁ (c : Dev nD) : sProp 𝕄 := iprop(sems0 (F := F) c ∗ scr (F := F) c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => tab R c
    | ⟨1, _⟩ => (ins m).xs c
    | ⟨2, _⟩ => (ins m).ws c
    | ⟨3, _⟩ => oFin R (ins m) c
  Φ t := match t with
    | ⟨0, _⟩ => Φ₀ m R c
    | ⟨_ + 1, _⟩ => Φ₁ c
  q _ := fullShare
  owed t := match t with
    | ⟨0, _⟩ => O₀ R c
    | ⟨_ + 1, _⟩ => 0

theorem owns_buf (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev held (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m R c ∗ (dats m ρ R 0 c).owesAt 0 t0_0.castSucc
    ∗ (∃ d, held c cc0_stg0_0 ((dats m ρ R 0 c).before (0 : Fin 4) t0_0 d))
    ∗ (∃ d, held c cc0_stg1_0 ((dats m ρ R 0 c).before (1 : Fin 4) t0_0 d))
    ∗ (∃ d, held c cc0_stg2_0 ((dats m ρ R 0 c).before (2 : Fin 4) t0_0 d))
    ∗ (∃ d, held c cc0_stg3_0 ((dats m ρ R 0 c).before (3 : Fin 4) t0_0 d)))

def bodyPost (c : Dev nD) : sProp 𝕄 :=
  iprop(Φ₁ (F := F) c ∗ (dats m ρ R 0 c).owesAt 0 t0_0.succ ∗ held c cc0_stg0_0 (tab R c) ∗ held c cc0_stg1_0 ((ins m).xs c)
    ∗ held c cc0_stg2_0 ((ins m).ws c) ∗ held c cc0_stg3_0 (oFin R (ins m) c))

theorem tabPts_eq (c : Dev nD) (f : Buf (Elt F) ((c : Thread nD τ).loc cc0_stg0_0)) :
    tabPts (F := F) c f = (((c : Thread nD τ).loc cc0_stg0_0) ↦{fullShare} f) := rfl

theorem obligation (hT : ∀ c, (iblk m c 0 t0_0 : (cc0_stg0_0 : Ref sig .tc).ty.Contents (Elt F)) = tab R c) (c : Dev nD) :
    BodyObligation (dats (F := F) m ρ R 0 c) (defs₀ (F := F)) 𝒱₀ 0 Set.univ := fun t => by
  rw [fin_N t, bigSep_W0, bigSep_W0]
  simp only [owns_buf]
  show bodyPre m ρ R c ⊢ wp frame (wpE (defs₀ (F := F)) 𝒱₀ (c : Thread nD τ) none) Set.univ (cc0_body tabM (Memref.isWhole_whole _) xM (Memref.isWhole_whole _) wM (Memref.isWhole_whole _) oM (Memref.isWhole_whole _) gM (Memref.isWhole_whole _) eM (Memref.isWhole_whole _) cntM (Memref.isWhole_whole _) tokM (Memref.isWhole_whole _) slotM (Memref.isWhole_whole _) metaM (Memref.isWhole_whole _) sendS recvS) (fun _ => bodyPost m ρ R c)
  unfold bodyPre Φ₀ start Dat.owesAt Pipeline.owesWithin
  rw [show (dats m ρ R 0 c).owed t0_0.castSucc = O₀ R c from rfl]
  iintro ⟨⟨⟨⟨%K, Hg⟩, Hc, Hlev⟩, Hscr⟩, ⟨%W, %hW, HO⟩, ⟨%d0, %g0, %hg0, Ht⟩, ⟨%d1, %g1, %hg1, Hx⟩, ⟨%d2, %g2, %hg2, Hw⟩, ⟨%d3, %g3, %hg3, Ho⟩⟩
  have h0 : g0 = tab R c := by rw [hg0, ← hT c]; unfold Dat.before; rw [if_pos (fetch0_0 t0_0)]; rfl
  have h1 : g1 = (ins m).xs c := by rw [hg1]; unfold Dat.before; rw [if_pos (fetch0_1 t0_0)]; rfl
  have h2 : g2 = (ins m).ws c := by rw [hg2]; unfold Dat.before; rw [if_pos (fetch0_2 t0_0)]; rfl
  clear hg0 hg1 hg2 hg3
  subst h0 h1 h2
  iapply (wp_wand frame (wpE (defs₀ (F := F)) 𝒱₀ (c : Thread nD τ) none) Set.univ) $$ [Hg Hc Hlev HO Ht Hx Hw Ho Hscr]
  · iapply (body R (ins m) K c)
    isplitl [Hg]; · iexact Hg
    isplitl [Hc]; · iexact Hc
    isplitl [Hlev]; · iexact Hlev
    isplitl [HO]; · iapply (Entails.of_eq (owing_eq c _).symm); iexists W; iexact HO
    isplitl [Ht]; · iexact Ht
    isplitl [Hx]; · iexact Hx
    isplitl [Hw]; · iexact Hw
    isplitl [Ho]; · iexists g3; iexact Ho
    iexact Hscr
  iintro %_ ⟨HO, Hz, Ht, Hx, Hw, Ho, Hscr⟩
  ihave HO' := (Entails.of_eq (owing_eq c _)) $$ HO
  icases HO' with ⟨%W', HO⟩
  unfold bodyPost Φ₁ Dat.owesAt Pipeline.owesWithin
  rw [show (dats m ρ R 0 c).owed t0_0.succ = 0 from rfl]
  isplitl [Hz Hscr]
  · isplitl [Hz] <;> iassumption
  isplitl [HO]
  · iexists W'
    isplitr; · ipureintro; exact fun _ _ => Or.inl trivial
    iexact HO
  isplitl [Ht]
  · iexists _; isplitr; · (ipureintro; rfl)
    iexact Ht
  isplitl [Hx]
  · iexists _; isplitr; · (ipureintro; rfl)
    iexact Hx
  isplitl [Hw]
  · iexists _; isplitr; · (ipureintro; rfl)
    iexact Hw
  iexists _; isplitr; · (ipureintro; rfl)
  iexact Ho

end Cert.RouteGatheredIdeal
-- ==== Proof.GGhost.lean ====
module

public import proofs.«01_k».proof.Proof.GDuty
public import proofs.«01_k».proof.Proof.Gen.GatheredIdeal.Launch
public import Idealize.ShloMosaic.Lib.Pipeline.Launch
public import Idealize.ShloMosaic.Lib.Pipeline.CollectiveSegs
public import Idealize.ShloMosaic.Lib.Pipeline.Kit
public import Idealize.ShloMosaic.Lib.Pipeline.Value

@[expose] public section

set_option maxRecDepth 16384

noncomputable section

namespace Cert.RouteGatheredIdeal

open Cert.GatheredIdeal Cert.GatheredIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode
open Idealize.SL.Sem
open Idealize.ShloMosaic.Rounds
open Idealize.ShloMosaic.Pipeline (Dat Cfg Window BodyObligation cellOf)
open Idealize.ShloMosaic.ValueIdx (ix1 ix2 ix3)

variable {F : FTy → Type} [FloatOps F]

local notation "𝕄" => MT nD τ sig ℕ (Elt F) ℕ UU ℕ

variable (m : (ℓ : Loc nD τ sig) → Buf (Elt F) ℓ) (ρ : Dev nD → PrngReg) (R : Route)

/-! ## The ghost state at the launch: the barrier's cells are open, the copies' cells still closed -/

theorem csem_inj : Function.Injective csem := by
  intro k k' h
  fin_cases k <;> fin_cases k' <;> first | rfl | exact absurd h (by decide)

theorem kcell_inj : Function.Injective (kcell : Dev nD × Fin 3 → GSem nD τ sig) := by
  rintro ⟨c, k⟩ ⟨c', k'⟩ h
  have h1 : c = c' := congrArg (fun g : GSem nD τ sig => g.1.1) h
  have h2 : k = k' := csem_inj (congrArg Prod.snd h)
  rw [h1, h2]

/-- The cells open from the launch, those a device opens when its kernel begins, and every token any may be paid with. -/
def barCells : Finset (GSem nD τ sig) := Finset.univ.map ⟨barCell, fun _ _ h => congrArg (fun g : GSem nD τ sig => g.1.1) h⟩
def copyAt (x : Dev nD × Fin 2) : GSem nD τ sig := kcell (x.1, x.2.succ)
theorem copyAt_inj : Function.Injective copyAt := fun x y h => by
  have h' : (x.1, x.2.succ) = (y.1, y.2.succ) := kcell_inj h
  exact Prod.ext (Prod.mk.inj h').1 (Fin.succ_injective _ (Prod.mk.inj h').2)
def copyCells : Finset (GSem nD τ sig) := Finset.univ.map ⟨copyAt, copyAt_inj⟩
theorem cells_disj : Disjoint barCells copyCells := by
  rw [Finset.disjoint_left]
  intro g h1 h2
  obtain ⟨c, -, rfl⟩ := Finset.mem_map.mp h1
  obtain ⟨⟨d, k⟩, -, h⟩ := Finset.mem_map.mp h2
  have h3 : kcell (d, k.succ) = kcell (c, 0) := h
  exact Fin.succ_ne_zero k (congrArg Prod.snd (kcell_inj h3))
theorem cells_all (ck : Dev nD × Fin 3) : kcell ck ∈ barCells ∪ copyCells := by
  obtain ⟨c, k⟩ := ck
  refine Finset.mem_union.mpr ?_
  by_cases h : k = 0
  · subst h; exact Or.inl (Finset.mem_map.mpr ⟨c, Finset.mem_univ _, rfl⟩)
  · obtain ⟨j, rfl⟩ := Fin.exists_succ_eq_of_ne_zero h
    exact Or.inr (Finset.mem_map.mpr ⟨(c, j), Finset.mem_univ _, rfl⟩)
def mTok : (Dev nD × Fin 3) × Tok ↪ GSem nD τ sig × ℕ × Tok :=
  ⟨fun x => (kcell x.1, 0, x.2), fun x y h => Prod.ext (kcell_inj (congrArg Prod.fst h)) (congrArg (fun z => z.2.2) h)⟩
def mToks : Finset (GSem nD τ sig × ℕ × Tok) := Finset.univ.map mTok

/-- The tokens of one device's three cells. -/
def toks (c : Dev nD) : sProp 𝕄 :=
  bigSep Finset.univ fun k : Fin 3 => bigSep Finset.univ fun p : Tok => dutyTok ER (kcell (c, k)) 0 p

theorem bs_prod {I J : Type} [Fintype I] [Fintype J] [DecidableEq I] [DecidableEq J] (Φ : I × J → sProp 𝕄) :
    bigSep Finset.univ Φ = bigSep Finset.univ fun i => bigSep Finset.univ fun j => Φ (i, j) := bigSep_univ_prod Φ

theorem bs_comm {I J : Type} [Fintype I] [Fintype J] [DecidableEq I] [DecidableEq J] (Φ : I → J → sProp 𝕄) :
    (bigSep Finset.univ fun i => bigSep Finset.univ fun j => Φ i j) = bigSep Finset.univ fun j => bigSep Finset.univ fun i => Φ i j := by
  rw [← bs_prod (fun x : I × J => Φ x.1 x.2), ← bs_prod (fun x : J × I => Φ x.2 x.1),
    bigSep_univ_equiv (Equiv.prodComm J I) (fun x : I × J => Φ x.1 x.2)]
  rfl

theorem bs_three (Φ : Fin 3 → sProp 𝕄) : bigSep Finset.univ Φ = iprop(Φ 0 ∗ Φ 1 ∗ Φ 2) :=
  bigSep_univ_eq_bigSepL [0, 1, 2] (by decide) (by decide) Φ

theorem ownSems_eq (c : Dev nD) : (Pipeline.ownSems0 (Ix := ℕ) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
/-- The tokens device `c` pays with. -/
def pays (c : Dev nD) : sProp 𝕄 :=
  iprop(bigSep (Finset.univ.erase c) (fun d => (dutyTok ER (barCell d) 0 (dEmb c) : sProp 𝕄))
    ∗ bigSep (R.outs c) (fun p => (dutyTok ER (sendCell c) 0 p : sProp 𝕄)) ∗ bigSep (R.outs c) (fun p => (dutyTok ER (recvCell p.1) 0 p : sProp 𝕄)))

theorem bar_deal : (bigSep Finset.univ fun c : Dev nD => bigSep Finset.univ fun p : Tok => (dutyTok ER (barCell c) 0 p : sProp 𝕄))
    ⊢ bigSep Finset.univ fun c : Dev nD => bigSep (Finset.univ.erase c) fun d => (dutyTok ER (barCell d) 0 (dEmb c) : sProp 𝕄) := by
  refine (bigSep_mono (Ψ := fun c : Dev nD => bigSep Finset.univ fun d : Dev nD => (dutyTok ER (barCell c) 0 (dEmb d) : sProp 𝕄)) fun c _ => ?_).trans ?_
  · rw [← BI.bigSep_map (e := dEmb) (Φ := fun p => (dutyTok ER (barCell c) 0 p : sProp 𝕄))]
    exact BI.bigSep_subset (Finset.subset_univ _)
  · rw [bs_comm]
    exact bigSep_mono fun c _ => BI.bigSep_subset (Finset.subset_univ _)

theorem send_deal : (bigSep Finset.univ fun c : Dev nD => bigSep Finset.univ fun p : Tok => (dutyTok ER (sendCell c) 0 p : sProp 𝕄))
    ⊢ bigSep Finset.univ fun c : Dev nD => bigSep (R.outs c) fun p => (dutyTok ER (sendCell c) 0 p : sProp 𝕄) :=
  bigSep_mono fun c _ => BI.bigSep_subset (Finset.subset_univ _)

theorem recv_deal : (bigSep Finset.univ fun c : Dev nD => bigSep Finset.univ fun p : Tok => (dutyTok ER (recvCell c) 0 p : sProp 𝕄))
    ⊢ bigSep Finset.univ fun c : Dev nD => bigSep (R.outs c) fun p => (dutyTok ER (recvCell p.1) 0 p : sProp 𝕄) := by
  rw [bs_comm]
  refine (bigSep_mono (Ψ := fun p : Tok => (dutyTok ER (recvCell p.1) 0 p : sProp 𝕄)) fun p _ => bigSep_elim (Finset.mem_univ p.1)).trans ?_
  rw [bs_fib Finset.univ R.home]
  refine bigSep_mono fun c _ => BI.bigSep_subset fun p hp => ?_
  unfold Route.outs at hp
  rw [Finset.mem_filter] at hp ⊢
  exact ⟨hp.1, hp.2.1⟩

theorem deal : (bigSep Finset.univ fun c : Dev nD => toks (F := F) c) ⊢ bigSep Finset.univ (pays (F := F) R) := by
  unfold toks pays
  simp only [bs_three, bs_sep]
  iintro ⟨H0, H1, H2⟩
  isplitl [H0]; · iapply bar_deal; iexact H0
  isplitl [H1]; · iapply (send_deal R); iexact H1
  iapply (recv_deal R); iexact H2

theorem bs_pers {I : Type} [DecidableEq I] {S : Finset I} {P : sProp 𝕄} [BI.Persistent P] {Φ Ψ : I → sProp 𝕄}
    (h : ∀ i ∈ S, iprop(P ∗ Φ i) ⊢ Ψ i) : iprop(P ∗ bigSep S Φ) ⊢ bigSep S Ψ :=
  (sep_mono_left (BI.bigSep_of_persistent S P)).trans (by rw [← bs_sep]; exact bigSep_mono h)

/-- What device `c` holds of the protocol until its kernel begins: its two copy cells closed. -/
def asleep (c : Dev nD) : sProp 𝕄 :=
  iprop(∃ K : Dev nD × Fin 3 → ℕ, (bigSep Finset.univ fun ck : Dev nD × Fin 3 => cellInv ER (sch (F := F) R (ins m)) (K ck) (kcell ck))
    ∗ (bigSep Finset.univ fun d : Dev nD => reached ER (barCell d) 0)
    ∗ atPos ER (barCell c) 0 ∅ 0 ∗ (openTok ER (sendCell c) ∗ openTok ER (recvCell c)) ∗ pays (F := F) R c)

theorem asleep_intro (K : Dev nD × Fin 3 → ℕ) (c : Dev nD) :
    iprop(((bigSep Finset.univ fun ck : Dev nD × Fin 3 => cellInv ER (sch (F := F) R (ins m)) (K ck) (kcell ck)) ∗ (bigSep Finset.univ fun d : Dev nD => reached ER (barCell d) 0))
      ∗ atPos ER (barCell c) 0 ∅ 0 ∗ (openTok ER (sendCell c) ∗ openTok ER (recvCell c)) ∗ pays (F := F) R c) ⊢ asleep m R c := by
  unfold asleep
  iintro ⟨⟨HI, HR⟩, Ha, Ho, Hp⟩
  iexists K
  isplitl [HI]; · iexact HI
  isplitl [HR]; · iexact HR
  isplitl [Ha]; · iexact Ha
  isplitl [Ho] <;> iassumption

theorem bs_two (Φ : Fin 2 → sProp 𝕄) : bigSep Finset.univ Φ = iprop(Φ 0 ∗ Φ 1) :=
  bigSep_univ_eq_bigSepL [0, 1] (by decide) (by decide) Φ

/-- The launch's share of the protocol dealt to the devices. -/
theorem fund : iprop((bigSep Finset.univ fun c : Dev nD => semVal (barCell c) 0) ∗ BI.own (ER (launchOf barCells copyCells mToks)))
    ⊢ (|={Set.univ}=> bigSep Finset.univ (asleep (F := F) m R) : sProp 𝕄) := by
  have hX (Φ : GSem nD τ sig → sProp 𝕄) : bigSep barCells Φ = bigSep Finset.univ fun c : Dev nD => Φ (barCell c) := by
    unfold barCells; rw [bigSep_map]; rfl
  have hS (Φ : GSem nD τ sig → sProp 𝕄) : bigSep copyCells Φ = bigSep Finset.univ fun c : Dev nD => iprop(Φ (sendCell c) ∗ Φ (recvCell c)) := by
    unfold copyCells; rw [bigSep_map, bs_prod]; simp only [bs_two]; rfl
  have hT : bigSep mToks (fun x => (dutyTok ER x.1 x.2.1 x.2.2 : sProp 𝕄)) = bigSep Finset.univ fun c : Dev nD => toks (F := F) c := by
    unfold mToks; rw [bigSep_map, bs_prod, bs_prod]; rfl
  iintro ⟨Hv, Hu⟩
  imod (Rounds.fund_launch ER (sch (F := F) R (ins m)) cells_disj (fun g _ h => h) mToks) $$ [Hv Hu] with ⟨%κ, -, #HI, #Hr, Hat, Hop, Htok⟩
  · isplitl [Hv]; · rw [hX]; iexact Hv
    iexact Hu
  imodintro
  ihave Hat' := (Entails.of_eq (hX fun g => atPos ER g 0 ∅ 0)) $$ Hat
  ihave Hr' := (Entails.of_eq (hX fun g => reached ER g 0)) $$ Hr
  ihave Hop' := (Entails.of_eq (hS fun g => openTok ER g)) $$ Hop
  ihave Htok' := (Entails.of_eq hT) $$ Htok
  ihave Htk := (deal R) $$ Htok'
  iapply (bs_pers (P := iprop((bigSep Finset.univ fun ck : Dev nD × Fin 3 => cellInv ER (sch (F := F) R (ins m)) (κ (kcell ck)) (kcell ck))
    ∗ (bigSep Finset.univ fun d : Dev nD => reached ER (barCell d) 0))) fun c _ => asleep_intro m R (fun ck => κ (kcell ck)) c)
  isplitr
  · isplitr
    · iapply (show (bigSep (barCells ∪ copyCells) fun g => cellInv ER (sch (F := F) R (ins m)) (κ g) g)
          ⊢ bigSep Finset.univ fun ck : Dev nD × Fin 3 => cellInv ER (sch (F := F) R (ins m)) (κ (kcell ck)) (kcell ck) from
        (BI.bigSep_of_persistent Finset.univ _).trans (bigSep_mono fun ck _ => bigSep_elim (cells_all ck)))
      iexact HI
    iexact Hr'
  · iapply (show iprop((bigSep Finset.univ fun c : Dev nD => atPos ER (barCell c) 0 ∅ 0)
        ∗ (bigSep Finset.univ fun c : Dev nD => iprop(openTok ER (sendCell c) ∗ openTok ER (recvCell c))) ∗ bigSep Finset.univ (pays (F := F) R))
      ⊢ (bigSep Finset.univ fun c : Dev nD => iprop(atPos ER (barCell c) 0 ∅ 0 ∗ (openTok ER (sendCell c) ∗ openTok ER (recvCell c)) ∗ pays (F := F) R c) : sProp 𝕄) from
        Entails.of_eq (by rw [bs_sep (Ψ := fun c => iprop((openTok ER (sendCell c) ∗ openTok ER (recvCell c)) ∗ pays (F := F) R c)), bs_sep (Ψ := pays (F := F) R)]))
    isplitl [Hat']; · iexact Hat'
    isplitl [Hop']; · iexact Hop'
    iexact Htk

theorem inv_at (K : Dev nD × Fin 3 → ℕ) (ck : Dev nD × Fin 3) :
    (bigSep Finset.univ fun ck : Dev nD × Fin 3 => cellInv ER (sch (F := F) R (ins m)) (K ck) (kcell ck))
      ⊢ (cellInv ER (sch (F := F) R (ins m)) (K ck) (kcell ck) : sProp 𝕄) := bigSep_elim (Finset.mem_univ ck)

/-- A device opens its copy cells with its own counters. -/
theorem wake (c : Dev nD) :
    iprop(asleep m R c ∗ Pipeline.ownSems0 (Ix := ℕ) (Name := ℕ) (U := UU) (Lvl := ℕ) (Val := Elt F) (τ := τ) osem c)
      ⊢ (|={Set.univ}=> ∃ K, ghost (F := F) R (ins m) K c : sProp 𝕄) := by
  rw [ownSems_eq]
  unfold asleep
  iintro ⟨⟨%K, #HI, #HR, Ha, ⟨HoS, HoV⟩, Hp⟩, HS, HV⟩
  imod (Rounds.cell_open ER (sch (F := F) R (ins m)) (κ := K (c, 1)) (g := sendCell c) (Set.mem_univ (K (c, 1)))) $$ [HoS HS] with ⟨HaS, #HrS⟩
  · isplitr; · iapply (inv_at m R K (c, 1)); iexact HI
    isplitl [HoS] <;> iassumption
  imod (Rounds.cell_open ER (sch (F := F) R (ins m)) (κ := K (c, 2)) (g := recvCell c) (Set.mem_univ (K (c, 2)))) $$ [HoV HV] with ⟨HaV, #HrV⟩
  · isplitr; · iapply (inv_at m R K (c, 2)); iexact HI
    isplitl [HoV] <;> iassumption
  imodintro
  iexists K
  unfold ghost recs0 pays
  isplitr
  · isplitr; · iexact HI
    isplitr; · iexact HR
    isplitr <;> iassumption
  isplitl [Ha HaS HaV]
  · isplitl [Ha]; · iexact Ha
    isplitl [HaS] <;> iassumption
  iexact Hp

/-! ## The launch credit -/

theorem bar_iff {a b : Dev nD} : barCell a = barCell b ↔ a = b :=
  ⟨fun h => congrArg (fun g : GSem nD τ sig => g.1.1) h, fun h => h ▸ rfl⟩
theorem recv_iff {a b : Dev nD} : recvCell a = recvCell b ↔ a = b :=
  ⟨fun h => congrArg (fun g : GSem nD τ sig => g.1.1) h, fun h => h ▸ rfl⟩

theorem owed_bar (d c : Dev nD) : O₀ R d (barCell c) 0 = if d ∈ Finset.univ.erase c then 1 else 0 := by
  unfold O₀
  have h0 : owRecv R d 0 (barCell c) 0 = 0 := by
    by_contra h
    obtain ⟨e, he, -⟩ := owRecv_pos R (Nat.pos_of_ne_zero h)
    exact recv_ne_bar (congrArg Prod.snd he).symm
  rw [Pi.add_apply, Finsupp.add_apply, h0, Nat.zero_add]
  unfold owBar
  rw [toSig_zero, Finset.sum_apply, Finsupp.finset_sum_apply]
  have h (e : Dev nD) : tallyAt (barCell e) 0 1 (barCell c) 0 = if c = e then 1 else 0 := by
    rw [tallyAt_apply]
    exact if_congr ⟨fun h => bar_iff.mp h.1, fun h => ⟨bar_iff.mpr h, rfl⟩⟩ rfl rfl
  rw [Finset.sum_congr rfl fun e _ => h e, Finset.sum_ite_eq]
  exact if_congr (by simp [eq_comm]) rfl rfl

theorem owed_recv (d c : Dev nD) : O₀ R d (recvCell c) 0 = ((R.outs d).filter fun p => p.1 = c).card * N := by
  unfold O₀
  have h0 : owBar d 0 (recvCell c) 0 = 0 := by
    by_contra h
    obtain ⟨e, he, -⟩ := owBar_pos (Nat.pos_of_ne_zero h)
    exact recv_ne_bar (congrArg Prod.snd he)
  rw [Pi.add_apply, Finsupp.add_apply, h0, Nat.add_zero]
  unfold owRecv
  rw [leftR_outs, Finset.sum_apply, Finsupp.finset_sum_apply]
  have h (p : Tok) : tallyAt (recvCell p.1) 0 N (recvCell c) 0 = if p.1 = c then N else 0 := by
    rw [tallyAt_apply]
    exact if_congr ⟨fun h => (recv_iff.mp h.1).symm, fun h => ⟨recv_iff.mpr h.symm, rfl⟩⟩ rfl rfl
  rw [Finset.sum_congr rfl fun p _ => h p, ← Finset.sum_filter, Finset.sum_const, smul_eq_mul]

theorem O₀_pos {c : Dev nD} {g : GSem nD τ sig} {u : ℕ} (h : 0 < O₀ R c g u) : (∃ d : Dev nD, g = recvCell d ∨ g = barCell d) ∧ u = 0 := by
  unfold O₀ at h
  rw [Pi.add_apply, Finsupp.add_apply] at h
  rcases Nat.eq_zero_or_pos (owRecv R c 0 g u) with h0 | h0
  · obtain ⟨d, hd, hu⟩ := owBar_pos (show 0 < owBar c 0 g u by omega)
    exact ⟨⟨d, Or.inr hd⟩, hu⟩
  · obtain ⟨d, hd, hu⟩ := owRecv_pos R h0
    exact ⟨⟨d, Or.inl hd⟩, hu⟩

theorem owed_off {c : Dev nD} {g : GSem nD τ sig} {u : ℕ} (hu : u ≠ 0) : O₀ R c g u = 0 := by
  by_contra h
  exact hu (O₀_pos R (Nat.pos_of_ne_zero h)).2

/-- What the protocol's dues are to the levels. -/
theorem O₀_level {c : Dev nD} {g : GSem nD τ sig} {u : ℕ} (h : 0 < O₀ R c g u) : u ∈ L g ∧ 20 ≤ lv g u := by
  obtain ⟨⟨d, rfl | rfl⟩, rfl⟩ := O₀_pos R h
  · exact ⟨by rw [L_tc]; decide, by rw [lv_recv]; decide⟩
  · exact ⟨by rw [L_tc]; decide, by rw [lv_bar]⟩

theorem launch_bar (c : Dev nD) :
    tallyOn (barCell c) (launchCredit (Pipeline.owing (O₀ R)) 0 (barCell c)) = (tallyAt (barCell c) 0 31 : CellTallies nD τ sig ℕ) := by
  unfold tallyAt; refine congrArg _ (Finsupp.ext fun u => ?_); by_cases hu : u = 0
  swap
  · rw [Pipeline.launchCredit_owing, Finsupp.single_eq_of_ne hu]
    exact Finset.sum_eq_zero fun d _ => owed_off R hu
  subst hu
  rw [Pipeline.launchCredit_owing, Finsupp.single_eq_same, Finset.sum_congr rfl fun d _ => owed_bar R d c, Finset.sum_ite_mem, Finset.univ_inter,
    Finset.sum_const, Finset.card_erase_of_mem (Finset.mem_univ c), Finset.card_univ, smul_eq_mul]
  rfl

theorem sum_outs (c : Dev nD) : (∑ d : Dev nD, ((R.outs d).filter fun p => p.1 = c).card) = (R.ins c).card := by
  rw [Finset.card_eq_sum_card_fiberwise (f := R.home) (t := Finset.univ) fun _ _ => Finset.mem_univ _]
  refine Finset.sum_congr rfl fun d _ => congrArg Finset.card ?_
  ext p
  unfold Route.outs Route.ins
  simp only [Finset.mem_filter, Finset.mem_univ, true_and]
  constructor
  · rintro ⟨⟨h1, h2⟩, h3⟩; exact ⟨⟨h3, fun h => h2 (h3.trans (h.symm.trans h1))⟩, h1⟩
  · rintro ⟨⟨h1, h2⟩, h3⟩; exact ⟨⟨h3, fun h => h2 (h3.trans (h.symm.trans h1))⟩, h1⟩

theorem launch_recv (c : Dev nD) :
    tallyOn (recvCell c) (launchCredit (Pipeline.owing (O₀ R)) 0 (recvCell c)) = (tallyAt (recvCell c) 0 ((R.ins c).card * N) : CellTallies nD τ sig ℕ) := by
  unfold tallyAt; refine congrArg _ (Finsupp.ext fun u => ?_); by_cases hu : u = 0
  swap
  · rw [Pipeline.launchCredit_owing, Finsupp.single_eq_of_ne hu]
    exact Finset.sum_eq_zero fun d _ => owed_off R hu
  subst hu
  rw [Pipeline.launchCredit_owing, Finsupp.single_eq_same, Finset.sum_congr rfl fun d _ => owed_recv R d c, ← Finset.sum_mul, sum_outs]

theorem creds_intro (c : Dev nD) : (Pipeline.launchCred (O₀ R) c : sProp 𝕄) ⊢ creds (F := F) R c := by
  unfold Pipeline.launchCred creds
  rw [bigSep_univ_at _ (SemLoc.reg barS), launch_bar]
  refine sep_mono_right ?_
  rw [← launch_recv]
  exact bigSep_elim (Finset.mem_erase.mpr ⟨recv_ne_bar, Finset.mem_univ _⟩)

theorem mayWait_stage (c : Dev nD) (q : DmaSem sig) (hq : SemLoc.dma q ≠ .dma recvS.sem) (O : CellTallies nD τ sig ℕ) (hO : O = O₀ R c ∨ O = 0) :
    (levAts L lv : sProp 𝕄) ⊢ MayWait (c : Thread nD τ) (.dma q) 0 O := by
  rcases hO with rfl | rfl
  · exact MayOwe.of_cut (L := L) (lev := lv) 0 (fun p hp => by rw [Finset.mem_singleton.mp hp, L_tc]; exact Finset.mem_range.mpr (show (0 : ℕ) < 19 by decide))
      (fun g u hg => (O₀_level R hg).1)
      (fun p hp => by rw [Finset.mem_singleton.mp hp]; unfold lv; rw [if_pos rfl, if_neg (fun h => by cases h), if_neg hq])
      (fun g u hg => lt_of_lt_of_le (by decide) (O₀_level R hg).2)
  · rw [MayWait_zero]; iintro -; iempintro

end Cert.RouteGatheredIdeal
-- ==== Proof.GSegs.lean ====
module

public import proofs.«01_k».proof.Proof.GGhost
public import proofs.«01_k».proof.Proof.Gen.GatheredIdeal.Launch
public import Idealize.ShloMosaic.Lib.Pipeline.Launch
public import Idealize.ShloMosaic.Lib.Pipeline.CollectiveSegs
public import Idealize.ShloMosaic.Lib.Pipeline.Kit
public import Idealize.ShloMosaic.Lib.Pipeline.Value

@[expose] public section

set_option maxRecDepth 16384

noncomputable section

namespace Cert.RouteGatheredIdeal

open Cert.GatheredIdeal Cert.GatheredIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode
open Idealize.SL.Sem
open Idealize.ShloMosaic.Rounds
open Idealize.ShloMosaic.Pipeline (Dat Cfg Window BodyObligation cellOf)
open Idealize.ShloMosaic.ValueIdx (ix1 ix2 ix3)

variable {F : FTy → Type} [FloatOps F]

local notation "𝕄" => MT nD τ sig ℕ (Elt F) ℕ UU ℕ

variable (m : (ℓ : Loc nD τ sig) → Buf (Elt F) ℓ) (ρ : Dev nD → PrngReg) (R : Route)

/-! ## The table's gathering before the kernel -/

/-- What each device's buffers hold at the launch, and after the gathering. -/
abbrev V₀ (c : Dev nD) : Valuation τ sig (Elt F) := fun b => m ((c : Dev nD), b)
/-- The memory the kernel finds. -/
def m₁ : (ℓ : Loc nD τ sig) → Buf (Elt F) ℓ := fun ℓ => ag0.after₀ ag0_cores (V₀ m) ℓ.1 ℓ.2

theorem m₁_at (c : Dev nD) (b : Ref sig .tc) : m₁ m ((c : Thread nD τ).loc b) = ag0.after₀ ag0_cores (V₀ m) c b := rfl
theorem m₁_ne (c : Dev nD) (b : Ref sig .tc) (h : (Proc.devRef .tc b : DevRef τ sig) ≠ Proc.devRef .tc main_v1) :
    m₁ m ((c : Thread nD τ).loc b) = m ((c : Thread nD τ).loc b) := ag0.after₀_of_ne ag0_cores (V₀ m) c h

/-- What a device owes at the launch: the kernel's dues and the gathering's. -/
def Oall (c : Dev nD) : CellTallies nD τ sig ℕ := O₀ R c + ag0.execDue Sites.ι0 c

theorem idx_mem (c : Dev nD) (sm : SemLoc sig) {i : ℕ} (hi : i < 19) : i ∈ L ((c : Thread nD τ), sm) := by
  rw [L_tc]; exact Finset.mem_range.mpr hi
theorem lv_pos (g : GSem nD τ sig) {i : ℕ} (hi : 0 < i) : lv g i = i := if_neg (by omega)

/-- The dues of the gathering's iterations from `j` on, at their levels. -/
theorem iter_level {c : Dev nD} {j : ℕ} {g : GSem nD τ sig} {i : ℕ} (h : 0 < ag0.iterDue Sites.ι0 c j g i) : i ∈ L g ∧ 2 + j ≤ lv g i := by
  obtain ⟨_, _, _, _, j', rfl, hj0, hj, hi⟩ := ag0.iterDue_pos Sites.ι0 h
  have hn := ag0_iters
  have hi' : i = 2 + j' := by rcases hi with rfl | rfl <;> rfl
  subst hi'
  exact ⟨idx_mem _ _ (by omega), by rw [lv_pos _ (by omega)]; omega⟩

theorem sum_level {c : Dev nD} {j : ℕ} {g : GSem nD τ sig} {i : ℕ} (hj : j ≤ 17) (h : 0 < (O₀ R c + ag0.iterDue Sites.ι0 c j) g i) :
    i ∈ L g ∧ 2 + j ≤ lv g i := by
  rw [Pi.add_apply, Finsupp.add_apply] at h
  rcases Nat.add_pos_iff_pos_or_pos.mp h with h | h
  · exact ⟨(O₀_level R h).1, le_trans (by omega) (O₀_level R h).2⟩
  · exact iter_level h

theorem may_bar (c : Dev nD) : (levAts L lv : sProp 𝕄) ⊢ MayOwe (c : Thread nD τ) (ag0.barrierWaits Sites.ι0) (O₀ R c + ag0.iterDue Sites.ι0 c 0) := by
  have hw : ∀ p ∈ ag0.barrierWaits Sites.ι0, p.2 = 1 := fun p hp => by
    rw [ag0.barrierWaits_one Sites.ι0 ag0_cores, Finset.mem_insert, Finset.mem_singleton] at hp
    rcases hp with rfl | rfl <;> rfl
  exact MayOwe.of_cut (L := L) (lev := lv) 1 (fun p hp => by rw [hw p hp]; exact idx_mem _ _ (by decide)) (fun g i hg => (sum_level R (by decide) hg).1)
    (fun p hp => by rw [hw p hp, lv_pos _ (by decide)]) (fun g i hg => lt_of_lt_of_le (by decide) (sum_level R (by decide) hg).2)

theorem may_loop (c : Dev nD) : (levAts L lv : sProp 𝕄) ⊢ ag0.mayWaitsFrom Sites.ι0 c (O₀ R c) 0 :=
  ag0.mayWaitsFrom_intro Sites.ι0 ag0_cores L lv c _ fun i hi d _ => by
    have hn := ag0_iters
    have hd : Sites.ι0.xfer d i = 2 + i := rfl
    rw [hd]
    exact MayOwe.of_cut (L := L) (lev := lv) (2 + i) (fun p hp => by rw [Finset.mem_singleton.mp hp]; exact idx_mem _ _ (show 2 + i < 19 by omega))
      (fun g k hg => (sum_level R (by omega) hg).1)
      (fun p hp => by rw [Finset.mem_singleton.mp hp, lv_pos _ (show 0 < 2 + i by omega)])
      (fun g k hg => lt_of_lt_of_le (by omega) (sum_level R (show i + 1 ≤ 17 by omega) hg).2)

theorem may_end (c : Dev nD) (q : DmaSem sig) : (levAts L lv : sProp 𝕄) ⊢ MayWait (c : Thread nD τ) (.dma q) 18 (O₀ R c) :=
  MayOwe.of_cut (L := L) (lev := lv) 18 (fun p hp => by rw [Finset.mem_singleton.mp hp]; exact idx_mem _ _ (show 18 < 19 by decide))
    (fun g i hg => (O₀_level R hg).1) (fun p hp => by rw [Finset.mem_singleton.mp hp, lv_pos _ (show 0 < 18 by decide)])
    (fun g i hg => lt_of_lt_of_le (by decide) (O₀_level R hg).2)

/-! ## The two segments -/

abbrev adm : (p : Fin 1) → (pcfgs (F := F) p).Adm := fun p => (cfgs p).toPCfg_adm
def pdats : (p : Fin 1) → (c : Dev nD) → Dat τ (Elt F) ℕ ℕ UU ℕ (Pipeline.pin (pcfgs (F := F)) adm p) c
  | 0 => dats (m₁ m) ρ R 0

abbrev pl (c : Dev nD) (b : Ref sig .tc) (f : b.ty.Contents (Elt F)) : sProp 𝕄 := ((c : Thread nD τ).loc b) ↦{fullShare} f

abbrev rides (c : Dev nD) : sProp 𝕄 := (AllGather.Dat.once ag0 (V₀ m) ag0_cores).rides EC Sites.ι0 c
/-- The gathering's cells are under invariants. -/
abbrev agInv : sProp 𝕄 := iprop(∃ κ, (AllGather.Dat.once (U := UU) ag0 (V₀ m) ag0_cores).cellInvs EC κ)
abbrev agPast (c : Dev nD) : sProp 𝕄 := iprop(ag0.ghostAfter EC c ∗ ag0.pcells EC c)

/-- What waits for the kernel while the table is gathered. -/
def rest (c : Dev nD) : sProp 𝕄 :=
  iprop((pl c main_arg0 (m₁ m ((c : Thread nD τ).loc main_arg0)) ∗ pl c main_arg2 (m₁ m ((c : Thread nD τ).loc main_arg2)) ∗ pl c main_v2 (m₁ m ((c : Thread nD τ).loc main_v2)))
    ∗ asleep (m₁ m) R c ∗ creds (F := F) R c ∗ agInv m)

def segG : Pipeline.HostSeg (Name := ℕ) (U := UU) (pcfgs (F := F)) defs₀ 𝒱₀ L lv :=
  collSeg0 EC 𝒱₀ L lv (V₀ m) (O₀ R) Sites.ι0 (may_bar R) (may_loop R) (fun c => may_end R c _) (fun c => may_end R c _) (rest m R)

theorem arrays_eq (c : Dev nD) (Fa) : ((pdats (F := F) m ρ R 0 c).arrays Fa : sProp 𝕄)
    = iprop(pl c main_v1 (Fa 0) ∗ pl c main_arg0 (Fa 1) ∗ pl c main_arg2 (Fa 2) ∗ pl c main_v2 (Fa 3)) := by
  rw [Pipeline.arrays_eq (Pipeline.pin (pcfgs (F := F)) adm) (pdats m ρ R) 0 c launch0.arr_whole ((pdats m ρ R 0 c).share_full fun _ => rfl) Fa, bigSep_W0]

def finalA (c : Dev nD) (w : Fin cfg0.W) : Buf (Elt F) ((cfg0.win w).arr.view.loc (c : Thread nD τ)) := (dats (m₁ m) ρ R 0 c).arrAt w cfg0.N

/-- What is left at the end. -/
def last (c : Dev nD) : sProp 𝕄 :=
  iprop((pl c main_v1 (finalA m ρ R c 0) ∗ pl c main_arg0 (finalA m ρ R c 1) ∗ pl c main_arg2 (finalA m ρ R c 2) ∗ pl c main_v2 (finalA m ρ R c 3))
    ∗ semVal (barCell c) 0 ∗ pl c main_arg1 (m₁ m ((c : Thread nD τ).loc main_arg1)) ∗ (agInv m ∗ agPast (F := F) c))

theorem scr_eq (c : Dev nD) : (Pipeline.scopedRest cfg0.spec c : sProp 𝕄) = scr (F := F) c := by
  rw [scopedRest0_eq]; rfl

theorem waits (c : Dev nD) : (levAts L lv : sProp 𝕄) ⊢ Pipeline.cellsWaits cfgs (dats (m₁ m) ρ R) 0 0 c :=
  Pipeline.cellsWaits_intro cfgs (dats (m₁ m) ρ R) 0 0 c fun w s t =>
    mayWait_stage R c _ (by fin_cases w <;> fin_cases s <;> decide) _ (by
      rcases t with ⟨_ | _, ht⟩
      · exact Or.inl rfl
      · exact Or.inr rfl)

theorem pref_none (c : Dev nD) : iprop(emp) ⊢ (Pipeline.prefHeld (pcfgs (F := F) 0).pre c (fun _ => fullShare) (adm (F := F) 0).1 : sProp 𝕄) := by
  unfold Pipeline.prefHeld; rw [show (Finset.univ : Finset (Fin 0)) = ∅ from rfl, BI.bigSep_empty]; exact .rfl

/-- The kernel's own semaphores are its own. -/
theorem own_facts : Pipeline.OwnSemFacts cfg0.spec osem := by decide

def reg0 (hT : ∀ c, (iblk (m₁ m) c 0 t0_0 : (cc0_stg0_0 : Ref sig .tc).ty.Contents (Elt F)) = tab R c) :
    Pipeline.RegionSeg (pcfgs (F := F)) adm (pdats m ρ R) 0 defs₀ 𝒱₀ L lv 0 where
  win := launch0.win.to₀
  block_pos := launch0.block_pos
  stage_whole := launch0.stage_whole
  K := Fin 2
  osem := osem
  ho := own_facts
  hbody c := (obligation (m₁ m) ρ R hT c).loose
  hwaits c := waits m ρ R c
  pre c := (segG m R).post c
  post c := iprop(last m ρ R c ∗ ∃ W, owes (c : Thread nD τ) (0 : CellTallies nD τ sig ℕ) W)
  X c := start (m₁ m) R c
  Y c := semVal (barCell c) 0
  Z c := iprop(pl c main_arg1 (m₁ m ((c : Thread nD τ).loc main_arg1)) ∗ (agInv m ∗ agPast (F := F) c))
  hentry c := by
    dsimp only [segG, collSeg0, AllGather.hostSegHeld₀]
    unfold rest
    rw [arrays_eq, AllGather.Cfg.held_siteRefs]
    iintro ⟨⟨⟨Hv1, H1⟩, Hpast, HO, ⟨H0, H2, Hv2⟩, Hsl, Hcr, Hinv⟩, Hos, Hlev⟩
    imod (wake (m₁ m) R c) $$ [Hsl Hos] with Hg
    · isplitl [Hsl] <;> iassumption
    imodintro
    isplitl [Hv1 H0 H2 Hv2]
    · isplitl [Hv1]; · iexact Hv1
      isplitl [H0]; · iexact H0
      isplitl [H2]; · iexact H2
      iexact Hv2
    isplitr; · iapply (pref_none c); iempintro
    isplitl [HO]
    · unfold Dat.owesAt Pipeline.owesWithin
      icases HO with ⟨%W, HO⟩
      iexists W; isplitr; · ipureintro; exact fun _ _ => Or.inl trivial
      iexact HO
    isplitl [Hg Hcr Hlev]
    · unfold start
      isplitl [Hg]; · iexact Hg
      isplitl [Hcr] <;> iassumption
    isplitl [H1]; · iexact H1
    isplitl [Hinv] <;> iassumption
  hin c := by
    show _ ⊢ Φ₀ (m₁ m) R c
    rw [show (Pipeline.scopedRest (pcfgs (F := F) 0).spec c : sProp 𝕄) = scr (F := F) c from scr_eq c]
    unfold Φ₀
    iintro ⟨Hs, -, Hr⟩
    isplitl [Hs] <;> iassumption
  hout c := by
    show Φ₁ (F := F) c ⊢ _
    rw [show (Pipeline.scopedRest (pcfgs (F := F) 0).spec c : sProp 𝕄) = scr (F := F) c from scr_eq c, ownSems_eq]
    unfold Φ₁ sems0
    iintro ⟨⟨HB, HS, HV⟩, Hr⟩
    isplitl [HB]; · iexact HB
    isplitl [HS HV]
    · isplitl [HS] <;> iassumption
    iexact Hr
  hexit c := by
    rw [arrays_eq]
    unfold last
    iintro ⟨Ha, HO, HB, H1, Hag⟩
    imodintro
    isplitr [HO]
    · isplitl [Ha]; · iexact Ha
      isplitl [HB]; · iexact HB
      isplitl [H1] <;> iassumption
    · unfold Dat.owesAt Pipeline.owesWithin
      icases HO with ⟨%W, -, HO⟩; iexists W; iexact HO

end Cert.RouteGatheredIdeal
-- ==== Proof.GLaunch.lean ====
module

public import proofs.«01_k».proof.Proof.GSegs
public import proofs.«01_k».proof.Proof.Gen.GatheredIdeal.Launch
public import Idealize.ShloMosaic.Lib.Pipeline.Launch
public import Idealize.ShloMosaic.Lib.Pipeline.CollectiveSegs
public import Idealize.ShloMosaic.Lib.Pipeline.Kit
public import Idealize.ShloMosaic.Lib.Pipeline.Value

@[expose] public section

set_option maxRecDepth 16384

noncomputable section

namespace Cert.RouteGatheredIdeal

open Cert.GatheredIdeal Cert.GatheredIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode
open Idealize.SL.Sem
open Idealize.ShloMosaic.Rounds
open Idealize.ShloMosaic.Pipeline (Dat Cfg Window BodyObligation cellOf)
open Idealize.ShloMosaic.ValueIdx (ix1 ix2 ix3)

variable {F : FTy → Type} [FloatOps F]

local notation "𝕄" => MT nD τ sig ℕ (Elt F) ℕ UU ℕ

variable (m : (ℓ : Loc nD τ sig) → Buf (Elt F) ℓ) (ρ : Dev nD → PrngReg) (R : Route)

/-! ## The launch -/

/-- The two protocols' ghost state, kept with device 0 until every device's semaphores are at hand. -/
def lot : sProp 𝕄 :=
  iprop(BI.own (EC (Rounds.initOf ag0.cells (AllGather.Dat.once (U := UU) ag0 (V₀ m) ag0_cores).launchToks)) ∗ BI.own (ER (launchOf barCells copyCells mToks)))
def parked (c : Dev nD) : sProp 𝕄 := if c = 0 then lot m else iprop(emp)

theorem parked_eq : bigSep Finset.univ (parked (F := F) m) = lot m := by
  rw [bs_erase (Finset.mem_univ (0 : Dev nD)),
    show bigSep (Finset.univ.erase (0 : Dev nD)) (parked (F := F) m) = bigSep (Finset.univ.erase (0 : Dev nD)) (fun _ => (iprop(emp) : sProp 𝕄)) from
      bigSep_congr fun c hc => if_neg (Finset.ne_of_mem_erase hc),
    show bigSep (Finset.univ.erase (0 : Dev nD)) (fun _ => (iprop(emp) : sProp 𝕄)) = iprop(emp) from BI.bigSep_emp_const _]
  unfold parked
  rw [if_pos rfl]
  exact equiv_iff.mp BI.sep_emp

def u₀ : UU :=
  (initOf (Pipeline.cells (Pipeline.pin (pcfgs (F := F)) adm) cellOf_inj) (Pipeline.launchToks (Pipeline.pin (pcfgs (F := F)) adm) cellOf_inj),
    (Rounds.initOf ag0.cells (AllGather.Dat.once (U := UU) ag0 (V₀ m) ag0_cores).launchToks, launchOf barCells copyCells mToks))

theorem bufs_eq (c : Dev nD) : (unscopedBufs c (fun b => m ((c : Thread nD τ).loc b)) : sProp 𝕄)
    = iprop(pl c main_arg0 (m ((c : Thread nD τ).loc main_arg0)) ∗ pl c main_arg1 (m ((c : Thread nD τ).loc main_arg1)) ∗ pl c main_arg2 (m ((c : Thread nD τ).loc main_arg2))
      ∗ pl c main_v1 (m ((c : Thread nD τ).loc main_v1)) ∗ pl c main_v2 (m ((c : Thread nD τ).loc main_v2))) := by
  unfold unscopedBufs
  rw [bigSep_eq_bigSepL_of_eq [main_arg0, main_arg1, main_arg2, main_v1, main_v2] (by decide) (by decide)]
  rfl

/-- The gathering's own counters of one device. -/
def agSems (c : Dev nD) : sProp 𝕄 :=
  iprop(semVal (ag0.barrierCell c) 0 ∗ semVal (ag0.sendCell c) 0 ∗ semVal (ag0.copyCell c) 0
    ∗ bigSep Finset.univ fun cp : AllGather.Dir × AllGather.Parity × Bool => semVal (ag0.recvCell c cp.1 cp.2.1 cp.2.2) 0)

theorem sems_split (c : Dev nD) : (unscopedSems0 c : sProp 𝕄) ⊢ iprop(agSems (F := F) c ∗ semVal (barCell c) 0) := by
  rw [Sites.sems_eq]
  unfold agSems
  rw [Sites.recvs_eq0]
  iintro ⟨H1, H2, H3, H4, H5, H6, H7, H8, H9, H10, H11, HB⟩
  isplitr [HB]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10] <;> iassumption
  · iexact HB

/-- What a device brings, sorted. -/
def bring (c : Dev nD) : sProp 𝕄 :=
  iprop(unscopedBufs c (fun b => m ((c : Thread nD τ).loc b)) ∗ owes (c : Thread nD τ) (Oall R c) ∅ ∗ creds (F := F) R c)

theorem sort (c : Dev nD) :
    iprop(unscopedBufs c (fun b => m ((c : Thread nD τ).loc b)) ∗ unscopedSems0 c
        ∗ owes (c : Thread nD τ) (Oall R c) ∅ ∗ Pipeline.launchCred (Oall R) c ∗ prngReg c (ρ c) ∗ parked (F := F) m c)
      ⊢ iprop((agSems (F := F) c ∗ Pipeline.launchCred (fun d => ag0.execDue Sites.ι0 d) c) ∗ semVal (barCell c) 0 ∗ parked (F := F) m c ∗ bring m R c) := by
  rw [show (Pipeline.launchCred (Oall R) c : sProp 𝕄) = iprop(Pipeline.launchCred (O₀ R) c ∗ Pipeline.launchCred (fun d => ag0.execDue Sites.ι0 d) c)
    from Pipeline.launchCred_add (O₀ R) (fun d => ag0.execDue Sites.ι0 d) c]
  unfold bring
  iintro ⟨Hb, Hs, HO, ⟨Hk, Ha⟩, -, HG⟩
  ihave Hs' := (sems_split (F := F) c) $$ Hs
  icases Hs' with ⟨Hag, HB⟩
  ihave Hc := (creds_intro (F := F) R c) $$ Hk
  isplitl [Hag Ha]
  · isplitl [Hag] <;> iassumption
  isplitl [HB]; · iexact HB
  isplitl [HG]; · iexact HG
  isplitl [Hb]; · iexact Hb
  isplitl [HO] <;> iassumption

theorem first (c : Dev nD) : iprop(rides m c ∗ asleep (m₁ m) R c ∗ bring m R c) ⊢ (segG m R).pre c := by
  dsimp only [segG, collSeg0, AllGather.hostSegHeld₀]
  unfold rest bring
  rw [bufs_eq, AllGather.Cfg.held_siteRefs, m₁_ne m c main_arg0 (by decide), m₁_ne m c main_arg2 (by decide), m₁_ne m c main_v2 (by decide)]
  iintro ⟨Hr, Hsl, ⟨H0, H1, H2, Hv1, Hv2⟩, HO, Hc⟩
  ihave #Hi := (show rides (F := F) m c ⊢ agInv m from by
    unfold rides AllGather.Dat.rides; iintro ⟨Hi, -⟩; iexact Hi) $$ Hr
  isplitl [Hv1 H1]
  · isplitl [Hv1] <;> iassumption
  isplitl [Hr]; · iexact Hr
  isplitl [HO]; · iexists ∅; iexact HO
  isplitl [H0 H2 Hv2]
  · isplitl [H0]; · iexact H0
    isplitl [H2] <;> iassumption
  isplitl [Hsl]; · iexact Hsl
  isplitl [Hc]; · iexact Hc
  iexact Hi

theorem init :
    iprop((bigSep Finset.univ fun c : Dev nD => iprop(unscopedBufs c (fun b => m ((c : Thread nD τ).loc b)) ∗ unscopedSems0 c
          ∗ owes (c : Thread nD τ) (Oall R c) ∅ ∗ Pipeline.launchCred (Oall R) c ∗ prngReg c (ρ c) ∗ parked (F := F) m c)) ∗ levAts L lv)
      ⊢ (|={Set.univ}=> bigSep Finset.univ (segG m R).pre : sProp 𝕄) := by
  iintro ⟨H, -⟩
  ihave H' := (show _ ⊢ iprop((bigSep Finset.univ fun c : Dev nD => iprop(agSems (F := F) c ∗ Pipeline.launchCred (fun d => ag0.execDue Sites.ι0 d) c))
        ∗ (bigSep Finset.univ fun c : Dev nD => semVal (barCell c) 0) ∗ bigSep Finset.univ (parked (F := F) m) ∗ bigSep Finset.univ (bring m R))
      from by rw [← bs_sep, ← bs_sep, ← bs_sep]; exact bigSep_mono fun c _ => sort m ρ R c) $$ H
  icases H' with ⟨Hag, HB, HG, Hm⟩
  ihave Hu := (Entails.of_eq (parked_eq (F := F) m)) $$ HG
  unfold lot
  icases Hu with ⟨HuC, HuR⟩
  imod ((AllGather.Dat.once (U := UU) ag0 (V₀ m) ag0_cores).fund_rides EC Sites.ι0 (Es := Set.univ)) $$ [Hag HuC] with Hr
  · isplitl [Hag]
    · unfold agSems; iexact Hag
    iexact HuC
  imod (fund (m₁ m) R) $$ [HB HuR] with Hs
  · isplitl [HB] <;> iassumption
  imodintro
  iapply (show iprop((bigSep Finset.univ fun c : Dev nD => rides (F := F) m c) ∗ (bigSep Finset.univ (asleep (F := F) (m₁ m) R)) ∗ bigSep Finset.univ (bring m R))
      ⊢ bigSep Finset.univ (segG m R).pre from by rw [← bs_sep, ← bs_sep]; exact bigSep_mono fun c _ => first m R c)
  isplitl [Hr]; · iexact Hr
  isplitl [Hs] <;> iassumption

variable (hT : ∀ c, (iblk (m₁ m) c 0 t0_0 : (cc0_stg0_0 : Ref sig .tc).ty.Contents (Elt F)) = tab R c)

def segs : List (Pipeline.Seg (pcfgs (F := F)) adm (pdats m ρ R) 0 defs₀ 𝒱₀ L lv) := [.host (segG m R), .region (reg0 m ρ R hT)]

theorem main_eq (c : Dev nD) : main (F := F) c = Pipeline.Seg.run (segs m ρ R hT) := main_segs adm (pdats m ρ R) 0 𝒱₀ L lv (segG m R) (reg0 m ρ R hT) rfl c

set_option backward.isDefEq.respectTransparency.types false in
/-- Every execution ends, each array at its contents and every counter at zero. -/
theorem run_all (hT : ∀ c, (iblk (m₁ m) c 0 t0_0 : (cc0_stg0_0 : Ref sig .tc).ty.Contents (Elt F)) = tab R c) :
    θ_run defs (onTc (τ := τ) (main (F := F))) (s₀ m ρ) (fun r =>
      (∀ c : Dev nD, r.2.mem ((c : Thread nD τ).loc main_v2) = finalA m ρ R c 3
        ∧ r.2.mem ((c : Thread nD τ).loc main_arg0) = finalA m ρ R c 1
        ∧ r.2.mem ((c : Thread nD τ).loc main_arg1) = m₁ m ((c : Thread nD τ).loc main_arg1)
        ∧ r.2.mem ((c : Thread nD τ).loc main_arg2) = finalA m ρ R c 2) ∧ r.2.sem = fun _ => 0) :=
  Pipeline.θ_run_regions_kit_sems (pcfgs (F := F)) adm (pdats m ρ R) 0 cellOf_inj EP defs₀ 𝒱₀ L lv m ρ main (segs m ρ R hT)
    (fun c Q => by rw [main_eq m ρ R hT c])
    (by simp only [segs, Pipeline.Seg.pipes_host, Pipeline.Seg.pipes_region, Pipeline.Seg.pipes_nil]; decide)
    (O₀ := Oall R) (hL := L_of_ne) (G := parked m) (u₀ := u₀ m)
    (hu₀ := by
      unfold u₀
      iintro Hu
      ihave H := (ownU_pair _ _) $$ Hu
      icases H with ⟨HP, HX⟩
      ihave HX' := (own_pair_emb _ _ _) $$ HX
      icases HX' with ⟨HC, HR⟩
      imodintro
      isplitl [HP]; · iexact HP
      rw [parked_eq]; unfold lot
      isplitl [HC]; · iexact HC
      iexact HR)
    (T₀ := (segG m R).pre) (Tₙ := last m ρ R)
    (hch := ⟨fun c => .rfl, fun c => .rfl, fun c => .rfl⟩)
    (hinit := init m ρ R)
    (QY := fun c s => (s.mem ((c : Thread nD τ).loc main_v2) = finalA m ρ R c 3
        ∧ s.mem ((c : Thread nD τ).loc main_arg0) = finalA m ρ R c 1
        ∧ s.mem ((c : Thread nD τ).loc main_arg1) = m₁ m ((c : Thread nD τ).loc main_arg1)
        ∧ s.mem ((c : Thread nD τ).loc main_arg2) = finalA m ρ R c 2)
      ∧ (s.sem (ag0.barrierCell c) = 0 ∧ s.sem (ag0.sendCell c) = 0 ∧ s.sem (ag0.copyCell c) = 0
        ∧ ∀ (d : AllGather.Dir) (p : AllGather.Parity) (b : Bool), s.sem (ag0.recvCell c d p b) = 0)
      ∧ s.sem (barCell c) = 0)
    (hfin := fun c s' => by
      unfold last
      iintro ⟨⟨⟨-, H0, H2, Hv⟩, HB, H1, He⟩, HSI⟩
      icombine HSI Hv gives %hv
      icombine HSI H0 gives %h0
      icombine HSI H1 gives %h1
      icombine HSI H2 gives %h2
      icombine HSI HB gives %hb
      imod (AllGather.Dat.ghostAfter_read EC ag0_cores (V₀ m) c s') $$ [He HSI] with ⟨%hz, HSI⟩
      · isplitl [He] <;> iassumption
      imodintro
      isplitr
      · ipureintro
        exact ⟨⟨Buf.eq_of_forall_mem_univ hv, Buf.eq_of_forall_mem_univ h0, Buf.eq_of_forall_mem_univ h1, Buf.eq_of_forall_mem_univ h2⟩, hz, hb⟩
      iexact HSI)
    (hQ := fun s h hs => ⟨fun c => (h c).1, sem_eq_zero hs fun c sm hsm => by
      have hl : ∀ sm : SemLoc sig, sm.isScoped .tc = false → sm = .reg barrier0 ∨ sm = .reg ag0_barrier ∨ sm = .dma ag0_send ∨ sm = .dma ag0_copy
          ∨ ∃ d p b, sm = .dma (ag0_recv d p b) := by decide
      obtain ⟨hag, hbar⟩ := (h c).2
      rcases hl sm hsm with rfl | rfl | rfl | rfl | ⟨d, p, b, rfl⟩
      exacts [hbar, hag.1, hag.2.1, hag.2.2.1, hag.2.2.2 d p b]⟩)

end Cert.RouteGatheredIdeal
-- ==== Proof.GFinal.lean ====
module

public import proofs.«01_k».proof.Proof.GLaunch
public import proofs.«01_k».proof.Proof.Gen.GatheredIdeal.Launch
public import Idealize.ShloMosaic.Lib.Pipeline.Launch
public import Idealize.ShloMosaic.Lib.Pipeline.CollectiveSegs
public import Idealize.ShloMosaic.Lib.Pipeline.Kit
public import Idealize.ShloMosaic.Lib.Pipeline.Value

@[expose] public section

set_option maxRecDepth 16384

noncomputable section

namespace Cert.RouteGatheredIdeal

open Cert.GatheredIdeal Cert.GatheredIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode
open Idealize.SL.Sem
open Idealize.ShloMosaic.Rounds
open Idealize.ShloMosaic.Pipeline (Dat Cfg Window BodyObligation cellOf)
open Idealize.ShloMosaic.ValueIdx (ix1 ix2 ix3)

variable {F : FTy → Type} [FloatOps F]

local notation "𝕄" => MT nD τ sig ℕ (Elt F) ℕ UU ℕ

variable (m : (ℓ : Loc nD τ sig) → Buf (Elt F) ℓ) (ρ : Dev nD → PrngReg) (R : Route)

theorem blk_tab (c : Dev nD) : (iblk m c 0 t0_0 : (cc0_stg0_0 : Ref sig .tc).ty.Contents (Elt F)) = m ((c : Thread nD τ).loc main_v1) := by
  funext i
  show m ((c : Thread nD τ).loc main_v1) ((win0_0.rect t0_0).emb i) = m ((c : Thread nD τ).loc main_v1) i
  exact congrArg _ (funext fun a => Fin.ext (win0_0.rect_emb_val_of_index_zero t0_0 a (by fin_cases a <;> decide) i))

theorem blk_x (c : Dev nD) : (ins m).xs c = m ((c : Thread nD τ).loc main_arg0) := by
  funext i
  show m ((c : Thread nD τ).loc main_arg0) ((win0_1.rect t0_0).emb i) = m ((c : Thread nD τ).loc main_arg0) i
  exact congrArg _ (funext fun a => Fin.ext (win0_1.rect_emb_val_of_index_zero t0_0 a (by fin_cases a <;> decide) i))

theorem blk_w (c : Dev nD) : (ins m).ws c = m ((c : Thread nD τ).loc main_arg2) := by
  funext i
  show m ((c : Thread nD τ).loc main_arg2) ((win0_2.rect t0_0).emb i) = m ((c : Thread nD τ).loc main_arg2) i
  exact congrArg _ (funext fun a => Fin.ext (win0_2.rect_emb_val_of_index_zero t0_0 a (by fin_cases a <;> decide) i))

theorem out_emb (i : S32x1024.Idx) : (win0_3.rect t0_0).emb i = i :=
  funext fun a => Fin.ext (win0_3.rect_emb_val_of_index_zero t0_0 a (by fin_cases a <;> decide) i)

/-- What the one point writes back. -/
theorem out_flushed (c : Dev nD) (t : Fin cfg0.N) : (dats m ρ R 0 c).flushed 3 t = ((cfg0.win 3).blk t).view.read (Elt F) (oFin R (ins m) c) := by
  obtain rfl := fin_N t
  have ha : (dats m ρ R 0 c).after 3 t0_0 = oFin R (ins m) c := by dsimp only [dats]
  unfold Dat.flushed
  rw [ha]
  funext i
  generalize oFin R (ins m) c = G
  show G _ = G ((win0_3.rect t0_0).emb i)
  rw [out_emb]

theorem out_cover (i : S32x1024.Idx) : i ∈ ((cfg0.win 3).blk t0_0).view.set := by
  have h := ((cfg0.win 3).blk t0_0).view.emb_mem_set i
  have e : ((cfg0.win 3).blk t0_0).view.emb i = i := out_emb i
  rw [e] at h
  exact h

/-- The result array after the run. -/
theorem final_out (c : Dev nD) : finalA m ρ R c (3 : Fin 4) = oFin R (ins (m₁ m)) c :=
  (dats (m₁ m) ρ R 0 c).arrAt_eq_of_cover 3 (oFin R (ins (m₁ m)) c) (fun t _ => out_flushed (m₁ m) ρ R c t) (fun i => ⟨t0_0, flush0_3 _, out_cover i⟩)

/-- A run in which every gathered table names the experts of `R`. -/
theorem run (hT : ∀ c : Dev nD, (m₁ m ((c : Thread nD τ).loc main_v1) : (cc0_stg0_0 : Ref sig .tc).ty.Contents (Elt F)) = tab R c) :
    θ_run defs (onTc (τ := τ) (main (F := F))) ⟨m, fun _ => 0, ρ⟩ (fun r => (∀ c : Dev nD,
      r.2.mem ((c.tc : Thread nD τ).loc main_v2) = oFin R (ins (m₁ m)) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c => ⟨(h.1 c).1.trans (final_out m ρ R c),
      ((h.1 c).2.1.trans ((dats (m₁ m) ρ R 0 c).arrAt_in 1 rfl _)).trans (m₁_ne m c main_arg0 (by decide)),
      (h.1 c).2.2.1.trans (m₁_ne m c main_arg1 (by decide)),
      ((h.1 c).2.2.2.trans ((dats (m₁ m) ρ R 0 c).arrAt_in 2 rfl _)).trans (m₁_ne m c main_arg2 (by decide))⟩, h.2⟩)
    (run_all m ρ R fun c => (blk_tab (m₁ m) c).trans (hT c))

theorem peer_val : ∀ (d : Dev nD) (o : Fin ag0.m), ((ag0.peer d o : Dev nD) : Fin nD).val = o.val := by decide +kernel

/-- The device whose rows token `n` is among. -/
def rowDev (n : Fin 1024) : Dev nD := ⟨n.val / 32, show n.val / 32 < 32 by omega⟩

/-- What the gathering puts at token `n`: the word of row `n % 32` of device `n / 32`. -/
theorem table_at (c : Dev nD) (n : Fin 1024) :
    (m₁ m ((c : Thread nD τ).loc main_v1) : IVec S1024x1 32) (ix2 n 0)
      = (m ((rowDev n : Thread nD τ).loc main_arg1) : IVec S32x1 32) (ix2 ⟨n.val % 32, Nat.mod_lt _ (by decide)⟩ 0) := by
  have e : ag0.after₀ ag0_cores (V₀ m) c ag0.result = ag0.gatheredOf ag0_cores c (fun s => V₀ m s main_arg1) := ag0.after₀_result ag0_cores (V₀ m) c
  have e2 := ag0.gatheredOf_entry (Val := Elt F) ag0_cores c (fun s => V₀ m s main_arg1) (ix2 n 0)
  refine (congrFun e (ix2 n 0)).trans (e2.trans ?_)
  have hd : (ag0.peer c ((ag0.partEquiv ag0_cores c).symm (ag0.partAt (ix2 n 0))) : Dev nD) = rowDev n := by
    apply Fin.ext
    rw [peer_val, ag0.partEquiv_symm_val ag0_cores (fun _ => rfl)]
    rfl
  have hi : ag0.srcIdx (ix2 n 0) = (ix2 ⟨n.val % 32, Nat.mod_lt _ (by decide)⟩ 0 : S32x1.Idx) := by
    funext b
    apply Fin.ext
    rw [ag0.srcIdx_val]
    match b with
    | ⟨0, _⟩ => rfl
    | ⟨1, _⟩ => rfl
  rw [hd, hi]
  rfl

end Cert.RouteGatheredIdeal
-- ==== Proof.GValue.lean ====
/-
# The kernel's value

At the extended reals: the gathered buffer holds each kept token's row in its slot and zero in row seven, so
a finished output row is its token's row times its expert's matrix, or zero where six earlier tokens chose the
same expert.
-/
module

public import proofs.«01_k».proof.Proof.GFinal
public import Idealize.ShloMosaic.Lib.MatmulPlain
public import Idealize.ShloMosaic.Lib.ValueLayout
public import Idealize.ShloMosaic.PureOps.Ideal.Laws

@[expose] public section

set_option maxRecDepth 16384

noncomputable section

namespace Cert.RouteGatheredIdeal

open Cert.GatheredIdeal Cert.GatheredIdeal.Gen
open Idealize.ShloMosaic
open Idealize.ShloMosaic.ValueIdx

namespace Route

variable (R : Route) (c : Dev nD)

/-- Of two tokens of one expert the earlier has the smaller rank. -/
theorem cntE_lt {p : Tok} {e u : ℕ} (hp : R.ex c (tn p) = e) (h : tn p < u) : R.cntE c e (tn p) < R.cntE c e u := by
  have h1 := R.cntE_succ c e (tn p) (tn_lt p)
  rw [if_pos hp] at h1
  have h2 : R.cntE c e (tn p + 1) ≤ R.cntE c e u := card_mono _ (by omega)
  omega

theorem home_ex {p : Tok} (hp : R.home p = c) : R.ex c (tn p) / 4 = c.val := (R.ex_home c p).mpr hp

theorem slot_ne (n : ℕ) : R.slot c n ≠ 7 ↔ R.rank c n < 6 := by
  unfold slot slotN
  split
  · next h => exact ⟨fun _ => h, fun _ => by omega⟩
  · next h => exact ⟨fun hh => absurd rfl hh, fun hh => absurd hh h⟩

/-- Kept tokens have slots of their own. -/
theorem slot_inj {p q : Tok} (hp : R.home p = c) (hq : R.home q = c) (h7 : R.slot c (tn p) ≠ 7)
    (h : R.slot c (tn p) = R.slot c (tn q)) : p = q := by
  have r1 := (R.slot_ne c (tn p)).mp h7
  have r2 := (R.slot_ne c (tn q)).mp (h ▸ h7)
  have e1 := R.home_ex c hp
  have e2 := R.home_ex c hq
  unfold slot slotN at h
  rw [if_pos r1, if_pos r2] at h
  have he : R.ex c (tn p) = R.ex c (tn q) := by omega
  have hr : R.rank c (tn p) = R.rank c (tn q) := by omega
  unfold rank at hr
  rw [← he] at hr
  rcases Nat.lt_trichotomy (tn p) (tn q) with h1 | h1 | h1
  · have := R.cntE_lt c rfl h1; omega
  · exact tn_inj h1
  · have := R.cntE_lt c (e := R.ex c (tn p)) he.symm h1; omega

end Route

variable {F : FTy → Type} [FloatOps F] (R : Route) (D : Ins F) (c : Dev nD)

theorem gPut_at (p : Tok) (f : (cc0_scratch0 : Ref sig .tc).ty.Contents (Elt F)) (s : Fin 32) (k : Fin 512) :
    gPut R D c p f (ix2 s k) = if s.val = R.slot c (tn p) ∧ R.slot c (tn p) ≠ 7 then D.xs c (ix2 ⟨tn p, tn_lt _⟩ k) else f (ix2 s k) := rfl

/-- The slot of a kept token, trip by trip. -/
theorem gSt_slot {p : Tok} (hp : R.home p = c) (h7 : R.slot c (tn p) ≠ 7) (k : Fin 512) :
    ∀ j, j ≤ R.nMy c → gSt R D c j (ix2 ⟨R.slot c (tn p), R.slot_lt _ _⟩ k)
      = if R.cnt c (tn p) < j then D.xs c (ix2 ⟨tn p, tn_lt _⟩ k) else k0_pay2 (F := F) (ix2 ⟨R.slot c (tn p), R.slot_lt _ _⟩ k)
  | 0, _ => by rw [if_neg (Nat.not_lt_zero _)]; rfl
  | j + 1, hj => by
    obtain ⟨q, hq, hqj⟩ := R.exists_nth c (show j < R.nMy c by omega)
    rw [gSt_succ R D hq hqj, gPut_at]
    by_cases h : p = q
    · subst h
      rw [if_pos ⟨rfl, h7⟩, if_pos (by omega)]
    · rw [if_neg (fun hh => h (R.slot_inj c hp hq h7 hh.1)), gSt_slot hp h7 k j (by omega)]
      have hne : R.cnt c (tn p) ≠ j := fun he => h (R.cnt_inj c hp hq (he.trans hqj.symm))
      by_cases hlt : R.cnt c (tn p) < j
      · rw [if_pos hlt, if_pos (by omega)]
      · rw [if_neg hlt, if_neg (by omega)]

/-- Row seven keeps what it started with. -/
theorem gSt_seven (k : Fin 512) : ∀ j, gSt R D c j (ix2 7 k) = k0_pay2 (F := F) (ix2 7 k)
  | 0 => rfl
  | j + 1 => by
    show gPut R D c (nth R c j) (gSt R D c j) (ix2 7 k) = _
    rw [gPut_at, if_neg (fun hh => hh.2 hh.1.symm), gSt_seven k j]

section Ideal
variable (D : Ins Ideal)

/-- The buffers' contents as arrays of extended reals. -/
abbrev xv : FVec Ideal S1024x512 .f32 := D.xs c
abbrev wv : FVec Ideal S4x512x1024 .f32 := D.ws c
abbrev gv (j : ℕ) : FVec Ideal S32x512 .f32 := gSt R D c j
abbrev ev : FVec Ideal S32x1024 .f32 := eFin R D c
abbrev ov : FVec Ideal S32x1024 .f32 := oFin R D c

theorem pay2_at (y : S32x512.Idx) : k0_pay2 (F := Ideal) y = 0 := by
  unfold k0_pay2
  rw [shapeCast_self]
  exact Ideal.ofBits_zero_f32

theorem pay5_at (a : Vec Ideal S8x512 .f32) (b : Vec Ideal S1x512x1024 .f32) (r : Fin 8) (o : Fin 1024) :
    k0_pay5 (F := Ideal) a b (ix2 r o) = ∑ k : Fin 512, a (ix2 r k) * b (ix3 0 k o) := by
  unfold k0_pay5
  rw [shapeCast_self]
  refine (Ideal.matmul_plain_apply none a (shapeCast S512x1024 b shapeCasts_S1x512x1024_S512x1024) (constant S8x1024 .f32 0x00000000#32) r o).trans ?_
  show Ideal.ofBits .f32 0x00000000#32 + _ = _
  rw [Ideal.ofBits_zero_f32, zero_add]
  refine Finset.sum_congr rfl fun k _ => ?_
  rw [shapeCast_1ab_ab_apply]

theorem eFin_at (s : Fin 32) (o : Fin 1024) :
    ev R c D (ix2 s o) = ∑ k : Fin 512, gv R c D (R.nMy c) (ix2 s k) * wv c D (ix3 ⟨s.val / 8, blk8_lt s.isLt⟩ k o) := by
  show eFin R D c (ix2 s o) = _
  unfold eFin
  refine (pay5_at _ _ _ o).trans (Finset.sum_congr rfl fun k _ => ?_)
  have h : (ix2 (⟨8 * (s.val / 8) + s.val % 8, row8_lt s.isLt _ (Nat.mod_lt _ (by decide))⟩ : Fin 32) k : S32x512.Idx) = ix2 s k := by
    congr 1
    exact Fin.ext (Nat.div_add_mod _ _)
  exact congrArg (fun z : S32x512.Idx => gv R c D (R.nMy c) z * wv c D (ix3 ⟨s.val / 8, blk8_lt s.isLt⟩ k o)) h

/-- A finished output row. -/
theorem oFin_at (d : Dev nD) (a : Fin 32) (o : Fin 1024) :
    ov R d D (ix2 a o) = if R.rank (R.home (d, a)) (tn (d, a)) < 6 then
      ∑ k : Fin 512, xv (R.home (d, a)) D (ix2 ⟨tn (d, a), tn_lt _⟩ k) * wv (R.home (d, a)) D (ix3 ⟨R.ex (R.home (d, a)) (tn (d, a)) % 4, Nat.mod_lt _ (by decide)⟩ k o)
      else 0 := by
  have hu : ov R d D (ix2 a o) = ev R (R.home (d, a)) D (ix2 ⟨R.slot (R.home (d, a)) (tn (d, a)), R.slot_lt _ _⟩ o) := rfl
  rw [hu, eFin_at]
  generalize hc : R.home (d, a) = c
  generalize hp : (d, a) = p at hc ⊢
  by_cases h : R.rank c (tn p) < 6
  · rw [if_pos h]
    have h7 := (R.slot_ne c (tn p)).mpr h
    refine Finset.sum_congr rfl fun k _ => ?_
    have hlt : R.cnt c (tn p) < R.nMy c := R.cnt_lt_nMy c hc
    have hg : gv R c D (R.nMy c) (ix2 ⟨R.slot c (tn p), R.slot_lt _ _⟩ k) = xv c D (ix2 ⟨tn p, tn_lt _⟩ k) :=
      (gSt_slot R D c hc h7 k _ le_rfl).trans (if_pos hlt)
    rw [hg]
    have hs : R.slot c (tn p) / 8 = R.ex c (tn p) % 4 := by
      unfold Route.slot slotN; rw [if_pos h]; omega
    congr 2
    congr 1
    exact Fin.ext hs
  · rw [if_neg h]
    have hs : R.slot c (tn p) = 7 := by
      by_contra hn; exact h ((R.slot_ne c (tn p)).mp hn)
    have h7 : (⟨R.slot c (tn p), R.slot_lt _ _⟩ : Fin 32) = 7 := Fin.ext hs
    rw [h7]
    refine Finset.sum_eq_zero fun k _ => ?_
    have hg : gv R c D (R.nMy c) (ix2 7 k) = 0 := (gSt_seven R D c k _).trans (pay2_at _)
    rw [hg, zero_mul]

end Ideal

end Cert.RouteGatheredIdeal
-- ==== Proof.GHome.lean ====
/-
# The routing of the gathered table

Every device holds the one gathered table, and the precondition says each of its words names an expert. That is a
`Route`: a token goes to the device of its expert.
-/
module

public import proofs.«01_k».proof.Proof.GValue
public import proofs.«01_k».proof.Proof.Gen.Pre_experts_exist_Gathered
public import Idealize.ShloMosaic.Lib.WordCmp
public import Idealize.ShloMosaic.Lib.Layout

@[expose] public section

set_option maxRecDepth 16384

noncomputable section

namespace Cert.RouteGatheredIdeal

open Cert.GatheredIdeal Cert.GatheredIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode
open Idealize.SL.Sem
open Idealize.ShloMosaic.Rounds
open Idealize.ShloMosaic.Pipeline (Dat Cfg Window BodyObligation cellOf)
open Idealize.ShloMosaic.ValueIdx (ix1 ix2 ix3)

/-- A word in range by the two signed comparisons. -/
theorem range_word (b : BitVec 32) (h : IntOp.andi (IntOp.cmpi .sge b 0#32) (IntOp.cmpi .slt b 128#32) = 1#1) : b.toNat < 128 := by
  rw [WordCmp.cmpi_sge_eq, WordCmp.cmpi_slt_eq, WordCmp.andi_ofBool, WordCmp.ofBool_eq_one_iff, Bool.and_eq_true, decide_eq_true_eq, decide_eq_true_eq] at h
  obtain ⟨h1, h2⟩ := h
  have e0 : (0#32 : BitVec 32).toInt = 0 := by decide
  have e1 : (128#32 : BitVec 32).toInt = 128 := by decide
  rw [e0] at h1
  rw [e1] at h2
  have h3 := BitVec.toInt_eq_toNat_cond b
  have h4 := b.isLt
  split at h3 <;> omega

section Table
variable (T : Dev nD → IVec S1024x1 32) (hlt : ∀ c (n : Fin 1024), (T c (ix2 n 0)).toNat < 128)

/-- The experts a table names; -/
def tabEx (c : Dev nD) (n : ℕ) : ℕ := if h : n < 1024 then (T c (ix2 ⟨n, h⟩ 0)).toNat else 0

theorem tabEx_tn (c : Dev nD) (p : Tok) : tabEx T c (tn p) = (T c (ix2 ⟨tn p, tn_lt p⟩ 0)).toNat := dif_pos (tn_lt p)

/-- the routing of tables that agree on which device each token goes to. -/
def tabRoute (hlt : ∀ c (n : Fin 1024), (T c (ix2 n 0)).toNat < 128) (home : Tok → Dev nD)
    (hh : ∀ c p, (T c (ix2 ⟨tn p, tn_lt p⟩ 0)).toNat / 4 = c.val ↔ home p = c) : Route where
  ex := tabEx T
  home := home
  ex_lt c n := by
    unfold tabEx
    split
    · exact hlt c _
    · decide
  ex_home c p := by rw [tabEx_tn]; exact hh c p

theorem tab_tabRoute {F : FTy → Type} [FloatOps F] (home : Tok → Dev nD) (hh : ∀ c p, (T c (ix2 ⟨tn p, tn_lt p⟩ 0)).toNat / 4 = c.val ↔ home p = c) (c : Dev nD) :
    (T c : (cc0_stg0_0 : Ref sig .tc).ty.Contents (Elt F)) = tab (F := F) (tabRoute T hlt home hh) c := by
  funext y
  show T c y = wd (tabEx T c (y 0).val)
  have hy : y = ix2 (⟨(y 0).val, (y 0).isLt⟩ : Fin 1024) 0 := by
    funext a
    match a with
    | ⟨0, _⟩ => rfl
    | ⟨1, _⟩ => exact Fin.ext (by have : (y 1).val < 1 := (y 1).isLt; show (y 1).val = 0; omega)
  unfold tabEx
  rw [dif_pos (show (y 0).val < 1024 from (y 0).isLt)]
  have e : T c (ix2 (⟨(y 0).val, (y 0).isLt⟩ : Fin 1024) 0) = T c y := congrArg (T c) hy.symm
  exact (wd_of_toNat (congrArg BitVec.toNat e.symm))

end Table

section Frame
variable {F : FTy → Type} [FloatOps F] (m : (ℓ : Loc nD τ sig) → Buf (Elt F) ℓ)

/-- The table a device's kernel finds. -/
def table (c : Dev nD) : IVec S1024x1 32 := m₁ m ((c.tc : Thread nD τ).loc main_v1)

theorem table_same (c d : Dev nD) (n : Fin 1024) : table m c (ix2 n 0) = table m d (ix2 n 0) := (table_at m c n).trans (table_at m d n).symm

variable (hp : ∀ c : Dev nD, Cert.Pre_experts_exist_Gathered.fn (F := F) (m ((c.tc : Thread nD τ).loc main_arg0)) (m ((c.tc : Thread nD τ).loc main_arg1)) (m ((c.tc : Thread nD τ).loc main_arg2)) = fun _ => 1#1)
include hp

theorem table_lt (c : Dev nD) (n : Fin 1024) : (table m c (ix2 n 0)).toNat < 128 := by
  unfold table
  rw [table_at]
  exact range_word _ (congrFun (hp (rowDev n)) (ix2 ⟨n.val % 32, Nat.mod_lt _ (by decide)⟩ 0))

/-- The device a token goes to. -/
def memHome (p : Tok) : Dev nD :=
  ⟨(table m 0 (ix2 ⟨tn p, tn_lt p⟩ 0)).toNat / 4, show _ < 32 by have := table_lt m hp 0 ⟨tn p, tn_lt p⟩; omega⟩

theorem memHome_iff (c : Dev nD) (p : Tok) : (table m c (ix2 ⟨tn p, tn_lt p⟩ 0)).toNat / 4 = c.val ↔ memHome m hp p = c := by
  rw [table_same m c 0]
  exact ⟨fun h => Fin.ext h, fun h => congrArg Fin.val h⟩

/-- The routing of a memory that meets the precondition. -/
def memRoute : Route := tabRoute (table m) (table_lt m hp) (memHome m hp) (memHome_iff m hp)

/-- Under the precondition the program runs. -/
theorem run_home (ρ : Dev nD → PrngReg) :
    θ_run defs (onTc (τ := τ) (main (F := F))) ⟨m, fun _ => 0, ρ⟩ (fun r => (∀ c : Dev nD,
      r.2.mem ((c.tc : Thread nD τ).loc main_v2) = oFin (memRoute m hp) (ins (m₁ m)) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  run m ρ (memRoute m hp) fun c => tab_tabRoute (F := F) (table m) _ _ _ c

theorem frame_home (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c => (h.1 c).2, h.2⟩) (run_home m hp ρ)

/-- Where the devices' tables are the blocks of one, the routing is that one's. -/
theorem route_whole (t : IVec S1024x1 32)
    (ht : ∀ c : Dev nD, (m ((c.tc : Thread nD τ).loc main_arg1) : IVec S32x1 32) = Layout.block ⟨2, ![32, 1]⟩ ⟨2, ![1024, 1]⟩ 0 32 c t (by decide)) (c : Dev nD) (p : Tok) :
    (memRoute m hp).ex c (tn p) = (t (ix2 ⟨tn p, tn_lt p⟩ 0)).toNat := by
  refine (tabEx_tn (table m) c p).trans (congrArg BitVec.toNat ?_)
  refine (table_at m c ⟨tn p, tn_lt p⟩).trans ((congrFun (ht _) _).trans (congrArg t (funext fun b => Fin.ext ?_)))
  match b with
  | ⟨0, _⟩ => show tn p / 32 * 32 + tn p % 32 = tn p; omega
  | ⟨1, _⟩ => rfl

end Frame

end Cert.RouteGatheredIdeal
-- ==== Proof.GMatch.lean ====
/-
# The kernel's result is the reference's block

Where every device holds the same table, and its four experts' matrices are its block of the whole, a device's
output block is its block of the reference's result.
-/
module

public import proofs.«01_k».proof.Proof.GValue
public import proofs.«01_k».proof.Proof.Ref
public import Idealize.ShloMosaic.Lib.Layout

@[expose] public section

set_option maxRecDepth 16384

noncomputable section

namespace Cert.RouteGatheredIdeal

open Cert.GatheredIdeal Cert.GatheredIdeal.Gen
open Idealize.ShloMosaic
open Idealize.ShloMosaic.ValueIdx
open Cert.RouteReference (rk rOut rOut_at)

variable (R : Route) (D : Ins Ideal)
variable (x : FVec Ideal S1024x512 .f32) (t : IVec S1024x1 32) (w : FVec Ideal Cert.ReferenceIdeal.S128x512x1024 .f32)
variable (hR : ∀ (c : Dev nD) (p : Tok), R.ex c (tn p) = (t (ix2 ⟨tn p, tn_lt p⟩ 0)).toNat)
include hR

theorem rank_eq (c : Dev nD) (p : Tok) : R.rank c (tn p) = rk t ⟨tn p, tn_lt p⟩ := by
  unfold Route.rank Route.cntE Route.exB rk
  refine Finset.card_bij (fun q _ => (⟨tn q, tn_lt q⟩ : Fin 1024)) ?_ ?_ ?_
  · intro q hq
    simp only [Finset.mem_filter, Finset.mem_univ, true_and] at hq ⊢
    refine ⟨?_, hq.2⟩
    have h := hq.1
    rw [hR, hR] at h
    exact (BitVec.eq_of_toNat_eq h).symm
  · intro q _ r _ h
    exact tn_inj (congrArg Fin.val h)
  · intro h hh
    simp only [Finset.mem_filter, Finset.mem_univ, true_and] at hh
    have e : tn (tk h.val h.isLt) = h.val := tn_tk h.val h.isLt
    have e2 : (⟨tn (tk h.val h.isLt), tn_lt _⟩ : Fin 1024) = h := Fin.ext e
    refine ⟨tk h.val h.isLt, ?_, e2⟩
    simp only [Finset.mem_filter, Finset.mem_univ, true_and]
    refine ⟨?_, by rw [e]; exact hh.2⟩
    rw [hR, hR, e2]
    exact congrArg BitVec.toNat hh.1.symm

/-- Device `d`'s finished block is block `d` of the reference's result. -/
theorem oFin_block (hx : ∀ c, xv c D = x) (hw : ∀ c : Dev nD, wv c D = Layout.block ⟨3, ![4, 512, 1024]⟩ ⟨3, ![128, 512, 1024]⟩ 0 32 c w) (d : Dev nD) :
    ov R d D = Layout.block ⟨2, ![32, 1024]⟩ ⟨2, ![1024, 1024]⟩ 0 32 d (rOut x t w) := by
  have ht : ∀ n : Fin 1024, (t (ix2 n 0)).toNat < 128 := fun n => by
    have h := hR d (tk n.val n.isLt)
    have e : (⟨tn (tk n.val n.isLt), tn_lt _⟩ : Fin 1024) = n := Fin.ext (tn_tk n.val n.isLt)
    rw [e] at h
    rw [← h]
    exact R.ex_lt _ _
  have hb : ∀ (v : FVec Ideal Cert.ReferenceIdeal.S1024x1024 .f32) (a : Fin 32) (o : Fin 1024),
      Layout.block ⟨2, ![32, 1024]⟩ ⟨2, ![1024, 1024]⟩ 0 32 d v (by decide) (ix2 a o) = v (ix2 ⟨tn (d, a), tn_lt _⟩ o) := fun v a o => by
    refine congrArg v (funext fun b => Fin.ext ?_)
    match b with
    | ⟨0, _⟩ => show d.val * 32 + a.val = 32 * d.val + a.val; omega
    | ⟨1, _⟩ => rfl
  funext y
  have hy : y = ix2 (⟨(y 0).val, (y 0).isLt⟩ : Fin 32) (⟨(y 1).val, (y 1).isLt⟩ : Fin 1024) := by
    funext a
    match a with
    | ⟨0, _⟩ => rfl
    | ⟨1, _⟩ => rfl
  rw [hy]
  generalize (⟨(y 0).val, (y 0).isLt⟩ : Fin 32) = a
  generalize (⟨(y 1).val, (y 1).isLt⟩ : Fin 1024) = o
  refine (oFin_at R D d a o).trans (Eq.trans ?_ (hb (rOut x t w) a o).symm)
  rw [rOut_at x t w ht, rank_eq R t hR]
  refine if_congr Iff.rfl ?_ rfl
  refine Finset.sum_congr rfl fun k _ => ?_
  rw [hx, hw]
  generalize hc : R.home (d, a) = c
  have h4 := R.home_ex c hc
  have hwe : Layout.block ⟨3, ![4, 512, 1024]⟩ ⟨3, ![128, 512, 1024]⟩ 0 32 c w (by decide) (ix3 ⟨R.ex c (tn (d, a)) % 4, Nat.mod_lt _ (by decide)⟩ k o)
      = w (ix3 ⟨(t (ix2 ⟨tn (d, a), tn_lt _⟩ 0)).toNat, ht _⟩ k o) := by
    refine congrArg w (funext fun b => Fin.ext ?_)
    match b with
    | ⟨0, _⟩ =>
      show c.val * 4 + R.ex c (tn (d, a)) % 4 = (t (ix2 ⟨tn (d, a), tn_lt _⟩ 0)).toNat
      rw [← hR c (d, a)]
      omega
    | ⟨1, _⟩ => rfl
    | ⟨2, _⟩ => rfl
  exact congrArg (x (ix2 ⟨tn (d, a), tn_lt _⟩ k) * ·) hwe

end Cert.RouteGatheredIdeal
-- ==== Proof.GSame.lean ====
/-
# The gathering program under two names

Nothing is rewritten between the printed gathering program and its ideal reading, so read over words they are one program,
and the first's frame is the second's.
-/
module

public import proofs.«01_k».proof.Defs
public import proofs.«01_k».proof.Proof.Gen.Gathered
public import proofs.«01_k».proof.Proof.Gen.GatheredIdeal
public import proofs.«01_k».proof.Proof.Gen.Pre_experts_exist_Gathered

@[expose] public section

set_option maxRecDepth 65536

namespace Cert.RouteGatheredSame
open Idealize.ShloMosaic

set_option maxHeartbeats 4000000

/-- The bodies, -/
theorem defs0_eq : (Cert.Gathered.defs₀ (F := Bits)) = (Cert.GatheredIdeal.defs₀ (F := Bits)) := by
  funext p l a
  cases p with
  | tc =>
    obtain ⟨k, hk⟩ := l
    obtain rfl : k = 0 := Nat.lt_one_iff.mp hk
    obtain ⟨t, s⟩ := a
    rfl
  | scScalar _ => rfl
  | scVector _ _ => rfl

/-- the pipelined calls, -/
theorem defs_eq : (Cert.Gathered.defs (F := Bits)) = (Cert.GatheredIdeal.defs (F := Bits)) :=
  congrArg (Pipeline.defs (Cert.GatheredIdeal.pcfgs (F := Bits))) defs0_eq

/-- the host's text, -/
theorem main_eq : (Cert.Gathered.main (F := Bits)) = (Cert.GatheredIdeal.main (F := Bits)) := rfl

/-- hence the runs agree; -/
theorem run_eq (c : MemSt Cert.GatheredIdeal.nD Cert.GatheredIdeal.τ Cert.GatheredIdeal.sig (Elt Bits)) :
   θ_run (Cert.Gathered.defs (F := Bits)) (onTc (τ := Cert.Gathered.τ) (Cert.Gathered.main (F := Bits))) c
  = θ_run (Cert.GatheredIdeal.defs (F := Bits)) (onTc (τ := Cert.GatheredIdeal.τ) (Cert.GatheredIdeal.main (F := Bits))) c := by
  show θ_run (Cert.Gathered.defs (F := Bits)) (onTc (τ := Cert.GatheredIdeal.τ) (Cert.GatheredIdeal.main (F := Bits))) c = _
  exact congrArg (fun d => θ_run d (onTc (τ := Cert.GatheredIdeal.τ) (Cert.GatheredIdeal.main (F := Bits))) c) defs_eq

/-- and a frame of the one is a frame of the other. -/
theorem frame_of
  (h : ∀ (m : (ℓ : Loc Cert.GatheredIdeal.nD Cert.GatheredIdeal.τ Cert.GatheredIdeal.sig) → Buf (Elt Bits) ℓ) (g : Dev Cert.GatheredIdeal.nD → PrngReg),
    (∀ c : Dev Cert.GatheredIdeal.nD, Cert.Pre_experts_exist_Gathered.fn (F := Bits) (m ((c.tc : Thread Cert.GatheredIdeal.nD Cert.GatheredIdeal.τ).loc Cert.GatheredIdeal.main_arg0)) (m ((c.tc : Thread Cert.GatheredIdeal.nD Cert.GatheredIdeal.τ).loc Cert.GatheredIdeal.main_arg1)) (m ((c.tc : Thread Cert.GatheredIdeal.nD Cert.GatheredIdeal.τ).loc Cert.GatheredIdeal.main_arg2)) = fun _ => 1#1) →
    θ_run (Cert.GatheredIdeal.defs (F := Bits)) (onTc (τ := Cert.GatheredIdeal.τ) (Cert.GatheredIdeal.main (F := Bits))) ⟨m, fun _ => 0, g⟩ (fun r => (∀ c : Dev Cert.GatheredIdeal.nD,
      r.2.mem ((c.tc : Thread Cert.GatheredIdeal.nD Cert.GatheredIdeal.τ).loc Cert.GatheredIdeal.main_arg0) = m ((c.tc : Thread Cert.GatheredIdeal.nD Cert.GatheredIdeal.τ).loc Cert.GatheredIdeal.main_arg0)
      ∧ r.2.mem ((c.tc : Thread Cert.GatheredIdeal.nD Cert.GatheredIdeal.τ).loc Cert.GatheredIdeal.main_arg1) = m ((c.tc : Thread Cert.GatheredIdeal.nD Cert.GatheredIdeal.τ).loc Cert.GatheredIdeal.main_arg1)
      ∧ r.2.mem ((c.tc : Thread Cert.GatheredIdeal.nD Cert.GatheredIdeal.τ).loc Cert.GatheredIdeal.main_arg2) = m ((c.tc : Thread Cert.GatheredIdeal.nD Cert.GatheredIdeal.τ).loc Cert.GatheredIdeal.main_arg2))
      ∧ r.2.sem = fun _ => 0)) : Cert.quiescent_Gathered := by
  intro m g hp
  rw [show θ_run (Cert.Gathered.defs (F := Bits)) (onTc (τ := Cert.Gathered.τ) (Cert.Gathered.main (F := Bits))) ⟨m, fun _ => 0, g⟩ = _ from run_eq ⟨m, fun _ => 0, g⟩]
  exact h m g hp

end Cert.RouteGatheredSame
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Gathered
public import proofs.«01_k».proof.Proof.Gen.Gathered.Skeleton
public import proofs.«01_k».proof.Proof.Gen.Gathered.Loops
public import proofs.«01_k».proof.Proof.Gen.Gathered.Launch
public import proofs.«01_k».proof.Proof.Gen.Gathered.Points
public import proofs.«01_k».proof.Proof.Gen.GatheredIdeal
public import proofs.«01_k».proof.Proof.Gen.GatheredIdeal.Skeleton
public import proofs.«01_k».proof.Proof.Gen.GatheredIdeal.Loops
public import proofs.«01_k».proof.Proof.Gen.GatheredIdeal.Launch
public import proofs.«01_k».proof.Proof.Gen.GatheredIdeal.Points
public import proofs.«01_k».proof.Proof.Gen.Pre_experts_exist_Gathered
public import proofs.«01_k».proof.Proof.Gen.Pre_experts_exist_ReferenceIdeal
public import proofs.«01_k».proof.Proof.Gen.ReferenceIdeal
public import proofs.«01_k».proof.Proof.Gen.ReferenceIdeal.Run
public import proofs.«01_k».proof.Proof.Gen.Pre_routed_home_Kernel
public import proofs.«01_k».proof.Proof.Gen.Pre_routed_home_ReferenceIdeal
public import proofs.«01_k».proof.Proof.Home
public import proofs.«01_k».proof.Proof.Match
public import proofs.«01_k».proof.Proof.Same
public import proofs.«01_k».proof.Proof.GHome
public import proofs.«01_k».proof.Proof.GMatch
public import proofs.«01_k».proof.Proof.GSame
public import Idealize.ShloMosaic.Lib.Quiescent

@[expose] public section

set_option maxRecDepth 16384

noncomputable section

namespace Cert.Proof

open Idealize.ShloMosaic
open Cert.RouteReference (rOut)

/-- The reference runs, leaves its arguments, and has no semaphore to leave raised. -/
theorem reference_frame (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono (fun r h => ⟨fun c => (h c).2, sem_eq_zero_of_no_sems (by decide) r.2⟩) (Cert.ReferenceIdeal.Value.run m g)

/-- The kernel's blocks are the reference's. -/
theorem value : Cert.algebraic_KernelIdeal_ReferenceIdeal := by
  intro m g m' g' hp ha
  refine ⟨rOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2)), ?_, ?_⟩
  · refine (θ_run Cert.KernelIdeal.defs _ _).mono (fun r h c => ?_) (Cert.RouteKernelIdeal.run_home m g hp)
    obtain ⟨hv, hargs⟩ := h.1 c
    refine ⟨hv.trans ?_, hargs⟩
    refine Cert.RouteKernelIdeal.oFin_block (Cert.RouteKernelIdeal.memRoute m hp) (Cert.RouteKernelIdeal.ins m) _ _ _ ?_ ?_ ?_ c
    · intro d p
      refine (Cert.RouteKernelIdeal.tabEx_tn (fun c => m ((c.tc : Thread Cert.KernelIdeal.nD Cert.KernelIdeal.τ).loc Cert.KernelIdeal.main_arg1)) d p).trans ?_
      exact congrArg (fun t : IVec Cert.KernelIdeal.S1024x1 32 => (t (ValueIdx.ix2 ⟨Cert.RouteKernelIdeal.tn p, Cert.RouteKernelIdeal.tn_lt p⟩ 0)).toNat) (ha d).2.1
    · intro d; exact (Cert.RouteKernelIdeal.blk_x m d).trans (ha d).1
    · intro d; exact (Cert.RouteKernelIdeal.blk_w m d).trans (ha d).2.2
  · exact (θ_run Cert.ReferenceIdeal.defs _ _).mono (fun r h => h 0) (Cert.ReferenceIdeal.Value.run m' g')

/-- The gathering program's blocks are the reference's too. -/
theorem value_gathered : Cert.algebraic_GatheredIdeal_ReferenceIdeal := by
  intro m g m' g' hp ha
  refine ⟨rOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2)), ?_, ?_⟩
  · refine (θ_run Cert.GatheredIdeal.defs _ _).mono (fun r h c => ?_) (Cert.RouteGatheredIdeal.run_home m hp g)
    obtain ⟨hv, hargs⟩ := h.1 c
    refine ⟨hv.trans ?_, hargs⟩
    refine Cert.RouteGatheredIdeal.oFin_block (Cert.RouteGatheredIdeal.memRoute m hp) (Cert.RouteGatheredIdeal.ins (Cert.RouteGatheredIdeal.m₁ m)) _ _ _ ?_ ?_ ?_ c
    · intro d p; exact Cert.RouteGatheredIdeal.route_whole m hp _ (fun c => (ha c).2.1) d p
    · intro d; exact ((Cert.RouteGatheredIdeal.blk_x (Cert.RouteGatheredIdeal.m₁ m) d).trans (Cert.RouteGatheredIdeal.m₁_ne m d Cert.GatheredIdeal.main_arg0 (by decide))).trans (ha d).1
    · intro d; exact ((Cert.RouteGatheredIdeal.blk_w (Cert.RouteGatheredIdeal.m₁ m) d).trans (Cert.RouteGatheredIdeal.m₁_ne m d Cert.GatheredIdeal.main_arg2 (by decide))).trans (ha d).2.2
  · exact (θ_run Cert.ReferenceIdeal.defs _ _).mono (fun r h => h 0) (Cert.ReferenceIdeal.Value.run m' g')

/-- The claims together. -/
theorem claim : Cert.Claim :=
  ⟨Cert.Kernel.Gen.facts, Cert.KernelIdeal.Gen.facts, Cert.ReferenceIdeal.Gen.facts, Cert.Gathered.Gen.facts, Cert.GatheredIdeal.Gen.facts,
    Cert.Pre_routed_home_Kernel.Gen.facts, Cert.Pre_routed_home_ReferenceIdeal.Gen.facts, Cert.Pre_experts_exist_ReferenceIdeal.Gen.facts, Cert.Pre_experts_exist_Gathered.Gen.facts,
    Cert.RouteSame.frame_of (fun m g hp => Cert.RouteKernelIdeal.frame_home m g hp),
    fun m g hp => Cert.RouteKernelIdeal.frame_home m g hp,
    fun m g _ => reference_frame m g,
    fun m g _ => reference_frame m g,
    fun m g _ => reference_frame m g,
    Cert.RouteGatheredSame.frame_of (fun m g hp => Cert.RouteGatheredIdeal.frame_home m hp g),
    fun m g hp => Cert.RouteGatheredIdeal.frame_home m hp g,
    trivial, value, trivial, value_gathered⟩

end Cert.Proof
